-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Cores (m : (ℓ : Loc Cert.Cores.nD Cert.Cores.τ Cert.Cores.sig) → Buf (Elt Bits) ℓ) : Prop :=
  True

def Pre_CoresIdeal (m : (ℓ : Loc Cert.CoresIdeal.nD Cert.CoresIdeal.τ Cert.CoresIdeal.sig) → Buf (Elt Ideal) ℓ) : Prop :=
  True

def Pre_CoresPlainIdeal (m : (ℓ : Loc Cert.CoresPlainIdeal.nD Cert.CoresPlainIdeal.τ Cert.CoresPlainIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsPlainIdeal (m : (ℓ : Loc Cert.ChipsPlainIdeal.nD Cert.ChipsPlainIdeal.τ Cert.ChipsPlainIdeal.sig) → Buf (Elt Ideal) ℓ) : Prop :=
  True

def Pre_Gains (m : (ℓ : Loc Cert.Gains.nD Cert.Gains.τ Cert.Gains.sig) → Buf (Elt Bits) ℓ) : Prop :=
  True

def Pre_GainsIdeal (m : (ℓ : Loc Cert.GainsIdeal.nD Cert.GainsIdeal.τ Cert.GainsIdeal.sig) → Buf (Elt Ideal) ℓ) : Prop :=
  True

def Pre_GainsPlainIdeal (m : (ℓ : Loc Cert.GainsPlainIdeal.nD Cert.GainsPlainIdeal.τ Cert.GainsPlainIdeal.sig) → Buf (Elt Ideal) ℓ) : Prop :=
  True

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsPlainIdeal (m : (ℓ : Loc Cert.InputsPlainIdeal.nD Cert.InputsPlainIdeal.τ Cert.InputsPlainIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadPlainIdeal (m : (ℓ : Loc Cert.HeadPlainIdeal.nD Cert.HeadPlainIdeal.τ Cert.HeadPlainIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2 = (fun _ => 1#1)

def Pre_FfnPlainIdeal (m : (ℓ : Loc Cert.FfnPlainIdeal.nD Cert.FfnPlainIdeal.τ Cert.FfnPlainIdeal.sig) → Buf (Elt Ideal) ℓ) : Prop :=
  True

def Pre_FfnPlainIdeal_finite_ffn [hPre_finite_ffn : Cert.Pre_finite_ffn.Facts] (m : (ℓ : Loc Cert.FfnPlainIdeal.nD Cert.FfnPlainIdeal.τ Cert.FfnPlainIdeal.sig) → Buf (Elt Ideal) ℓ) : Prop :=
  ∀ c : Dev Cert.FfnPlainIdeal.nD,
    (Cert.Pre_finite_ffn.fn (F := Ideal) (m ((c.tc : Thread Cert.FfnPlainIdeal.nD Cert.FfnPlainIdeal.τ).loc Cert.FfnPlainIdeal.main_arg0)) (m ((c.tc : Thread Cert.FfnPlainIdeal.nD Cert.FfnPlainIdeal.τ).loc Cert.FfnPlainIdeal.main_arg1)) (m ((c.tc : Thread Cert.FfnPlainIdeal.nD Cert.FfnPlainIdeal.τ).loc Cert.FfnPlainIdeal.main_arg2)) (m ((c.tc : Thread Cert.FfnPlainIdeal.nD Cert.FfnPlainIdeal.τ).loc Cert.FfnPlainIdeal.main_arg3)) (m ((c.tc : Thread Cert.FfnPlainIdeal.nD Cert.FfnPlainIdeal.τ).loc Cert.FfnPlainIdeal.main_arg4)) (m ((c.tc : Thread Cert.FfnPlainIdeal.nD Cert.FfnPlainIdeal.τ).loc Cert.FfnPlainIdeal.main_arg5))).1 = (fun _ => 1#1)
    ∧ (Cert.Pre_finite_ffn.fn (F := Ideal) (m ((c.tc : Thread Cert.FfnPlainIdeal.nD Cert.FfnPlainIdeal.τ).loc Cert.FfnPlainIdeal.main_arg0)) (m ((c.tc : Thread Cert.FfnPlainIdeal.nD Cert.FfnPlainIdeal.τ).loc Cert.FfnPlainIdeal.main_arg1)) (m ((c.tc : Thread Cert.FfnPlainIdeal.nD Cert.FfnPlainIdeal.τ).loc Cert.FfnPlainIdeal.main_arg2)) (m ((c.tc : Thread Cert.FfnPlainIdeal.nD Cert.FfnPlainIdeal.τ).loc Cert.FfnPlainIdeal.main_arg3)) (m ((c.tc : Thread Cert.FfnPlainIdeal.nD Cert.FfnPlainIdeal.τ).loc Cert.FfnPlainIdeal.main_arg4)) (m ((c.tc : Thread Cert.FfnPlainIdeal.nD Cert.FfnPlainIdeal.τ).loc Cert.FfnPlainIdeal.main_arg5))).2.1 = (fun _ => 1#1)
    ∧ (Cert.Pre_finite_ffn.fn (F := Ideal) (m ((c.tc : Thread Cert.FfnPlainIdeal.nD Cert.FfnPlainIdeal.τ).loc Cert.FfnPlainIdeal.main_arg0)) (m ((c.tc : Thread Cert.FfnPlainIdeal.nD Cert.FfnPlainIdeal.τ).loc Cert.FfnPlainIdeal.main_arg1)) (m ((c.tc : Thread Cert.FfnPlainIdeal.nD Cert.FfnPlainIdeal.τ).loc Cert.FfnPlainIdeal.main_arg2)) (m ((c.tc : Thread Cert.FfnPlainIdeal.nD Cert.FfnPlainIdeal.τ).loc Cert.FfnPlainIdeal.main_arg3)) (m ((c.tc : Thread Cert.FfnPlainIdeal.nD Cert.FfnPlainIdeal.τ).loc Cert.FfnPlainIdeal.main_arg4)) (m ((c.tc : Thread Cert.FfnPlainIdeal.nD Cert.FfnPlainIdeal.τ).loc Cert.FfnPlainIdeal.main_arg5))).2.2.1 = (fun _ => 1#1)
    ∧ (Cert.Pre_finite_ffn.fn (F := Ideal) (m ((c.tc : Thread Cert.FfnPlainIdeal.nD Cert.FfnPlainIdeal.τ).loc Cert.FfnPlainIdeal.main_arg0)) (m ((c.tc : Thread Cert.FfnPlainIdeal.nD Cert.FfnPlainIdeal.τ).loc Cert.FfnPlainIdeal.main_arg1)) (m ((c.tc : Thread Cert.FfnPlainIdeal.nD Cert.FfnPlainIdeal.τ).loc Cert.FfnPlainIdeal.main_arg2)) (m ((c.tc : Thread Cert.FfnPlainIdeal.nD Cert.FfnPlainIdeal.τ).loc Cert.FfnPlainIdeal.main_arg3)) (m ((c.tc : Thread Cert.FfnPlainIdeal.nD Cert.FfnPlainIdeal.τ).loc Cert.FfnPlainIdeal.main_arg4)) (m ((c.tc : Thread Cert.FfnPlainIdeal.nD Cert.FfnPlainIdeal.τ).loc Cert.FfnPlainIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Cores [hCores : Cert.Cores.Facts] : Prop :=
  ∀ (m : (ℓ : Loc Cert.Cores.nD Cert.Cores.τ Cert.Cores.sig) → Buf (Elt Bits) ℓ) (g : Dev Cert.Cores.nD → PrngReg), Pre_Cores m →
    θ_run (Cert.Cores.defs (F := Bits)) (onTc (τ := Cert.Cores.τ) (Cert.Cores.main (F := Bits))) ⟨m, fun _ => 0, g⟩ (fun r => (∀ c : Dev Cert.Cores.nD,
      r.2.mem ((c.tc : Thread Cert.Cores.nD Cert.Cores.τ).loc Cert.Cores.main_arg0) = m ((c.tc : Thread Cert.Cores.nD Cert.Cores.τ).loc Cert.Cores.main_arg0))
      ∧ r.2.sem = fun _ => 0)

def quiescent_CoresIdeal [hCoresIdeal : Cert.CoresIdeal.Facts] : Prop :=
  ∀ (m : (ℓ : Loc Cert.CoresIdeal.nD Cert.CoresIdeal.τ Cert.CoresIdeal.sig) → Buf (Elt Ideal) ℓ) (g : Dev Cert.CoresIdeal.nD → PrngReg), Pre_CoresIdeal m →
    θ_run (Cert.CoresIdeal.defs (F := Ideal)) (onTc (τ := Cert.CoresIdeal.τ) (Cert.CoresIdeal.main (F := Ideal))) ⟨m, fun _ => 0, g⟩ (fun r => (∀ c : Dev Cert.CoresIdeal.nD,
      r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0))
      ∧ r.2.sem = fun _ => 0)

def quiescent_CoresPlainIdeal [hCoresPlainIdeal : Cert.CoresPlainIdeal.Facts] : Prop :=
  ∀ (m : (ℓ : Loc Cert.CoresPlainIdeal.nD Cert.CoresPlainIdeal.τ Cert.CoresPlainIdeal.sig) → Buf (Elt Ideal) ℓ) (g : Dev Cert.CoresPlainIdeal.nD → PrngReg), Pre_CoresPlainIdeal m →
    θ_run (Cert.CoresPlainIdeal.defs (F := Ideal)) (onTc (τ := Cert.CoresPlainIdeal.τ) (Cert.CoresPlainIdeal.main (F := Ideal))) ⟨m, fun _ => 0, g⟩ (fun r => (∀ c : Dev Cert.CoresPlainIdeal.nD,
      r.2.mem ((c.tc : Thread Cert.CoresPlainIdeal.nD Cert.CoresPlainIdeal.τ).loc Cert.CoresPlainIdeal.main_arg0) = m ((c.tc : Thread Cert.CoresPlainIdeal.nD Cert.CoresPlainIdeal.τ).loc Cert.CoresPlainIdeal.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2)
      ∧ r.2.mem ((c.tc : Thread Cert.Chips.nD Cert.Chips.τ).loc Cert.Chips.main_arg3) = m ((c.tc : Thread Cert.Chips.nD Cert.Chips.τ).loc Cert.Chips.main_arg3)
      ∧ r.2.mem ((c.tc : Thread Cert.Chips.nD Cert.Chips.τ).loc Cert.Chips.main_arg4) = m ((c.tc : Thread Cert.Chips.nD Cert.Chips.τ).loc Cert.Chips.main_arg4)
      ∧ r.2.mem ((c.tc : Thread Cert.Chips.nD Cert.Chips.τ).loc Cert.Chips.main_arg5) = m ((c.tc : Thread Cert.Chips.nD Cert.Chips.τ).loc Cert.Chips.main_arg5))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
      ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
      ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
      ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5))
      ∧ r.2.sem = fun _ => 0)

def quiescent_ChipsPlainIdeal [hChipsPlainIdeal : Cert.ChipsPlainIdeal.Facts] : Prop :=
  ∀ (m : (ℓ : Loc Cert.ChipsPlainIdeal.nD Cert.ChipsPlainIdeal.τ Cert.ChipsPlainIdeal.sig) → Buf (Elt Ideal) ℓ) (g : Dev Cert.ChipsPlainIdeal.nD → PrngReg), Pre_ChipsPlainIdeal m →
    θ_run (Cert.ChipsPlainIdeal.defs (F := Ideal)) (onTc (τ := Cert.ChipsPlainIdeal.τ) (Cert.ChipsPlainIdeal.main (F := Ideal))) ⟨m, fun _ => 0, g⟩ (fun r => (∀ c : Dev Cert.ChipsPlainIdeal.nD,
      r.2.mem ((c.tc : Thread Cert.ChipsPlainIdeal.nD Cert.ChipsPlainIdeal.τ).loc Cert.ChipsPlainIdeal.main_arg0) = m ((c.tc : Thread Cert.ChipsPlainIdeal.nD Cert.ChipsPlainIdeal.τ).loc Cert.ChipsPlainIdeal.main_arg0)
      ∧ r.2.mem ((c.tc : Thread Cert.ChipsPlainIdeal.nD Cert.ChipsPlainIdeal.τ).loc Cert.ChipsPlainIdeal.main_arg1) = m ((c.tc : Thread Cert.ChipsPlainIdeal.nD Cert.ChipsPlainIdeal.τ).loc Cert.ChipsPlainIdeal.main_arg1)
      ∧ r.2.mem ((c.tc : Thread Cert.ChipsPlainIdeal.nD Cert.ChipsPlainIdeal.τ).loc Cert.ChipsPlainIdeal.main_arg2) = m ((c.tc : Thread Cert.ChipsPlainIdeal.nD Cert.ChipsPlainIdeal.τ).loc Cert.ChipsPlainIdeal.main_arg2)
      ∧ r.2.mem ((c.tc : Thread Cert.ChipsPlainIdeal.nD Cert.ChipsPlainIdeal.τ).loc Cert.ChipsPlainIdeal.main_arg3) = m ((c.tc : Thread Cert.ChipsPlainIdeal.nD Cert.ChipsPlainIdeal.τ).loc Cert.ChipsPlainIdeal.main_arg3)
      ∧ r.2.mem ((c.tc : Thread Cert.ChipsPlainIdeal.nD Cert.ChipsPlainIdeal.τ).loc Cert.ChipsPlainIdeal.main_arg4) = m ((c.tc : Thread Cert.ChipsPlainIdeal.nD Cert.ChipsPlainIdeal.τ).loc Cert.ChipsPlainIdeal.main_arg4)
      ∧ r.2.mem ((c.tc : Thread Cert.ChipsPlainIdeal.nD Cert.ChipsPlainIdeal.τ).loc Cert.ChipsPlainIdeal.main_arg5) = m ((c.tc : Thread Cert.ChipsPlainIdeal.nD Cert.ChipsPlainIdeal.τ).loc Cert.ChipsPlainIdeal.main_arg5))
      ∧ r.2.sem = fun _ => 0)

def quiescent_Gains [hGains : Cert.Gains.Facts] : Prop :=
  ∀ (m : (ℓ : Loc Cert.Gains.nD Cert.Gains.τ Cert.Gains.sig) → Buf (Elt Bits) ℓ) (g : Dev Cert.Gains.nD → PrngReg), Pre_Gains m →
    θ_run (Cert.Gains.defs (F := Bits)) (onTc (τ := Cert.Gains.τ) (Cert.Gains.main (F := Bits))) ⟨m, fun _ => 0, g⟩ (fun r => (∀ c : Dev Cert.Gains.nD,
      r.2.mem ((c.tc : Thread Cert.Gains.nD Cert.Gains.τ).loc Cert.Gains.main_arg0) = m ((c.tc : Thread Cert.Gains.nD Cert.Gains.τ).loc Cert.Gains.main_arg0)
      ∧ r.2.mem ((c.tc : Thread Cert.Gains.nD Cert.Gains.τ).loc Cert.Gains.main_arg1) = m ((c.tc : Thread Cert.Gains.nD Cert.Gains.τ).loc Cert.Gains.main_arg1)
      ∧ r.2.mem ((c.tc : Thread Cert.Gains.nD Cert.Gains.τ).loc Cert.Gains.main_arg2) = m ((c.tc : Thread Cert.Gains.nD Cert.Gains.τ).loc Cert.Gains.main_arg2)
      ∧ r.2.mem ((c.tc : Thread Cert.Gains.nD Cert.Gains.τ).loc Cert.Gains.main_arg3) = m ((c.tc : Thread Cert.Gains.nD Cert.Gains.τ).loc Cert.Gains.main_arg3))
      ∧ r.2.sem = fun _ => 0)

def quiescent_GainsIdeal [hGainsIdeal : Cert.GainsIdeal.Facts] : Prop :=
  ∀ (m : (ℓ : Loc Cert.GainsIdeal.nD Cert.GainsIdeal.τ Cert.GainsIdeal.sig) → Buf (Elt Ideal) ℓ) (g : Dev Cert.GainsIdeal.nD → PrngReg), Pre_GainsIdeal m →
    θ_run (Cert.GainsIdeal.defs (F := Ideal)) (onTc (τ := Cert.GainsIdeal.τ) (Cert.GainsIdeal.main (F := Ideal))) ⟨m, fun _ => 0, g⟩ (fun r => (∀ c : Dev Cert.GainsIdeal.nD,
      r.2.mem ((c.tc : Thread Cert.GainsIdeal.nD Cert.GainsIdeal.τ).loc Cert.GainsIdeal.main_arg0) = m ((c.tc : Thread Cert.GainsIdeal.nD Cert.GainsIdeal.τ).loc Cert.GainsIdeal.main_arg0)
      ∧ r.2.mem ((c.tc : Thread Cert.GainsIdeal.nD Cert.GainsIdeal.τ).loc Cert.GainsIdeal.main_arg1) = m ((c.tc : Thread Cert.GainsIdeal.nD Cert.GainsIdeal.τ).loc Cert.GainsIdeal.main_arg1)
      ∧ r.2.mem ((c.tc : Thread Cert.GainsIdeal.nD Cert.GainsIdeal.τ).loc Cert.GainsIdeal.main_arg2) = m ((c.tc : Thread Cert.GainsIdeal.nD Cert.GainsIdeal.τ).loc Cert.GainsIdeal.main_arg2)
      ∧ r.2.mem ((c.tc : Thread Cert.GainsIdeal.nD Cert.GainsIdeal.τ).loc Cert.GainsIdeal.main_arg3) = m ((c.tc : Thread Cert.GainsIdeal.nD Cert.GainsIdeal.τ).loc Cert.GainsIdeal.main_arg3))
      ∧ r.2.sem = fun _ => 0)

def quiescent_GainsPlainIdeal [hGainsPlainIdeal : Cert.GainsPlainIdeal.Facts] : Prop :=
  ∀ (m : (ℓ : Loc Cert.GainsPlainIdeal.nD Cert.GainsPlainIdeal.τ Cert.GainsPlainIdeal.sig) → Buf (Elt Ideal) ℓ) (g : Dev Cert.GainsPlainIdeal.nD → PrngReg), Pre_GainsPlainIdeal m →
    θ_run (Cert.GainsPlainIdeal.defs (F := Ideal)) (onTc (τ := Cert.GainsPlainIdeal.τ) (Cert.GainsPlainIdeal.main (F := Ideal))) ⟨m, fun _ => 0, g⟩ (fun r => (∀ c : Dev Cert.GainsPlainIdeal.nD,
      r.2.mem ((c.tc : Thread Cert.GainsPlainIdeal.nD Cert.GainsPlainIdeal.τ).loc Cert.GainsPlainIdeal.main_arg0) = m ((c.tc : Thread Cert.GainsPlainIdeal.nD Cert.GainsPlainIdeal.τ).loc Cert.GainsPlainIdeal.main_arg0)
      ∧ r.2.mem ((c.tc : Thread Cert.GainsPlainIdeal.nD Cert.GainsPlainIdeal.τ).loc Cert.GainsPlainIdeal.main_arg1) = m ((c.tc : Thread Cert.GainsPlainIdeal.nD Cert.GainsPlainIdeal.τ).loc Cert.GainsPlainIdeal.main_arg1)
      ∧ r.2.mem ((c.tc : Thread Cert.GainsPlainIdeal.nD Cert.GainsPlainIdeal.τ).loc Cert.GainsPlainIdeal.main_arg2) = m ((c.tc : Thread Cert.GainsPlainIdeal.nD Cert.GainsPlainIdeal.τ).loc Cert.GainsPlainIdeal.main_arg2)
      ∧ r.2.mem ((c.tc : Thread Cert.GainsPlainIdeal.nD Cert.GainsPlainIdeal.τ).loc Cert.GainsPlainIdeal.main_arg3) = m ((c.tc : Thread Cert.GainsPlainIdeal.nD Cert.GainsPlainIdeal.τ).loc Cert.GainsPlainIdeal.main_arg3))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2)
      ∧ r.2.mem ((c.tc : Thread Cert.Inputs.nD Cert.Inputs.τ).loc Cert.Inputs.main_arg3) = m ((c.tc : Thread Cert.Inputs.nD Cert.Inputs.τ).loc Cert.Inputs.main_arg3)
      ∧ r.2.mem ((c.tc : Thread Cert.Inputs.nD Cert.Inputs.τ).loc Cert.Inputs.main_arg4) = m ((c.tc : Thread Cert.Inputs.nD Cert.Inputs.τ).loc Cert.Inputs.main_arg4)
      ∧ r.2.mem ((c.tc : Thread Cert.Inputs.nD Cert.Inputs.τ).loc Cert.Inputs.main_arg5) = m ((c.tc : Thread Cert.Inputs.nD Cert.Inputs.τ).loc Cert.Inputs.main_arg5)
      ∧ r.2.mem ((c.tc : Thread Cert.Inputs.nD Cert.Inputs.τ).loc Cert.Inputs.main_arg6) = m ((c.tc : Thread Cert.Inputs.nD Cert.Inputs.τ).loc Cert.Inputs.main_arg6)
      ∧ r.2.mem ((c.tc : Thread Cert.Inputs.nD Cert.Inputs.τ).loc Cert.Inputs.main_arg7) = m ((c.tc : Thread Cert.Inputs.nD Cert.Inputs.τ).loc Cert.Inputs.main_arg7)
      ∧ r.2.mem ((c.tc : Thread Cert.Inputs.nD Cert.Inputs.τ).loc Cert.Inputs.main_arg8) = m ((c.tc : Thread Cert.Inputs.nD Cert.Inputs.τ).loc Cert.Inputs.main_arg8))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
      ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
      ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
      ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
      ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
      ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8))
      ∧ r.2.sem = fun _ => 0)

def quiescent_InputsPlainIdeal [hInputsPlainIdeal : Cert.InputsPlainIdeal.Facts] : Prop :=
  ∀ (m : (ℓ : Loc Cert.InputsPlainIdeal.nD Cert.InputsPlainIdeal.τ Cert.InputsPlainIdeal.sig) → Buf (Elt Ideal) ℓ) (g : Dev Cert.InputsPlainIdeal.nD → PrngReg), Pre_InputsPlainIdeal m →
    θ_run (Cert.InputsPlainIdeal.defs (F := Ideal)) (onTc (τ := Cert.InputsPlainIdeal.τ) (Cert.InputsPlainIdeal.main (F := Ideal))) ⟨m, fun _ => 0, g⟩ (fun r => (∀ c : Dev Cert.InputsPlainIdeal.nD,
      r.2.mem ((c.tc : Thread Cert.InputsPlainIdeal.nD Cert.InputsPlainIdeal.τ).loc Cert.InputsPlainIdeal.main_arg0) = m ((c.tc : Thread Cert.InputsPlainIdeal.nD Cert.InputsPlainIdeal.τ).loc Cert.InputsPlainIdeal.main_arg0)
      ∧ r.2.mem ((c.tc : Thread Cert.InputsPlainIdeal.nD Cert.InputsPlainIdeal.τ).loc Cert.InputsPlainIdeal.main_arg1) = m ((c.tc : Thread Cert.InputsPlainIdeal.nD Cert.InputsPlainIdeal.τ).loc Cert.InputsPlainIdeal.main_arg1)
      ∧ r.2.mem ((c.tc : Thread Cert.InputsPlainIdeal.nD Cert.InputsPlainIdeal.τ).loc Cert.InputsPlainIdeal.main_arg2) = m ((c.tc : Thread Cert.InputsPlainIdeal.nD Cert.InputsPlainIdeal.τ).loc Cert.InputsPlainIdeal.main_arg2)
      ∧ r.2.mem ((c.tc : Thread Cert.InputsPlainIdeal.nD Cert.InputsPlainIdeal.τ).loc Cert.InputsPlainIdeal.main_arg3) = m ((c.tc : Thread Cert.InputsPlainIdeal.nD Cert.InputsPlainIdeal.τ).loc Cert.InputsPlainIdeal.main_arg3)
      ∧ r.2.mem ((c.tc : Thread Cert.InputsPlainIdeal.nD Cert.InputsPlainIdeal.τ).loc Cert.InputsPlainIdeal.main_arg4) = m ((c.tc : Thread Cert.InputsPlainIdeal.nD Cert.InputsPlainIdeal.τ).loc Cert.InputsPlainIdeal.main_arg4)
      ∧ r.2.mem ((c.tc : Thread Cert.InputsPlainIdeal.nD Cert.InputsPlainIdeal.τ).loc Cert.InputsPlainIdeal.main_arg5) = m ((c.tc : Thread Cert.InputsPlainIdeal.nD Cert.InputsPlainIdeal.τ).loc Cert.InputsPlainIdeal.main_arg5)
      ∧ r.2.mem ((c.tc : Thread Cert.InputsPlainIdeal.nD Cert.InputsPlainIdeal.τ).loc Cert.InputsPlainIdeal.main_arg6) = m ((c.tc : Thread Cert.InputsPlainIdeal.nD Cert.InputsPlainIdeal.τ).loc Cert.InputsPlainIdeal.main_arg6)
      ∧ r.2.mem ((c.tc : Thread Cert.InputsPlainIdeal.nD Cert.InputsPlainIdeal.τ).loc Cert.InputsPlainIdeal.main_arg7) = m ((c.tc : Thread Cert.InputsPlainIdeal.nD Cert.InputsPlainIdeal.τ).loc Cert.InputsPlainIdeal.main_arg7)
      ∧ r.2.mem ((c.tc : Thread Cert.InputsPlainIdeal.nD Cert.InputsPlainIdeal.τ).loc Cert.InputsPlainIdeal.main_arg8) = m ((c.tc : Thread Cert.InputsPlainIdeal.nD Cert.InputsPlainIdeal.τ).loc Cert.InputsPlainIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadPlainIdeal [hHeadPlainIdeal : Cert.HeadPlainIdeal.Facts] : Prop :=
  ∀ (m : (ℓ : Loc Cert.HeadPlainIdeal.nD Cert.HeadPlainIdeal.τ Cert.HeadPlainIdeal.sig) → Buf (Elt Ideal) ℓ) (g : Dev Cert.HeadPlainIdeal.nD → PrngReg), Pre_HeadPlainIdeal m →
    θ_run (Cert.HeadPlainIdeal.defs (F := Ideal)) (onTc (τ := Cert.HeadPlainIdeal.τ) (Cert.HeadPlainIdeal.main (F := Ideal))) ⟨m, fun _ => 0, g⟩ (fun r => (∀ c : Dev Cert.HeadPlainIdeal.nD,
      r.2.mem ((c.tc : Thread Cert.HeadPlainIdeal.nD Cert.HeadPlainIdeal.τ).loc Cert.HeadPlainIdeal.main_arg0) = m ((c.tc : Thread Cert.HeadPlainIdeal.nD Cert.HeadPlainIdeal.τ).loc Cert.HeadPlainIdeal.main_arg0)
      ∧ r.2.mem ((c.tc : Thread Cert.HeadPlainIdeal.nD Cert.HeadPlainIdeal.τ).loc Cert.HeadPlainIdeal.main_arg1) = m ((c.tc : Thread Cert.HeadPlainIdeal.nD Cert.HeadPlainIdeal.τ).loc Cert.HeadPlainIdeal.main_arg1)
      ∧ r.2.mem ((c.tc : Thread Cert.HeadPlainIdeal.nD Cert.HeadPlainIdeal.τ).loc Cert.HeadPlainIdeal.main_arg2) = m ((c.tc : Thread Cert.HeadPlainIdeal.nD Cert.HeadPlainIdeal.τ).loc Cert.HeadPlainIdeal.main_arg2)
      ∧ r.2.mem ((c.tc : Thread Cert.HeadPlainIdeal.nD Cert.HeadPlainIdeal.τ).loc Cert.HeadPlainIdeal.main_arg3) = m ((c.tc : Thread Cert.HeadPlainIdeal.nD Cert.HeadPlainIdeal.τ).loc Cert.HeadPlainIdeal.main_arg3)
      ∧ r.2.mem ((c.tc : Thread Cert.HeadPlainIdeal.nD Cert.HeadPlainIdeal.τ).loc Cert.HeadPlainIdeal.main_arg4) = m ((c.tc : Thread Cert.HeadPlainIdeal.nD Cert.HeadPlainIdeal.τ).loc Cert.HeadPlainIdeal.main_arg4)
      ∧ r.2.mem ((c.tc : Thread Cert.HeadPlainIdeal.nD Cert.HeadPlainIdeal.τ).loc Cert.HeadPlainIdeal.main_arg5) = m ((c.tc : Thread Cert.HeadPlainIdeal.nD Cert.HeadPlainIdeal.τ).loc Cert.HeadPlainIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnPlainIdeal [hFfnPlainIdeal : Cert.FfnPlainIdeal.Facts] : Prop :=
  ∀ (m : (ℓ : Loc Cert.FfnPlainIdeal.nD Cert.FfnPlainIdeal.τ Cert.FfnPlainIdeal.sig) → Buf (Elt Ideal) ℓ) (g : Dev Cert.FfnPlainIdeal.nD → PrngReg), Pre_FfnPlainIdeal m →
    θ_run (Cert.FfnPlainIdeal.defs (F := Ideal)) (onTc (τ := Cert.FfnPlainIdeal.τ) (Cert.FfnPlainIdeal.main (F := Ideal))) ⟨m, fun _ => 0, g⟩ (fun r => (∀ c : Dev Cert.FfnPlainIdeal.nD,
      r.2.mem ((c.tc : Thread Cert.FfnPlainIdeal.nD Cert.FfnPlainIdeal.τ).loc Cert.FfnPlainIdeal.main_arg0) = m ((c.tc : Thread Cert.FfnPlainIdeal.nD Cert.FfnPlainIdeal.τ).loc Cert.FfnPlainIdeal.main_arg0)
      ∧ r.2.mem ((c.tc : Thread Cert.FfnPlainIdeal.nD Cert.FfnPlainIdeal.τ).loc Cert.FfnPlainIdeal.main_arg1) = m ((c.tc : Thread Cert.FfnPlainIdeal.nD Cert.FfnPlainIdeal.τ).loc Cert.FfnPlainIdeal.main_arg1)
      ∧ r.2.mem ((c.tc : Thread Cert.FfnPlainIdeal.nD Cert.FfnPlainIdeal.τ).loc Cert.FfnPlainIdeal.main_arg2) = m ((c.tc : Thread Cert.FfnPlainIdeal.nD Cert.FfnPlainIdeal.τ).loc Cert.FfnPlainIdeal.main_arg2)
      ∧ r.2.mem ((c.tc : Thread Cert.FfnPlainIdeal.nD Cert.FfnPlainIdeal.τ).loc Cert.FfnPlainIdeal.main_arg3) = m ((c.tc : Thread Cert.FfnPlainIdeal.nD Cert.FfnPlainIdeal.τ).loc Cert.FfnPlainIdeal.main_arg3)
      ∧ r.2.mem ((c.tc : Thread Cert.FfnPlainIdeal.nD Cert.FfnPlainIdeal.τ).loc Cert.FfnPlainIdeal.main_arg4) = m ((c.tc : Thread Cert.FfnPlainIdeal.nD Cert.FfnPlainIdeal.τ).loc Cert.FfnPlainIdeal.main_arg4)
      ∧ r.2.mem ((c.tc : Thread Cert.FfnPlainIdeal.nD Cert.FfnPlainIdeal.τ).loc Cert.FfnPlainIdeal.main_arg5) = m ((c.tc : Thread Cert.FfnPlainIdeal.nD Cert.FfnPlainIdeal.τ).loc Cert.FfnPlainIdeal.main_arg5))
      ∧ r.2.sem = fun _ => 0)

def quiescent_FfnPlainIdeal_pre_finite_ffn [hFfnPlainIdeal : Cert.FfnPlainIdeal.Facts] [hPre_finite_ffn : Cert.Pre_finite_ffn.Facts] : Prop :=
  ∀ (m : (ℓ : Loc Cert.FfnPlainIdeal.nD Cert.FfnPlainIdeal.τ Cert.FfnPlainIdeal.sig) → Buf (Elt Ideal) ℓ) (g : Dev Cert.FfnPlainIdeal.nD → PrngReg), Pre_FfnPlainIdeal_finite_ffn m →
    θ_run (Cert.FfnPlainIdeal.defs (F := Ideal)) (onTc (τ := Cert.FfnPlainIdeal.τ) (Cert.FfnPlainIdeal.main (F := Ideal))) ⟨m, fun _ => 0, g⟩ (fun r => (∀ c : Dev Cert.FfnPlainIdeal.nD,
      r.2.mem ((c.tc : Thread Cert.FfnPlainIdeal.nD Cert.FfnPlainIdeal.τ).loc Cert.FfnPlainIdeal.main_arg0) = m ((c.tc : Thread Cert.FfnPlainIdeal.nD Cert.FfnPlainIdeal.τ).loc Cert.FfnPlainIdeal.main_arg0)
      ∧ r.2.mem ((c.tc : Thread Cert.FfnPlainIdeal.nD Cert.FfnPlainIdeal.τ).loc Cert.FfnPlainIdeal.main_arg1) = m ((c.tc : Thread Cert.FfnPlainIdeal.nD Cert.FfnPlainIdeal.τ).loc Cert.FfnPlainIdeal.main_arg1)
      ∧ r.2.mem ((c.tc : Thread Cert.FfnPlainIdeal.nD Cert.FfnPlainIdeal.τ).loc Cert.FfnPlainIdeal.main_arg2) = m ((c.tc : Thread Cert.FfnPlainIdeal.nD Cert.FfnPlainIdeal.τ).loc Cert.FfnPlainIdeal.main_arg2)
      ∧ r.2.mem ((c.tc : Thread Cert.FfnPlainIdeal.nD Cert.FfnPlainIdeal.τ).loc Cert.FfnPlainIdeal.main_arg3) = m ((c.tc : Thread Cert.FfnPlainIdeal.nD Cert.FfnPlainIdeal.τ).loc Cert.FfnPlainIdeal.main_arg3)
      ∧ r.2.mem ((c.tc : Thread Cert.FfnPlainIdeal.nD Cert.FfnPlainIdeal.τ).loc Cert.FfnPlainIdeal.main_arg4) = m ((c.tc : Thread Cert.FfnPlainIdeal.nD Cert.FfnPlainIdeal.τ).loc Cert.FfnPlainIdeal.main_arg4)
      ∧ r.2.mem ((c.tc : Thread Cert.FfnPlainIdeal.nD Cert.FfnPlainIdeal.τ).loc Cert.FfnPlainIdeal.main_arg5) = m ((c.tc : Thread Cert.FfnPlainIdeal.nD Cert.FfnPlainIdeal.τ).loc Cert.FfnPlainIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![14400, 128]⟩ ⟨2, ![115200, 128]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![14400, 128]⟩ ⟨2, ![115200, 128]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_Cores_CoresIdeal : Prop :=
  True

def algebraic_CoresIdeal_CoresPlainIdeal [hCoresIdeal : Cert.CoresIdeal.Facts] [hCoresPlainIdeal : Cert.CoresPlainIdeal.Facts] : Prop :=
  ∀ (m : (ℓ : Loc Cert.CoresIdeal.nD Cert.CoresIdeal.τ Cert.CoresIdeal.sig) → Buf (Elt Ideal) ℓ) (g : Dev Cert.CoresIdeal.nD → PrngReg)
    (m' : (ℓ : Loc Cert.CoresPlainIdeal.nD Cert.CoresPlainIdeal.τ Cert.CoresPlainIdeal.sig) → Buf (Elt Ideal) ℓ) (g' : Dev Cert.CoresPlainIdeal.nD → PrngReg), Pre_CoresIdeal m →
    (∀ c : Dev Cert.CoresIdeal.nD,
      m ((c.tc : Thread Cert.CoresIdeal.nD Cert.CoresIdeal.τ).loc Cert.CoresIdeal.main_arg0) = Layout.block ⟨4, ![4, 2, 14400, 128]⟩ ⟨4, ![32, 2, 14400, 128]⟩ 0 8 c (m' (((0 : Dev Cert.CoresPlainIdeal.nD).tc : Thread Cert.CoresPlainIdeal.nD Cert.CoresPlainIdeal.τ).loc Cert.CoresPlainIdeal.main_arg0))) →
    ∃ (v0 : Buf (Elt Ideal) (((0 : Dev Cert.CoresPlainIdeal.nD).tc : Thread Cert.CoresPlainIdeal.nD Cert.CoresPlainIdeal.τ).loc Cert.CoresPlainIdeal.main_v5)),
      θ_run (Cert.CoresIdeal.defs (F := Ideal)) (onTc (τ := Cert.CoresIdeal.τ) (Cert.CoresIdeal.main (F := Ideal))) ⟨m, fun _ => 0, g⟩ (fun r => ∀ c : Dev Cert.CoresIdeal.nD,
          r.2.mem ((c.tc : Thread Cert.CoresIdeal.nD Cert.CoresIdeal.τ).loc Cert.CoresIdeal.main_v7) = Layout.block ⟨3, ![4, 14400, 128]⟩ ⟨3, ![32, 14400, 128]⟩ 0 8 c v0
          ∧ r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0))
      ∧ θ_run (Cert.CoresPlainIdeal.defs (F := Ideal)) (onTc (τ := Cert.CoresPlainIdeal.τ) (Cert.CoresPlainIdeal.main (F := Ideal))) ⟨m', fun _ => 0, g'⟩ (fun r =>
          r.2.mem (((0 : Dev Cert.CoresPlainIdeal.nD).tc : Thread Cert.CoresPlainIdeal.nD Cert.CoresPlainIdeal.τ).loc Cert.CoresPlainIdeal.main_v5) = v0
          ∧ r.2.mem (((0 : Dev Cert.CoresPlainIdeal.nD).tc : Thread Cert.CoresPlainIdeal.nD Cert.CoresPlainIdeal.τ).loc Cert.CoresPlainIdeal.main_arg0) = m' (((0 : Dev Cert.CoresPlainIdeal.nD).tc : Thread Cert.CoresPlainIdeal.nD Cert.CoresPlainIdeal.τ).loc Cert.CoresPlainIdeal.main_arg0))

def preserves_Chips_ChipsIdeal : Prop :=
  True

def algebraic_ChipsIdeal_ChipsPlainIdeal [hChipsIdeal : Cert.ChipsIdeal.Facts] [hChipsPlainIdeal : Cert.ChipsPlainIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsPlainIdeal.nD Cert.ChipsPlainIdeal.τ Cert.ChipsPlainIdeal.sig) → Buf (Elt Ideal) ℓ) (g' : Dev Cert.ChipsPlainIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 14400, 128]⟩ ⟨3, ![32, 14400, 128]⟩ 0 8 c (m' (((0 : Dev Cert.ChipsPlainIdeal.nD).tc : Thread Cert.ChipsPlainIdeal.nD Cert.ChipsPlainIdeal.τ).loc Cert.ChipsPlainIdeal.main_arg0))
      ∧ m ((c.tc : Thread Cert.ChipsIdeal.nD Cert.ChipsIdeal.τ).loc Cert.ChipsIdeal.main_arg1) = Layout.block ⟨4, ![4, 2, 14400, 128]⟩ ⟨4, ![32, 2, 14400, 128]⟩ 0 8 c (m' (((0 : Dev Cert.ChipsPlainIdeal.nD).tc : Thread Cert.ChipsPlainIdeal.nD Cert.ChipsPlainIdeal.τ).loc Cert.ChipsPlainIdeal.main_arg1))
      ∧ m ((c.tc : Thread Cert.ChipsIdeal.nD Cert.ChipsIdeal.τ).loc Cert.ChipsIdeal.main_arg2) = Layout.block ⟨4, ![4, 1, 14400, 128]⟩ ⟨4, ![32, 1, 14400, 128]⟩ 0 8 c (m' (((0 : Dev Cert.ChipsPlainIdeal.nD).tc : Thread Cert.ChipsPlainIdeal.nD Cert.ChipsPlainIdeal.τ).loc Cert.ChipsPlainIdeal.main_arg2))
      ∧ m ((c.tc : Thread Cert.ChipsIdeal.nD Cert.ChipsIdeal.τ).loc Cert.ChipsIdeal.main_arg3) = Layout.block ⟨2, ![14400, 128]⟩ ⟨2, ![115200, 128]⟩ 0 8 c (m' (((0 : Dev Cert.ChipsPlainIdeal.nD).tc : Thread Cert.ChipsPlainIdeal.nD Cert.ChipsPlainIdeal.τ).loc Cert.ChipsPlainIdeal.main_arg3))
      ∧ m ((c.tc : Thread Cert.ChipsIdeal.nD Cert.ChipsIdeal.τ).loc Cert.ChipsIdeal.main_arg4) = Layout.block ⟨2, ![14400, 128]⟩ ⟨2, ![115200, 128]⟩ 0 8 c (m' (((0 : Dev Cert.ChipsPlainIdeal.nD).tc : Thread Cert.ChipsPlainIdeal.nD Cert.ChipsPlainIdeal.τ).loc Cert.ChipsPlainIdeal.main_arg4))
      ∧ m ((c.tc : Thread Cert.ChipsIdeal.nD Cert.ChipsIdeal.τ).loc Cert.ChipsIdeal.main_arg5) = Layout.block ⟨2, ![14400, 128]⟩ ⟨2, ![115200, 128]⟩ 0 8 c (m' (((0 : Dev Cert.ChipsPlainIdeal.nD).tc : Thread Cert.ChipsPlainIdeal.nD Cert.ChipsPlainIdeal.τ).loc Cert.ChipsPlainIdeal.main_arg5))) →
    ∃ (v0 : Buf (Elt Ideal) (((0 : Dev Cert.ChipsPlainIdeal.nD).tc : Thread Cert.ChipsPlainIdeal.nD Cert.ChipsPlainIdeal.τ).loc Cert.ChipsPlainIdeal.main_v22)) (v1 : Buf (Elt Ideal) (((0 : Dev Cert.ChipsPlainIdeal.nD).tc : Thread Cert.ChipsPlainIdeal.nD Cert.ChipsPlainIdeal.τ).loc Cert.ChipsPlainIdeal.main_v46)) (v2 : Buf (Elt Ideal) (((0 : Dev Cert.ChipsPlainIdeal.nD).tc : Thread Cert.ChipsPlainIdeal.nD Cert.ChipsPlainIdeal.τ).loc Cert.ChipsPlainIdeal.main_v27)) (v3 : Buf (Elt Ideal) (((0 : Dev Cert.ChipsPlainIdeal.nD).tc : Thread Cert.ChipsPlainIdeal.nD Cert.ChipsPlainIdeal.τ).loc Cert.ChipsPlainIdeal.main_v33)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v19_0) = Layout.block ⟨2, ![14400, 128]⟩ ⟨2, ![115200, 128]⟩ 0 8 c v0
          ∧ r.2.mem ((c.tc : Thread Cert.ChipsIdeal.nD Cert.ChipsIdeal.τ).loc Cert.ChipsIdeal.main_v19_1) = Layout.block ⟨2, ![14400, 128]⟩ ⟨2, ![115200, 128]⟩ 0 8 c v1
          ∧ r.2.mem ((c.tc : Thread Cert.ChipsIdeal.nD Cert.ChipsIdeal.τ).loc Cert.ChipsIdeal.main_v19_2) = Layout.block ⟨2, ![14400, 128]⟩ ⟨2, ![115200, 128]⟩ 0 8 c v2
          ∧ r.2.mem ((c.tc : Thread Cert.ChipsIdeal.nD Cert.ChipsIdeal.τ).loc Cert.ChipsIdeal.main_v19_3) = Layout.block ⟨2, ![14400, 128]⟩ ⟨2, ![115200, 128]⟩ 0 8 c v3
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
          ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
          ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5))
      ∧ θ_run (Cert.ChipsPlainIdeal.defs (F := Ideal)) (onTc (τ := Cert.ChipsPlainIdeal.τ) (Cert.ChipsPlainIdeal.main (F := Ideal))) ⟨m', fun _ => 0, g'⟩ (fun r =>
          r.2.mem (((0 : Dev Cert.ChipsPlainIdeal.nD).tc : Thread Cert.ChipsPlainIdeal.nD Cert.ChipsPlainIdeal.τ).loc Cert.ChipsPlainIdeal.main_v22) = v0
          ∧ r.2.mem (((0 : Dev Cert.ChipsPlainIdeal.nD).tc : Thread Cert.ChipsPlainIdeal.nD Cert.ChipsPlainIdeal.τ).loc Cert.ChipsPlainIdeal.main_v46) = v1
          ∧ r.2.mem (((0 : Dev Cert.ChipsPlainIdeal.nD).tc : Thread Cert.ChipsPlainIdeal.nD Cert.ChipsPlainIdeal.τ).loc Cert.ChipsPlainIdeal.main_v27) = v2
          ∧ r.2.mem (((0 : Dev Cert.ChipsPlainIdeal.nD).tc : Thread Cert.ChipsPlainIdeal.nD Cert.ChipsPlainIdeal.τ).loc Cert.ChipsPlainIdeal.main_v33) = v3
          ∧ r.2.mem (((0 : Dev Cert.ChipsPlainIdeal.nD).tc : Thread Cert.ChipsPlainIdeal.nD Cert.ChipsPlainIdeal.τ).loc Cert.ChipsPlainIdeal.main_arg0) = m' (((0 : Dev Cert.ChipsPlainIdeal.nD).tc : Thread Cert.ChipsPlainIdeal.nD Cert.ChipsPlainIdeal.τ).loc Cert.ChipsPlainIdeal.main_arg0)
          ∧ r.2.mem (((0 : Dev Cert.ChipsPlainIdeal.nD).tc : Thread Cert.ChipsPlainIdeal.nD Cert.ChipsPlainIdeal.τ).loc Cert.ChipsPlainIdeal.main_arg1) = m' (((0 : Dev Cert.ChipsPlainIdeal.nD).tc : Thread Cert.ChipsPlainIdeal.nD Cert.ChipsPlainIdeal.τ).loc Cert.ChipsPlainIdeal.main_arg1)
          ∧ r.2.mem (((0 : Dev Cert.ChipsPlainIdeal.nD).tc : Thread Cert.ChipsPlainIdeal.nD Cert.ChipsPlainIdeal.τ).loc Cert.ChipsPlainIdeal.main_arg2) = m' (((0 : Dev Cert.ChipsPlainIdeal.nD).tc : Thread Cert.ChipsPlainIdeal.nD Cert.ChipsPlainIdeal.τ).loc Cert.ChipsPlainIdeal.main_arg2)
          ∧ r.2.mem (((0 : Dev Cert.ChipsPlainIdeal.nD).tc : Thread Cert.ChipsPlainIdeal.nD Cert.ChipsPlainIdeal.τ).loc Cert.ChipsPlainIdeal.main_arg3) = m' (((0 : Dev Cert.ChipsPlainIdeal.nD).tc : Thread Cert.ChipsPlainIdeal.nD Cert.ChipsPlainIdeal.τ).loc Cert.ChipsPlainIdeal.main_arg3)
          ∧ r.2.mem (((0 : Dev Cert.ChipsPlainIdeal.nD).tc : Thread Cert.ChipsPlainIdeal.nD Cert.ChipsPlainIdeal.τ).loc Cert.ChipsPlainIdeal.main_arg4) = m' (((0 : Dev Cert.ChipsPlainIdeal.nD).tc : Thread Cert.ChipsPlainIdeal.nD Cert.ChipsPlainIdeal.τ).loc Cert.ChipsPlainIdeal.main_arg4)
          ∧ r.2.mem (((0 : Dev Cert.ChipsPlainIdeal.nD).tc : Thread Cert.ChipsPlainIdeal.nD Cert.ChipsPlainIdeal.τ).loc Cert.ChipsPlainIdeal.main_arg5) = m' (((0 : Dev Cert.ChipsPlainIdeal.nD).tc : Thread Cert.ChipsPlainIdeal.nD Cert.ChipsPlainIdeal.τ).loc Cert.ChipsPlainIdeal.main_arg5))

def preserves_Gains_GainsIdeal : Prop :=
  True

def algebraic_GainsIdeal_GainsPlainIdeal [hGainsIdeal : Cert.GainsIdeal.Facts] [hGainsPlainIdeal : Cert.GainsPlainIdeal.Facts] : Prop :=
  ∀ (m : (ℓ : Loc Cert.GainsIdeal.nD Cert.GainsIdeal.τ Cert.GainsIdeal.sig) → Buf (Elt Ideal) ℓ) (g : Dev Cert.GainsIdeal.nD → PrngReg)
    (m' : (ℓ : Loc Cert.GainsPlainIdeal.nD Cert.GainsPlainIdeal.τ Cert.GainsPlainIdeal.sig) → Buf (Elt Ideal) ℓ) (g' : Dev Cert.GainsPlainIdeal.nD → PrngReg), Pre_GainsIdeal m →
    (∀ c : Dev Cert.GainsIdeal.nD,
      m ((c.tc : Thread Cert.GainsIdeal.nD Cert.GainsIdeal.τ).loc Cert.GainsIdeal.main_arg0) = Layout.block ⟨2, ![144, 128]⟩ ⟨2, ![1152, 128]⟩ 0 8 c (m' (((0 : Dev Cert.GainsPlainIdeal.nD).tc : Thread Cert.GainsPlainIdeal.nD Cert.GainsPlainIdeal.τ).loc Cert.GainsPlainIdeal.main_arg0))
      ∧ m ((c.tc : Thread Cert.GainsIdeal.nD Cert.GainsIdeal.τ).loc Cert.GainsIdeal.main_arg1) = m' (((0 : Dev Cert.GainsPlainIdeal.nD).tc : Thread Cert.GainsPlainIdeal.nD Cert.GainsPlainIdeal.τ).loc Cert.GainsPlainIdeal.main_arg1)
      ∧ m ((c.tc : Thread Cert.GainsIdeal.nD Cert.GainsIdeal.τ).loc Cert.GainsIdeal.main_arg2) = m' (((0 : Dev Cert.GainsPlainIdeal.nD).tc : Thread Cert.GainsPlainIdeal.nD Cert.GainsPlainIdeal.τ).loc Cert.GainsPlainIdeal.main_arg2)
      ∧ m ((c.tc : Thread Cert.GainsIdeal.nD Cert.GainsIdeal.τ).loc Cert.GainsIdeal.main_arg3) = m' (((0 : Dev Cert.GainsPlainIdeal.nD).tc : Thread Cert.GainsPlainIdeal.nD Cert.GainsPlainIdeal.τ).loc Cert.GainsPlainIdeal.main_arg3)) →
    ∃ (v0 : Buf (Elt Ideal) (((0 : Dev Cert.GainsPlainIdeal.nD).tc : Thread Cert.GainsPlainIdeal.nD Cert.GainsPlainIdeal.τ).loc Cert.GainsPlainIdeal.main_v1)) (v1 : Buf (Elt Ideal) (((0 : Dev Cert.GainsPlainIdeal.nD).tc : Thread Cert.GainsPlainIdeal.nD Cert.GainsPlainIdeal.τ).loc Cert.GainsPlainIdeal.main_v25)) (v2 : Buf (Elt Ideal) (((0 : Dev Cert.GainsPlainIdeal.nD).tc : Thread Cert.GainsPlainIdeal.nD Cert.GainsPlainIdeal.τ).loc Cert.GainsPlainIdeal.main_v6)) (v3 : Buf (Elt Ideal) (((0 : Dev Cert.GainsPlainIdeal.nD).tc : Thread Cert.GainsPlainIdeal.nD Cert.GainsPlainIdeal.τ).loc Cert.GainsPlainIdeal.main_v12)),
      θ_run (Cert.GainsIdeal.defs (F := Ideal)) (onTc (τ := Cert.GainsIdeal.τ) (Cert.GainsIdeal.main (F := Ideal))) ⟨m, fun _ => 0, g⟩ (fun r => ∀ c : Dev Cert.GainsIdeal.nD,
          r.2.mem ((c.tc : Thread Cert.GainsIdeal.nD Cert.GainsIdeal.τ).loc Cert.GainsIdeal.main_v2_0) = v0
          ∧ r.2.mem ((c.tc : Thread Cert.GainsIdeal.nD Cert.GainsIdeal.τ).loc Cert.GainsIdeal.main_v2_1) = v1
          ∧ r.2.mem ((c.tc : Thread Cert.GainsIdeal.nD Cert.GainsIdeal.τ).loc Cert.GainsIdeal.main_v2_2) = v2
          ∧ r.2.mem ((c.tc : Thread Cert.GainsIdeal.nD Cert.GainsIdeal.τ).loc Cert.GainsIdeal.main_v2_3) = v3
          ∧ r.2.mem ((c.tc : Thread Cert.GainsIdeal.nD Cert.GainsIdeal.τ).loc Cert.GainsIdeal.main_arg0) = m ((c.tc : Thread Cert.GainsIdeal.nD Cert.GainsIdeal.τ).loc Cert.GainsIdeal.main_arg0)
          ∧ r.2.mem ((c.tc : Thread Cert.GainsIdeal.nD Cert.GainsIdeal.τ).loc Cert.GainsIdeal.main_arg1) = m ((c.tc : Thread Cert.GainsIdeal.nD Cert.GainsIdeal.τ).loc Cert.GainsIdeal.main_arg1)
          ∧ r.2.mem ((c.tc : Thread Cert.GainsIdeal.nD Cert.GainsIdeal.τ).loc Cert.GainsIdeal.main_arg2) = m ((c.tc : Thread Cert.GainsIdeal.nD Cert.GainsIdeal.τ).loc Cert.GainsIdeal.main_arg2)
          ∧ r.2.mem ((c.tc : Thread Cert.GainsIdeal.nD Cert.GainsIdeal.τ).loc Cert.GainsIdeal.main_arg3) = m ((c.tc : Thread Cert.GainsIdeal.nD Cert.GainsIdeal.τ).loc Cert.GainsIdeal.main_arg3))
      ∧ θ_run (Cert.GainsPlainIdeal.defs (F := Ideal)) (onTc (τ := Cert.GainsPlainIdeal.τ) (Cert.GainsPlainIdeal.main (F := Ideal))) ⟨m', fun _ => 0, g'⟩ (fun r =>
          r.2.mem (((0 : Dev Cert.GainsPlainIdeal.nD).tc : Thread Cert.GainsPlainIdeal.nD Cert.GainsPlainIdeal.τ).loc Cert.GainsPlainIdeal.main_v1) = v0
          ∧ r.2.mem (((0 : Dev Cert.GainsPlainIdeal.nD).tc : Thread Cert.GainsPlainIdeal.nD Cert.GainsPlainIdeal.τ).loc Cert.GainsPlainIdeal.main_v25) = v1
          ∧ r.2.mem (((0 : Dev Cert.GainsPlainIdeal.nD).tc : Thread Cert.GainsPlainIdeal.nD Cert.GainsPlainIdeal.τ).loc Cert.GainsPlainIdeal.main_v6) = v2
          ∧ r.2.mem (((0 : Dev Cert.GainsPlainIdeal.nD).tc : Thread Cert.GainsPlainIdeal.nD Cert.GainsPlainIdeal.τ).loc Cert.GainsPlainIdeal.main_v12) = v3
          ∧ r.2.mem (((0 : Dev Cert.GainsPlainIdeal.nD).tc : Thread Cert.GainsPlainIdeal.nD Cert.GainsPlainIdeal.τ).loc Cert.GainsPlainIdeal.main_arg0) = m' (((0 : Dev Cert.GainsPlainIdeal.nD).tc : Thread Cert.GainsPlainIdeal.nD Cert.GainsPlainIdeal.τ).loc Cert.GainsPlainIdeal.main_arg0)
          ∧ r.2.mem (((0 : Dev Cert.GainsPlainIdeal.nD).tc : Thread Cert.GainsPlainIdeal.nD Cert.GainsPlainIdeal.τ).loc Cert.GainsPlainIdeal.main_arg1) = m' (((0 : Dev Cert.GainsPlainIdeal.nD).tc : Thread Cert.GainsPlainIdeal.nD Cert.GainsPlainIdeal.τ).loc Cert.GainsPlainIdeal.main_arg1)
          ∧ r.2.mem (((0 : Dev Cert.GainsPlainIdeal.nD).tc : Thread Cert.GainsPlainIdeal.nD Cert.GainsPlainIdeal.τ).loc Cert.GainsPlainIdeal.main_arg2) = m' (((0 : Dev Cert.GainsPlainIdeal.nD).tc : Thread Cert.GainsPlainIdeal.nD Cert.GainsPlainIdeal.τ).loc Cert.GainsPlainIdeal.main_arg2)
          ∧ r.2.mem (((0 : Dev Cert.GainsPlainIdeal.nD).tc : Thread Cert.GainsPlainIdeal.nD Cert.GainsPlainIdeal.τ).loc Cert.GainsPlainIdeal.main_arg3) = m' (((0 : Dev Cert.GainsPlainIdeal.nD).tc : Thread Cert.GainsPlainIdeal.nD Cert.GainsPlainIdeal.τ).loc Cert.GainsPlainIdeal.main_arg3))

def preserves_Inputs_InputsIdeal : Prop :=
  True

def algebraic_InputsIdeal_InputsPlainIdeal [hInputsIdeal : Cert.InputsIdeal.Facts] [hInputsPlainIdeal : Cert.InputsPlainIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsPlainIdeal.nD Cert.InputsPlainIdeal.τ Cert.InputsPlainIdeal.sig) → Buf (Elt Ideal) ℓ) (g' : Dev Cert.InputsPlainIdeal.nD → PrngReg), Pre_InputsIdeal m →
    (∀ c : Dev Cert.InputsIdeal.nD,
      m' ((c.tc : Thread Cert.InputsPlainIdeal.nD Cert.InputsPlainIdeal.τ).loc Cert.InputsPlainIdeal.main_arg0) = m ((c.tc : Thread Cert.InputsIdeal.nD Cert.InputsIdeal.τ).loc Cert.InputsIdeal.main_arg0)
      ∧ m' ((c.tc : Thread Cert.InputsPlainIdeal.nD Cert.InputsPlainIdeal.τ).loc Cert.InputsPlainIdeal.main_arg1) = m ((c.tc : Thread Cert.InputsIdeal.nD Cert.InputsIdeal.τ).loc Cert.InputsIdeal.main_arg1)
      ∧ m' ((c.tc : Thread Cert.InputsPlainIdeal.nD Cert.InputsPlainIdeal.τ).loc Cert.InputsPlainIdeal.main_arg2) = m ((c.tc : Thread Cert.InputsIdeal.nD Cert.InputsIdeal.τ).loc Cert.InputsIdeal.main_arg2)
      ∧ m' ((c.tc : Thread Cert.InputsPlainIdeal.nD Cert.InputsPlainIdeal.τ).loc Cert.InputsPlainIdeal.main_arg3) = m ((c.tc : Thread Cert.InputsIdeal.nD Cert.InputsIdeal.τ).loc Cert.InputsIdeal.main_arg3)
      ∧ m' ((c.tc : Thread Cert.InputsPlainIdeal.nD Cert.InputsPlainIdeal.τ).loc Cert.InputsPlainIdeal.main_arg4) = m ((c.tc : Thread Cert.InputsIdeal.nD Cert.InputsIdeal.τ).loc Cert.InputsIdeal.main_arg4)
      ∧ m' ((c.tc : Thread Cert.InputsPlainIdeal.nD Cert.InputsPlainIdeal.τ).loc Cert.InputsPlainIdeal.main_arg5) = m ((c.tc : Thread Cert.InputsIdeal.nD Cert.InputsIdeal.τ).loc Cert.InputsIdeal.main_arg5)
      ∧ m' ((c.tc : Thread Cert.InputsPlainIdeal.nD Cert.InputsPlainIdeal.τ).loc Cert.InputsPlainIdeal.main_arg6) = m ((c.tc : Thread Cert.InputsIdeal.nD Cert.InputsIdeal.τ).loc Cert.InputsIdeal.main_arg6)
      ∧ m' ((c.tc : Thread Cert.InputsPlainIdeal.nD Cert.InputsPlainIdeal.τ).loc Cert.InputsPlainIdeal.main_arg7) = m ((c.tc : Thread Cert.InputsIdeal.nD Cert.InputsIdeal.τ).loc Cert.InputsIdeal.main_arg7)
      ∧ m' ((c.tc : Thread Cert.InputsPlainIdeal.nD Cert.InputsPlainIdeal.τ).loc Cert.InputsPlainIdeal.main_arg8) = m ((c.tc : Thread Cert.InputsIdeal.nD Cert.InputsIdeal.τ).loc Cert.InputsIdeal.main_arg8)) →
    ∃ (v0 : (c : Dev Cert.InputsIdeal.nD) → Buf (Elt Ideal) ((c.tc : Thread Cert.InputsIdeal.nD Cert.InputsIdeal.τ).loc Cert.InputsIdeal.main_v0_0)) (v1 : (c : Dev Cert.InputsIdeal.nD) → Buf (Elt Ideal) ((c.tc : Thread Cert.InputsIdeal.nD Cert.InputsIdeal.τ).loc Cert.InputsIdeal.main_v0_1)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v0_0) = v0 c
          ∧ r.2.mem ((c.tc : Thread Cert.InputsIdeal.nD Cert.InputsIdeal.τ).loc Cert.InputsIdeal.main_v0_1) = v1 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
          ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
          ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
          ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
          ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
          ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
          ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8))
      ∧ θ_run (Cert.InputsPlainIdeal.defs (F := Ideal)) (onTc (τ := Cert.InputsPlainIdeal.τ) (Cert.InputsPlainIdeal.main (F := Ideal))) ⟨m', fun _ => 0, g'⟩ (fun r => ∀ c : Dev Cert.InputsPlainIdeal.nD,
          r.2.mem ((c.tc : Thread Cert.InputsPlainIdeal.nD Cert.InputsPlainIdeal.τ).loc Cert.InputsPlainIdeal.main_v39) = v0 c
          ∧ r.2.mem ((c.tc : Thread Cert.InputsPlainIdeal.nD Cert.InputsPlainIdeal.τ).loc Cert.InputsPlainIdeal.main_v22) = v1 c
          ∧ r.2.mem ((c.tc : Thread Cert.InputsPlainIdeal.nD Cert.InputsPlainIdeal.τ).loc Cert.InputsPlainIdeal.main_arg0) = m' ((c.tc : Thread Cert.InputsPlainIdeal.nD Cert.InputsPlainIdeal.τ).loc Cert.InputsPlainIdeal.main_arg0)
          ∧ r.2.mem ((c.tc : Thread Cert.InputsPlainIdeal.nD Cert.InputsPlainIdeal.τ).loc Cert.InputsPlainIdeal.main_arg1) = m' ((c.tc : Thread Cert.InputsPlainIdeal.nD Cert.InputsPlainIdeal.τ).loc Cert.InputsPlainIdeal.main_arg1)
          ∧ r.2.mem ((c.tc : Thread Cert.InputsPlainIdeal.nD Cert.InputsPlainIdeal.τ).loc Cert.InputsPlainIdeal.main_arg2) = m' ((c.tc : Thread Cert.InputsPlainIdeal.nD Cert.InputsPlainIdeal.τ).loc Cert.InputsPlainIdeal.main_arg2)
          ∧ r.2.mem ((c.tc : Thread Cert.InputsPlainIdeal.nD Cert.InputsPlainIdeal.τ).loc Cert.InputsPlainIdeal.main_arg3) = m' ((c.tc : Thread Cert.InputsPlainIdeal.nD Cert.InputsPlainIdeal.τ).loc Cert.InputsPlainIdeal.main_arg3)
          ∧ r.2.mem ((c.tc : Thread Cert.InputsPlainIdeal.nD Cert.InputsPlainIdeal.τ).loc Cert.InputsPlainIdeal.main_arg4) = m' ((c.tc : Thread Cert.InputsPlainIdeal.nD Cert.InputsPlainIdeal.τ).loc Cert.InputsPlainIdeal.main_arg4)
          ∧ r.2.mem ((c.tc : Thread Cert.InputsPlainIdeal.nD Cert.InputsPlainIdeal.τ).loc Cert.InputsPlainIdeal.main_arg5) = m' ((c.tc : Thread Cert.InputsPlainIdeal.nD Cert.InputsPlainIdeal.τ).loc Cert.InputsPlainIdeal.main_arg5)
          ∧ r.2.mem ((c.tc : Thread Cert.InputsPlainIdeal.nD Cert.InputsPlainIdeal.τ).loc Cert.InputsPlainIdeal.main_arg6) = m' ((c.tc : Thread Cert.InputsPlainIdeal.nD Cert.InputsPlainIdeal.τ).loc Cert.InputsPlainIdeal.main_arg6)
          ∧ r.2.mem ((c.tc : Thread Cert.InputsPlainIdeal.nD Cert.InputsPlainIdeal.τ).loc Cert.InputsPlainIdeal.main_arg7) = m' ((c.tc : Thread Cert.InputsPlainIdeal.nD Cert.InputsPlainIdeal.τ).loc Cert.InputsPlainIdeal.main_arg7)
          ∧ r.2.mem ((c.tc : Thread Cert.InputsPlainIdeal.nD Cert.InputsPlainIdeal.τ).loc Cert.InputsPlainIdeal.main_arg8) = m' ((c.tc : Thread Cert.InputsPlainIdeal.nD Cert.InputsPlainIdeal.τ).loc Cert.InputsPlainIdeal.main_arg8))

def preserves_Head_HeadIdeal : Prop :=
  True

def algebraic_HeadIdeal_HeadPlainIdeal [hHeadIdeal : Cert.HeadIdeal.Facts] [hHeadPlainIdeal : Cert.HeadPlainIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadPlainIdeal.nD Cert.HeadPlainIdeal.τ Cert.HeadPlainIdeal.sig) → Buf (Elt Ideal) ℓ) (g' : Dev Cert.HeadPlainIdeal.nD → PrngReg), Pre_HeadIdeal m →
    (∀ c : Dev Cert.HeadIdeal.nD,
      m' ((c.tc : Thread Cert.HeadPlainIdeal.nD Cert.HeadPlainIdeal.τ).loc Cert.HeadPlainIdeal.main_arg0) = m ((c.tc : Thread Cert.HeadIdeal.nD Cert.HeadIdeal.τ).loc Cert.HeadIdeal.main_arg0)
      ∧ m' ((c.tc : Thread Cert.HeadPlainIdeal.nD Cert.HeadPlainIdeal.τ).loc Cert.HeadPlainIdeal.main_arg1) = m ((c.tc : Thread Cert.HeadIdeal.nD Cert.HeadIdeal.τ).loc Cert.HeadIdeal.main_arg1)
      ∧ m' ((c.tc : Thread Cert.HeadPlainIdeal.nD Cert.HeadPlainIdeal.τ).loc Cert.HeadPlainIdeal.main_arg2) = m ((c.tc : Thread Cert.HeadIdeal.nD Cert.HeadIdeal.τ).loc Cert.HeadIdeal.main_arg2)
      ∧ m' ((c.tc : Thread Cert.HeadPlainIdeal.nD Cert.HeadPlainIdeal.τ).loc Cert.HeadPlainIdeal.main_arg3) = m ((c.tc : Thread Cert.HeadIdeal.nD Cert.HeadIdeal.τ).loc Cert.HeadIdeal.main_arg3)
      ∧ m' ((c.tc : Thread Cert.HeadPlainIdeal.nD Cert.HeadPlainIdeal.τ).loc Cert.HeadPlainIdeal.main_arg4) = m ((c.tc : Thread Cert.HeadIdeal.nD Cert.HeadIdeal.τ).loc Cert.HeadIdeal.main_arg4)
      ∧ m' ((c.tc : Thread Cert.HeadPlainIdeal.nD Cert.HeadPlainIdeal.τ).loc Cert.HeadPlainIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v0_5)) (v1 : (c : Dev Cert.HeadIdeal.nD) → Buf (Elt Ideal) ((c.tc : Thread Cert.HeadIdeal.nD Cert.HeadIdeal.τ).loc Cert.HeadIdeal.main_v0_0)) (v2 : (c : Dev Cert.HeadIdeal.nD) → Buf (Elt Ideal) ((c.tc : Thread Cert.HeadIdeal.nD Cert.HeadIdeal.τ).loc Cert.HeadIdeal.main_v0_4)) (v3 : (c : Dev Cert.HeadIdeal.nD) → Buf (Elt Ideal) ((c.tc : Thread Cert.HeadIdeal.nD Cert.HeadIdeal.τ).loc Cert.HeadIdeal.main_v1)) (v4 : (c : Dev Cert.HeadIdeal.nD) → Buf (Elt Ideal) ((c.tc : Thread Cert.HeadIdeal.nD Cert.HeadIdeal.τ).loc Cert.HeadIdeal.main_v2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_5) = v0 c
          ∧ r.2.mem ((c.tc : Thread Cert.HeadIdeal.nD Cert.HeadIdeal.τ).loc Cert.HeadIdeal.main_v0_0) = v1 c
          ∧ r.2.mem ((c.tc : Thread Cert.HeadIdeal.nD Cert.HeadIdeal.τ).loc Cert.HeadIdeal.main_v0_4) = v2 c
          ∧ r.2.mem ((c.tc : Thread Cert.HeadIdeal.nD Cert.HeadIdeal.τ).loc Cert.HeadIdeal.main_v1) = v3 c
          ∧ r.2.mem ((c.tc : Thread Cert.HeadIdeal.nD Cert.HeadIdeal.τ).loc Cert.HeadIdeal.main_v2) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadPlainIdeal.defs (F := Ideal)) (onTc (τ := Cert.HeadPlainIdeal.τ) (Cert.HeadPlainIdeal.main (F := Ideal))) ⟨m', fun _ => 0, g'⟩ (fun r => ∀ c : Dev Cert.HeadPlainIdeal.nD,
          r.2.mem ((c.tc : Thread Cert.HeadPlainIdeal.nD Cert.HeadPlainIdeal.τ).loc Cert.HeadPlainIdeal.main_v73) = v0 c
          ∧ r.2.mem ((c.tc : Thread Cert.HeadPlainIdeal.nD Cert.HeadPlainIdeal.τ).loc Cert.HeadPlainIdeal.main_v72) = v1 c
          ∧ r.2.mem ((c.tc : Thread Cert.HeadPlainIdeal.nD Cert.HeadPlainIdeal.τ).loc Cert.HeadPlainIdeal.main_v55) = v2 c
          ∧ r.2.mem ((c.tc : Thread Cert.HeadPlainIdeal.nD Cert.HeadPlainIdeal.τ).loc Cert.HeadPlainIdeal.main_v51) = v3 c
          ∧ r.2.mem ((c.tc : Thread Cert.HeadPlainIdeal.nD Cert.HeadPlainIdeal.τ).loc Cert.HeadPlainIdeal.main_v48) = v4 c
          ∧ r.2.mem ((c.tc : Thread Cert.HeadPlainIdeal.nD Cert.HeadPlainIdeal.τ).loc Cert.HeadPlainIdeal.main_arg0) = m' ((c.tc : Thread Cert.HeadPlainIdeal.nD Cert.HeadPlainIdeal.τ).loc Cert.HeadPlainIdeal.main_arg0)
          ∧ r.2.mem ((c.tc : Thread Cert.HeadPlainIdeal.nD Cert.HeadPlainIdeal.τ).loc Cert.HeadPlainIdeal.main_arg1) = m' ((c.tc : Thread Cert.HeadPlainIdeal.nD Cert.HeadPlainIdeal.τ).loc Cert.HeadPlainIdeal.main_arg1)
          ∧ r.2.mem ((c.tc : Thread Cert.HeadPlainIdeal.nD Cert.HeadPlainIdeal.τ).loc Cert.HeadPlainIdeal.main_arg2) = m' ((c.tc : Thread Cert.HeadPlainIdeal.nD Cert.HeadPlainIdeal.τ).loc Cert.HeadPlainIdeal.main_arg2)
          ∧ r.2.mem ((c.tc : Thread Cert.HeadPlainIdeal.nD Cert.HeadPlainIdeal.τ).loc Cert.HeadPlainIdeal.main_arg3) = m' ((c.tc : Thread Cert.HeadPlainIdeal.nD Cert.HeadPlainIdeal.τ).loc Cert.HeadPlainIdeal.main_arg3)
          ∧ r.2.mem ((c.tc : Thread Cert.HeadPlainIdeal.nD Cert.HeadPlainIdeal.τ).loc Cert.HeadPlainIdeal.main_arg4) = m' ((c.tc : Thread Cert.HeadPlainIdeal.nD Cert.HeadPlainIdeal.τ).loc Cert.HeadPlainIdeal.main_arg4)
          ∧ r.2.mem ((c.tc : Thread Cert.HeadPlainIdeal.nD Cert.HeadPlainIdeal.τ).loc Cert.HeadPlainIdeal.main_arg5) = m' ((c.tc : Thread Cert.HeadPlainIdeal.nD Cert.HeadPlainIdeal.τ).loc Cert.HeadPlainIdeal.main_arg5))

def preserves_Ffn_FfnIdeal : Prop :=
  True

def algebraic_FfnIdeal_FfnPlainIdeal_pre_finite_ffn [hFfnIdeal : Cert.FfnIdeal.Facts] [hFfnPlainIdeal : Cert.FfnPlainIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnPlainIdeal.nD Cert.FfnPlainIdeal.τ Cert.FfnPlainIdeal.sig) → Buf (Elt Ideal) ℓ) (g' : Dev Cert.FfnPlainIdeal.nD → PrngReg), Pre_FfnIdeal_finite_ffn m →
    (∀ c : Dev Cert.FfnIdeal.nD,
      m' ((c.tc : Thread Cert.FfnPlainIdeal.nD Cert.FfnPlainIdeal.τ).loc Cert.FfnPlainIdeal.main_arg0) = m ((c.tc : Thread Cert.FfnIdeal.nD Cert.FfnIdeal.τ).loc Cert.FfnIdeal.main_arg0)
      ∧ m' ((c.tc : Thread Cert.FfnPlainIdeal.nD Cert.FfnPlainIdeal.τ).loc Cert.FfnPlainIdeal.main_arg1) = m ((c.tc : Thread Cert.FfnIdeal.nD Cert.FfnIdeal.τ).loc Cert.FfnIdeal.main_arg1)
      ∧ m' ((c.tc : Thread Cert.FfnPlainIdeal.nD Cert.FfnPlainIdeal.τ).loc Cert.FfnPlainIdeal.main_arg2) = m ((c.tc : Thread Cert.FfnIdeal.nD Cert.FfnIdeal.τ).loc Cert.FfnIdeal.main_arg2)
      ∧ m' ((c.tc : Thread Cert.FfnPlainIdeal.nD Cert.FfnPlainIdeal.τ).loc Cert.FfnPlainIdeal.main_arg3) = m ((c.tc : Thread Cert.FfnIdeal.nD Cert.FfnIdeal.τ).loc Cert.FfnIdeal.main_arg3)
      ∧ m' ((c.tc : Thread Cert.FfnPlainIdeal.nD Cert.FfnPlainIdeal.τ).loc Cert.FfnPlainIdeal.main_arg4) = m ((c.tc : Thread Cert.FfnIdeal.nD Cert.FfnIdeal.τ).loc Cert.FfnIdeal.main_arg4)
      ∧ m' ((c.tc : Thread Cert.FfnPlainIdeal.nD Cert.FfnPlainIdeal.τ).loc Cert.FfnPlainIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v1_0)) (v2 : (c : Dev Cert.FfnIdeal.nD) → Buf (Elt Ideal) ((c.tc : Thread Cert.FfnIdeal.nD Cert.FfnIdeal.τ).loc Cert.FfnIdeal.main_v1_4)) (v3 : (c : Dev Cert.FfnIdeal.nD) → Buf (Elt Ideal) ((c.tc : Thread Cert.FfnIdeal.nD Cert.FfnIdeal.τ).loc Cert.FfnIdeal.main_v2)) (v4 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v1_0) = v1 c
          ∧ r.2.mem ((c.tc : Thread Cert.FfnIdeal.nD Cert.FfnIdeal.τ).loc Cert.FfnIdeal.main_v1_4) = v2 c
          ∧ r.2.mem ((c.tc : Thread Cert.FfnIdeal.nD Cert.FfnIdeal.τ).loc Cert.FfnIdeal.main_v2) = v3 c
          ∧ r.2.mem ((c.tc : Thread Cert.FfnIdeal.nD Cert.FfnIdeal.τ).loc Cert.FfnIdeal.main_v3) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnPlainIdeal.defs (F := Ideal)) (onTc (τ := Cert.FfnPlainIdeal.τ) (Cert.FfnPlainIdeal.main (F := Ideal))) ⟨m', fun _ => 0, g'⟩ (fun r => ∀ c : Dev Cert.FfnPlainIdeal.nD,
          r.2.mem ((c.tc : Thread Cert.FfnPlainIdeal.nD Cert.FfnPlainIdeal.τ).loc Cert.FfnPlainIdeal.main_v23) = v0 c
          ∧ r.2.mem ((c.tc : Thread Cert.FfnPlainIdeal.nD Cert.FfnPlainIdeal.τ).loc Cert.FfnPlainIdeal.main_v57) = v1 c
          ∧ r.2.mem ((c.tc : Thread Cert.FfnPlainIdeal.nD Cert.FfnPlainIdeal.τ).loc Cert.FfnPlainIdeal.main_v40) = v2 c
          ∧ r.2.mem ((c.tc : Thread Cert.FfnPlainIdeal.nD Cert.FfnPlainIdeal.τ).loc Cert.FfnPlainIdeal.main_v58) = v3 c
          ∧ r.2.mem ((c.tc : Thread Cert.FfnPlainIdeal.nD Cert.FfnPlainIdeal.τ).loc Cert.FfnPlainIdeal.main_v26) = v4 c
          ∧ r.2.mem ((c.tc : Thread Cert.FfnPlainIdeal.nD Cert.FfnPlainIdeal.τ).loc Cert.FfnPlainIdeal.main_arg0) = m' ((c.tc : Thread Cert.FfnPlainIdeal.nD Cert.FfnPlainIdeal.τ).loc Cert.FfnPlainIdeal.main_arg0)
          ∧ r.2.mem ((c.tc : Thread Cert.FfnPlainIdeal.nD Cert.FfnPlainIdeal.τ).loc Cert.FfnPlainIdeal.main_arg1) = m' ((c.tc : Thread Cert.FfnPlainIdeal.nD Cert.FfnPlainIdeal.τ).loc Cert.FfnPlainIdeal.main_arg1)
          ∧ r.2.mem ((c.tc : Thread Cert.FfnPlainIdeal.nD Cert.FfnPlainIdeal.τ).loc Cert.FfnPlainIdeal.main_arg2) = m' ((c.tc : Thread Cert.FfnPlainIdeal.nD Cert.FfnPlainIdeal.τ).loc Cert.FfnPlainIdeal.main_arg2)
          ∧ r.2.mem ((c.tc : Thread Cert.FfnPlainIdeal.nD Cert.FfnPlainIdeal.τ).loc Cert.FfnPlainIdeal.main_arg3) = m' ((c.tc : Thread Cert.FfnPlainIdeal.nD Cert.FfnPlainIdeal.τ).loc Cert.FfnPlainIdeal.main_arg3)
          ∧ r.2.mem ((c.tc : Thread Cert.FfnPlainIdeal.nD Cert.FfnPlainIdeal.τ).loc Cert.FfnPlainIdeal.main_arg4) = m' ((c.tc : Thread Cert.FfnPlainIdeal.nD Cert.FfnPlainIdeal.τ).loc Cert.FfnPlainIdeal.main_arg4)
          ∧ r.2.mem ((c.tc : Thread Cert.FfnPlainIdeal.nD Cert.FfnPlainIdeal.τ).loc Cert.FfnPlainIdeal.main_arg5) = m' ((c.tc : Thread Cert.FfnPlainIdeal.nD Cert.FfnPlainIdeal.τ).loc Cert.FfnPlainIdeal.main_arg5))

def Claim : Prop :=
  ∃ (hKernel : Cert.Kernel.Facts) (hKernelIdeal : Cert.KernelIdeal.Facts) (hReferenceIdeal : Cert.ReferenceIdeal.Facts) (hReference : Cert.Reference.Facts) (hCores : Cert.Cores.Facts) (hCoresIdeal : Cert.CoresIdeal.Facts) (hCoresPlainIdeal : Cert.CoresPlainIdeal.Facts) (hChips : Cert.Chips.Facts) (hChipsIdeal : Cert.ChipsIdeal.Facts) (hChipsPlainIdeal : Cert.ChipsPlainIdeal.Facts) (hGains : Cert.Gains.Facts) (hGainsIdeal : Cert.GainsIdeal.Facts) (hGainsPlainIdeal : Cert.GainsPlainIdeal.Facts) (hInputs : Cert.Inputs.Facts) (hInputsIdeal : Cert.InputsIdeal.Facts) (hInputsPlainIdeal : Cert.InputsPlainIdeal.Facts) (hHead : Cert.Head.Facts) (hHeadIdeal : Cert.HeadIdeal.Facts) (hHeadPlainIdeal : Cert.HeadPlainIdeal.Facts) (hFfn : Cert.Ffn.Facts) (hFfnIdeal : Cert.FfnIdeal.Facts) (hFfnPlainIdeal : Cert.FfnPlainIdeal.Facts) (hPre_finite_ffn : Cert.Pre_finite_ffn.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Cores (hCores := hCores)
    ∧ quiescent_CoresIdeal (hCoresIdeal := hCoresIdeal)
    ∧ quiescent_CoresPlainIdeal (hCoresPlainIdeal := hCoresPlainIdeal)
    ∧ quiescent_Chips (hChips := hChips)
    ∧ quiescent_ChipsIdeal (hChipsIdeal := hChipsIdeal)
    ∧ quiescent_ChipsPlainIdeal (hChipsPlainIdeal := hChipsPlainIdeal)
    ∧ quiescent_Gains (hGains := hGains)
    ∧ quiescent_GainsIdeal (hGainsIdeal := hGainsIdeal)
    ∧ quiescent_GainsPlainIdeal (hGainsPlainIdeal := hGainsPlainIdeal)
    ∧ quiescent_Inputs (hInputs := hInputs)
    ∧ quiescent_InputsIdeal (hInputsIdeal := hInputsIdeal)
    ∧ quiescent_InputsPlainIdeal (hInputsPlainIdeal := hInputsPlainIdeal)
    ∧ quiescent_Head (hHead := hHead)
    ∧ quiescent_HeadIdeal (hHeadIdeal := hHeadIdeal)
    ∧ quiescent_HeadPlainIdeal (hHeadPlainIdeal := hHeadPlainIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnPlainIdeal (hFfnPlainIdeal := hFfnPlainIdeal)
    ∧ quiescent_FfnPlainIdeal_pre_finite_ffn (hFfnPlainIdeal := hFfnPlainIdeal) (hPre_finite_ffn := hPre_finite_ffn)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Cores_CoresIdeal
    ∧ algebraic_CoresIdeal_CoresPlainIdeal (hCoresIdeal := hCoresIdeal) (hCoresPlainIdeal := hCoresPlainIdeal)
    ∧ preserves_Chips_ChipsIdeal
    ∧ algebraic_ChipsIdeal_ChipsPlainIdeal (hChipsIdeal := hChipsIdeal) (hChipsPlainIdeal := hChipsPlainIdeal)
    ∧ preserves_Gains_GainsIdeal
    ∧ algebraic_GainsIdeal_GainsPlainIdeal (hGainsIdeal := hGainsIdeal) (hGainsPlainIdeal := hGainsPlainIdeal)
    ∧ preserves_Inputs_InputsIdeal
    ∧ algebraic_InputsIdeal_InputsPlainIdeal (hInputsIdeal := hInputsIdeal) (hInputsPlainIdeal := hInputsPlainIdeal)
    ∧ preserves_Head_HeadIdeal
    ∧ algebraic_HeadIdeal_HeadPlainIdeal (hHeadIdeal := hHeadIdeal) (hHeadPlainIdeal := hHeadPlainIdeal)
    ∧ preserves_Ffn_FfnIdeal
    ∧ algebraic_FfnIdeal_FfnPlainIdeal_pre_finite_ffn (hFfnIdeal := hFfnIdeal) (hFfnPlainIdeal := hFfnPlainIdeal) (hPre_finite_ffn := hPre_finite_ffn)
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .bf16) (main_arg4 : FVec F S1024x2816 .bf16) (main_arg5 : FVec F S2816x1024 .bf16) : IVec S4096x1024 1 × IVec S1x1024 1 × IVec S1024x2816 1 × IVec S2816x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .bf16 := Host.absf main_arg4
  let main_cst_1 : FVec F S_ .bf16 := constant S_ .bf16 0x7F80#16
  let main_v7 : FVec F S1024x2816 .bf16 := broadcastInDim S1024x2816 ![] bcast_S_S1024x2816 main_cst_1
  let main_v8 : IVec S1024x2816 1 := cmpf .olt main_v6 main_v7
  let main_v9 : FVec F S2816x1024 .bf16 := Host.absf main_arg5
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  (main_v2, main_v5, main_v8, main_v11)
-- ==== Kernel.lean ====
abbrev S14400x128 : Shape := ⟨2, ![14400, 128]⟩
abbrev S8x14400x128 : Shape := ⟨3, ![8, 14400, 128]⟩
abbrev S7 : Shape := ⟨1, ![7]⟩
abbrev S_ : Shape := ⟨0, ![]⟩
abbrev S1x14400x128 : Shape := ⟨3, ![1, 14400, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S14400x128, .bf16⟩
  | .hbm, ⟨1, _⟩ => ⟨S8x14400x128, .bf16⟩
  | _, _ => ⟨S14400x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== Reference.lean ====
abbrev S115200x128 : Shape := ⟨2, ![115200, 128]⟩
abbrev S8x14400x128 : Shape := ⟨3, ![8, 14400, 128]⟩

abbrev nBuf : Space → Nat
  | .hbm => 2
  | .vmem => 0
  | .smem => 0
  | _ => 0

abbrev bufTy : (tb : Table) → Fin (tcTables nBuf tb) → BufTy
  | .hbm, ⟨0, _⟩ => ⟨S115200x128, .bf16⟩
  | .hbm, ⟨1, _⟩ => ⟨S8x14400x128, .bf16⟩
  | _, _ => ⟨S115200x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Cores.lean ====
abbrev S4x2x14400x128 : Shape := ⟨4, ![4, 2, 14400, 128]⟩
abbrev S4x1x14400x128 : Shape := ⟨4, ![4, 1, 14400, 128]⟩
abbrev S_ : Shape := ⟨0, ![]⟩
abbrev S1 : Shape := ⟨1, ![1]⟩
abbrev S4x14400x128 : Shape := ⟨3, ![4, 14400, 128]⟩
abbrev S1x1x1200x128 : Shape := ⟨4, ![1, 1, 1200, 128]⟩
abbrev S1x1200x128 : Shape := ⟨3, ![1, 1200, 128]⟩
abbrev S1200x128 : Shape := ⟨2, ![1200, 128]⟩

abbrev nBuf : Space → Nat
  | .hbm => 9
  | .vmem => 6
  | .smem => 1
  | _ => 0

abbrev bufTy : (tb : Table) → Fin (tcTables nBuf tb) → BufTy
  | .hbm, ⟨0, _⟩ => ⟨S4x2x14400x128, .f32⟩
  | .hbm, ⟨1, _⟩ => ⟨S4x1x14400x128, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x14400x128, .bf16⟩
  | .local _ .vmem, ⟨0, _⟩ => ⟨S1x1x1200x128, .f32⟩
  | .local _ .vmem, ⟨1, _⟩ => ⟨S1x1x1200x128, .f32⟩
  | .local _ .vmem, ⟨2, _⟩ => ⟨S1x1x1200x128, .f32⟩
  | .local _ .vmem, ⟨3, _⟩ => ⟨S1x1x1200x128, .f32⟩
  | .local _ .vmem, ⟨4, _⟩ => ⟨S1x1200x128, .bf16⟩
  | .local _ .vmem, ⟨5, _⟩ => ⟨S1x1200x128, .bf16⟩
  | .local _ .smem, ⟨0, _⟩ => ⟨S1, .i32⟩
  | _, _ => ⟨S4x2x14400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v7 : Ref sig .tc := ⟨.hbm, 8, rfl⟩
abbrev main_v6 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 8
abbrev τ : Topo := Topo.v7x

variable {F : FTy → Type} [FloatOps F]

abbrev grid0 : Pipeline.Grid := .none

def k0_off1 (d0 : Dev nD) : Fin 4 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_9 : BitVec 32 := 0#32
  let c0_i32_10 : BitVec 32 := 0#32
  ![0, v9.toNat, 0, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_7 : BitVec 32 := 1#32
  let v15 : BitVec 32 := Scalar.muli v10 c1_i32_7
  let v16 : BitVec 32 := Scalar.addi v14 v15
  v16.toNat
abbrev grid1 : Pipeline.Grid := ⟨2, ![4, 12], ![false, false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S1_S1_0 : ∀ a, (![0] : Fin 1 → Nat) a + S1.size a ≤ S1.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x1200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1200x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== CoresPlainIdeal.lean ====
abbrev S32x2x14400x128 : Shape := ⟨4, ![32, 2, 14400, 128]⟩
abbrev S4x2x8x14400x128 : Shape := ⟨5, ![4, 2, 8, 14400, 128]⟩
abbrev S_ : Shape := ⟨0, ![]⟩
abbrev S4x8x14400x128 : Shape := ⟨4, ![4, 8, 14400, 128]⟩
abbrev S4x4x2x14400x128 : Shape := ⟨5, ![4, 4, 2, 14400, 128]⟩
abbrev S4x2x4x14400x128 : Shape := ⟨5, ![4, 2, 4, 14400, 128]⟩
abbrev S32x14400x128 : Shape := ⟨3, ![32, 14400, 128]⟩

abbrev nBuf : Space → Nat
  | .hbm => 8
  | .vmem => 0
  | .smem => 0
  | _ => 0

abbrev bufTy : (tb : Table) → Fin (tcTables nBuf tb) → BufTy
  | .hbm, ⟨0, _⟩ => ⟨S32x2x14400x128, .f32⟩
  | .hbm, ⟨1, _⟩ => ⟨S4x2x8x14400x128, .f32⟩
  | .hbm, ⟨2, _⟩ => ⟨S_, .f32⟩
  | .hbm, ⟨3, _⟩ => ⟨S4x8x14400x128, .f32⟩
  | .hbm, ⟨4, _⟩ => ⟨S4x4x2x14400x128, .f32⟩
  | .hbm, ⟨5, _⟩ => ⟨S4x2x4x14400x128, .f32⟩
  | .hbm, ⟨6, _⟩ => ⟨S32x14400x128, .f32⟩
  | .hbm, ⟨7, _⟩ => ⟨S32x14400x128, .bf16⟩
  | _, _ => ⟨S32x2x14400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Chips.lean ====
abbrev S4x14400x128 : Shape := ⟨3, ![4, 14400, 128]⟩
abbrev S4x2x14400x128 : Shape := ⟨4, ![4, 2, 14400, 128]⟩
abbrev S4x1x14400x128 : Shape := ⟨4, ![4, 1, 14400, 128]⟩
abbrev S14400x128 : Shape := ⟨2, ![14400, 128]⟩
abbrev S3x14400x128 : Shape := ⟨3, ![3, 14400, 128]⟩
abbrev S3 : Shape := ⟨1, ![3]⟩
abbrev S1 : Shape := ⟨1, ![1]⟩
abbrev S_ : Shape := ⟨0, ![]⟩
abbrev S1x14400x128 : Shape := ⟨3, ![1, 14400, 128]⟩
abbrev S2 : Shape := ⟨1, ![2]⟩
abbrev S1x1x1200x128 : Shape := ⟨4, ![1, 1, 1200, 128]⟩
abbrev S3x1200x128 : Shape := ⟨3, ![3, 1200, 128]⟩
abbrev S1200x128 : Shape := ⟨2, ![1200, 128]⟩
abbrev S1x1200x128 : Shape := ⟨3, ![1, 1200, 128]⟩

abbrev nBuf : Space → Nat
  | .hbm => 34
  | .vmem => 20
  | .smem => 1
  | _ => 0

abbrev bufTy : (tb : Table) → Fin (tcTables nBuf tb) → BufTy
  | .hbm, ⟨0, _⟩ => ⟨S4x14400x128, .bf16⟩
  | .hbm, ⟨1, _⟩ => ⟨S4x2x14400x128, .f32⟩
  | .hbm, ⟨2, _⟩ => ⟨S4x1x14400x128, .f32⟩
  | .hbm, ⟨3, _⟩ => ⟨S14400x128, .f32⟩
  | .hbm, ⟨4, _⟩ => ⟨S14400x128, .f32⟩
  | .hbm, ⟨5, _⟩ => ⟨S14400x128, .f32⟩
  | .hbm, ⟨6, _⟩ => ⟨S3x14400x128, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S14400x128, .f32⟩
  | .hbm, ⟨31, _⟩ => ⟨S14400x128, .f32⟩
  | .hbm, ⟨32, _⟩ => ⟨S14400x128, .f32⟩
  | .hbm, ⟨33, _⟩ => ⟨S14400x128, .f32⟩
  | .local _ .vmem, ⟨0, _⟩ => ⟨S1x1x1200x128, .f32⟩
  | .local _ .vmem, ⟨1, _⟩ => ⟨S1x1x1200x128, .f32⟩
  | .local _ .vmem, ⟨2, _⟩ => ⟨S1x1x1200x128, .f32⟩
  | .local _ .vmem, ⟨3, _⟩ => ⟨S1x1x1200x128, .f32⟩
  | .local _ .vmem, ⟨4, _⟩ => ⟨S3x1200x128, .bf16⟩
  | .local _ .vmem, ⟨5, _⟩ => ⟨S3x1200x128, .bf16⟩
  | .local _ .vmem, ⟨6, _⟩ => ⟨S1200x128, .f32⟩
  | .local _ .vmem, ⟨7, _⟩ => ⟨S1200x128, .f32⟩
  | .local _ .vmem, ⟨8, _⟩ => ⟨S1200x128, .f32⟩
  | .local _ .vmem, ⟨9, _⟩ => ⟨S1200x128, .f32⟩
  | .local _ .vmem, ⟨10, _⟩ => ⟨S1200x128, .f32⟩
  | .local _ .vmem, ⟨11, _⟩ => ⟨S1200x128, .f32⟩
  | .local _ .vmem, ⟨12, _⟩ => ⟨S1200x128, .f32⟩
  | .local _ .vmem, ⟨13, _⟩ => ⟨S1200x128, .f32⟩
  | .local _ .vmem, ⟨14, _⟩ => ⟨S1200x128, .f32⟩
  | .local _ .vmem, ⟨15, _⟩ => ⟨S1200x128, .f32⟩
  | .local _ .vmem, ⟨16, _⟩ => ⟨S1200x128, .f32⟩
  | .local _ .vmem, ⟨17, _⟩ => ⟨S1200x128, .f32⟩
  | .local _ .vmem, ⟨18, _⟩ => ⟨S1200x128, .f32⟩
  | .local _ .vmem, ⟨19, _⟩ => ⟨S1200x128, .f32⟩
  | .local _ .smem, ⟨0, _⟩ => ⟨S2, .i32⟩
  | _, _ => ⟨S4x14400x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_c : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v18 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
abbrev grid1 : Pipeline.Grid := ⟨1, ![12], ![false]⟩

abbrev pre1 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre1.Contents (Elt F)) (i : grid1.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let c0_i32_0 : BitVec 32 := 0#32
  ![v0.toNat, v1.toNat, arg0.toNat, c0_i32.toNat]

def cc1_transform_1 (inb_S2_S1_1 : ∀ a, (![1] : Fin 1 → Nat) a + S1.size a ≤ S2.size a) (numel1_S1 : S1.numel = 1) (pf : pre1.Contents (Elt F)) (i : grid1.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x1200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x1200x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1200x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1200x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1200x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1200x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ChipsPlainIdeal.lean ====
abbrev S32x14400x128 : Shape := ⟨3, ![32, 14400, 128]⟩
abbrev S32x2x14400x128 : Shape := ⟨4, ![32, 2, 14400, 128]⟩
abbrev S32x1x14400x128 : Shape := ⟨4, ![32, 1, 14400, 128]⟩
abbrev S115200x128 : Shape := ⟨2, ![115200, 128]⟩
abbrev S4x2x4x14400x128 : Shape := ⟨5, ![4, 2, 4, 14400, 128]⟩
abbrev S4x2x8x14400x128 : Shape := ⟨5, ![4, 2, 8, 14400, 128]⟩
abbrev S4x1x4x14400x128 : Shape := ⟨5, ![4, 1, 4, 14400, 128]⟩
abbrev S4x4x14400x128 : Shape := ⟨4, ![4, 4, 14400, 128]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1x1 : Shape := ⟨5, ![4, 1, 4, 1, 1]⟩
abbrev S_ : Shape := ⟨0, ![]⟩
abbrev S2x4x14400x128 : Shape := ⟨4, ![2, 4, 14400, 128]⟩
abbrev S4x2x14400x128 : Shape := ⟨4, ![4, 2, 14400, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x14400x128, .bf16⟩
  | .hbm, ⟨1, _⟩ => ⟨S32x2x14400x128, .f32⟩
  | .hbm, ⟨2, _⟩ => ⟨S32x1x14400x128, .f32⟩
  | .hbm, ⟨3, _⟩ => ⟨S115200x128, .f32⟩
  | .hbm, ⟨4, _⟩ => ⟨S115200x128, .f32⟩
  | .hbm, ⟨5, _⟩ => ⟨S115200x128, .f32⟩
  | .hbm, ⟨6, _⟩ => ⟨S4x2x4x14400x128, .bf16⟩
  | .hbm, ⟨7, _⟩ => ⟨S4x2x4x14400x128, .f32⟩
  | .hbm, ⟨8, _⟩ => ⟨S4x2x8x14400x128, .f32⟩
  | .hbm, ⟨9, _⟩ => ⟨S4x1x4x14400x128, .f32⟩
  | .hbm, ⟨10, _⟩ => ⟨S4x4x14400x128, .f32⟩
  | .hbm, ⟨11, _⟩ => ⟨S4x1x4x14400x128, .f32⟩
  | .hbm, ⟨12, _⟩ => ⟨S4x4x14400x128, .f32⟩
  | .hbm, ⟨13, _⟩ => ⟨S4x1x4x14400x128, .f32⟩
  | .hbm, ⟨14, _⟩ => ⟨S4x1x4x14400x128, .f32⟩
  | .hbm, ⟨15, _⟩ => ⟨S4x2x4x14400x128, .f32⟩
  | .hbm, ⟨16, _⟩ => ⟨S4x2x4x14400x128, .f32⟩
  | .hbm, ⟨17, _⟩ => ⟨S4, .i32⟩
  | .hbm, ⟨18, _⟩ => ⟨S4x1, .i32⟩
  | .hbm, ⟨19, _⟩ => ⟨S1x4, .i32⟩
  | .hbm, ⟨20, _⟩ => ⟨S4x4, .i32⟩
  | .hbm, ⟨21, _⟩ => ⟨S4x4, .i32⟩
  | .hbm, ⟨22, _⟩ => ⟨S4x4, .i1⟩
  | .hbm, ⟨23, _⟩ => ⟨S4x1x4x1x1, .i1⟩
  | .hbm, ⟨24, _⟩ => ⟨S4x2x4x14400x128, .f32⟩
  | .hbm, ⟨25, _⟩ => ⟨S4x2x4x14400x128, .i1⟩
  | .hbm, ⟨26, _⟩ => ⟨S4x2x4x14400x128, .f32⟩
  | .hbm, ⟨27, _⟩ => ⟨S_, .f32⟩
  | .hbm, ⟨28, _⟩ => ⟨S2x4x14400x128, .f32⟩
  | .hbm, ⟨29, _⟩ => ⟨S4x2x14400x128, .f32⟩
  | .hbm, ⟨30, _⟩ => ⟨S115200x128, .f32⟩
  | .hbm, ⟨31, _⟩ => ⟨S_, .f32⟩
  | .hbm, ⟨32, _⟩ => ⟨S115200x128, .f32⟩
  | .hbm, ⟨33, _⟩ => ⟨S115200x128, .f32⟩
  | .hbm, ⟨34, _⟩ => ⟨S_, .f32⟩
  | .hbm, ⟨35, _⟩ => ⟨S115200x128, .f32⟩
  | .hbm, ⟨36, _⟩ => ⟨S115200x128, .f32⟩
  | .hbm, ⟨37, _⟩ => ⟨S115200x128, .f32⟩
  | .hbm, ⟨38, _⟩ => ⟨S_, .f32⟩
  | .hbm, ⟨39, _⟩ => ⟨S115200x128, .f32⟩
  | .hbm, ⟨40, _⟩ => ⟨S115200x128, .f32⟩
  | .hbm, ⟨41, _⟩ => ⟨S115200x128, .f32⟩
  | .hbm, ⟨42, _⟩ => ⟨S_, .f32⟩
  | .hbm, ⟨43, _⟩ => ⟨S115200x128, .f32⟩
  | .hbm, ⟨44, _⟩ => ⟨S115200x128, .f32⟩
  | .hbm, ⟨45, _⟩ => ⟨S115200x128, .f32⟩
  | .hbm, ⟨46, _⟩ => ⟨S_, .f32⟩
  | .hbm, ⟨47, _⟩ => ⟨S115200x128, .f32⟩
  | .hbm, ⟨48, _⟩ => ⟨S115200x128, .f32⟩
  | .hbm, ⟨49, _⟩ => ⟨S_, .f32⟩
  | .hbm, ⟨50, _⟩ => ⟨S115200x128, .f32⟩
  | .hbm, ⟨51, _⟩ => ⟨S115200x128, .f32⟩
  | .hbm, ⟨52, _⟩ => ⟨S115200x128, .f32⟩
  | .hbm, ⟨53, _⟩ => ⟨S_, .f32⟩
  | .hbm, ⟨54, _⟩ => ⟨S115200x128, .f32⟩
  | .hbm, ⟨55, _⟩ => ⟨S115200x128, .f32⟩
  | .hbm, ⟨56, _⟩ => ⟨S115200x128, .f32⟩
  | .hbm, ⟨57, _⟩ => ⟨S_, .f32⟩
  | .hbm, ⟨58, _⟩ => ⟨S115200x128, .f32⟩
  | .hbm, ⟨59, _⟩ => ⟨S115200x128, .f32⟩
  | .hbm, ⟨60, _⟩ => ⟨S115200x128, .f32⟩
  | .hbm, ⟨61, _⟩ => ⟨S_, .f32⟩
  | .hbm, ⟨62, _⟩ => ⟨S115200x128, .f32⟩
  | .hbm, ⟨63, _⟩ => ⟨S115200x128, .f32⟩
  | _, _ => ⟨S32x14400x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Gains.lean ====
abbrev S144x128 : Shape := ⟨2, ![144, 128]⟩
abbrev S8x144x128 : Shape := ⟨3, ![8, 144, 128]⟩
abbrev S7 : Shape := ⟨1, ![7]⟩
abbrev S_ : Shape := ⟨0, ![]⟩
abbrev S1x144x128 : Shape := ⟨3, ![1, 144, 128]⟩
abbrev S1 : Shape := ⟨1, ![1]⟩

abbrev nBuf : Space → Nat
  | .hbm => 9
  | .vmem => 8
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S8x144x128, .f32⟩
  | .hbm, ⟨5, _⟩ => ⟨S144x128, .f32⟩
  | .hbm, ⟨6, _⟩ => ⟨S144x128, .f32⟩
  | .hbm, ⟨7, _⟩ => ⟨S144x128, .f32⟩
  | .hbm, ⟨8, _⟩ => ⟨S144x128, .f32⟩
  | .local _ .vmem, ⟨0, _⟩ => ⟨S8x144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
abbrev grid1 : Pipeline.Grid := .none

abbrev stage1_0 : Fin 1 → Memref sig .tc .vmem S8x144x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S144x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S144x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S144x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S144x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S144x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S144x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S144x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== GainsPlainIdeal.lean ====
abbrev S1152x128 : Shape := ⟨2, ![1152, 128]⟩
abbrev S144x128 : Shape := ⟨2, ![144, 128]⟩
abbrev S8x144x128 : Shape := ⟨3, ![8, 144, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1152x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S8x144x128, .f32⟩
  | .hbm, ⟨5, _⟩ => ⟨S_, .f32⟩
  | .hbm, ⟨6, _⟩ => ⟨S144x128, .f32⟩
  | .hbm, ⟨7, _⟩ => ⟨S_, .f32⟩
  | .hbm, ⟨8, _⟩ => ⟨S144x128, .f32⟩
  | .hbm, ⟨9, _⟩ => ⟨S144x128, .f32⟩
  | .hbm, ⟨10, _⟩ => ⟨S_, .f32⟩
  | .hbm, ⟨11, _⟩ => ⟨S144x128, .f32⟩
  | .hbm, ⟨12, _⟩ => ⟨S144x128, .f32⟩
  | .hbm, ⟨13, _⟩ => ⟨S144x128, .f32⟩
  | .hbm, ⟨14, _⟩ => ⟨S_, .f32⟩
  | .hbm, ⟨15, _⟩ => ⟨S144x128, .f32⟩
  | .hbm, ⟨16, _⟩ => ⟨S144x128, .f32⟩
  | .hbm, ⟨17, _⟩ => ⟨S144x128, .f32⟩
  | .hbm, ⟨18, _⟩ => ⟨S_, .f32⟩
  | .hbm, ⟨19, _⟩ => ⟨S144x128, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S_, .f32⟩
  | .hbm, ⟨26, _⟩ => ⟨S144x128, .f32⟩
  | .hbm, ⟨27, _⟩ => ⟨S144x128, .f32⟩
  | .hbm, ⟨28, _⟩ => ⟨S144x128, .f32⟩
  | .hbm, ⟨29, _⟩ => ⟨S_, .f32⟩
  | .hbm, ⟨30, _⟩ => ⟨S144x128, .f32⟩
  | .hbm, ⟨31, _⟩ => ⟨S144x128, .f32⟩
  | .hbm, ⟨32, _⟩ => ⟨S144x128, .f32⟩
  | .hbm, ⟨33, _⟩ => ⟨S_, .f32⟩
  | .hbm, ⟨34, _⟩ => ⟨S144x128, .f32⟩
  | .hbm, ⟨35, _⟩ => ⟨S144x128, .f32⟩
  | .hbm, ⟨36, _⟩ => ⟨S144x128, .f32⟩
  | .hbm, ⟨37, _⟩ => ⟨S_, .f32⟩
  | .hbm, ⟨38, _⟩ => ⟨S144x128, .f32⟩
  | .hbm, ⟨39, _⟩ => ⟨S144x128, .f32⟩
  | _, _ => ⟨S1152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Inputs.lean ====
abbrev S4096x512 : Shape := ⟨2, ![4096, 512]⟩
abbrev S4096x1024 : Shape := ⟨2, ![4096, 1024]⟩
abbrev S4096x640 : Shape := ⟨2, ![4096, 640]⟩
abbrev S1024x3200 : Shape := ⟨2, ![1024, 3200]⟩
abbrev S1x1024 : Shape := ⟨2, ![1, 1024]⟩
abbrev S256x512 : Shape := ⟨2, ![256, 512]⟩
abbrev S256x640 : Shape := ⟨2, ![256, 640]⟩
abbrev S1024x512 : Shape := ⟨2, ![1024, 512]⟩
abbrev S1024x640 : Shape := ⟨2, ![1024, 640]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 26
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x640, .bf16⟩
  | .hbm, ⟨5, _⟩ => ⟨S1024x3200, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x640, .bf16⟩
  | .local _ .vmem, ⟨11, _⟩ => ⟨S256x640, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x640, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x640 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InputsPlainIdeal.lean ====
abbrev S4096x512 : Shape := ⟨2, ![4096, 512]⟩
abbrev S4096x1024 : Shape := ⟨2, ![4096, 1024]⟩
abbrev S4096x640 : Shape := ⟨2, ![4096, 640]⟩
abbrev S1024x3200 : Shape := ⟨2, ![1024, 3200]⟩
abbrev S1x1024 : Shape := ⟨2, ![1, 1024]⟩
abbrev S4096x3200 : Shape := ⟨2, ![4096, 3200]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x640, .bf16⟩
  | .hbm, ⟨5, _⟩ => ⟨S1024x3200, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x3200, .bf16⟩
  | .hbm, ⟨10, _⟩ => ⟨S4096x3200, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x3200, .f32⟩
  | .hbm, ⟨31, _⟩ => ⟨S4096x3200, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S8x128 : Shape := ⟨2, ![8, 128]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S512x1024 : Shape := ⟨2, ![512, 1024]⟩
abbrev S512x256 : Shape := ⟨2, ![512, 256]⟩

abbrev nBuf : Space → Nat
  | .hbm => 14
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x256, .f32⟩
  | .hbm, ⟨4, _⟩ => ⟨S256x1024, .bf16⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S8x128, .f32⟩
  | .hbm, ⟨12, _⟩ => ⟨S1024x1024, .f32⟩
  | .hbm, ⟨13, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S8x128, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .f32⟩
  | .local _ .vmem, ⟨24, _⟩ => ⟨S512x256, .f32⟩
  | .local _ .vmem, ⟨25, _⟩ => ⟨S512x256, .f32⟩
  | .local _ .vmem, ⟨26, _⟩ => ⟨S512x1024, .bf16⟩
  | .local _ .vmem, ⟨27, _⟩ => ⟨S512x1024, .bf16⟩
  | .local _ .vmem, ⟨28, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨3, ![1, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== HeadPlainIdeal.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024 : Shape := ⟨1, ![1024]⟩
abbrev S8x128 : Shape := ⟨2, ![8, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x256, .f32⟩
  | .hbm, ⟨4, _⟩ => ⟨S256x1024, .bf16⟩
  | .hbm, ⟨5, _⟩ => ⟨S4096x1024, .f32⟩
  | .hbm, ⟨6, _⟩ => ⟨S1024x1024, .f32⟩
  | .hbm, ⟨7, _⟩ => ⟨S256x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1024x256, .f32⟩
  | .hbm, ⟨69, _⟩ => ⟨S256x1024, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S4096x5632 : Shape := ⟨2, ![4096, 5632]⟩
abbrev S128x1024 : Shape := ⟨2, ![128, 1024]⟩
abbrev S128x2816 : Shape := ⟨2, ![128, 2816]⟩
abbrev S128x5632 : Shape := ⟨2, ![128, 5632]⟩
abbrev S128 : Shape := ⟨1, ![128]⟩
abbrev S128x1 : Shape := ⟨2, ![128, 1]⟩
abbrev S1024 : Shape := ⟨1, ![1024]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩
abbrev S1408x1024 : Shape := ⟨2, ![1408, 1024]⟩

abbrev nBuf : Space → Nat
  | .hbm => 16
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S4096x1024, .f32⟩
  | .hbm, ⟨10, _⟩ => ⟨S4096x1024, .bf16⟩
  | .hbm, ⟨11, _⟩ => ⟨S4096x2816, .bf16⟩
  | .hbm, ⟨12, _⟩ => ⟨S4096x5632, .bf16⟩
  | .hbm, ⟨13, _⟩ => ⟨S1x1024, .f32⟩
  | .hbm, ⟨14, _⟩ => ⟨S1024x5632, .f32⟩
  | .hbm, ⟨15, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .f32⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x2816, .f32⟩
  | .local _ .vmem, ⟨17, _⟩ => ⟨S128x2816, .f32⟩
  | .local _ .vmem, ⟨18, _⟩ => ⟨S128x2816, .f32⟩
  | .local _ .vmem, ⟨19, _⟩ => ⟨S128x2816, .f32⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S128x1024, .f32⟩
  | .local _ .vmem, ⟨25, _⟩ => ⟨S128x1024, .f32⟩
  | .local _ .vmem, ⟨26, _⟩ => ⟨S128x1024, .bf16⟩
  | .local _ .vmem, ⟨27, _⟩ => ⟨S128x1024, .bf16⟩
  | .local _ .vmem, ⟨28, _⟩ => ⟨S128x2816, .bf16⟩
  | .local _ .vmem, ⟨29, _⟩ => ⟨S128x2816, .bf16⟩
  | .local _ .vmem, ⟨30, _⟩ => ⟨S128x5632, .bf16⟩
  | .local _ .vmem, ⟨31, _⟩ => ⟨S128x5632, .bf16⟩
  | .local _ .vmem, ⟨32, _⟩ => ⟨S1x1024, .f32⟩
  | .local _ .vmem, ⟨33, _⟩ => ⟨S512x1024, .bf16⟩
  | .local _ .vmem, ⟨34, _⟩ => ⟨S512x1024, .bf16⟩
  | .local _ .vmem, ⟨35, _⟩ => ⟨S512x1408, .bf16⟩
  | .local _ .vmem, ⟨36, _⟩ => ⟨S512x1408, .bf16⟩
  | .local _ .vmem, ⟨37, _⟩ => ⟨S1024x1408, .f32⟩
  | .local _ .vmem, ⟨38, _⟩ => ⟨S1024x1408, .f32⟩
  | .local _ .vmem, ⟨39, _⟩ => ⟨S512x1408, .bf16⟩
  | .local _ .vmem, ⟨40, _⟩ => ⟨S512x1408, .bf16⟩
  | .local _ .vmem, ⟨41, _⟩ => ⟨S512x1024, .f32⟩
  | .local _ .vmem, ⟨42, _⟩ => ⟨S512x1024, .f32⟩
  | .local _ .vmem, ⟨43, _⟩ => ⟨S1408x1024, .f32⟩
  | .local _ .vmem, ⟨44, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2816 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x2816 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2816 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x5632 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨3, ![1, 4, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FfnPlainIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1024x5632 : Shape := ⟨2, ![1024, 5632]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x2816, .f32⟩
  | .hbm, ⟨48, _⟩ => ⟨S2816x1024, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S2816x1024, .f32⟩
  | .hbm, ⟨53, _⟩ => ⟨S1024x2816, .f32⟩
  | .hbm, ⟨54, _⟩ => ⟨S4096x1024, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S2816x1024, .f32⟩
  | .hbm, ⟨60, _⟩ => ⟨S1024x2816, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]
-- ==== Proof.Start.lean ====
/- The launch of a program whose first item is a kernel region that talks to its peers.

   A peer may credit a core's semaphore, and land bytes in a core's array, before that core has entered the
   region. So the counters the kernel waits on and the arrays the peers write are handed over on every core at
   once, at the launch, before any core runs: `hinit` below is given all of them together and deals each core
   what it starts from. The region runs from there; whatever follows it (host operations, regions that talk to
   nobody) is a list of the library's segments, one list per core: the tables a region prefetches may differ from
   core to core. -/
module

public import Idealize.ShloMosaic.Lib.Pipeline.Regions

@[expose] public section

noncomputable section

namespace Talk

open Idealize.ShloMosaic Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P] [DecidableEq P]

local notation "𝕄" => MT nD τ sig Ix Val Name U Lvl

variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- The first region: its layout, the kernel's own semaphores, the body, and the kernel's protocol around the
    thread states `pre` and `post`. The own semaphores are not given back to it at entry: `pre` already accounts
    for them. -/
structure First (p : P) where
  win : WinFacts₀ (pcs p).spec
  block_pos : ∀ w : Fin (pcs p).W, 0 < ((pcs p).spec w).block.numel
  stage_whole : ∀ (w : Fin (pcs p).W) (s : Fin ((pcs p).spec w).nbuf), (((pcs p).spec w).stage s).IsWhole
  K : Type
  [fK : Fintype K]
  osem : K → SemLoc sig
  ho : OwnSemFacts (pcs p).spec osem
  hbody : ∀ c, BodyObligationLoose (pdats p c) defs₀ 𝒱₀ ι Set.univ
  hwaits : ∀ c, (levAts L lv : sProp 𝕄) ⊢ PerCore.cellsWaits (pinD pcs a) pdats ι p c
  pre : Dev nD → sProp 𝕄
  post : Dev nD → sProp 𝕄
  X : Dev nD → sProp 𝕄
  Y : Dev nD → sProp 𝕄
  Z : Dev nD → sProp 𝕄
  hentry : ∀ c, iprop(pre c ∗ levAts L lv)
    ⊢ |={Set.univ}=> iprop((pdats p c).arrays ((pdats p c).arrAt · 0) ∗ prefHeld (pcs p).pre c (fun _ => fullShare) (a c p).1
        ∗ (pdats p c).owesAt ι 0 ∗ X c ∗ Z c)
  hin : ∀ c, iprop(X c ∗ prefHeld (pcs p).pre c (fun _ => fullShare) (a c p).1 ∗ scopedRest (pcs p).spec c) ⊢ (pdats p c).Φ 0
  hout : ∀ c, (pdats p c).Φ (Fin.last (pinD pcs a c p).N) ⊢ iprop(Y c ∗ ownSems0 osem c ∗ scopedRest (pcs p).spec c)
  hexit : ∀ c, iprop((pdats p c).arrays ((pdats p c).arrAt · (pinD pcs a c p).N) ∗ (pdats p c).owesAt ι (Fin.last (pinD pcs a c p).N) ∗ Y c ∗ Z c)
    ⊢ |={Set.univ}=> post c

attribute [instance] First.fK

/-- What a core holds at its boundary once its own semaphores have been taken out. -/
def rest (p : P) (R : First pcs a pdats ι defs₀ 𝒱₀ L lv p) (c : Dev nD) : sProp 𝕄 :=
  iprop(scopedBufs (c.tc : Thread nD τ) ∗ PerCore.cellsSems0 (pinD pcs a) p c
    ∗ PerCore.idleSems0 (pinD pcs a) phinj p (fun _ => R.ho) c ∗ opIdle (c.tc : Thread nD τ))

/-- The boundary holdings with the own semaphores taken out. -/
theorem boundary_rest {p : P} (R : First pcs a pdats ι defs₀ 𝒱₀ L lv p) (c : Dev nD) :
    (boundary (c.tc : Thread nD τ) : sProp 𝕄)
      ⊢ iprop(rest pcs a pdats ι phinj defs₀ 𝒱₀ L lv p R c ∗ ownSems0 R.osem c) := by
  unfold boundary rest
  rw [PerCore.scopedSems0_split (pinD pcs a) phinj p (fun _ => R.win) (fun _ => R.ho) (Ix := Ix) (Val := Val) (Name := Name) (U := U) (Lvl := Lvl) c]
  iintro ⟨Hsc, ⟨⟨Hcells, Hos⟩, Hidle⟩, Hop⟩
  isplitr [Hos]
  · isplitl [Hsc]; · iexact Hsc
    isplitl [Hcells]; · iexact Hcells
    isplitl [Hidle] <;> iassumption
  · iexact Hos

include phinj in
/-- One core's run of the first region, from what `hinit` dealt it. -/
theorem wp_first [∀ e, Nonempty (Val e)] [Infinite Name] [EP.LandsIn (upEmb : UEmb _ 𝕄)]
    {p : P} (R : First pcs a pdats ι defs₀ 𝒱₀ L lv p) (c : Dev nD)
    {α : Type} (k : PUnit → Prog (TpuEff nD τ sig Val (Sig Λ₀ P fun p => (pcs p).Adm) .tc) α) (Q : α → sProp 𝕄) :
    iprop((iprop(boundary (c.tc : Thread nD τ) ∗ R.post c) -∗ wp frame (wpE 𝔻 𝕍 (c.tc : Thread nD τ) none) Set.univ (k ⟨⟩) Q)
        ∗ rest pcs a pdats ι phinj defs₀ 𝒱₀ L lv p R c ∗ R.pre c ∗ levAts L lv
        ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  classical
  have hss := PerCore.scopedSems0_split (pinD pcs a) phinj p (fun _ => R.win) (fun _ => R.ho) (Ix := Ix) (Val := Val) (Name := Name) (U := U) (Lvl := Lvl) c
  have hsb := PerCore.scopedBufs_split (pinD pcs a) p c R.win.stage_scoped R.win.stage_inj R.stage_whole (nD := nD) (τ := τ) (Ix := Ix) (Val := Val) (Name := Name) (U := U) (Lvl := Lvl)
  have hback : iprop((pdats p c).Φ (Fin.last (pinD pcs a c p).N) ∗ PerCore.cellsSems0 (pinD pcs a) p c ∗ Dat.staging (pinD pcs a c p) c ∗ PerCore.idleSems0 (pinD pcs a) phinj p (fun _ => R.ho) c)
      ⊢ iprop(R.Y c ∗ scopedSems0 (c.tc : Thread nD τ) ∗ scopedBufs (c.tc : Thread nD τ)) := by
    rw [hss, hsb]
    iintro ⟨HΦ, Hcells, Hst, Hidle⟩
    ihave H := (R.hout c) $$ HΦ
    icases H with ⟨HY, Hos, Hrest⟩
    isplitl [HY]; · iexact HY
    isplitr [Hst Hrest]
    · isplitr [Hidle]
      · isplitl [Hcells] <;> iassumption
      · iexact Hidle
    · isplitl [Hst] <;> iassumption
  unfold rest
  iintro ⟨Hk, ⟨Hsc, Hcells, Hidle, Hop⟩, Hpre, #Hla, Hg, Ht⟩
  ihave Hw := (R.hwaits c) $$ Hla
  iapply (fupd_wp frame (wpE 𝔻 𝕍 (c.tc : Thread nD τ) none) Set.univ _ _)
  imod (PerCore.cellsInit_alloc (pinD pcs a) pdats EP phinj p c) $$ [Hcells Hg] with ⟨%κ, -, Hinit⟩
  · isplitl [Hcells] <;> iassumption
  imod (R.hentry c) $$ [Hpre] with ⟨Harr, Hpf, HO, HX, HZ⟩
  · isplitl [Hpre]; · iexact Hpre
    iexact Hla
  imodintro
  iapply (PerCore.wp_customCall_entry_frame pcs a pdats ι EP κ phinj p defs₀ 𝒱₀ (fun _ => fullShare) c Set.univ (fun _ _ => Set.mem_univ _)
      (R.hbody c) R.block_pos none (fun u h => nomatch h) (X := R.X c) (Y := R.Y c) (R := scopedRest (pcs p).spec c)
      (I := PerCore.idleSems0 (pinD pcs a) phinj p (fun _ => R.ho) c) (Entails.of_eq hsb) (R.hin c) hback (k := k) (Q := Q)) $$ [Harr HO Hw Hinit Ht Hpf HX Hidle Hsc]
  · isplitl [Harr HO Hw Hinit Ht]
    · unfold PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hidle] <;> iassumption
  iintro ⟨Hpost, HY, Hss, Hsc⟩
  unfold PerCore.EntryPost
  icases Hpost with ⟨Ha, HO⟩
  iapply (fupd_wp frame (wpE 𝔻 𝕍 (c.tc : Thread nD τ) none) Set.univ _ _)
  imod (R.hexit c) $$ [Ha HO HY HZ] with Hpost
  · isplitl [Ha]; · iexact Ha
    isplitl [HO]; · iexact HO
    isplitl [HY] <;> iassumption
  imodintro
  iapply Hk
  isplitr [Hpost]
  · unfold boundary
    isplitl [Hsc]; · iexact Hsc
    isplitl [Hss] <;> iassumption
  · iexact Hpost

/-- The machine's level facts from every core's rights to assign levels. -/
theorem levels_assigned (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hoff : (bigSep Finset.univ fun d : Dev nD => bigSep (Finset.univ.erase Proc.tc) fun q => (coreLevAts ((d, q) : Thread nD τ) L lv : sProp 𝕄)) = BI.emp := by
    have h1 : ∀ (d : Dev nD), ∀ q ∈ Finset.univ.erase (Proc.tc : Proc τ), (coreLevAts ((d, q) : Thread nD τ) L lv : sProp 𝕄) = BI.emp := by
      intro d q hq
      unfold coreLevAts
      refine (bigSep_congr fun sm _ => ?_).trans (BI.bigSep_emp_const _)
      rw [hL (((d, q) : Thread nD τ), sm) (Finset.ne_of_mem_erase hq), BI.bigSep_empty]
    exact (bigSep_congr fun d _ => (bigSep_congr (h1 d)).trans (BI.bigSep_emp_const _)).trans (BI.bigSep_emp_const _)
  have hall : (levAts L lv : sProp 𝕄) = bigSep Finset.univ fun c : Thread nD τ => coreLevAts c L lv :=
    bigSep_univ_prod fun g : GSem nD τ sig => bigSep (L g) fun ι => levAt g ι (lv g ι)
  have hdrop : iprop((bigSep Finset.univ fun c : Dev nD => bigSep Finset.univ fun sm : SemLoc sig => levels ((c.tc : Thread nD τ), sm) (L ((c.tc : Thread nD τ), sm)))
        ∗ bigSep Finset.univ fun c : Dev nD => coreLevAts (c.tc : Thread nD τ) L lv)
      ⊢ (iprop((bigSep Finset.univ fun c : Dev nD => coreLevAts (c.tc : Thread nD τ) L lv) ∗ BI.emp) : sProp 𝕄) := by
    iintro ⟨-, H⟩
    isplitl [H]; · iexact H
    iempintro
  rw [hall, bigSep_threads (fun c : Thread nD τ => coreLevAts c L lv), hoff]
  exact (Entails.of_eq (bigSep_sep' ..)).trans hdrop

include phinj in
/-- The run of a program that starts with a talking region: every weakly fair execution terminates and every final
    memory satisfies `Q`. -/
theorem run_first [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    {p : P} (R : First pcs a pdats ι defs₀ 𝒱₀ L lv p) (tail : Dev nD → List (PerCore.Seg pcs a pdats ι defs₀ 𝒱₀ L lv))
    (hmain : ∀ c, main c = .op (.customCall (entry p) ()) fun _ => PerCore.Seg.run (tail c))
    (hp : ∀ c, p ∉ PerCore.Seg.pipes (tail c)) (hnd : ∀ c, (PerCore.Seg.pipes (tail c)).Nodup)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (Tₙ : Dev nD → sProp 𝕄) (hch : ∀ c, PerCore.Seg.ChainsAt c R.post (tail c) fun c => iprop(Tₙ c ∗ ∃ W, owes (c.tc : Thread nD τ) (0 : CellTallies nD τ sig Ix) W))
    (hinit : iprop((bigSep Finset.univ fun c : Dev nD => iprop(ownSems0 R.osem c ∗ unscopedBufs c (fun b => m ((c.tc : Thread nD τ).loc b)) ∗ unscopedSems0 c
          ∗ owes (c.tc : Thread nD τ) (O₀ c) ∅ ∗ launchCred O₀ c ∗ prngReg c (g c))) ∗ bigSep Finset.univ G ∗ levAts L lv)
      ⊢ |={Set.univ}=> bigSep Finset.univ R.pre)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(rest pcs a pdats ι phinj defs₀ 𝒱₀ L lv p R c ∗ R.pre c ∗ levAts L lv ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop(rest pcs a pdats ι phinj defs₀ 𝒱₀ L lv p R c
              ∗ iprop(ownSems0 R.osem c ∗ unscopedBufs c (fun b => m ((c.tc : Thread nD τ).loc b)) ∗ unscopedSems0 c
                ∗ owes (c.tc : Thread nD τ) (O₀ c) ∅ ∗ launchCred O₀ c ∗ prngReg c (g c))
              ∗ levels0 c) :=
      (coreInit_boundary_owing O₀ m g c).trans (by
        iintro ⟨Hb, Hub, Hus, HO, Hlv, Hpr, Hcr⟩
        ihave H := (boundary_rest pcs a pdats ι phinj defs₀ 𝒱₀ L lv R c) $$ Hb
        icases H with ⟨Hr, Hos⟩
        isplitl [Hr]; · iexact Hr
        isplitr [Hlv]
        · isplitl [Hos]; · iexact Hos
          isplitl [Hub]; · iexact Hub
          isplitl [Hus]; · iexact Hus
          isplitl [HO]; · iexact HO
          isplitl [Hcr] <;> iassumption
        · iexact Hlv)
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ fun c : Dev nD => rest pcs a pdats ι phinj defs₀ 𝒱₀ L lv p R c)
            ∗ (bigSep Finset.univ fun c : Dev nD => iprop(ownSems0 R.osem c ∗ unscopedBufs c (fun b => m ((c.tc : Thread nD τ).loc b)) ∗ unscopedSems0 c
                ∗ owes (c.tc : Thread nD τ) (O₀ c) ∅ ∗ launchCred O₀ c ∗ prngReg c (g c)))
            ∗ (bigSep Finset.univ fun c : Dev nD => levels0 c) : sProp 𝕄) := by
      refine (bigSep_mono fun c _ => hcore c).trans ?_
      simp only [bigSep_sep']
      exact BI.Entails.refl _
    have hghost : iprop((bigSep Finset.univ fun c : Dev nD => bigSep Finset.univ fun q => PerCore.cellsGhost (pinD pcs a) EP q c)
          ∗ (bigSep Finset.univ fun c : Dev nD => bigSep Finset.univ fun q => (PerCore.toksInit (pinD pcs a) EP q c : sProp 𝕄)))
        ⊢ bigSep Finset.univ fun c : Dev nD => PerCore.ghostOn pcs a EP Finset.univ c := by
      rw [← bigSep_sep']
      refine bigSep_mono fun c _ => ?_
      unfold PerCore.ghostOn
      rw [bigSep_sep']
      exact BI.Entails.refl _
    iintro ⟨Hcores, Hu⟩
    ihave Hc := hcores $$ Hcores
    icases Hc with ⟨Hr, Hh, Hlv⟩
    imod (levels_assigned L lv hL) $$ Hlv with #Hla
    imod hu₀ $$ Hu with ⟨HP, HG⟩
    imod (PerCore.fund_ghost (pinD pcs a) EP phinj) $$ HP with ⟨Hg, Ht⟩
    imod hinit $$ [Hh HG] with HT
    · isplitl [Hh]; · iexact Hh
      isplitl [HG]; · iexact HG
      iexact Hla
    imodintro
    iexists ()
    isplitr []
    · simp only [pre, bigSep_sep']
      isplitl [Hr]; · iexact Hr
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · simp only [pre]
    rw [hmain c]
    have hgo : (PerCore.ghostOn pcs a EP Finset.univ c : sProp 𝕄)
        ⊢ iprop((PerCore.cellsGhost (pinD pcs a) EP p c ∗ PerCore.toksInit (pinD pcs a) EP p c) ∗ PerCore.ghostOn pcs a EP (Finset.univ.erase p) c) := by
      exact Entails.of_eq (BI.bigSep_erase (Finset.mem_univ p))
    iintro ⟨Hr, HT, #Hla, Hg⟩
    ihave Hg := hgo $$ Hg
    icases Hg with ⟨⟨Hg, Ht⟩, Hgs⟩
    iapply (wp_first pcs a pdats ι phinj EP defs₀ 𝒱₀ L lv R c (fun _ => PerCore.Seg.run (tail c)) _)
    isplitl [Hgs]
    · iintro ⟨Hbd, Hpost⟩
      iapply (PerCore.wp_segs pcs a pdats ι phinj EP defs₀ 𝒱₀ L lv c (tail c) (Finset.univ.erase p) R.post _ (hnd c)
        (fun q hq => Finset.mem_erase.2 ⟨fun h => hp c (h ▸ hq), Finset.mem_univ q⟩) (hch c))
      isplitr [Hbd Hpost Hgs]
      · iintro ⟨Hbd, HT, HW⟩
        unfold post; simp only [liftTc_tc, fin]
        isplitr [HW]
        · isplitl [HT] <;> iassumption
        · iexact HW
      · isplitl [Hbd]; · iexact Hbd
        isplitl [Hpost]; · iexact Hpost
        isplitr; · iexact Hla
        iexact Hgs
    · isplitl [Hr]; · iexact Hr
      isplitl [HT]; · iexact HT
      isplitr; · iexact Hla
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Talk

end
-- ==== Proof.Talk.lean ====
/- Copies that each complete one semaphore once.

   A kernel of this kind owns finitely many DMA semaphores per core, and every one of them is completed by exactly
   one copy over the whole run: a core's receive semaphore by one peer's copy, its send and local semaphores by a
   copy of its own. A `Plan` names them: who completes which (`tgt`), with how many units (`amt`), what the
   completion hands over (`pay`), and an order in which they are waited on (`lvl`). From a plan this file makes the
   counters' invariants, deals every core what it starts with, and gives the three steps a body is made of: start a
   copy to a peer, start a local copy, wait. -/
module

public import Idealize.ShloMosaic.Lib.Pipeline.Launch
public import Idealize.ShloMosaic.Lib.Pipeline.Kit
public import Idealize.ShloMosaic.Lib.Tactic

@[expose] public section

noncomputable section

namespace Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

abbrev UU (nD : Nat) (τ : Topo) (sig : RefSig) : Type := UR sig nD τ × UR sig nD τ

local notation "𝕄" => MT nD τ sig Unit Val ℕ (UU nD τ sig) ℕ

/-- The pipeline library's copy of the algebra, and the kernel's. -/
abbrev EP : Emb (UR sig nD τ) (MT nD τ sig Unit Val ℕ (UU nD τ sig) ℕ) := embL
abbrev ER : Emb (UR sig nD τ) (MT nD τ sig Unit Val ℕ (UU nD τ sig) ℕ) := embR

/-- The semaphores of a kernel, `K` of them per core. -/
structure Plan (nD : Nat) (τ : Topo) (sig : RefSig) (Val : EltTy → Type) (K : Type) where
  osem : K → SemLoc sig
  inj : Function.Injective osem
  /-- Core `c` completes semaphore `k` of core `tgt k c`. -/
  tgt : K → Dev nD ≃ Dev nD
  /-- The semaphores completed from outside: a core owes them to its peers from the start. -/
  far : Finset K
  amt : K → ℕ
  amt_pos : ∀ k, 0 < amt k
  lvl : K → ℕ
  /-- What the completion of semaphore `k` of core `c` hands to `c`. -/
  pay : Dev nD → K → sProp (MT nD τ sig Unit Val ℕ (UU nD τ sig) ℕ)
  storable : ∀ c k, BI.Storable (upEmb : UEmb _ (MT nD τ sig Unit Val ℕ (UU nD τ sig) ℕ)) (pay c k)

section Plan

variable {K : Type} [Fintype K] [DecidableEq K] (pl : Plan nD τ sig Val K)

/-- Semaphore `k` of core `c`. -/
abbrev cell (c : Dev nD) (k : K) : GSem nD τ sig := ((c.tc : Thread nD τ), pl.osem k)

theorem cell_inj {c c' : Dev nD} {k k' : K} (h : cell pl c k = cell pl c' k') : c = c' ∧ k = k' :=
  ⟨congrArg (fun g : GSem nD τ sig => g.1.1) h, pl.inj (congrArg Prod.snd h)⟩

open Classical in
/-- A function of the plan's semaphores as one of the machine's cells. -/
def at_ {α : Type 1} (d : α) (f : K → α) (s : SemLoc sig) : α := if h : ∃ k, pl.osem k = s then f h.choose else d
theorem at_osem {α : Type 1} (d : α) (f : K → α) (k : K) : at_ pl d f (pl.osem k) = f k := by
  have h : ∃ k', pl.osem k' = pl.osem k := ⟨k, rfl⟩
  unfold at_; rw [dif_pos h, pl.inj h.choose_spec]

open Classical in
/-- Which of the plan's semaphores a cell is. -/
def key (s : SemLoc sig) : Option K := if h : ∃ k, pl.osem k = s then some h.choose else none
theorem key_osem (k : K) : key pl (pl.osem k) = some k := by
  have h : ∃ k', pl.osem k' = pl.osem k := ⟨k, rfl⟩
  unfold key; rw [dif_pos h, pl.inj h.choose_spec]

/-- The rounds schedule: one round, one duty per semaphore. -/
def sched : Rounds.Schedule (GSem nD τ sig) Unit 𝕄 where
  duties g r := if r = 0 ∧ g.1.2 = .tc ∧ (key pl g.2).isSome then {()} else ∅
  unitless _ := False
  amount g _ _ := ((key pl g.2).map pl.amt).getD 1
  payload g _ _ := ((key pl g.2).map (pl.pay g.1.1)).getD iprop(emp)
  amount_pos g _ _ _ := by
    cases key pl g.2 with
    | none => exact Nat.one_pos
    | some k => exact pl.amt_pos k

instance sched_storable (g : GSem nD τ sig) (r : ℕ) (d : Unit) :
    BI.Storable (upEmb : UEmb _ 𝕄) ((sched pl).payload g r d) := by
  show BI.Storable upEmb (((key pl g.2).map (pl.pay g.1.1)).getD iprop(emp))
  cases key pl g.2 with
  | none => exact (inferInstance : BI.Storable (upEmb : UEmb _ 𝕄) iprop(emp))
  | some k => exact pl.storable g.1.1 k

theorem duties_cell (c : Dev nD) (k : K) : (sched pl).duties (cell pl c k) 0 = {()} := by
  dsimp only [sched]; exact if_pos ⟨rfl, rfl, by rw [key_osem]; rfl⟩
theorem duties_later (g : GSem nD τ sig) : ∀ r, 1 ≤ r → (sched pl).duties g r = ∅ :=
  fun r hr => by dsimp only [sched]; exact if_neg fun h => by omega
theorem amount_cell (c : Dev nD) (k : K) (u : Unit) : (sched pl).amount (cell pl c k) 0 u = pl.amt k := by
  dsimp only [sched]; rw [key_osem]; rfl
theorem payload_cell (c : Dev nD) (k : K) (u : Unit) : (sched pl).payload (cell pl c k) 0 u = pl.pay c k := by
  dsimp only [sched]; rw [key_osem]; rfl
theorem expect_cell (c : Dev nD) (k : K) : (sched pl).expect (cell pl c k) 0 = pl.amt k := by
  unfold Schedule.expect Schedule.amountOf; rw [duties_cell, Finset.sum_singleton, amount_cell]
theorem rest_cell (c : Dev nD) (k : K) :
    bigSep ((sched pl).duties (cell pl c k) 0 \ ∅) (fun u => (sched pl).payload (cell pl c k) 0 u) = pl.pay c k := by
  rw [Finset.sdiff_empty, duties_cell, bigSep_singleton, payload_cell]

/-! ## What a core owes, and the order of the waits -/

/-- The completions of the semaphores `S` of its peers that core `c` still owes. -/
def owe (S : Finset K) (c : Dev nD) : CellTallies nD τ sig Unit := ∑ k ∈ S, tallyAt (cell pl (pl.tgt k c) k) () (pl.amt k)

theorem owe_empty (c : Dev nD) : owe pl ∅ c = 0 := Finset.sum_empty
theorem owe_erase {S : Finset K} {k : K} (h : k ∈ S) (c : Dev nD) :
    owe pl S c = owe pl (S.erase k) c + tallyAt (cell pl (pl.tgt k c) k) () (pl.amt k) :=
  (Finset.sum_erase_add S _ h).symm

theorem owe_apply (S : Finset K) (c : Dev nD) (g : GSem nD τ sig) (u : Unit) :
    owe pl S c g u = ∑ k ∈ S, if g = cell pl (pl.tgt k c) k then pl.amt k else 0 := by
  unfold owe
  rw [Finset.sum_apply, Finsupp.finset_sum_apply]
  refine Finset.sum_congr rfl fun k _ => ?_
  rw [tallyAt_apply]
  simp only [and_true]

theorem owe_pos {S : Finset K} {c : Dev nD} {g : GSem nD τ sig} {u : Unit} (h : 0 < owe pl S c g u) :
    ∃ k ∈ S, g = cell pl (pl.tgt k c) k := by
  rw [owe_apply] at h
  by_contra hn
  rw [Finset.sum_eq_zero fun k hk => if_neg fun he => hn ⟨k, hk, he⟩] at h
  exact Nat.lt_irrefl 0 h

def L (g : GSem nD τ sig) : Finset Unit := if g.1.2 = .tc then {()} else ∅
def lv (g : GSem nD τ sig) (_ : Unit) : ℕ := ((key pl g.2).map pl.lvl).getD 0
theorem L_of_ne (g : GSem nD τ sig) (h : g.1.2 ≠ .tc) : L g = ∅ := if_neg h
theorem L_tc (c : Dev nD) (s : SemLoc sig) : L (((c.tc : Thread nD τ), s) : GSem nD τ sig) = {()} := if_pos rfl
theorem lv_cell (c : Dev nD) (k : K) (u : Unit) : lv pl (cell pl c k) u = pl.lvl k := by
  dsimp only [lv]; rw [key_osem]; rfl

/-- A semaphore may be waited on while only later ones are owed. -/
theorem mayWait (S : Finset K) (k : K) (h : ∀ j ∈ S, pl.lvl k < pl.lvl j) (c : Dev nD) :
    (levAts L (lv pl) : sProp 𝕄) ⊢ MayWait (c.tc : Thread nD τ) (pl.osem k) () (owe pl S c) :=
  MayOwe.of_cut (L := L) (lev := lv pl) (pl.lvl k)
    (fun p hp => by rw [Finset.mem_singleton.mp hp, L_tc]; exact Finset.mem_singleton_self _)
    (fun g u hg => by obtain ⟨j, _, rfl⟩ := owe_pos pl hg; exact Finset.mem_singleton_self _)
    (fun p hp => by rw [Finset.mem_singleton.mp hp]; exact (lv_cell pl c k ()).le)
    (fun g u hg => by
      obtain ⟨j, hj, rfl⟩ := owe_pos pl hg
      rw [lv_cell]; exact h j hj)

/-- One of a family. -/
theorem pick {I : Type} [DecidableEq I] {S : Finset I} {i : I} (h : i ∈ S) {Φ : I → sProp 𝕄} : (bigSep S Φ : sProp 𝕄) ⊢ Φ i := bigSep_elim h

/-! ## The launch -/

/-- Every counter's invariant, and that its one round is open. -/
def records (κ : Dev nD × K → ℕ) : sProp 𝕄 :=
  iprop((bigSep Finset.univ fun ck : Dev nD × K => cellInv ER (sched pl) (κ ck) (cell pl ck.1 ck.2))
    ∗ bigSep Finset.univ fun ck : Dev nD × K => reached ER (cell pl ck.1 ck.2) 0)
instance records_persistent (κ : Dev nD × K → ℕ) : BI.Persistent (records pl κ) := by unfold records; infer_instance

theorem inv_of (κ : Dev nD × K → ℕ) (c : Dev nD) (k : K) :
    records pl κ ⊢ cellInv ER (sched pl) (κ (c, k)) (cell pl c k) := by
  unfold records
  iintro ⟨H, -⟩
  iapply (pick (Finset.mem_univ (c, k)) (Φ := fun ck : Dev nD × K => cellInv ER (sched pl) (κ ck) (cell pl ck.1 ck.2)))
  iexact H
theorem reached_of (κ : Dev nD × K → ℕ) (c : Dev nD) (k : K) :
    records pl κ ⊢ reached ER (cell pl c k) 0 := by
  unfold records
  iintro ⟨-, H⟩
  iapply (pick (Finset.mem_univ (c, k)) (Φ := fun ck : Dev nD × K => reached ER (cell pl ck.1 ck.2) 0))
  iexact H

/-- What a core needs to complete semaphore `k` of the core it pays, and to wait on its own. -/
def tok (c : Dev nD) (k : K) : sProp 𝕄 := dutyTok ER (cell pl (pl.tgt k c) k) 0 ()
def pos (c : Dev nD) (k : K) : sProp 𝕄 := atPos ER (cell pl c k) 0 ∅ 0
/-- Credit for the completion of semaphore `k` of core `c`. -/
def due (c : Dev nD) (k : K) : sProp 𝕄 := cred (tallyAt (cell pl c k) () (pl.amt k))

/-- What the launch deals core `c`. -/
def kit (c : Dev nD) : sProp 𝕄 :=
  iprop((∃ κ, records pl κ) ∗ (bigSep Finset.univ fun k => iprop(tok pl c k ∗ pos pl c k)) ∗ bigSep pl.far fun k => due pl c k)

def cells : Finset (GSem nD τ sig) :=
  Finset.univ.map ⟨fun ck : Dev nD × K => cell pl ck.1 ck.2, fun _ _ h => Prod.ext (cell_inj pl h).1 (cell_inj pl h).2⟩
def toks : Finset (GSem nD τ sig × ℕ × Unit) :=
  Finset.univ.map ⟨fun ck : Dev nD × K => (cell pl ck.1 ck.2, 0, ()),
    fun _ _ h => Prod.ext (cell_inj pl (congrArg Prod.fst h)).1 (cell_inj pl (congrArg Prod.fst h)).2⟩

/-- A core's share of the launch ghost state. -/
def G (c : Dev nD) : sProp 𝕄 :=
  iprop((bigSep Finset.univ fun k => roundState ER (sched pl) (cell pl c k) 0)
    ∗ (bigSep Finset.univ fun k => pos pl c k) ∗ (bigSep Finset.univ fun k => reached ER (cell pl c k) 0)
    ∗ bigSep Finset.univ fun k => dutyTok ER (cell pl c k) 0 ())

theorem fund_plan : (BI.own ((ER : Emb (UR sig nD τ) 𝕄) (initOf (cells pl) (toks pl))) : sProp 𝕄) ⊢ |==> bigSep Finset.univ (G pl) := by
  have hX (Φ : GSem nD τ sig → sProp 𝕄) : bigSep (cells pl) Φ = bigSep Finset.univ fun c : Dev nD => bigSep Finset.univ fun k : K => Φ (cell pl c k) := by
    unfold cells; rw [bigSep_map, bigSep_univ_prod]; rfl
  have hT : bigSep (toks pl) (fun x => (dutyTok ER x.1 x.2.1 x.2.2 : sProp 𝕄)) = bigSep Finset.univ fun c : Dev nD => bigSep Finset.univ fun k : K => dutyTok ER (cell pl c k) 0 () := by
    unfold toks; rw [bigSep_map, bigSep_univ_prod]; rfl
  iintro HX
  imod (Rounds.fund ER (sched pl) (cells pl) (toks pl)) $$ HX with ⟨Hst, Hr, Hat, Htok⟩
  imodintro
  unfold G pos; simp only [bigSep_sep']
  isplitl [Hst]; · iapply (Entails.of_eq (hX fun g => roundState ER (sched pl) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-- One core's counters put into their invariants. -/
theorem core_alloc (c : Dev nD) :
    (iprop((bigSep Finset.univ fun k : K => semVal (cell pl c k) 0) ∗ bigSep Finset.univ fun k : K => roundState ER (sched pl) (cell pl c k) 0) : sProp 𝕄)
      ⊢ |={Set.univ}=> bigSep Finset.univ fun k => iprop(∃ κ : ℕ, cellInv ER (sched pl) κ (cell pl c k)) := by
  rw [← bigSep_sep']
  exact (bigSep_mono fun k _ => (Rounds.body_intro ER (sched pl) (cell pl c k)).trans inv_alloc).trans (bigSep_fupd _ _)

/-- What every core holds for each of some places, regrouped by permutations of the cores, one for each place. -/
theorem around {I : Type} [DecidableEq I] (p : I → Dev nD ≃ Dev nD) (S : Finset I) (Φ : I → Dev nD → sProp 𝕄) :
    (bigSep Finset.univ fun c : Dev nD => bigSep S fun k => Φ k c)
      = bigSep Finset.univ fun c : Dev nD => bigSep S fun k => Φ k (p k c) := by
  induction S using Finset.induction_on with
  | empty => simp only [bigSep_empty]
  | insert k S hk ih =>
    simp only [bigSep_insert hk, bigSep_sep]
    rw [ih, ← bigSep_univ_equiv (p k) (Φ k)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem owed_at {k : K} (hk : k ∈ pl.far) (c : Dev nD) : (∑ d : Dev nD, owe pl pl.far d (cell pl c k) ()) = pl.amt k := by
  rw [Finset.sum_eq_single ((pl.tgt k).symm c) (fun d _ hd => ?_) (fun h => absurd (Finset.mem_univ _) h)]
  · rw [owe_apply, Finset.sum_eq_single k (fun j _ hj => if_neg fun h => hj (cell_inj pl h).2.symm) (fun h => absurd hk h),
      if_pos (by rw [Equiv.apply_symm_apply])]
  · rw [owe_apply]
    refine Finset.sum_eq_zero fun j _ => if_neg fun h => hd ?_
    obtain ⟨h1, rfl⟩ := cell_inj pl h
    rw [h1, Equiv.symm_apply_apply]

theorem dues (c : Dev nD) : (Pipeline.launchCred (owe pl pl.far) c : sProp 𝕄) ⊢ bigSep pl.far fun k => due pl c k := by
  have h (k : K) (hk : k ∈ pl.far) : tallyOn (cell pl c k) (launchCredit (Pipeline.owing (owe pl pl.far)) 0 (cell pl c k))
      = (tallyAt (cell pl c k) () (pl.amt k) : CellTallies nD τ sig Unit) := by
    unfold tallyAt; refine congrArg _ (Finsupp.ext fun u => ?_); cases u
    rw [Pipeline.launchCredit_owing, Finsupp.single_eq_same, owed_at pl hk]
  unfold Pipeline.launchCred
  refine (bigSep_subset (Finset.subset_univ (pl.far.map ⟨pl.osem, pl.inj⟩))).trans ?_
  rw [bigSep_map]
  exact bigSep_mono fun k hk => by unfold due; rw [← h k hk]; exact BI.Entails.refl _

/-- Every core's counters, ghost state and credit, dealt. -/
theorem deal :
    (iprop((bigSep Finset.univ fun c : Dev nD => Pipeline.ownSems0 pl.osem c)
        ∗ (bigSep Finset.univ fun c : Dev nD => Pipeline.launchCred (owe pl pl.far) c) ∗ bigSep Finset.univ (G pl)) : sProp 𝕄)
      ⊢ |={Set.univ}=> bigSep Finset.univ (kit pl) := by
  have hG : (bigSep Finset.univ (G pl) : sProp 𝕄) = iprop((bigSep Finset.univ fun c : Dev nD => bigSep Finset.univ fun k => roundState ER (sched pl) (cell pl c k) 0)
      ∗ (bigSep Finset.univ fun c : Dev nD => bigSep Finset.univ fun k => pos pl c k)
      ∗ (bigSep Finset.univ fun c : Dev nD => bigSep Finset.univ fun k => reached ER (cell pl c k) 0)
      ∗ bigSep Finset.univ fun c : Dev nD => bigSep Finset.univ fun k => dutyTok ER (cell pl c k) 0 ()) := by
    unfold G; simp only [bigSep_sep']
  have halloc : (iprop((bigSep Finset.univ fun c : Dev nD => Pipeline.ownSems0 pl.osem c)
        ∗ bigSep Finset.univ fun c : Dev nD => bigSep Finset.univ fun k => roundState ER (sched pl) (cell pl c k) 0) : sProp 𝕄)
      ⊢ |={Set.univ}=> (bigSep Finset.univ fun c : Dev nD => bigSep Finset.univ fun k => iprop(∃ κ : ℕ, cellInv ER (sched pl) κ (cell pl c k))) := by
    rw [← bigSep_sep']
    exact (bigSep_mono fun c _ => core_alloc pl c).trans (bigSep_fupd _ _)
  rw [hG]
  iintro ⟨Hos, Hcr, Hst, Hat, Hr, Htok⟩
  imod halloc $$ [Hos Hst] with HI
  · isplitl [Hos] <;> iassumption
  imodintro
  ihave HI := (Entails.of_eq (bigSep_univ_prod (fun ck : Dev nD × K => (iprop(∃ κ : ℕ, cellInv ER (sched pl) κ (cell pl ck.1 ck.2)) : sProp 𝕄))).symm) $$ HI
  ihave HI := (BI.bigSep_exists_pi Finset.univ (fun (ck : Dev nD × K) (κ : ℕ) => (cellInv ER (sched pl) κ (cell pl ck.1 ck.2) : sProp 𝕄))) $$ HI
  icases HI with ⟨%κ, #HI⟩
  ihave #HR := (Entails.of_eq (bigSep_univ_prod (fun ck : Dev nD × K => (reached ER (cell pl ck.1 ck.2) 0 : sProp 𝕄))).symm) $$ Hr
  ihave Htok := (Entails.of_eq (around pl.tgt Finset.univ fun k c => (dutyTok ER (cell pl c k) 0 () : sProp 𝕄))) $$ Htok
  iapply (with_persistent (R := records pl κ) (Φ := fun c : Dev nD => iprop((bigSep Finset.univ fun k => iprop(tok pl c k ∗ pos pl c k)) ∗ Pipeline.launchCred (owe pl pl.far) c)) fun c _ => by
    unfold kit
    iintro ⟨#Hrec, Htp, Hc⟩
    isplitr; · iexists κ; iexact Hrec
    isplitl [Htp]; · iexact Htp
    iapply (dues pl c); iexact Hc)
  isplitr
  · unfold records; isplitl; · iexact HI
    iexact HR
  · simp only [bigSep_sep']
    isplitr [Hcr]
    · isplitl [Htok]; · unfold tok; iexact Htok
      iexact Hat
    · iexact Hcr

/-! ## The steps of a body -/

/-- Core `c` owes its peers the completions `S`, whatever it has waited for. -/
def owing (S : Finset K) (c : Dev nD) : sProp 𝕄 := iprop(∃ W, owes (c.tc : Thread nD τ) (owe pl S c) W)

section Steps

variable {Λ : Labels} {defs : Defs nD τ sig Val Λ} (𝒱 : Variants) {α : Type} {Q : α → sProp (MT nD τ sig Unit Val ℕ (UU nD τ sig) ℕ)}
  {sp sp' : Space} {s : Shape} {e : EltTy} (κ : Dev nD × K → ℕ)

/-- A copy to core `n`: it completes `kS` of the sender and `kR` of the receiver. -/
theorem send {c n : Dev nD} (kS kR : K) (S : Finset K) {src : Memref sig .tc sp s e} {dst : Memref sig .tc sp' s e} {hsc : dst.view.ref.isScScratch = false}
    {sS sR : SemLoc sig} {hsrc : src.view.WordExact} {hdst : dst.view.WordExact} {hsem : DmaTarget.Typed sp sR (.remote (n.tc : Thread nD τ) dst sS hsc)}
    {k : PUnit → Prog (TpuEff nD τ sig Val Λ (c.tc : Thread nD τ).2) α} {q : PosShare TreeShare}
    {fs : Buf Val (src.view.loc (c.tc : Thread nD τ))} {fd : Buf Val (dst.view.loc (n.tc : Thread nD τ))}
    (hS : sS = pl.osem kS) (hR : sR = pl.osem kR) (hn : n = pl.tgt kR c) (hself : pl.tgt kS c = c) (hmem : kR ∈ S)
    (hN : dst.view.amount sR = pl.amt kR) (hNS : pl.amt kS = pl.amt kR)
    (hpay₁ : (src.view.loc (c.tc : Thread nD τ) ↦[src.view.set]{q} fs) ⊢ pl.pay c kS)
    (hpay₂ : (dst.view.loc (n.tc : Thread nD τ) ↦[dst.view.set]{fullShare} (dst.view.write Val fd (src.view.read Val fs) Finset.univ)) ⊢ pl.pay n kR)
    (hr : τ.routes (c.tc : Thread nD τ) (n.tc : Thread nD τ) = true) :
    records pl κ ⊢ iprop((src.view.loc (c.tc : Thread nD τ) ↦[src.view.set]{q} fs) -∗ (dst.view.loc (n.tc : Thread nD τ) ↦[dst.view.set]{fullShare} fd)
      -∗ owing pl S c -∗ tok pl c kS -∗ tok pl c kR -∗ ((due pl c kS ∗ owing pl (S.erase kR) c) -∗ wp frame (wpE defs 𝒱 (c.tc : Thread nD τ) none) Set.univ (k ⟨⟩) Q)
          -∗ wp frame (wpE defs 𝒱 (c.tc : Thread nD τ) none) Set.univ (.op (.enqueueDma src (.remote (n.tc : Thread nD τ) dst sS hsc) sR hsrc hdst hsem) k) Q) := by
  subst hS hR hn
  unfold owing tok due
  rw [hself]
  iintro #HR Hsrc Hdst ⟨%W, HO⟩ HtS HtR Hk
  ihave #HiS := (inv_of pl κ c kS) $$ HR
  ihave #HiR := (inv_of pl κ (pl.tgt kR c) kR) $$ HR
  ihave #HrS := (reached_of pl κ c kS) $$ HR
  ihave #HrR := (reached_of pl κ (pl.tgt kR c) kR) $$ HR
  iapply (Rounds.wp_send_pointsTo 𝒱 ER (sched pl) (c.tc : Thread nD τ) none (κ₁ := κ (c, kS)) (κ₂ := κ (pl.tgt kR c, kR)) (r₁ := 0) (r₂ := 0) (d₁ := ()) (d₂ := ()) (fd := fd)
    (by rw [duties_cell]; exact Finset.mem_singleton_self _) (by rw [duties_cell]; exact Finset.mem_singleton_self _)
    () () (pl.amt kR) hN ((amount_cell pl c kS ()).trans hNS) (amount_cell pl (pl.tgt kR c) kR ()) (owe pl (S.erase kR) c) (owe_erase pl hmem c) (W := W)
    (by rw [payload_cell]; exact hpay₁) (by rw [payload_cell]; exact hpay₂) hr) $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  rw [hNS]
  isplitl [Hc]; · iexact Hc
  iexists W; iexact HO

/-- A copy on core `c`, completing its semaphore `kL`. -/
theorem copy {c : Dev nD} (kL : K) {src : Memref sig .tc sp s e} {dst : Memref sig .tc sp' s e} {sem : SemLoc sig}
    {hsrc : src.view.WordExact} {hdst : dst.view.WordExact} {hsem : DmaTarget.Typed (nD := nD) (p := (c.tc : Thread nD τ).2) sp sem (.here dst)}
    {k : PUnit → Prog (TpuEff nD τ sig Val Λ (c.tc : Thread nD τ).2) α} {q : PosShare TreeShare}
    {fs : Buf Val (src.view.loc (c.tc : Thread nD τ))} {fd : Buf Val (dst.view.loc (c.tc : Thread nD τ))}
    (hS : sem = pl.osem kL) (hself : pl.tgt kL c = c) (hN : dst.view.amount sem = pl.amt kL)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ pl.pay c kL) :
    records pl κ ⊢ iprop((src.view.loc (c.tc : Thread nD τ) ↦[src.view.set]{q} fs) -∗ (dst.view.loc (c.tc : Thread nD τ) ↦[dst.view.set]{fullShare} fd)
      -∗ tok pl c kL -∗ (due pl c kL -∗ wp frame (wpE defs 𝒱 (c.tc : Thread nD τ) none) Set.univ (k ⟨⟩) Q)
          -∗ wp frame (wpE defs 𝒱 (c.tc : Thread nD τ) none) Set.univ (.op (.enqueueDma src (.here dst) sem hsrc hdst hsem) k) Q) := by
  subst hS
  unfold tok due
  rw [hself]
  iintro #HR Hsrc Hdst Ht Hk
  ihave #Hi := (inv_of pl κ c kL) $$ HR
  ihave #Hr := (reached_of pl κ c kL) $$ HR
  iapply (Rounds.wp_copy_pointsTo 𝒱 ER (sched pl) (c.tc : Thread nD τ) none (κ := κ (c, kL)) (r := 0) (d := ()) (fd := fd)
    (by rw [duties_cell]; exact Finset.mem_singleton_self _) () (pl.amt kL) hN (amount_cell pl c kL ()) (by rw [payload_cell]; exact hpay)) $$ [Hsrc Hdst Ht]
  · isplitr; · iexact Hi
    isplitl [Hsrc]; · iexact Hsrc
    isplitl [Hdst]; · iexact Hdst
    isplitl [Ht]; · iexact Ht
    iexact Hr
  iexact Hk

/-- A wait on semaphore `kW` of core `c`: what its completion hands over, and the counter back at zero for good. -/
theorem wait {c : Dev nD} (kW : K) (S : Finset K) {s' : Shape} {e' : EltTy} {sem : DmaSem sig} {src : Memref sig .tc sp' s' e'} {dst : Memref sig .tc sp s e}
    {hsrc : src.view.WordExact} {hdst : dst.view.WordExact}
    {k : PUnit → Prog (TpuEff nD τ sig Val Λ (c.tc : Thread nD τ).2) α}
    (hS : .dma sem = pl.osem kW) (hlt : ∀ j ∈ S, pl.lvl kW < pl.lvl j) (hN : dst.view.dmaCredit = pl.amt kW) :
    records pl κ ⊢ iprop(levAts L (lv pl) -∗ due pl c kW -∗ owing pl S c -∗ pos pl c kW -∗ ((owing pl S c ∗ semVal (cell pl c kW) 0 ∗ pl.pay c kW) -∗ wp frame (wpE defs 𝒱 (c.tc : Thread nD τ) none) Set.univ (k ⟨⟩) Q)
          -∗ wp frame (wpE defs 𝒱 (c.tc : Thread nD τ) none) Set.univ (.op (.waitDma2 sem src dst hsrc hdst) k) Q) := by
  unfold owing due pos cell
  iintro #HR #HL Hc ⟨%W, HO⟩ Hp Hk
  ihave #Hi := (inv_of pl κ c kW) $$ HR
  ihave #Hm := (mayWait pl S kW hlt c) $$ HL
  unfold cell
  rw [← hS, ← hN]
  iapply (Rounds.wp_wait_rest_token 𝒱 ER (sched pl) (c.tc : Thread nD τ) none (κ := κ (c, kW))
    (wpE_waitDma2_eq 𝒱 (c.tc : Thread nD τ) none Set.univ) (Set.mem_univ _) () (O := owe pl S c) (W := W) (R := 0) (m := 0) (T := ∅)
    (by rw [Nat.zero_add, hS, expect_cell, hN])) $$ [Hc HO Hp]
  · isplitr; · iexact Hi
    isplitl [Hc]; · iexact Hc
    isplitl [HO]; · iexact HO
    isplitr; · iexact Hm
    iexact Hp
  iintro ⟨HO, Hp, -, Hpay⟩
  imod (Rounds.cell_close ER (sched pl) (Set.mem_univ (κ (c, kW))) (fun h => h) (R := 0 + 1) (duties_later pl _)) $$ [Hp] with Hz
  · isplitr; · iexact Hi
    iexact Hp
  iapply Hk
  isplitl [HO]; · iexists _; iexact HO
  isplitl [Hz]; · iexact Hz
  rw [hS]
  iapply (Entails.of_eq (rest_cell pl c kW)); iexact Hpay

end Steps

end Plan

end Talk

end
-- ==== Proof.Solo.lean ====
/- A region whose body talks to other cores and stages nothing, as the first of a program's regions.

   The region's proof data and its obligations from the body's own: a core enters with its kit of the kernel's
   semaphores, what it owes and what it holds of memory, and leaves with its semaphores at zero, owing nothing. -/
module

public import proofs.«01_k».proof.Proof.Start
public import proofs.«01_k».proof.Proof.Talk

@[expose] public section

noncomputable section

namespace Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels} {P : Type} [Fintype P] [DecidableEq P]
variable {K : Type} [Fintype K] [DecidableEq K] (pl : Plan nD τ sig Val K)

local notation "𝕄" => MT nD τ sig Unit Val ℕ (UU nD τ sig) ℕ

/-- The region's proof data: `pre` and `post` are what a core holds of memory before and after the body. -/
def Plan.dat (cfg : Cfg sig Λ₀) [hw : IsEmpty (Fin cfg.W)] (pre post : Dev nD → sProp 𝕄) (c : Dev nD) : Dat τ Val Unit ℕ (UU nD τ sig) ℕ cfg c where
  A w := isEmptyElim w
  after w := isEmptyElim w
  Φ t := if t.val = 0 then iprop(kit pl c ∗ levAts L (lv pl) ∗ scopedRest cfg.spec c ∗ pre c) else iprop(ownSems0 pl.osem c ∗ scopedRest cfg.spec c ∗ post c)
  q w := isEmptyElim w
  owed t := if t.val = 0 then owe pl pl.far c else 0

theorem Plan.dat_arrays (cfg : Cfg sig Λ₀) [hw : IsEmpty (Fin cfg.W)] (pre post : Dev nD → sProp 𝕄) (c : Dev nD)
    (X : (w : Fin cfg.W) → Buf Val ((cfg.win w).arr.view.loc (c.tc : Thread nD τ))) : (pl.dat cfg pre post c).arrays X = (iprop(emp) : sProp 𝕄) := by
  unfold Dat.arrays; rw [Finset.univ_eq_empty, bigSep_empty]; rfl
theorem Plan.dat_owes (cfg : Cfg sig Λ₀) [hw : IsEmpty (Fin cfg.W)] (pre post : Dev nD → sProp 𝕄) (c : Dev nD) (t : Fin (cfg.N + 1)) :
    (pl.dat cfg pre post c).owesAt () t = iprop(∃ W, owes (c.tc : Thread nD τ) (if t.val = 0 then owe pl pl.far c else 0) W) := by
  have h : (pl.dat cfg pre post c).owesAt () t ⊢ iprop(∃ W, owes (c.tc : Thread nD τ) (if t.val = 0 then owe pl pl.far c else 0) W) := by
    unfold Dat.owesAt Pipeline.owesWithin
    iintro ⟨%W, -, HO⟩
    iexists W; iexact HO
  have h' : iprop(∃ W, owes (c.tc : Thread nD τ) (if t.val = 0 then owe pl pl.far c else 0) W) ⊢ (pl.dat cfg pre post c).owesAt () t := by
    unfold Dat.owesAt Pipeline.owesWithin
    iintro ⟨%W, HO⟩
    iexists W
    isplitr; · ipureintro; exact fun _ _ => Or.inl trivial
    iexact HO
  exact BI.Entails.antisymm h h'
theorem Plan.dat_first (cfg : Cfg sig Λ₀) [hw : IsEmpty (Fin cfg.W)] (pre post : Dev nD → sProp 𝕄) (c : Dev nD) (t : Fin (cfg.N + 1)) (ht : t.val = 0) :
    (pl.dat cfg pre post c).Φ t = iprop(kit pl c ∗ levAts L (lv pl) ∗ scopedRest cfg.spec c ∗ pre c) := if_pos ht
theorem Plan.dat_last (cfg : Cfg sig Λ₀) [hw : IsEmpty (Fin cfg.W)] (pre post : Dev nD → sProp 𝕄) (c : Dev nD) (t : Fin (cfg.N + 1)) (ht : t.val ≠ 0) :
    (pl.dat cfg pre post c).Φ t = iprop(ownSems0 pl.osem c ∗ scopedRest cfg.spec c ∗ post c) := if_neg ht

variable (pcs : P → PCfg sig Λ₀ Val) (a : Dev nD → (p : P) → (pcs p).Adm)
  (pdats : (p : P) → (c : Dev nD) → Dat τ Val Unit ℕ (UU nD τ sig) ℕ (pinD pcs a c p) c)
  (defs₀ : Defs nD τ sig Val Λ₀) (𝒱₀ : Variants)

/-- The region, from the body's run. -/
def Plan.first (p : P) [hW : IsEmpty (Fin (pcs p).W)] [hP : IsEmpty (Fin (pcs p).pre.K)] (hN : ∀ c, (pinD pcs a c p).N = 1) (win : WinFacts₀ (pcs p).spec) (ho : OwnSemFacts (pcs p).spec pl.osem)
    (pre post : Dev nD → sProp 𝕄) (hd : ∀ c, pdats p c = pl.dat (pinD pcs a c p) (hw := hW) pre post c)
    (hbody : ∀ (c : Dev nD) (t : Fin (pinD pcs a c p).N), iprop(kit pl c ∗ levAts L (lv pl) ∗ owing pl pl.far c ∗ scopedRest (pcs p).spec c ∗ pre c)
      ⊢ wp frame (wpE defs₀ 𝒱₀ (c.tc : Thread nD τ) none) Set.univ (defs₀ .tc (pinD pcs a c p).body ((pinD pcs a c p).bodyArgs t ((pinD pcs a c p).slots t)))
          fun _ => iprop(owing pl ∅ c ∗ ownSems0 pl.osem c ∗ scopedRest (pcs p).spec c ∗ post c)) :
    First pcs a pdats () defs₀ 𝒱₀ L (lv pl) p where
  win := win
  block_pos := hW.elim
  stage_whole := fun w => hW.elim w
  K := K
  osem := pl.osem
  ho := ho
  hbody c := by
    intro t
    have ht : t.val = 0 := by have := t.isLt; have := hN c; omega
    have h0 : t.castSucc.val = 0 := ht
    have h1 : t.succ.val ≠ 0 := Nat.succ_ne_zero _
    rw [hd, pl.dat_first _ _ _ _ _ h0, pl.dat_last _ _ _ _ _ h1, pl.dat_owes, pl.dat_owes, if_pos h0, if_neg h1]
    refine BIBase.Entails.trans ?_ ((hbody c t).trans (wp_mono _ _ _ fun _ => ?_))
    · iintro ⟨⟨Hk, HL, Hs, Hp⟩, HO, -⟩
      isplitl [Hk]; · iexact Hk
      isplitl [HL]; · iexact HL
      isplitl [HO]; · unfold owing; iexact HO
      isplitl [Hs] <;> iassumption
    · unfold owing
      rw [owe_empty]
      iintro ⟨HO, Hz, Hs, Hp⟩
      isplitl [Hz Hs Hp]
      · isplitl [Hz]; · iexact Hz
        isplitl [Hs] <;> iassumption
      isplitl [HO]; · iexact HO
      rw [Finset.univ_eq_empty, bigSep_empty]; iempintro
  hwaits c := PerCore.cellsWaits_intro _ _ _ _ _ fun w => hW.elim w
  pre c := iprop(kit pl c ∗ owing pl pl.far c ∗ pre c)
  post c := iprop(post c ∗ ∃ W, owes (c.tc : Thread nD τ) (0 : CellTallies nD τ sig Unit) W)
  X c := iprop(kit pl c ∗ levAts L (lv pl) ∗ pre c)
  Y := post
  Z _ := iprop(emp)
  hentry c := by
    rw [hd, pl.dat_arrays, pl.dat_owes, if_pos (show (0 : Fin ((pinD pcs a c p).N + 1)).val = 0 from rfl)]
    unfold owing prefHeld
    rw [Finset.univ_eq_empty, bigSep_empty]
    iintro ⟨⟨Hk, HO, Hp⟩, HL⟩
    imodintro
    isplitr; · iempintro
    isplitr; · iempintro
    isplitl [HO]; · iexact HO
    isplitl
    · isplitl [Hk]; · iexact Hk
      isplitl [HL] <;> iassumption
    iempintro
  hin c := by
    rw [hd, pl.dat_first _ _ _ _ _ rfl]
    iintro ⟨⟨Hk, HL, Hp⟩, -, Hs⟩
    isplitl [Hk]; · iexact Hk
    isplitl [HL]; · iexact HL
    isplitl [Hs] <;> iassumption
  hout c := by
    rw [hd, pl.dat_last _ _ _ _ _ (by rw [Fin.val_last, hN c]; decide)]
    iintro ⟨Hz, Hs, Hp⟩
    isplitl [Hp]; · iexact Hp
    isplitl [Hz] <;> iassumption
  hexit c := by
    rw [hd, pl.dat_arrays, pl.dat_owes, if_neg (by rw [Fin.val_last, hN c]; decide)]
    iintro ⟨-, HO, Hp, -⟩
    imodintro
    isplitl [Hp] <;> iassumption

/-- What the launch deals, gathered into what the region's cores enter with: the semaphores and the credit through the
    plan, the memory by `hmem`. -/
theorem Plan.enter (m : (ℓ : Loc nD τ sig) → Buf Val ℓ) (g : Dev nD → PrngReg) (pre : Dev nD → sProp 𝕄)
    (hmem : (bigSep Finset.univ fun c : Dev nD => unscopedBufs c (fun b => m ((c.tc : Thread nD τ).loc b))) ⊢ (bigSep Finset.univ pre : sProp 𝕄)) :
    iprop((bigSep Finset.univ fun c : Dev nD => iprop(ownSems0 pl.osem c ∗ unscopedBufs c (fun b => m ((c.tc : Thread nD τ).loc b)) ∗ unscopedSems0 c
          ∗ owes (c.tc : Thread nD τ) (owe pl pl.far c) ∅ ∗ launchCred (owe pl pl.far) c ∗ prngReg c (g c))) ∗ bigSep Finset.univ (G pl) ∗ levAts L (lv pl))
      ⊢ |={Set.univ}=> bigSep Finset.univ fun c => iprop(kit pl c ∗ owing pl pl.far c ∗ pre c) := by
  have h (c : Dev nD) (_ : c ∈ (Finset.univ : Finset (Dev nD))) : (owes (c.tc : Thread nD τ) (owe pl pl.far c) ∅ : sProp 𝕄) ⊢ owing pl pl.far c := by
    unfold owing
    iintro H
    iexists (∅ : Finset (SemLoc sig × Unit))
    iexact H
  simp only [bigSep_sep']
  iintro ⟨⟨Hz, Hm, -, HO, Hc, -⟩, HG, -⟩
  imod (deal pl) $$ [Hz Hc HG] with Hk
  · isplitl [Hz]; · iexact Hz
    isplitl [Hc] <;> iassumption
  imodintro
  isplitl [Hk]; · iexact Hk
  isplitl [HO]
  · iapply (show (bigSep Finset.univ fun c : Dev nD => (owes (c.tc : Thread nD τ) (owe pl pl.far c) ∅ : sProp 𝕄)) ⊢ bigSep Finset.univ (owing pl pl.far) from bigSep_mono h)
    iexact HO
  iapply hmem; iexact Hm

/-- The launch's ghost state: the pipeline's and the plan's. -/
theorem Plan.fund (phinj : Function.Injective (PerCore.cellOf (nD := nD) (τ := τ) (pinD pcs a))) :
    (ownU ((initOf (PerCore.cells (pinD pcs a) phinj) (PerCore.launchToks (pinD pcs a) phinj), initOf (Talk.cells pl) (toks pl)) : UU nD τ sig) : sProp 𝕄)
      ⊢ |={Set.univ}=> iprop(BI.own (EP (initOf (PerCore.cells (pinD pcs a) phinj) (PerCore.launchToks (pinD pcs a) phinj))) ∗ bigSep Finset.univ (G pl)) := by
  iintro Hu
  ihave H := (ownU_pair _ _) $$ Hu
  icases H with ⟨HP, HX⟩
  imod (fund_plan pl) $$ HX with HG
  imodintro
  isplitl [HP] <;> iassumption

end Talk

end
-- ==== Proof.Gather.lean ====
/- The all-gather of eight cores on four chips, as a straight-line program over any memrefs and semaphores, and its run.

   Core `c` copies its shard into its own slot, to its sibling on the chip and to the same core of the three other
   chips; each shard that arrives from another chip it passes on to its sibling. So slot `b` of core `c` is written
   once: by the core itself, by the core on the other side of a link, or by the sibling passing it on. Cores are
   numbered so that the two cores of a chip, and two cores of one column, differ in one bit: the core reached over
   link `b` is `c` with the bits of `b` flipped. -/
module

public import proofs.«01_k».proof.Proof.Talk

@[expose] public section

noncomputable section

namespace Talk.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Cores and semaphores -/

/-- The core over link `b`. -/
def toward (b : Fin 8) : Dev 8 ≃ Dev 8 := ⟨fun c => c ^^^ b, fun c => c ^^^ b, by decide +revert, by decide +revert⟩
theorem toward_zero (c : Dev 8) : toward 0 c = c := by decide +revert
theorem toward_toward (a b : Fin 8) (c : Dev 8) : toward a (toward b c) = toward (a ^^^ b) c := by decide +revert
theorem toward_comm (b : Fin 8) (c : Dev 8) : toward b c = toward c b := by decide +revert

/-- The semaphores of a core: its sends over the four links and the three it passes on, what it receives over the links
    and what its sibling passes on to it, and its own copy. -/
inductive K | snd (i : Fin 4) | fwd (j : Fin 3) | got (i : Fin 4) | fgot (j : Fin 3) | own
deriving DecidableEq

instance : Fintype K where
  elems := {.snd 0, .snd 1, .snd 2, .snd 3, .fwd 0, .fwd 1, .fwd 2, .got 0, .got 1, .got 2, .got 3, .fgot 0, .fgot 1, .fgot 2, .own}
  complete k := by
    rcases k with i | j | i | j | _
    · revert i; decide
    · revert j; decide
    · revert i; decide
    · revert j; decide
    · decide

/-- The links: the sibling, and the three other chips. -/
def near : Fin 4 → Fin 8 := ![1, 4, 2, 6]
/-- The three other chips, and their other cores. -/
def hop : Fin 3 → Fin 8 := ![4, 2, 6]
def over : Fin 3 → Fin 8 := ![5, 3, 7]
theorem near_self (i : Fin 4) (c : Dev 8) : toward (near i) (toward (near i) c) = c := by decide +revert
theorem over_sibling (j : Fin 3) (c : Dev 8) : toward (over j) (toward 1 c) = toward (hop j) c := by decide +revert

def far : Finset K := {.got 0, .got 1, .got 2, .got 3, .fgot 0, .fgot 1, .fgot 2}

section Run

variable {τ : Topo} {sig : RefSig} {Val : EltTy → Type} {s : Shape} {e : EltTy}

/-- A memref of whole words outside any SparseCore. -/
structure Piece (sig : RefSig) (s : Shape) (e : EltTy) where
  m : Memref sig .tc .hbm s e
  we : m.view.WordExact
  sc : m.view.ref.isScScratch = false

/-- The program: shard `x`, the slots `p` of the output it names, its semaphores and the cores it sends to. -/
def prog {Λ : Labels} (x : Piece sig s e) (p₁ p₂ p₃ p₄ p₅ p₆ p₇ p₈ : Piece sig s e) (sm : K → DmaSem sig) (n₁ n₂ n₃ n₄ n₅ n₆ n₇ : Dev 8) :
    Prog (TpuEff 8 τ sig Val Λ .tc) PUnit :=
  .op (.enqueueDma x.m (.here p₁.m) (.dma (sm .own)) x.we p₁.we ⟨Or.inl rfl, trivial⟩) fun _ =>
  .op (.enqueueDma x.m (.remote (Dev.tc n₁) p₁.m (.dma (sm (.snd 0))) p₁.sc) (.dma (sm (.got 0))) x.we p₁.we ⟨⟨rfl, Or.inl rfl⟩, trivial⟩) fun _ =>
  .op (.enqueueDma x.m (.remote (Dev.tc n₂) p₁.m (.dma (sm (.snd 1))) p₁.sc) (.dma (sm (.got 1))) x.we p₁.we ⟨⟨rfl, Or.inl rfl⟩, trivial⟩) fun _ =>
  .op (.enqueueDma x.m (.remote (Dev.tc n₃) p₁.m (.dma (sm (.snd 2))) p₁.sc) (.dma (sm (.got 2))) x.we p₁.we ⟨⟨rfl, Or.inl rfl⟩, trivial⟩) fun _ =>
  .op (.enqueueDma x.m (.remote (Dev.tc n₄) p₁.m (.dma (sm (.snd 3))) p₁.sc) (.dma (sm (.got 3))) x.we p₁.we ⟨⟨rfl, Or.inl rfl⟩, trivial⟩) fun _ =>
  .op (.waitDma2 (sm (.got 1)) p₂.m p₂.m p₂.we p₂.we) fun _ =>
  .op (.enqueueDma p₂.m (.remote (Dev.tc n₅) p₂.m (.dma (sm (.fwd 0))) p₂.sc) (.dma (sm (.fgot 0))) p₂.we p₂.we ⟨⟨rfl, Or.inl rfl⟩, trivial⟩) fun _ =>
  .op (.waitDma2 (sm (.got 2)) p₃.m p₃.m p₃.we p₃.we) fun _ =>
  .op (.enqueueDma p₃.m (.remote (Dev.tc n₆) p₃.m (.dma (sm (.fwd 1))) p₃.sc) (.dma (sm (.fgot 1))) p₃.we p₃.we ⟨⟨rfl, Or.inl rfl⟩, trivial⟩) fun _ =>
  .op (.waitDma2 (sm (.got 3)) p₄.m p₄.m p₄.we p₄.we) fun _ =>
  .op (.enqueueDma p₄.m (.remote (Dev.tc n₇) p₄.m (.dma (sm (.fwd 2))) p₄.sc) (.dma (sm (.fgot 2))) p₄.we p₄.we ⟨⟨rfl, Or.inl rfl⟩, trivial⟩) fun _ =>
  .op (.waitDma2 (sm (.got 0)) p₅.m p₅.m p₅.we p₅.we) fun _ =>
  .op (.waitDma2 (sm (.fgot 0)) p₆.m p₆.m p₆.we p₆.we) fun _ =>
  .op (.waitDma2 (sm (.fgot 1)) p₇.m p₇.m p₇.we p₇.we) fun _ =>
  .op (.waitDma2 (sm (.fgot 2)) p₈.m p₈.m p₈.we p₈.we) fun _ =>
  .op (.waitDma2 (sm (.snd 0)) p₁.m x.m p₁.we x.we) fun _ =>
  .op (.waitDma2 (sm (.snd 1)) p₁.m x.m p₁.we x.we) fun _ =>
  .op (.waitDma2 (sm (.snd 2)) p₁.m x.m p₁.we x.we) fun _ =>
  .op (.waitDma2 (sm (.snd 3)) p₁.m x.m p₁.we x.we) fun _ =>
  .op (.waitDma2 (sm (.fwd 0)) p₂.m p₂.m p₂.we p₂.we) fun _ =>
  .op (.waitDma2 (sm (.fwd 1)) p₃.m p₃.m p₃.we p₃.we) fun _ =>
  .op (.waitDma2 (sm (.fwd 2)) p₄.m p₄.m p₄.we p₄.we) fun _ =>
  .op (.waitDma2 (sm .own) x.m p₁.m x.we p₁.we) fun _ => .ret ⟨⟩

variable (τ sig Val s e) in
/-- A gathering kernel: its shard, its slots, its semaphores, and every core's shard as the run finds it. -/
structure Site where
  x : Piece sig s e
  slot : Dev 8 → Piece sig s e
  sm : K → DmaSem sig
  inj : Function.Injective sm
  N : ℕ
  N_pos : 0 < N
  x_credit : x.m.view.dmaCredit = N
  slot_credit : ∀ b, (slot b).m.view.dmaCredit = N
  fx : (c : Dev 8) → Buf Val (x.m.view.loc (c.tc : Thread 8 τ))
  routes : ∀ c n : Dev 8, τ.routes (c.tc : Thread 8 τ) (n.tc : Thread 8 τ) = true

variable (G : Site τ sig Val s e)

local notation "𝕄" => MT 8 τ sig Unit Val ℕ (UU 8 τ sig) ℕ

/-- The five shares of the shard its five concurrent readers hold. -/
def q : Fin 4 → PosShare TreeShare := ![fullShare.left.left, fullShare.left.right, fullShare.right.left, fullShare.right.right.left]
def q' : PosShare TreeShare := fullShare.right.right.right

/-- Core `b`'s shard. -/
def Site.shard (b : Dev 8) : s.Idx → Val e := G.x.m.view.read Val (G.fx b)
/-- Core `c`'s own shard, at a share. -/
def Site.X (u : PosShare TreeShare) (c : Dev 8) : sProp 𝕄 := G.x.m.view.loc (c.tc : Thread 8 τ) ↦[G.x.m.view.set]{u} G.fx c
/-- Slot `b` of core `c`, at some contents; -/
def Site.E (b c : Dev 8) : sProp 𝕄 := iprop(∃ f, (G.slot b).m.view.loc (c.tc : Thread 8 τ) ↦[(G.slot b).m.view.set]{fullShare} f)
/-- and holding core `b`'s shard. -/
def Site.S (b c : Dev 8) : sProp 𝕄 :=
  iprop(∃ f, ⌜(G.slot b).m.view.read Val f = G.shard b⌝ ∗ ((G.slot b).m.view.loc (c.tc : Thread 8 τ) ↦[(G.slot b).m.view.set]{fullShare} f))

/-- The levels the semaphores are waited at: what is passed on is owed while what it came over is awaited. -/
def lvl : K → ℕ | .got _ => 1 | .fgot _ => 2 | _ => 0

def Site.plan : Plan 8 τ sig Val K where
  osem k := .dma (G.sm k)
  inj _ _ h := G.inj (by injection h)
  tgt | .got i => toward (near i) | .fgot _ => toward 1 | _ => Equiv.refl _
  far := far
  amt _ := G.N
  amt_pos _ := G.N_pos
  lvl := lvl
  pay c
    | .snd i => G.X (q i) c
    | .fwd j => G.S (toward (hop j) c) c
    | .got i => G.S (toward (near i) c) c
    | .fgot j => G.S (toward (over j) c) c
    | .own => iprop(G.S c c ∗ G.X q' c)
  storable c k := by
    cases k <;> dsimp only [Site.S, Site.X] <;> infer_instance

theorem Site.landed (b c : Dev 8) {f : Buf Val ((G.slot b).m.view.loc (c.tc : Thread 8 τ))} {w : s.Idx → Val e} (h : w = G.shard b) :
    ((G.slot b).m.view.loc (c.tc : Thread 8 τ) ↦[(G.slot b).m.view.set]{fullShare} ((G.slot b).m.view.write Val f w Finset.univ) : sProp 𝕄) ⊢ G.S b c := by
  subst h
  unfold Site.S
  iintro H
  iexists (G.slot b).m.view.write Val f (G.shard b) Finset.univ
  isplitr; · ipureintro; exact View.read_write_univ _ _
  iexact H

theorem Site.X_split (c : Dev 8) : (G.X fullShare c : sProp 𝕄) ⊢ iprop(G.X (q 0) c ∗ G.X (q 1) c ∗ G.X (q 2) c ∗ G.X (q 3) c ∗ G.X q' c) := by
  unfold Site.X
  iintro H
  ihave ⟨HL, HR⟩ := (pointsTo_share (PosShare.mem_left_op_right fullShare)).1 $$ H
  ihave ⟨H0, H1⟩ := (pointsTo_share (PosShare.mem_left_op_right fullShare.left)).1 $$ HL
  ihave ⟨H2, HR⟩ := (pointsTo_share (PosShare.mem_left_op_right fullShare.right)).1 $$ HR
  ihave ⟨H3, H4⟩ := (pointsTo_share (PosShare.mem_left_op_right fullShare.right.right)).1 $$ HR
  isplitl [H0]; · iexact H0
  isplitl [H1]; · iexact H1
  isplitl [H2]; · iexact H2
  isplitl [H3]; · iexact H3
  iexact H4

theorem Site.X_join (c : Dev 8) : iprop(G.X (q 0) c ∗ G.X (q 1) c ∗ G.X (q 2) c ∗ G.X (q 3) c ∗ G.X q' c) ⊢ (G.X fullShare c : sProp 𝕄) := by
  unfold Site.X
  iintro ⟨H0, H1, H2, H3, H4⟩
  iapply (pointsTo_share (PosShare.mem_left_op_right fullShare)).2
  isplitl [H0 H1]
  · iapply (pointsTo_share (PosShare.mem_left_op_right fullShare.left)).2
    isplitl [H0]; · iexact H0
    iexact H1
  iapply (pointsTo_share (PosShare.mem_left_op_right fullShare.right)).2
  isplitl [H2]; · iexact H2
  iapply (pointsTo_share (PosShare.mem_left_op_right fullShare.right.right)).2
  isplitl [H3]; · iexact H3
  iexact H4

/-- A family over the semaphores, one by one. -/
theorem all_K (Φ : K → sProp 𝕄) : bigSep Finset.univ Φ = iprop(Φ (.snd 0) ∗ Φ (.snd 1) ∗ Φ (.snd 2) ∗ Φ (.snd 3) ∗ Φ (.fwd 0) ∗ Φ (.fwd 1) ∗ Φ (.fwd 2)
    ∗ Φ (.got 0) ∗ Φ (.got 1) ∗ Φ (.got 2) ∗ Φ (.got 3) ∗ Φ (.fgot 0) ∗ Φ (.fgot 1) ∗ Φ (.fgot 2) ∗ Φ .own) :=
  bigSep_univ_eq_bigSepL (I := K) [.snd 0, .snd 1, .snd 2, .snd 3, .fwd 0, .fwd 1, .fwd 2, .got 0, .got 1, .got 2, .got 3, .fgot 0, .fgot 1, .fgot 2, .own]
    (by decide) (by decide) Φ
theorem all_far (Φ : K → sProp 𝕄) : bigSep far Φ = iprop(Φ (.got 0) ∗ Φ (.got 1) ∗ Φ (.got 2) ∗ Φ (.got 3) ∗ Φ (.fgot 0) ∗ Φ (.fgot 1) ∗ Φ (.fgot 2)) :=
  bigSep_eq_bigSepL_of_eq (I := K) [.got 0, .got 1, .got 2, .got 3, .fgot 0, .fgot 1, .fgot 2] (by decide) (by decide) Φ
/-- A family over the links, in the order a core's slots are filled. -/
theorem all_links (Φ : Fin 8 → sProp 𝕄) : bigSep Finset.univ Φ = iprop(Φ 0 ∗ Φ 1 ∗ Φ 4 ∗ Φ 2 ∗ Φ 6 ∗ Φ 5 ∗ Φ 3 ∗ Φ 7) :=
  bigSep_univ_eq_bigSepL (I := Fin 8) [0, 1, 4, 2, 6, 5, 3, 7] (by decide) (by decide) Φ

/-- The slots core `c` writes, on the cores it writes them on. -/
def Site.landing (c : Dev 8) : sProp 𝕄 :=
  iprop(G.E c c ∗ G.E c (toward (near 0) c) ∗ G.E c (toward (near 1) c) ∗ G.E c (toward (near 2) c) ∗ G.E c (toward (near 3) c)
    ∗ G.E (toward (hop 0) c) (toward 1 c) ∗ G.E (toward (hop 1) c) (toward 1 c) ∗ G.E (toward (hop 2) c) (toward 1 c))

/-- Which link slot `b`'s shard comes over: its sibling's for what it passes on. -/
def via : Fin 8 → Fin 8 := ![0, 1, 2, 1, 4, 1, 6, 1]

/-- Every core's slots, dealt to the cores that write them. -/
theorem Site.deal_slots : (bigSep Finset.univ fun c : Dev 8 => bigSep Finset.univ fun b : Dev 8 => G.E b c) ⊢ (bigSep Finset.univ G.landing : sProp 𝕄) := by
  have h (c : Dev 8) : (bigSep Finset.univ fun b : Dev 8 => G.E b c) = bigSep Finset.univ fun b : Fin 8 => G.E (toward b c) c := by
    rw [bigSep_univ_equiv (toward c) (fun b : Dev 8 => G.E b c)]
    exact bigSep_congr fun b _ => by rw [toward_comm]
  simp only [h]
  rw [around (τ := τ) (sig := sig) (Val := Val) (fun b => toward (via b)) Finset.univ fun b c => G.E (toward b c) c]
  refine bigSep_mono fun c _ => ?_
  rw [all_links]
  have e (b : Fin 8) (a : Fin 8) (h : a = b ^^^ via b) : toward b (toward (via b) c) = toward a c := by rw [toward_toward, h]
  rw [e 0 0 (by decide), e 1 0 (by decide), e 4 0 (by decide), e 2 0 (by decide), e 6 0 (by decide), e 5 4 (by decide), e 3 2 (by decide), e 7 6 (by decide), show via 0 = 0 from rfl, toward_zero]
  exact Idealize.SL.BI.Entails.refl (G.landing c)

/-- Every slot of core `c` filled. -/
def Site.filled (c : Dev 8) : sProp 𝕄 := bigSep Finset.univ fun b : Dev 8 => G.S b c
theorem Site.filled_eq (c : Dev 8) : G.filled c = iprop(G.S c c ∗ G.S (toward 1 c) c ∗ G.S (toward 4 c) c ∗ G.S (toward 2 c) c ∗ G.S (toward 6 c) c
    ∗ G.S (toward 5 c) c ∗ G.S (toward 3 c) c ∗ G.S (toward 7 c) c) := by
  unfold Site.filled
  rw [bigSep_univ_equiv (toward c) (fun b : Dev 8 => G.S b c), bigSep_congr (Ψ := fun b : Fin 8 => G.S (toward b c) c) (fun b _ => by rw [toward_comm]), all_links, toward_zero]

/-! ## The run of one core -/

section Steps

variable {Λ : Labels} {defs : Defs 8 τ sig Val Λ} (𝒱 : Variants) {α : Type} {Q : α → sProp (MT 8 τ sig Unit Val ℕ (UU 8 τ sig) ℕ)}
  (κ : Dev 8 × K → ℕ) {c : Dev 8}

/-- The shard sent over link `i`. -/
theorem Site.send (i : Fin 4) (T : Finset K) (hT : .got i ∈ T) {k : PUnit → Prog (TpuEff 8 τ sig Val Λ (c.tc : Thread 8 τ).2) α} {p : Piece sig s e} {n : Dev 8} (hn : n = toward (near i) c) (hpc : p = G.slot c) :
    records G.plan κ ⊢ iprop(G.X (q i) c -∗ G.E c (toward (near i) c) -∗ owing G.plan T c -∗ tok G.plan c (.snd i) -∗ tok G.plan c (.got i)
      -∗ ((due G.plan c (.snd i) ∗ owing G.plan (T.erase (.got i)) c) -∗ wp frame (wpE defs 𝒱 (c.tc : Thread 8 τ) none) Set.univ (k ⟨⟩) Q)
      -∗ wp frame (wpE defs 𝒱 (c.tc : Thread 8 τ) none) Set.univ
          (.op (.enqueueDma G.x.m (.remote (n.tc : Thread 8 τ) p.m (.dma (G.sm (.snd i))) p.sc) (.dma (G.sm (.got i))) G.x.we p.we ⟨⟨rfl, Or.inl rfl⟩, trivial⟩) k) Q) := by
  subst hn hpc
  unfold Site.X Site.E
  iintro #HR HX ⟨%f, HE⟩
  iapply (Talk.send G.plan 𝒱 κ (.snd i) (.got i) T (n := toward (near i) c) (fd := f) (sS := .dma (G.sm (.snd i))) (sR := .dma (G.sm (.got i))) rfl rfl rfl rfl hT (G.slot_credit c) rfl (BI.Entails.refl _)
    ((G.landed c _ rfl).trans (Entails.of_eq (by show G.S c _ = G.S (toward (near i) _) _; rw [near_self]))) (G.routes _ _)) $$ HR HX HE

/-- A shard passed on to the sibling. -/
theorem Site.pass (j : Fin 3) (T : Finset K) (hT : .fgot j ∈ T) {k : PUnit → Prog (TpuEff 8 τ sig Val Λ (c.tc : Thread 8 τ).2) α} {p : Piece sig s e} {n : Dev 8} (hn : n = toward 1 c) (hpc : p = G.slot (toward (hop j) c)) :
    records G.plan κ ⊢ iprop(G.S (toward (hop j) c) c -∗ G.E (toward (hop j) c) (toward 1 c) -∗ owing G.plan T c -∗ tok G.plan c (.fwd j) -∗ tok G.plan c (.fgot j)
      -∗ ((due G.plan c (.fwd j) ∗ owing G.plan (T.erase (.fgot j)) c) -∗ wp frame (wpE defs 𝒱 (c.tc : Thread 8 τ) none) Set.univ (k ⟨⟩) Q)
      -∗ wp frame (wpE defs 𝒱 (c.tc : Thread 8 τ) none) Set.univ
          (.op (.enqueueDma p.m (.remote (n.tc : Thread 8 τ) p.m (.dma (G.sm (.fwd j))) p.sc) (.dma (G.sm (.fgot j))) p.we p.we ⟨⟨rfl, Or.inl rfl⟩, trivial⟩) k) Q) := by
  subst hn hpc
  unfold Site.E
  iintro #HR HS ⟨%f, HE⟩
  unfold Site.S
  icases HS with ⟨%g, %hg, HS⟩
  iapply (Talk.send G.plan 𝒱 κ (.fwd j) (.fgot j) T (n := toward 1 c) (fd := f) (sS := .dma (G.sm (.fwd j))) (sR := .dma (G.sm (.fgot j))) rfl rfl rfl rfl hT (G.slot_credit _) rfl
    (by
      show _ ⊢ G.S (toward (hop j) c) c
      unfold Site.S
      iintro H
      iexists g
      isplitr; · ipureintro; exact hg
      iexact H)
    ((G.landed _ _ hg).trans (Entails.of_eq (by show G.S _ (toward 1 c) = G.S (toward (over j) (toward 1 c)) _; rw [over_sibling]))) (G.routes _ _)) $$ HR HS HE

/-- Core `c`'s own copy. -/
theorem Site.keep {k : PUnit → Prog (TpuEff 8 τ sig Val Λ (c.tc : Thread 8 τ).2) α} {p : Piece sig s e} (hpc : p = G.slot c) :
    records G.plan κ ⊢ iprop(G.X q' c -∗ G.E c c -∗ tok G.plan c .own
      -∗ (due G.plan c .own -∗ wp frame (wpE defs 𝒱 (c.tc : Thread 8 τ) none) Set.univ (k ⟨⟩) Q)
      -∗ wp frame (wpE defs 𝒱 (c.tc : Thread 8 τ) none) Set.univ (.op (.enqueueDma G.x.m (.here p.m) (.dma (G.sm .own)) G.x.we p.we ⟨Or.inl rfl, trivial⟩) k) Q) := by
  subst hpc
  unfold Site.X Site.E
  iintro #HR HX ⟨%f, HE⟩
  iapply (Talk.copy G.plan 𝒱 κ .own (fd := f) (sem := .dma (G.sm .own)) rfl rfl (G.slot_credit c) (by
    show _ ⊢ iprop(G.S c c ∗ G.X q' c)
    unfold Site.X
    exact sep_mono_left (G.landed c c rfl))) $$ HR HX HE

/-- A wait on semaphore `k'`. -/
theorem Site.await (k' : K) (T : Finset K) (hT : ∀ j ∈ T, lvl k' < lvl j) {P : sProp 𝕄} (hP : G.plan.pay c k' = P) {k : PUnit → Prog (TpuEff 8 τ sig Val Λ (c.tc : Thread 8 τ).2) α} {p r : Piece sig s e}
    (hr : r.m.view.dmaCredit = G.N) :
    records G.plan κ ⊢ iprop(levAts L (lv G.plan) -∗ due G.plan c k' -∗ owing G.plan T c -∗ pos G.plan c k'
      -∗ ((owing G.plan T c ∗ semVal (cell G.plan c k') 0 ∗ P) -∗ wp frame (wpE defs 𝒱 (c.tc : Thread 8 τ) none) Set.univ (k ⟨⟩) Q)
      -∗ wp frame (wpE defs 𝒱 (c.tc : Thread 8 τ) none) Set.univ (.op (.waitDma2 (G.sm k') p.m r.m p.we r.we) k) Q) :=
  hP ▸ Talk.wait G.plan 𝒱 κ k' T rfl hT hr

set_option maxHeartbeats 1000000 in
/-- The run of core `c`. -/
theorem Site.run (c : Dev 8) {p₁ p₂ p₃ p₄ p₅ p₆ p₇ p₈ : Piece sig s e} {n₁ n₂ n₃ n₄ n₅ n₆ n₇ : Dev 8}
    (hp₁ : p₁ = G.slot c) (hp₂ : p₂ = G.slot (toward 4 c)) (hp₃ : p₃ = G.slot (toward 2 c)) (hp₄ : p₄ = G.slot (toward 6 c))
    (hp₅ : p₅ = G.slot (toward 1 c)) (hp₆ : p₆ = G.slot (toward 5 c)) (hp₇ : p₇ = G.slot (toward 3 c)) (hp₈ : p₈ = G.slot (toward 7 c))
    (hn₁ : n₁ = toward 1 c) (hn₂ : n₂ = toward 4 c) (hn₃ : n₃ = toward 2 c) (hn₄ : n₄ = toward 6 c)
    (hn₅ : n₅ = toward 1 c) (hn₆ : n₆ = toward 1 c) (hn₇ : n₇ = toward 1 c) {Kt : PUnit → sProp 𝕄} :
    iprop(kit G.plan c ∗ levAts L (lv G.plan) ∗ owing G.plan far c ∗ G.X fullShare c ∗ G.landing c)
      ⊢ iprop(((owing G.plan ∅ c ∗ Pipeline.ownSems0 G.plan.osem c ∗ G.X fullShare c ∗ G.filled c) -∗ Kt ⟨⟩)
        -∗ wp frame (wpE defs 𝒱 (c.tc : Thread 8 τ) none) Set.univ (prog G.x p₁ p₂ p₃ p₄ p₅ p₆ p₇ p₈ G.sm n₁ n₂ n₃ n₄ n₅ n₆ n₇) Kt) := by
  unfold kit Site.landing prog
  rw [all_K, show G.plan.far = far from rfl, all_far]
  iintro ⟨⟨⟨%κ, #HR⟩, ⟨⟨Hts0, Hps0⟩, ⟨Hts1, Hps1⟩, ⟨Hts2, Hps2⟩, ⟨Hts3, Hps3⟩, ⟨Htf0, Hpf0⟩, ⟨Htf1, Hpf1⟩, ⟨Htf2, Hpf2⟩,
      ⟨Htg0, Hpg0⟩, ⟨Htg1, Hpg1⟩, ⟨Htg2, Hpg2⟩, ⟨Htg3, Hpg3⟩, ⟨Hth0, Hph0⟩, ⟨Hth1, Hph1⟩, ⟨Hth2, Hph2⟩, ⟨Hto, Hpo⟩⟩,
      ⟨Hdg0, Hdg1, Hdg2, Hdg3, Hdh0, Hdh1, Hdh2⟩⟩, #HL, HO, HX, ⟨Hown, He0, He1, He2, He3, Hf0, Hf1, Hf2⟩⟩ Hk
  ihave ⟨Hq0, Hq1, Hq2, Hq3, Hq⟩ := (G.X_split c) $$ HX
  -- the core's own copy, and the shard over the four links
  iapply (G.keep 𝒱 κ hp₁) $$ HR Hq Hown Hto
  iintro Hdo
  iapply (G.send 𝒱 κ 0 (far) (by decide) hn₁ hp₁) $$ HR Hq0 He0 HO Hts0 Htg0
  iintro ⟨Hds0, HO⟩
  iapply (G.send 𝒱 κ 1 (far.erase (.got 0)) (by decide) hn₂ hp₁) $$ HR Hq1 He1 HO Hts1 Htg1
  iintro ⟨Hds1, HO⟩
  iapply (G.send 𝒱 κ 2 ((far.erase (.got 0)).erase (.got 1)) (by decide) hn₃ hp₁) $$ HR Hq2 He2 HO Hts2 Htg2
  iintro ⟨Hds2, HO⟩
  iapply (G.send 𝒱 κ 3 (((far.erase (.got 0)).erase (.got 1)).erase (.got 2)) (by decide) hn₄ hp₁) $$ HR Hq3 He3 HO Hts3 Htg3
  iintro ⟨Hds3, HO⟩
  -- what arrives from the other chips, passed on
  iapply (G.await 𝒱 κ (.got 1) ((((far.erase (.got 0)).erase (.got 1)).erase (.got 2)).erase (.got 3)) (by decide) (P := G.S (toward (hop 0) c) c) rfl (by rw [hp₂]; exact G.slot_credit _)) $$ HR HL Hdg1 HO Hpg1
  iintro ⟨HO, Hzg1, Hr0⟩
  iapply (G.pass 𝒱 κ 0 ((((far.erase (.got 0)).erase (.got 1)).erase (.got 2)).erase (.got 3)) (by decide) hn₅ hp₂) $$ HR Hr0 Hf0 HO Htf0 Hth0
  iintro ⟨Hdf0, HO⟩
  iapply (G.await 𝒱 κ (.got 2) (((((far.erase (.got 0)).erase (.got 1)).erase (.got 2)).erase (.got 3)).erase (.fgot 0)) (by decide) (P := G.S (toward (hop 1) c) c) rfl (by rw [hp₃]; exact G.slot_credit _)) $$ HR HL Hdg2 HO Hpg2
  iintro ⟨HO, Hzg2, Hr1⟩
  iapply (G.pass 𝒱 κ 1 (((((far.erase (.got 0)).erase (.got 1)).erase (.got 2)).erase (.got 3)).erase (.fgot 0)) (by decide) hn₆ hp₃) $$ HR Hr1 Hf1 HO Htf1 Hth1
  iintro ⟨Hdf1, HO⟩
  iapply (G.await 𝒱 κ (.got 3) ((((((far.erase (.got 0)).erase (.got 1)).erase (.got 2)).erase (.got 3)).erase (.fgot 0)).erase (.fgot 1)) (by decide) (P := G.S (toward (hop 2) c) c) rfl (by rw [hp₄]; exact G.slot_credit _)) $$ HR HL Hdg3 HO Hpg3
  iintro ⟨HO, Hzg3, Hr2⟩
  iapply (G.pass 𝒱 κ 2 ((((((far.erase (.got 0)).erase (.got 1)).erase (.got 2)).erase (.got 3)).erase (.fgot 0)).erase (.fgot 1)) (by decide) hn₇ hp₄) $$ HR Hr2 Hf2 HO Htf2 Hth2
  iintro ⟨Hdf2, HO⟩
  ihave HO := (Entails.of_eq (congrArg (fun T => owing G.plan T c) (show ((((((far.erase (.got 0)).erase (.got 1)).erase (.got 2)).erase (.got 3)).erase (.fgot 0)).erase (.fgot 1)).erase (.fgot 2) = ∅ by decide))) $$ HO
  -- what the sibling sends and passes on
  iapply (G.await 𝒱 κ (.got 0) (∅) (by decide) (P := G.S (toward 1 c) c) rfl (by rw [hp₅]; exact G.slot_credit _)) $$ HR HL Hdg0 HO Hpg0
  iintro ⟨HO, Hzg0, Hrs⟩
  iapply (G.await 𝒱 κ (.fgot 0) (∅) (by decide) (P := G.S (toward 5 c) c) rfl (by rw [hp₆]; exact G.slot_credit _)) $$ HR HL Hdh0 HO Hph0
  iintro ⟨HO, Hzh0, Hv0⟩
  iapply (G.await 𝒱 κ (.fgot 1) (∅) (by decide) (P := G.S (toward 3 c) c) rfl (by rw [hp₇]; exact G.slot_credit _)) $$ HR HL Hdh1 HO Hph1
  iintro ⟨HO, Hzh1, Hv1⟩
  iapply (G.await 𝒱 κ (.fgot 2) (∅) (by decide) (P := G.S (toward 7 c) c) rfl (by rw [hp₈]; exact G.slot_credit _)) $$ HR HL Hdh2 HO Hph2
  iintro ⟨HO, Hzh2, Hv2⟩
  -- the core's own copies are over
  iapply (G.await 𝒱 κ (.snd 0) (∅) (by decide) (P := G.X (q 0) c) rfl G.x_credit) $$ HR HL Hds0 HO Hps0
  iintro ⟨HO, Hzs0, Hq0⟩
  iapply (G.await 𝒱 κ (.snd 1) (∅) (by decide) (P := G.X (q 1) c) rfl G.x_credit) $$ HR HL Hds1 HO Hps1
  iintro ⟨HO, Hzs1, Hq1⟩
  iapply (G.await 𝒱 κ (.snd 2) (∅) (by decide) (P := G.X (q 2) c) rfl G.x_credit) $$ HR HL Hds2 HO Hps2
  iintro ⟨HO, Hzs2, Hq2⟩
  iapply (G.await 𝒱 κ (.snd 3) (∅) (by decide) (P := G.X (q 3) c) rfl G.x_credit) $$ HR HL Hds3 HO Hps3
  iintro ⟨HO, Hzs3, Hq3⟩
  iapply (G.await 𝒱 κ (.fwd 0) (∅) (by decide) (P := G.S (toward 4 c) c) rfl (by rw [hp₂]; exact G.slot_credit _)) $$ HR HL Hdf0 HO Hpf0
  iintro ⟨HO, Hzf0, Hr0⟩
  iapply (G.await 𝒱 κ (.fwd 1) (∅) (by decide) (P := G.S (toward 2 c) c) rfl (by rw [hp₃]; exact G.slot_credit _)) $$ HR HL Hdf1 HO Hpf1
  iintro ⟨HO, Hzf1, Hr1⟩
  iapply (G.await 𝒱 κ (.fwd 2) (∅) (by decide) (P := G.S (toward 6 c) c) rfl (by rw [hp₄]; exact G.slot_credit _)) $$ HR HL Hdf2 HO Hpf2
  iintro ⟨HO, Hzf2, Hr2⟩
  iapply (G.await 𝒱 κ (.own) (∅) (by decide) (P := iprop(G.S c c ∗ G.X q' c)) rfl (by rw [hp₁]; exact G.slot_credit _)) $$ HR HL Hdo HO Hpo
  iintro ⟨HO, Hzo, ⟨Hown, Hq⟩⟩
  rw [wp_ret]
  imodintro
  iapply Hk
  isplitl [HO]; · iexact HO
  isplitl [Hzs0 Hzs1 Hzs2 Hzs3 Hzf0 Hzf1 Hzf2 Hzg0 Hzg1 Hzg2 Hzg3 Hzh0 Hzh1 Hzh2 Hzo]
  · unfold Pipeline.ownSems0
    rw [all_K]
    isplitl [Hzs0]; · iexact Hzs0
    isplitl [Hzs1]; · iexact Hzs1
    isplitl [Hzs2]; · iexact Hzs2
    isplitl [Hzs3]; · iexact Hzs3
    isplitl [Hzf0]; · iexact Hzf0
    isplitl [Hzf1]; · iexact Hzf1
    isplitl [Hzf2]; · iexact Hzf2
    isplitl [Hzg0]; · iexact Hzg0
    isplitl [Hzg1]; · iexact Hzg1
    isplitl [Hzg2]; · iexact Hzg2
    isplitl [Hzg3]; · iexact Hzg3
    isplitl [Hzh0]; · iexact Hzh0
    isplitl [Hzh1]; · iexact Hzh1
    isplitl [Hzh2]; · iexact Hzh2
    iexact Hzo
  isplitl [Hq Hq0 Hq1 Hq2 Hq3]
  · iapply (G.X_join c)
    isplitl [Hq0]; · iexact Hq0
    isplitl [Hq1]; · iexact Hq1
    isplitl [Hq2]; · iexact Hq2
    isplitl [Hq3]; · iexact Hq3
    iexact Hq
  rw [G.filled_eq]
  isplitl [Hown]; · iexact Hown
  isplitl [Hrs]; · iexact Hrs
  isplitl [Hr0]; · iexact Hr0
  isplitl [Hr1]; · iexact Hr1
  isplitl [Hr2]; · iexact Hr2
  isplitl [Hv0]; · iexact Hv0
  isplitl [Hv1]; · iexact Hv1
  iexact Hv2

end Steps

end Run

end Talk.Gather

end
-- ==== Proof.Tiles.lean ====
/- An array held in tiles.

   A family of tiles covers an array when every element of the array is one element of one tile. The array held
   whole is then the tiles held one by one, and tiles held at named contents are the array at the contents they
   put together. -/
module

public import Idealize.ShloMosaic.Lib.Pipeline.Launch
public import Idealize.ShloMosaic.Lib.Tactic
public import Idealize.ShloMosaic.Lib.ValueLayout

@[expose] public section

noncomputable section

namespace Talk

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

/-- Tiles `B`, of elements `J` each, covering an array of elements `I`. -/
structure Tiles (I B J : Type) where
  at_ : B → J → I
  tile : I → B
  elt : I → J
  at_tile : ∀ i, at_ (tile i) (elt i) = i
  tile_at : ∀ b j, tile (at_ b j) = b
  elt_at : ∀ b j, elt (at_ b j) = j

variable {ℓ : Loc nD τ sig} {B J : Type} [Fintype B] [DecidableEq B] (T : Tiles (Idx ℓ) B J)

/-- A tile as a set of the array's elements. -/
abbrev Tiles.Covers (K : B → Finset (Idx ℓ)) : Prop := ∀ b i, Iff (i ∈ K b) (T.tile i = b)

theorem Tiles.disjoint {K : B → Finset (Idx ℓ)} (h : T.Covers K) : ∀ t ∈ (Finset.univ : Finset B), ∀ t' ∈ (Finset.univ : Finset B), t ≠ t' → Disjoint (K t) (K t') :=
  fun t _ t' _ hne => Finset.disjoint_left.mpr fun i hi hi' => hne (((h t i).mp hi).symm.trans ((h t' i).mp hi'))

theorem Tiles.union {K : B → Finset (Idx ℓ)} (h : T.Covers K) : (Finset.univ : Finset B).biUnion K = Finset.univ :=
  Finset.eq_univ_iff_forall.mpr fun i => Finset.mem_biUnion.mpr ⟨T.tile i, Finset.mem_univ _, (h _ i).mpr rfl⟩

/-- The array cut into its tiles. -/
theorem Tiles.cut {K : B → Finset (Idx ℓ)} (h : T.Covers K) (f : Buf Val ℓ) :
    (ℓ ↦{fullShare} f : sProp 𝕄) = bigSep Finset.univ fun b => ℓ ↦[K b]{fullShare} f := by
  rw [← pointsTo_biUnion Finset.univ K (T.disjoint h), T.union h]

/-- The tiles put together. -/
theorem Tiles.join {K : B → Finset (Idx ℓ)} (h : T.Covers K) (g : Buf Val ℓ) :
    (bigSep Finset.univ fun b => iprop(∃ f : Buf Val ℓ, ⌜∀ j, f (T.at_ b j) = g (T.at_ b j)⌝ ∗ (ℓ ↦[K b]{fullShare} f)) : sProp 𝕄) ⊢ ℓ ↦{fullShare} g := by
  have e (b : B) : (iprop(∃ f : Buf Val ℓ, ⌜∀ j, f (T.at_ b j) = g (T.at_ b j)⌝ ∗ (ℓ ↦[K b]{fullShare} f)) : sProp 𝕄) ⊢ ℓ ↦[K b]{fullShare} g := by
    iintro ⟨%f, %hf, H⟩
    ihave H := (Entails.of_eq (pointsTo_congr (f := f) (g := g) fun i hi => by
      have := hf (T.elt i); rwa [← (h b i).mp hi, T.at_tile] at this)) $$ H
    iexact H
  rw [T.cut h g]
  exact bigSep_mono fun b _ => e b

/-- Tiles that a family of views reads cover the array. -/
theorem Tiles.covers_of_emb {B J I : Type} (T : Tiles I B J) [Fintype J] [DecidableEq I] {K : B → Finset I} {e : B → J ↪ I} (hK : ∀ b, K b = Finset.univ.map (e b)) (h : ∀ b j, e b j = T.at_ b j)
    (b : B) (i : I) : Iff (i ∈ K b) (T.tile i = b) := by
  rw [hK]
  constructor
  · intro hi
    obtain ⟨j, -, rfl⟩ := Finset.mem_map.mp hi
    rw [h, T.tile_at]
  · rintro rfl
    exact Finset.mem_map.mpr ⟨T.elt i, Finset.mem_univ _, (h _ _).trans (T.at_tile i)⟩

/-! ## Rows of a stack -/

/-- The `k` members of a stack of arrays of two axes. -/
def members (k n m : ℕ) : Tiles (⟨3, ![k, n, m]⟩ : Shape).Idx (Fin k) (⟨2, ![n, m]⟩ : Shape).Idx where
  at_ b j := ix3 b (j 0) (j 1)
  tile i := i 0
  elt i := ix2 (i 1) (i 2)
  at_tile i := (eq_ix3 i).symm
  tile_at _ _ := rfl
  elt_at _ j := (eq_ix2 j).symm

/-- Where a member's element lies in the stack. -/
theorem member_emb {k n m : ℕ} {κ : Kind} {sp : Space} {e : EltTy} (M : Memref sig κ sp ⟨3, ![k, n, m]⟩ e) (b : Fin k) {off : Fin 3 → ℕ} (hoff : off = ![b.val, 0, 0])
    (inb : ∀ a, off a + (![1, n, m] : Fin 3 → ℕ) a ≤ (![k, n, m] : Fin 3 → ℕ) a)
    (hq : (⟨3, ![1, n, m]⟩ : Shape).Squeezes ⟨2, ![n, m]⟩) (j : (⟨2, ![n, m]⟩ : Shape).Idx) :
    ((M.slice (Rect.unit (s := ⟨3, ![k, n, m]⟩) off ![1, n, m] inb) (fun _ => rfl)).squeeze ⟨2, ![n, m]⟩ hq).view.emb j
      = M.view.emb ((members k n m).at_ b j) := by
  subst hoff
  show M.view.emb ((Rect.unit (s := ⟨3, ![k, n, m]⟩) ![b.val, 0, 0] ![1, n, m] inb).emb (Shape.reshapeEquiv hq.numel_eq j)) = _
  refine congrArg M.view.emb (funext fun a => Fin.ext ?_)
  obtain ⟨x, y, rfl⟩ : ∃ x y, j = ix2 x y := ⟨j 0, j 1, eq_ix2 j⟩
  rw [reshapeEquiv_ix2_1ab]
  match a with
  | ⟨0, _⟩ => exact Nat.add_zero _
  | ⟨1, _⟩ => exact (Nat.zero_add _).trans (Nat.one_mul _)
  | ⟨2, _⟩ => exact (Nat.zero_add _).trans (Nat.one_mul _)

end Talk

end
-- ==== Proof.Weights.lean ====
/- The all-gather of the weights: the printed kernel is the straight-line program of `Proof.Gather`. -/
module

public import proofs.«01_k».proof.Proof.Solo
public import proofs.«01_k».proof.Proof.Gather
public import proofs.«01_k».proof.Proof.Tiles
public import proofs.«01_k».proof.Proof.Gen.KernelIdeal.Skeleton
public import proofs.«01_k».proof.Proof.Gen.KernelIdeal.Launch

@[expose] public section

noncomputable section

namespace Cert.KernelIdeal.Weights

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Talk.Gather

variable {F : FTy → Type} [FloatOps F]

/-! ## The memrefs -/

/-- The core's shard. -/
def shard : Piece sig S14400x128 .bf16 := ⟨Memref.whole main_arg0, (Memref.isWhole_whole main_arg0).wordExact, rfl⟩

/-- A slot of the output. -/
def slotAt (off : Fin 3 → ℕ) (inb : ∀ a, off a + S1x14400x128.size a ≤ S8x14400x128.size a)
    (ww : (Rect.unit (s := S8x14400x128) off S1x14400x128.size inb).WholeWords (EltTy.packing .bf16)) : Piece sig S14400x128 .bf16 where
  m := ((Memref.whole main_v1).slice (Rect.unit (s := S8x14400x128) off S1x14400x128.size inb) (fun _ => rfl)).squeeze S14400x128 squeezes_S1x14400x128_S14400x128
  we := ((Memref.isWhole_whole main_v1).wordExact_slice rfl _ ww).reshape _ _
  sc := rfl

theorem slotAt_eq {off off' : Fin 3 → ℕ} (h : off = off') (inb) (ww) (inb') (ww') : slotAt off inb ww = slotAt off' inb' ww' := by
  subst h; rfl

theorem off_inb (b : Dev 8) : ∀ a, (![b.val, 0, 0] : Fin 3 → ℕ) a + S1x14400x128.size a ≤ S8x14400x128.size a := by
  revert b; decide +kernel
theorem off_ww (b : Dev 8) : (Rect.unit (s := S8x14400x128) ![b.val, 0, 0] S1x14400x128.size (off_inb b)).WholeWords (EltTy.packing .bf16) := by
  revert b; decide +kernel
/-- Slot `b`. -/
def slot (b : Dev 8) : Piece sig S14400x128 .bf16 := slotAt ![b.val, 0, 0] (off_inb b) (off_ww b)

/-- The kernel's semaphores. -/
def sm : Talk.Gather.K → DmaSem sig
  | .snd i => (![0, 1, 2, 3] : Fin 4 → Fin 15) i
  | .fwd i => (![4, 5, 6] : Fin 3 → Fin 15) i
  | .got i => (![7, 8, 9, 10] : Fin 4 → Fin 15) i
  | .fgot i => (![11, 12, 13] : Fin 3 → Fin 15) i
  | .own => (14 : Fin 15)

theorem printed : cc0_ag_weights (F := F) (Memref.whole main_arg0) (Memref.isWhole_whole _) (Memref.whole main_v1) (Memref.isWhole_whole _) cc0_scratch0 cc0_scratch1 cc0_scratch2
    = .op .deviceId fun c => prog shard (slotAt (k0_off1 c) (k0_off1_inb c) (k0_off1_wordsbf16 c)) (slotAt (k0_off2 c) (k0_off2_inb c) (k0_off2_wordsbf16 c))
        (slotAt (k0_off3 c) (k0_off3_inb c) (k0_off3_wordsbf16 c)) (slotAt (k0_off4 c) (k0_off4_inb c) (k0_off4_wordsbf16 c))
        (slotAt (k0_off5 c) (k0_off5_inb c) (k0_off5_wordsbf16 c)) (slotAt (k0_off6 c) (k0_off6_inb c) (k0_off6_wordsbf16 c))
        (slotAt (k0_off7 c) (k0_off7_inb c) (k0_off7_wordsbf16 c)) (slotAt (k0_off8 c) (k0_off8_inb c) (k0_off8_wordsbf16 c)) sm
        ⟨k0_dev1 c, k0_dev1_lt c⟩ ⟨k0_dev2 c, k0_dev2_lt c⟩ ⟨k0_dev3 c, k0_dev3_lt c⟩ ⟨k0_dev4 c, k0_dev4_lt c⟩ ⟨k0_dev5 c, k0_dev5_lt c⟩ ⟨k0_dev6 c, k0_dev6_lt c⟩ ⟨k0_dev7 c, k0_dev7_lt c⟩ := by
  rw [cc0_ag_weights_eq_skeleton]; unfold cc0_ag_weights_skel
  rw [k0_part10_eq_skeleton]; unfold k0_part10_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret]
  rfl

/-- The slots and the cores the printed kernel names. -/
theorem slot_of (c b : Dev 8) {off : Fin 3 → ℕ} (h : off = ![b.val, 0, 0]) (inb) (ww) : slotAt off inb ww = slot b := slotAt_eq h ..

variable (m : (ℓ : Loc nD τ sig) → Buf (Elt F) ℓ) (ρ : Dev nD → PrngReg)

theorem credit (p q : Piece sig S14400x128 .bf16) : p.m.view.dmaCredit = q.m.view.dmaCredit := rfl

/-- The kernel as a gathering site. -/
def site : Site τ sig (Elt F) S14400x128 .bf16 where
  x := shard
  slot := slot
  sm := sm
  inj := by decide
  N := shard.m.view.dmaCredit
  N_pos := View.dmaCredit_pos _ (by decide)
  x_credit := rfl
  slot_credit b := credit _ _
  fx c := m ((c : Thread nD τ).loc main_arg0)
  routes := by decide

local notation "𝕄" => MT nD τ sig Unit (Elt F) ℕ (UU nD τ sig) ℕ

/-- What a core holds of memory around the kernel. -/
def pre (c : Dev nD) : sProp 𝕄 := iprop((site m).X fullShare c ∗ (site m).landing c)
def post (c : Dev nD) : sProp 𝕄 := iprop((site m).X fullShare c ∗ (site m).filled c)

theorem body (c : Dev nD) {defs' : Defs nD τ sig (Elt F) Λ₀} :
    iprop(kit (site m).plan c ∗ levAts L (lv (site m).plan) ∗ owing (site m).plan far c ∗ pre m c)
      ⊢ wp frame (wpE defs' Variants.none (c : Thread nD τ) none) Set.univ
          (cc0_ag_weights (F := F) (Memref.whole main_arg0) (Memref.isWhole_whole _) (Memref.whole main_v1) (Memref.isWhole_whole _) cc0_scratch0 cc0_scratch1 cc0_scratch2)
          fun _ => iprop(owing (site m).plan ∅ c ∗ ownSems0 (site m).plan.osem c ∗ post m c) := by
  rw [printed]
  simp only [wp_deviceId]
  unfold pre post
  iintro ⟨Hk, HL, HO, HX, HE⟩
  iapply ((site m).run Variants.none c
    (slot_of c _ (by rw [k0_off1_eq]; decide +revert) ..) (slot_of c _ (by rw [k0_off2_eq]; decide +revert) ..) (slot_of c _ (by rw [k0_off3_eq]; decide +revert) ..)
    (slot_of c _ (by rw [k0_off4_eq]; decide +revert) ..) (slot_of c _ (by rw [k0_off5_eq]; decide +revert) ..) (slot_of c _ (by rw [k0_off6_eq]; decide +revert) ..)
    (slot_of c _ (by rw [k0_off7_eq]; decide +revert) ..) (slot_of c _ (by rw [k0_off8_eq]; decide +revert) ..)
    (Fin.ext ((k0_dev1_eq c).trans (by decide +revert))) (Fin.ext ((k0_dev2_eq c).trans (by decide +revert))) (Fin.ext ((k0_dev3_eq c).trans (by decide +revert)))
    (Fin.ext ((k0_dev4_eq c).trans (by decide +revert))) (Fin.ext ((k0_dev5_eq c).trans (by decide +revert))) (Fin.ext ((k0_dev6_eq c).trans (by decide +revert)))
    (Fin.ext ((k0_dev7_eq c).trans (by decide +revert)))) $$ [Hk HL HO HX HE]
  · isplitl [Hk]; · iexact Hk
    isplitl [HL]; · iexact HL
    isplitl [HO]; · iexact HO
    isplitl [HX] <;> iassumption
  iintro H
  iexact H

/-! ## The memory around the run -/

/-- The output as the stack of its slots. -/
abbrev stack : Tiles S8x14400x128.Idx (Fin 8) S14400x128.Idx := members 8 14400 128

theorem covers : ∀ b i, Iff (i ∈ (slot b).m.view.set) (stack.tile i = b) :=
  stack.covers_of_emb (fun _ => rfl) fun b j => member_emb (Memref.whole main_v1) b rfl (off_inb b) squeezes_S1x14400x128_S14400x128 j

/-- The shards, one under the other. -/
def gathered : S8x14400x128.Idx → Elt F .bf16 := fun i => (site m).shard (stack.tile i) (stack.elt i)

theorem memory (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs; exact bigSep_eq_bigSepL_of_eq [main_arg0, main_v1] (by decide) (by decide) _

theorem X_whole (c : Dev nD) : (site m).X fullShare c = (((c : Thread nD τ).loc main_arg0) ↦{fullShare} m ((c : Thread nD τ).loc main_arg0) : sProp 𝕄) := by
  unfold Site.X
  rw [show (site m).x.m.view.set = Finset.univ from Finset.map_refl]
  rfl

theorem hmem : (bigSep Finset.univ fun c : Dev nD => unscopedBufs c (fun b => m ((c : Thread nD τ).loc b))) ⊢ (bigSep Finset.univ (pre m) : sProp 𝕄) := by
  have h (c : Dev nD) (_ : c ∈ (Finset.univ : Finset (Dev nD))) :
      (((c : Thread nD τ).loc main_v1) ↦{fullShare} m ((c : Thread nD τ).loc main_v1) : sProp 𝕄) ⊢ bigSep Finset.univ fun b => (site m).E b c := by
    rw [Tiles.cut (ℓ := (c : Thread nD τ).loc main_v1) stack covers]
    refine bigSep_mono fun b _ => ?_
    unfold Site.E
    show (_ : sProp 𝕄) ⊢ _
    iintro H
    iexists m ((c : Thread nD τ).loc main_v1)
    iexact H
  unfold pre
  simp only [memory, X_whole, bigSep_sep']
  iintro ⟨H0, H1⟩
  isplitl [H0]; · iexact H0
  iapply (site m).deal_slots
  iapply (show (bigSep Finset.univ fun c : Dev nD => (((c : Thread nD τ).loc main_v1) ↦{fullShare} m ((c : Thread nD τ).loc main_v1) : sProp 𝕄)) ⊢ _ from bigSep_mono h)
  iexact H1

theorem filled_whole (c : Dev nD) : (site m).filled c ⊢ (((c : Thread nD τ).loc main_v1) ↦{fullShare} gathered m : sProp 𝕄) := by
  refine BIBase.Entails.trans (bigSep_mono fun b _ => ?_) (Tiles.join (ℓ := (c : Thread nD τ).loc main_v1) stack covers (gathered m))
  unfold Site.S
  show (_ : sProp 𝕄) ⊢ _
  iintro ⟨%f, %hf, H⟩
  iexists f
  isplitr
  · ipureintro
    intro j
    refine (congrArg f (member_emb (Memref.whole main_v1) b rfl (off_inb b) squeezes_S1x14400x128_S14400x128 j).symm).trans ((congrFun hf j).trans ?_)
    show (site m).shard b j = (site m).shard (stack.tile (stack.at_ b j)) (stack.elt (stack.at_ b j))
    rw [stack.tile_at, stack.elt_at]
  · iexact H

/-! ## The run -/

def dats (p : Fin 1) (c : Dev nD) : Dat τ (Elt F) Unit ℕ (UU nD τ sig) ℕ (cfgs p) c := (site m).plan.dat cfg0 (pre m) (post m) c

abbrev adm : Dev nD → (p : Fin 1) → (pcfgs (F := F) p).Adm := fun _ p => (cfgs p).toPCfg_adm

theorem ownSemFacts : OwnSemFacts cfg0.spec (site m).plan.osem := by
  have h : OwnSemFacts cfg0.spec fun k : Talk.Gather.K => SemLoc.dma (sm k) := by decide
  exact h

/-- The kernel's region. -/
def region : First (pcfgs (F := F)) adm (dats m) () (defs₀ (F := F)) Variants.none L (lv (site m).plan) 0 :=
  (site m).plan.first (pcfgs (F := F)) adm (dats m) (defs₀ (F := F)) Variants.none 0 (hW := inferInstanceAs (IsEmpty (Fin 0))) (hP := inferInstanceAs (IsEmpty (Fin 0))) (fun _ => N_0)
    winFacts0.to₀ (ownSemFacts m) (pre m) (post m) (fun _ => rfl) fun c t => by
      rw [show scopedRest (pcfgs (F := F) 0).spec c = (BI.emp : sProp 𝕄) from scopedRest0_eq c]
      refine BIBase.Entails.trans ?_ ((body m c).trans (wp_mono _ _ _ fun _ => ?_))
      · iintro ⟨Hk, HL, HO, -, Hp⟩
        isplitl [Hk]; · iexact Hk
        isplitl [HL]; · iexact HL
        isplitl [HO]; · iexact HO
        iexact Hp
      · show (_ : sProp 𝕄) ⊢ _
        iintro ⟨HO, Hz, Hp⟩
        isplitl [HO]; · iexact HO
        isplitl [Hz]; · iexact Hz
        isplitr; · iempintro
        iexact Hp

/-- What a core's memory holds at the end: its shard unchanged, and every core's shard in the output. -/
def QY (c : Dev nD) (s : MemSt nD τ sig (Elt F)) : Prop :=
  s.mem ((c : Thread nD τ).loc main_v1) = gathered m ∧ s.mem ((c : Thread nD τ).loc main_arg0) = m ((c : Thread nD τ).loc main_arg0)

theorem hfin (c : Dev nD) (s' : Phys nD τ sig (Elt F)) : iprop(post m c ∗ SI s') ⊢ (|={Set.univ}=> iprop(⌜QY m c s'.mem⌝ ∗ SI s') : sProp 𝕄) := by
  unfold post
  rw [X_whole]
  iintro ⟨⟨HX, HF⟩, HS⟩
  ihave HF := (filled_whole m c) $$ HF
  icombine HS HX gives %hX
  icombine HS HF gives %hF
  imodintro
  isplitr
  · ipureintro
    exact ⟨funext fun i => hF i (Finset.mem_univ _), funext fun i => hX i (Finset.mem_univ _)⟩
  iexact HS

/-- Every execution ends with every core holding all the shards, its own unchanged and every semaphore at zero. -/
theorem run_main : θ_run defs (onTc (τ := τ) (main (F := F))) ⟨m, fun _ => 0, ρ⟩ fun r => (∀ c : Dev nD, QY m c r.2) ∧ r.2.sem = fun _ => 0 :=
  run_first (pcfgs (F := F)) adm (dats m) () cellOf_inj EP (defs₀ (F := F)) Variants.none L (lv (site m).plan) m ρ main (region m) (fun _ => [])
    (fun _ => rfl) (fun _ => List.not_mem_nil) (fun _ => List.nodup_nil) (owe (site m).plan far) L_of_ne (Talk.G (site m).plan) _ ((site m).plan.fund (pcfgs (F := F)) adm cellOf_inj)
    (post m) (fun _ => BI.Entails.refl _) ((site m).plan.enter m ρ (pre m) (hmem m)) (QY m) (hfin m)
    fun s h hs => ⟨h, sem_eq_zero_of_scoped (by decide) hs⟩

end Cert.KernelIdeal.Weights

end
-- ==== Proof.WeightsValue.lean ====
/- The value of the gathered weights: the reference's reshape of the whole array. -/
module

public import proofs.«01_k».proof.Proof.Weights
public import proofs.«01_k».proof.Proof.Gen.ReferenceIdeal
public import Idealize.ShloMosaic.Lib.Layout
public import Idealize.ShloMosaic.Lib.Claim
public import Idealize.ShloMosaic.Lib.Pipeline.Value

@[expose] public section

noncomputable section

namespace Cert.ReferenceIdeal.Weights

open Cert.ReferenceIdeal
open Idealize.ShloMosaic Idealize.ShloMosaic.TcCoe Idealize.ShloMosaic.ValueIdx Idealize.SL.Sem

variable {F : FTy → Type} [FloatOps F]

variable (m : (ℓ : Loc nD τ sig) → Buf (Elt F) ℓ) (ρ : Dev nD → PrngReg)

/-- The whole array cut in the eight shards' rows. -/
def cut : S8x14400x128.Idx → Elt F .bf16 := shapeCast S8x14400x128 (m ((0 : Dev nD).tc.loc main_arg0)) (by decide)

/-- The reference's run. -/
theorem run_main : θ_run defs (onTc (τ := τ) (main (F := F))) ⟨m, fun _ => 0, ρ⟩ fun r =>
    r.2.mem ((0 : Dev nD).tc.loc main_v0) = cut m ∧ r.2.mem ((0 : Dev nD).tc.loc main_arg0) = m ((0 : Dev nD).tc.loc main_arg0) := by
  hlo_run
  rfl

/-- The reference ends with its argument unchanged and every semaphore at zero. -/
theorem frame : θ_run defs (onTc (τ := τ) (main (F := F))) ⟨m, fun _ => 0, ρ⟩ fun r =>
    (∀ c : Dev nD, r.2.mem (c.tc.loc main_arg0) = m (c.tc.loc main_arg0)) ∧ r.2.sem = fun _ => 0 :=
  (θ_run defs _ _).mono (fun r h => ⟨fun c => by rw [show c = 0 from Subsingleton.elim _ _]; exact h.2, sem_eq_zero_of_no_sems (by decide) r.2⟩) (run_main m ρ)

/-- Where the shards are the whole array's blocks, the shards one under the other are the whole array cut. -/
theorem gathered_eq (mk : (ℓ : Loc Cert.KernelIdeal.nD Cert.KernelIdeal.τ Cert.KernelIdeal.sig) → Buf (Elt F) ℓ)
    (hagree : ∀ c : Dev Cert.KernelIdeal.nD, mk (c.tc.loc Cert.KernelIdeal.main_arg0) = Layout.block ⟨2, ![14400, 128]⟩ ⟨2, ![115200, 128]⟩ 0 8 c (m ((0 : Dev nD).tc.loc main_arg0))) :
    Cert.KernelIdeal.Weights.gathered mk = cut m := by
  funext i
  obtain ⟨b, r, l, rfl⟩ : ∃ b r l, i = ix3 b r l := ⟨i 0, i 1, i 2, eq_ix3 i⟩
  refine (congrFun (hagree b) (ix2 r l)).trans ?_
  rw [Layout.block_apply]
  refine (shapeCast_apply _ _ _ _ ?_).symm
  rw [Shape.rowMajor_val_two, Shape.rowMajor_val_three]
  rfl

end Cert.ReferenceIdeal.Weights

end
-- ==== Proof.Quiet.lean ====
/- A talking region, a line of host operations, and a region that talks to nobody.

   After the first region a core holds all its arrays whole, at a valuation. The host operations take the valuation
   to another, and the second region, entered from that one, leaves its results in it. The tables the second region
   prefetches are among the arrays, so each core may have its own. -/
module

public import proofs.«01_k».proof.Proof.Solo
public import Idealize.ShloMosaic.Lib.Pipeline.RegionArraysTS
public import Idealize.ShloMosaic.Lib.Pipeline.FrameBody

@[expose] public section

noncomputable section

namespace Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels} {P : Type} [Fintype P] [DecidableEq P]
variable {K : Type} [Fintype K] [DecidableEq K] (pl : Plan nD τ sig Val K)

local notation "𝕄" => MT nD τ sig Unit Val ℕ (UU nD τ sig) ℕ

variable (pcs : P → PCfg sig Λ₀ Val) (a : Dev nD → (p : P) → (pcs p).Adm)
  (pdats : (p : P) → (c : Dev nD) → Dat τ Val Unit ℕ (UU nD τ sig) ℕ (pinD pcs a c p) c)
  (phinj : Function.Injective (PerCore.cellOf (nD := nD) (τ := τ) (pinD pcs a)))
  (defs₀ : Defs nD τ sig Val Λ₀) (𝒱₀ : Variants)

/-- What a region that talks to nobody has to show: how it is laid out, its body, and that its proof data start from the
    valuation `W`, which has the tables. -/
structure Still (p : P) (W : Dev nD → Valuation τ sig Val) : Prop where
  win : WinFacts (pcs p).spec
  pre : PreFacts (pcs p).spec (pcs p).pre
  block_pos : ∀ w : Fin (pcs p).W, 0 < ((pcs p).spec w).block.numel
  arr_whole : ∀ w : Fin (pcs p).W, ((pcs p).spec w).arr.IsWhole
  stage_whole : ∀ (w : Fin (pcs p).W) (s : Fin ((pcs p).spec w).nbuf), (((pcs p).spec w).stage s).IsWhole
  body : ∀ c, BodyObligationLoose (pdats p c) defs₀ 𝒱₀ () Set.univ
  owed : ∀ c t, (pdats p c).owed t = 0
  recorded : ∀ c, (pdats p c).recorded 0 = Set.univ
  share : ∀ c w, (pdats p c).share w = fullShare
  inv : ∀ c t, (pdats p c).Φ t = iprop(scopedRest (pcs p).spec c ∗ prefHeld (pcs p).pre c (fun _ => fullShare) (a c p).1)
  starts : ∀ c w, (pdats p c).A w = W c (Proc.devRef .tc (arrRef (pcs p).spec w))
  tables : ∀ c k, (a c p).1 k = W c (Proc.devRef .tc ((pcs p).pre.ref k))

variable {pcs a pdats defs₀ 𝒱₀}
variable {p : P} {W : Dev nD → Valuation τ sig Val} (S : Still pcs a pdats defs₀ 𝒱₀ p W)

/-- The rest of a core's arrays: neither a window's nor a table. -/
abbrev others (pcs : P → PCfg sig Λ₀ Val) (p : P) : Finset (DevRef τ sig) := (ucRefs τ sig \ arrRefs (pcs p).spec) \ tblRefs (pcs p).pre

include S in
omit [Fintype P] [DecidableEq P] in
/-- The windows' arrays, held at a valuation. -/
theorem Still.arrays (c : Dev nD) (G : (w : Fin (pinD pcs a c p).W) → Buf Val (((pinD pcs a c p).win w).arr.view.loc (c.tc : Thread nD τ))) (V : Valuation τ sig Val)
    (hG : ∀ w, G w = V (Proc.devRef .tc (arrRef (pcs p).spec w))) :
    ((pdats p c).arrays G : sProp 𝕄) = StableHlo.held (c.tc : Thread nD τ) (arrRefs (pcs p).spec) V := by
  rw [PerCore.arrays_eq (pinD pcs a) pdats p c S.arr_whole (S.share c) G]
  unfold StableHlo.held arrRefs
  rw [bigSep_map, show Finset.univ.image (arrRef (pcs p).spec) = Finset.univ.map ⟨arrRef (pcs p).spec, S.win.arr_inj⟩ from
    (Finset.map_eq_image ⟨arrRef (pcs p).spec, S.win.arr_inj⟩ Finset.univ).symm, bigSep_map]
  exact bigSep_congr fun w _ => by rw [hG]; rfl

include S in
omit [Fintype P] [DecidableEq P] in
/-- All a core's arrays: the windows', the tables and the others. -/
theorem Still.split (c : Dev nD) (V : Valuation τ sig Val) :
    (StableHlo.held (c.tc : Thread nD τ) (ucRefs τ sig) V : sProp 𝕄)
      = iprop(StableHlo.held (c.tc : Thread nD τ) (arrRefs (pcs p).spec) V ∗ StableHlo.held (c.tc : Thread nD τ) (tblRefs (pcs p).pre) V
          ∗ StableHlo.held (c.tc : Thread nD τ) (others pcs p) V) := by
  rw [StableHlo.held_sub_split (c.tc : Thread nD τ) (arrRefs_sub_ucRefs (pcs p).spec S.win.arr_unscoped) V,
    StableHlo.held_sub_split (c.tc : Thread nD τ) (tblRefs_sub_ucRefs_sdiff (pcs p).spec (pcs p).pre S.pre.unscoped S.pre.disj) V]

/-- The region: from all the arrays at `W c` to all of them at what the region leaves. -/
def Still.region (L : GSem nD τ sig → Finset Unit) (lv : GSem nD τ sig → Unit → ℕ) : PerCore.RegionSeg pcs a pdats () defs₀ 𝒱₀ L lv p where
  win := S.win.to₀
  block_pos := S.block_pos
  stage_whole := S.stage_whole
  K := PEmpty
  osem k := k.elim
  ho := OwnSemFacts.none _
  hbody := S.body
  hwaits := PerCore.hwaits_of_owed_zero _ _ _ _ _ _ _ S.owed
  pre c := iprop(StableHlo.held (c.tc : Thread nD τ) (ucRefs τ sig) (W c) ∗ ∃ O, owes (c.tc : Thread nD τ) (0 : CellTallies nD τ sig Unit) O)
  post c := iprop(StableHlo.held (c.tc : Thread nD τ) (ucRefs τ sig) (afterRegion (pdats p c) (W c)) ∗ ∃ O, owes (c.tc : Thread nD τ) (0 : CellTallies nD τ sig Unit) O)
  X _ := iprop(emp)
  Y c := prefHeld (pcs p).pre c (fun _ => fullShare) (a c p).1
  Z c := StableHlo.held (c.tc : Thread nD τ) (others pcs p) (W c)
  hentry c := by
    rw [ownSems0_none, S.split c (W c), S.arrays c ((pdats p c).arrAt · 0) (W c) (S.starts c),
      prefHeld_held (pcs p).pre S.pre.inj c (a c p).1 (W c) (S.tables c)]
    iintro ⟨⟨⟨Ha, Ht, Hr⟩, HO⟩, -, -⟩
    imodintro
    isplitl [Ha]; · iexact Ha
    isplitl [Ht]; · iexact Ht
    isplitl [HO]
    · unfold Dat.owesAt owesWithin Dat.bound
      rw [S.owed c 0, S.recorded c]
      icases HO with ⟨%O, HO⟩; iexists O; isplitr; · ipureintro; exact fun _ _ => Or.inl trivial
      iexact HO
    isplitr; · iempintro
    iexact Hr
  hin c := by
    rw [S.inv]
    iintro ⟨-, Ht, Hs⟩
    isplitl [Hs] <;> iassumption
  hout c := by
    rw [S.inv, ownSems0_none]
    iintro ⟨Hs, Ht⟩
    isplitl [Ht]; · iexact Ht
    isplitr; · iempintro
    iexact Hs
  hexit c := by
    have hout (w) : (pdats p c).arrAt w (pinD pcs a c p).N = afterRegion (pdats p c) (W c) (Proc.devRef .tc (arrRef (pcs p).spec w)) :=
      (afterRegion_arr (pdats p c) (W c) S.win.arr_inj w).symm
    have htab (k) : (a c p).1 k = afterRegion (pdats p c) (W c) (Proc.devRef .tc ((pcs p).pre.ref k)) :=
      (S.tables c k).trans (afterRegion_of_not_arr (pdats p c) (W c) (S.pre.disj k)).symm
    rw [S.split c (afterRegion (pdats p c) (W c)), S.arrays c ((pdats p c).arrAt · (pinD pcs a c p).N) (afterRegion (pdats p c) (W c)) hout,
      prefHeld_held (pcs p).pre S.pre.inj c (a c p).1 (afterRegion (pdats p c) (W c)) htab,
      StableHlo.held_congr (c.tc : Thread nD τ) (S := others pcs p) (V := afterRegion (pdats p c) (W c)) (V' := W c)
        (fun b hb => afterRegion_off (pdats p c) (W c) (ucRefs τ sig) b (Finset.mem_sdiff.mp hb).1)]
    iintro ⟨Ha, HO, Ht, Hr⟩
    imodintro
    isplitr [HO]
    · isplitl [Ha]; · iexact Ha
      isplitl [Ht] <;> iassumption
    unfold Dat.owesAt owesWithin
    rw [S.owed c (Fin.last _)]
    icases HO with ⟨%O, -, HO⟩; iexists O; iexact HO

/-- What a core's arrays hold at the end. -/
def Ends (pdats : (p : P) → (c : Dev nD) → Dat τ Val Unit ℕ (UU nD τ sig) ℕ (pinD pcs a c p) c) (p : P) (W : Dev nD → Valuation τ sig Val) (c : Dev nD) (s : MemSt nD τ sig Val) : Prop :=
  ∀ b ∈ ucRefs τ sig, s.mem (c, b) = afterRegion (pdats p c) (W c) b

include S phinj in
/-- The run of the whole: the first region, of the plan's body, leaves every core's arrays at `V`; the host operations
    `ops` take them to `W`, from which the second region starts. -/
theorem Still.run [∀ e, Nonempty (Val e)] (m : (ℓ : Loc nD τ sig) → Buf Val ℓ) (g : Dev nD → PrngReg)
    (main : Dev nD → Prog (TpuEff nD τ sig Val (Sig Λ₀ P fun p => (pcs p).Adm) .tc) PUnit)
    {p₀ : P} (hp : p₀ ≠ p) [hW : IsEmpty (Fin (pcs p₀).W)] [hP : IsEmpty (Fin (pcs p₀).pre.K)] (hN : ∀ c, (pinD pcs a c p₀).N = 1)
    (win : WinFacts₀ (pcs p₀).spec) (ho : OwnSemFacts (pcs p₀).spec pl.osem) (pre post : Dev nD → sProp 𝕄)
    (hd : ∀ c, pdats p₀ c = pl.dat (pinD pcs a c p₀) (hw := hW) pre post c)
    (hbody : ∀ (c : Dev nD) (t : Fin (pinD pcs a c p₀).N), iprop(kit pl c ∗ levAts L (lv pl) ∗ owing pl pl.far c ∗ pre c)
      ⊢ wp frame (wpE defs₀ 𝒱₀ (c.tc : Thread nD τ) none) Set.univ (defs₀ .tc (pinD pcs a c p₀).body ((pinD pcs a c p₀).bodyArgs t ((pinD pcs a c p₀).slots t)))
          fun _ => iprop(owing pl ∅ c ∗ ownSems0 pl.osem c ∗ post c))
    (ops : Dev nD → List (HloOp τ sig Val)) (hops : ∀ c, ∀ op ∈ ops c, op.bufs ⊆ StableHlo.tcRefs τ sig) (hfresh : ∀ c, ∀ op ∈ ops c, op.fresh = ∅)
    (hmain : ∀ c, main c = Pipeline.chain [Prog.lift (.customCall (entry p₀) ()), StableHlo.seq (ops c), Prog.lift (.customCall (entry p) ())])
    (V : Dev nD → Valuation τ sig Val) (hVW : ∀ c, W c = StableHlo.after (ops c) (V c))
    (hmem : (bigSep Finset.univ fun c : Dev nD => StableHlo.held (c.tc : Thread nD τ) (ucRefs τ sig) fun b => m (c, b)) ⊢ (bigSep Finset.univ pre : sProp 𝕄))
    (hleft : ∀ c, post c ⊢ (StableHlo.held (c.tc : Thread nD τ) (ucRefs τ sig) (V c) : sProp 𝕄))
    (hsem : ∀ sm : SemLoc sig, sm.isScoped .tc = true) :
    θ_run (Pipeline.defs pcs defs₀) (onTc main) ⟨m, fun _ => 0, g⟩ fun r => (∀ c, Ends pdats p W c r.2) ∧ r.2.sem = fun _ => 0 := by
  have hfirst (c : Dev nD) (t : Fin (pinD pcs a c p₀).N) : iprop(kit pl c ∗ levAts L (lv pl) ∗ owing pl pl.far c ∗ scopedRest (pcs p₀).spec c ∗ pre c)
      ⊢ wp frame (wpE defs₀ 𝒱₀ (c.tc : Thread nD τ) none) Set.univ (defs₀ .tc (pinD pcs a c p₀).body ((pinD pcs a c p₀).bodyArgs t ((pinD pcs a c p₀).slots t)))
          fun _ => iprop(owing pl ∅ c ∗ ownSems0 pl.osem c ∗ scopedRest (pcs p₀).spec c ∗ post c) := by
    refine BIBase.Entails.trans ?_ ((sep_mono_left (hbody c t)).trans ((wp_frame_r frame _ _ (R := scopedRest (pcs p₀).spec c)).trans (wp_mono _ _ _ fun _ => ?_)))
    · iintro ⟨Hk, HL, HO, Hs, Hp⟩
      isplitr [Hs]
      · isplitl [Hk]; · iexact Hk
        isplitl [HL]; · iexact HL
        isplitl [HO] <;> iassumption
      iexact Hs
    · iintro ⟨⟨HO, Hz, Hp⟩, Hs⟩
      isplitl [HO]; · iexact HO
      isplitl [Hz]; · iexact Hz
      isplitl [Hs] <;> iassumption
  let tail : Dev nD → List (PerCore.Seg pcs a pdats () defs₀ 𝒱₀ L (lv pl)) := fun c =>
    [.host (HostSeg.ofOps pcs defs₀ 𝒱₀ L (lv pl) (ucRefs τ sig) (ops c) (fun op h => sub_ucRefs op (hops c op h)) (hfresh c) V
        fun c => iprop(∃ O, owes (c.tc : Thread nD τ) (0 : CellTallies nD τ sig Unit) O)),
      .region (S.region L (lv pl))]
  refine run_first pcs a pdats () phinj EP defs₀ 𝒱₀ L (lv pl) m g main (pl.first pcs a pdats defs₀ 𝒱₀ p₀ hN win ho pre post hd hfirst) tail
    (fun c => (hmain c).trans (by rw [PerCore.Seg.run_eq_chain]; rfl)) (fun c h => hp (List.mem_singleton.mp h)) (fun c => List.nodup_singleton _)
    (owe pl pl.far) L_of_ne (Talk.G pl) _ (pl.fund pcs a phinj)
    (fun c => StableHlo.held (c.tc : Thread nD τ) (ucRefs τ sig) (afterRegion (pdats p c) (W c)))
    (fun c => ⟨?_, ?_, BI.Entails.refl _⟩)
    (pl.enter m g pre ?_) (Ends pdats p W) (fun c s' => ?_) fun s h hs => ⟨h, sem_eq_zero_of_scoped hsem hs⟩
  · show iprop(post c ∗ _) ⊢ iprop(_ ∗ _)
    iintro ⟨Hp, HO⟩
    isplitl [Hp]; · iapply (hleft c); iexact Hp
    iexact HO
  · show iprop(StableHlo.held _ _ _ ∗ _) ⊢ iprop(_ ∗ _)
    rw [hVW c]
  · refine BIBase.Entails.trans (bigSep_mono fun c _ => ?_) hmem
    exact Entails.of_eq (unscopedBufs_held c fun b => m (c, b))
  · unfold StableHlo.held
    iintro ⟨Hh, HS⟩
    ihave H := (pointsTo_read_all (ucRefs τ sig) (fun b => ((c.tc : Thread nD τ).1, b)) (afterRegion (pdats p c) (W c)) s') $$ [Hh HS]
    · isplitl [Hh] <;> iassumption
    icases H with ⟨%h, HS⟩
    imodintro
    isplitr
    · ipureintro; exact h
    iexact HS

/-- The staging cells are distinct whatever each core's tables hold: they are named by the windows alone. -/
theorem cells_distinct (pcs : P → PCfg sig Λ₀ Val) (a : Dev nD → (p : P) → (pcs p).Adm) (tab : P → List (DmaSem sig)) (htab : ∀ p, specSems (pcs p).spec = tab p)
    (hd : ∀ p, (tab p).Nodup) (hx : ∀ p p', p ≠ p' → (tab p).Forall (· ∉ tab p')) :
    Function.Injective (PerCore.cellOf (nD := nD) (τ := τ) (pinD pcs a)) :=
  PerCore.cellOf_injective (pinD pcs a) (fun _ p => specSemsDistinct_of_nodup (pcs p).spec ((htab p).symm ▸ hd p)) fun _ p p' h =>
    specSemsDisjoint_of_disjoint (pcs p).spec (pcs p').spec
      ((htab p).symm ▸ (htab p').symm ▸ fun _ hd hd' => List.forall_iff_forall_mem.1 (hx p p' h) _ hd hd')

omit [Fintype P] [DecidableEq P] in
/-- An input whose blocks the body leaves alone holds its block whenever a point starts. -/
theorem steady {cfg : Cfg sig Λ₀} {c : Dev nD} (dat : Dat τ Val Unit ℕ (UU nD τ sig) ℕ cfg c) (w : Fin cfg.W) (x : Fin cfg.N → (cfg.win w).block.Idx → Val (cfg.win w).elt)
    (hw : (cfg.win w).isOut = false) (hlive : ∀ i, cfg.idle w i = false)
    (hclip : ∀ t t' : Fin cfg.N, (cfg.win w).index t = (cfg.win w).index t' → (cfg.win w).clip (cfg.grid.coords t) = (cfg.win w).clip (cfg.grid.coords t'))
    (hafter : ∀ t, dat.after w t = x t) (hcut : ∀ t, (cfg.win w).cut (cfg.grid.coords t) (x t) = dat.blockOf w t)
    (hfill : ∀ t d, (cfg.win w).fill (cfg.grid.coords t) d (dat.blockOf w t) = x t) (t : Fin cfg.N) (d) : dat.before w t d = x t :=
  (dat.before_in_eq_fetched w hw hlive hclip (fun t => by rw [hafter, hcut]) t d).trans (hfill t d)

end Talk

end
-- ==== Proof.Swap.lean ====
/- Cores that exchange pieces: each sends one piece over each of `n` links and receives one over each.

   A link pairs the cores off, so what a core receives over a link is what the core across it sends. All the sends
   start before the first wait, so a core that waits owes nothing. -/
module

public import proofs.«01_k».proof.Proof.Gather
public import proofs.«01_k».proof.Proof.Quiet

@[expose] public section

noncomputable section

namespace Talk.Swap

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk.Gather (Piece)

/-- A core's semaphores: of its send and of its receipt over each link. -/
abbrev K (n : ℕ) : Type := Fin n ⊕ Fin n
abbrev K.snd {n : ℕ} (i : Fin n) : K n := .inl i
abbrev K.got {n : ℕ} (i : Fin n) : K n := .inr i
/-- The receipts, owed by the cores across the links. -/
def far (n : ℕ) : Finset (K n) := Finset.univ.map ⟨Sum.inr, Sum.inr_injective⟩

variable {τ : Topo} {sig : RefSig} {Val : EltTy → Type} {s : Shape} {e : EltTy} {n : ℕ}

variable (τ sig Val s e n) in
/-- An exchange: the piece each core sends over each link, where what comes over a link lands, the semaphores, the
    links, and the contents the run finds. -/
structure Site where
  src : Dev 8 → Fin n → Piece sig s e
  dst : Fin n → Piece sig s e
  sm : K n → DmaSem sig
  inj : Function.Injective sm
  across : Fin n → Dev 8 ≃ Dev 8
  across_across : ∀ i c, across i (across i c) = c
  N : ℕ
  N_pos : 0 < N
  src_credit : ∀ c i, (src c i).m.view.dmaCredit = N
  dst_credit : ∀ i, (dst i).m.view.dmaCredit = N
  fx : (c : Dev 8) → (i : Fin n) → Buf Val ((src c i).m.view.loc (c.tc : Thread 8 τ))
  routes : ∀ c n : Dev 8, τ.routes (c.tc : Thread 8 τ) (n.tc : Thread 8 τ) = true

variable (G : Site τ sig Val s e n)

local notation "𝕄" => MT 8 τ sig Unit Val ℕ (UU 8 τ sig) ℕ

/-- What core `b` sends over link `i`. -/
def Site.sent (b : Dev 8) (i : Fin n) : s.Idx → Val e := (G.src b i).m.view.read Val (G.fx b i)
/-- Core `c`'s piece for link `i`. -/
def Site.X (i : Fin n) (c : Dev 8) : sProp 𝕄 := (G.src c i).m.view.loc (c.tc : Thread 8 τ) ↦[(G.src c i).m.view.set]{fullShare} G.fx c i
/-- Where core `c` receives over link `i`, at some contents; -/
def Site.E (i : Fin n) (c : Dev 8) : sProp 𝕄 := iprop(∃ f, (G.dst i).m.view.loc (c.tc : Thread 8 τ) ↦[(G.dst i).m.view.set]{fullShare} f)
/-- and holding what the core across the link sent. -/
def Site.S (i : Fin n) (c : Dev 8) : sProp 𝕄 :=
  iprop(∃ f, ⌜(G.dst i).m.view.read Val f = G.sent (G.across i c) i⌝ ∗ ((G.dst i).m.view.loc (c.tc : Thread 8 τ) ↦[(G.dst i).m.view.set]{fullShare} f))

def Site.plan : Plan 8 τ sig Val (K n) where
  osem k := .dma (G.sm k)
  inj _ _ h := G.inj (by injection h)
  tgt | .inl _ => Equiv.refl _ | .inr i => G.across i
  far := far n
  amt _ := G.N
  amt_pos _ := G.N_pos
  lvl _ := 0
  pay c
    | .inl i => G.X i c
    | .inr i => G.S i c
  storable c k := by
    cases k <;> dsimp only [Site.S, Site.X] <;> infer_instance

/-- The places to receive in, dealt to the cores that write them. -/
theorem Site.deal_places : (bigSep Finset.univ fun c : Dev 8 => bigSep Finset.univ fun i : Fin n => G.E i c)
    = (bigSep Finset.univ fun c : Dev 8 => bigSep Finset.univ fun i : Fin n => G.E i (G.across i c) : sProp 𝕄) :=
  around G.across Finset.univ G.E

section Steps

variable {Λ : Labels} {defs : Defs 8 τ sig Val Λ} (𝒱 : Variants) {α : Type} {Q : α → sProp (MT 8 τ sig Unit Val ℕ (UU 8 τ sig) ℕ)}
  (κ : Dev 8 × K n → ℕ) {c : Dev 8}

/-- The piece sent over link `i`. -/
theorem Site.send (i : Fin n) (T : Finset (K n)) (hT : K.got i ∈ T) {k : PUnit → Prog (TpuEff 8 τ sig Val Λ (c.tc : Thread 8 τ).2) α} {p r : Piece sig s e} {d : Dev 8}
    (hd : d = G.across i c) (hp : p = G.src c i) (hr : r = G.dst i) :
    records G.plan κ ⊢ iprop(G.X i c -∗ G.E i (G.across i c) -∗ owing G.plan T c -∗ tok G.plan c (K.snd i) -∗ tok G.plan c (K.got i)
      -∗ ((due G.plan c (K.snd i) ∗ owing G.plan (T.erase (K.got i)) c) -∗ wp frame (wpE defs 𝒱 (c.tc : Thread 8 τ) none) Set.univ (k ⟨⟩) Q)
      -∗ wp frame (wpE defs 𝒱 (c.tc : Thread 8 τ) none) Set.univ
          (.op (.enqueueDma p.m (.remote (d.tc : Thread 8 τ) r.m (.dma (G.sm (K.snd i))) r.sc) (.dma (G.sm (K.got i))) p.we r.we ⟨⟨rfl, Or.inl rfl⟩, trivial⟩) k) Q) := by
  subst hd hp hr
  have hland (f : Buf Val ((G.dst i).m.view.loc ((G.across i c).tc : Thread 8 τ))) :
      ((G.dst i).m.view.loc ((G.across i c).tc : Thread 8 τ) ↦[(G.dst i).m.view.set]{fullShare} ((G.dst i).m.view.write Val f (G.sent c i) Finset.univ) : sProp 𝕄) ⊢ G.S i (G.across i c) := by
    unfold Site.S
    rw [G.across_across]
    iintro H
    iexists (G.dst i).m.view.write Val f (G.sent c i) Finset.univ
    isplitr; · ipureintro; exact View.read_write_univ _ _
    iexact H
  unfold Site.X Site.E
  iintro #HR HX ⟨%f, HE⟩
  iapply (Talk.send G.plan 𝒱 κ (K.snd i) (K.got i) T (n := G.across i c) (fd := f) (sS := .dma (G.sm (K.snd i))) (sR := .dma (G.sm (K.got i))) rfl rfl rfl rfl hT (G.dst_credit i) rfl
    (BI.Entails.refl _) (hland f) (G.routes _ _)) $$ HR HX HE

/-- A wait, every send started: on a send of the core's own, or for what comes over a link. -/
theorem Site.await (k' : K n) {P : sProp 𝕄} (hP : G.plan.pay c k' = P) {k : PUnit → Prog (TpuEff 8 τ sig Val Λ (c.tc : Thread 8 τ).2) α} {p r : Piece sig s e}
    (hr : r.m.view.dmaCredit = G.N) :
    records G.plan κ ⊢ iprop(levAts L (lv G.plan) -∗ due G.plan c k' -∗ owing G.plan ∅ c -∗ pos G.plan c k'
      -∗ ((owing G.plan ∅ c ∗ semVal (cell G.plan c k') 0 ∗ P) -∗ wp frame (wpE defs 𝒱 (c.tc : Thread 8 τ) none) Set.univ (k ⟨⟩) Q)
      -∗ wp frame (wpE defs 𝒱 (c.tc : Thread 8 τ) none) Set.univ (.op (.waitDma2 (G.sm k') p.m r.m p.we r.we) k) Q) :=
  hP ▸ Talk.wait G.plan 𝒱 κ k' ∅ rfl (fun _ h => absurd h (Finset.notMem_empty _)) hr

end Steps

/-! ## The whole exchange -/

section Whole

variable {Λ : Labels}

/-- The sends, one after the other, and then `k`. -/
def sends (P R : Fin n → Piece sig s e) (sm : K n → DmaSem sig) (D : Fin n → Dev 8) (k : Prog (TpuEff 8 τ sig Val Λ .tc) PUnit) :
    List (Fin n) → Prog (TpuEff 8 τ sig Val Λ .tc) PUnit
  | [] => k
  | i :: l => .op (.enqueueDma (P i).m (.remote (Dev.tc (D i)) (R i).m (.dma (sm (K.snd i))) (R i).sc) (.dma (sm (K.got i))) (P i).we (R i).we ⟨⟨rfl, Or.inl rfl⟩, trivial⟩)
      fun _ => sends P R sm D k l

/-- The waits: link by link, the send and then the receipt. -/
def waits (P R : Fin n → Piece sig s e) (sm : K n → DmaSem sig) : List (Fin n) → Prog (TpuEff 8 τ sig Val Λ .tc) PUnit
  | [] => .ret ⟨⟩
  | i :: l => .op (.waitDma2 (sm (K.snd i)) (R i).m (P i).m (R i).we (P i).we) fun _ =>
      .op (.waitDma2 (sm (K.got i)) (P i).m (R i).m (P i).we (R i).we) fun _ => waits P R sm l

variable {defs : Defs 8 τ sig Val Λ} (𝒱 : Variants) (κ : Dev 8 × K n → ℕ) (c : Dev 8) {Kt : PUnit → sProp (MT 8 τ sig Unit Val ℕ (UU 8 τ sig) ℕ)}

/-- What is left owed once the sends `l` have started. -/
def left (T : Finset (K n)) (l : List (Fin n)) : Finset (K n) := l.foldl (fun T i => T.erase (K.got i)) T

theorem left_eq (T : Finset (K n)) (l : List (Fin n)) : left T l = T \ l.toFinset.map ⟨Sum.inr, Sum.inr_injective⟩ := by
  induction l generalizing T with
  | nil => exact (Finset.sdiff_empty (s := T)).symm
  | cons i l ih =>
    refine (ih (T.erase (K.got i))).trans (Finset.ext fun k => ?_)
    rw [List.toFinset_cons, Finset.map_insert]
    simp only [Finset.mem_sdiff, Finset.mem_erase, Finset.mem_insert, not_or]
    exact ⟨fun ⟨⟨a, b⟩, d⟩ => ⟨b, a, d⟩, fun ⟨b, a, d⟩ => ⟨⟨a, b⟩, d⟩⟩

theorem left_far {l : List (Fin n)} (hall : l.toFinset = Finset.univ) : left (far n) l = ∅ := by
  rw [left_eq, hall]; exact Finset.sdiff_self _

theorem all_K (Φ : K n → sProp 𝕄) : bigSep Finset.univ Φ = iprop((bigSep Finset.univ fun i => Φ (K.snd i)) ∗ bigSep Finset.univ fun i => Φ (K.got i)) :=
  bigSep_univ_sum Φ

theorem one_more {S : Finset (Fin n)} {i : Fin n} (h : i ∉ S) {Φ : Fin n → sProp 𝕄} : bigSep (insert i S) Φ = iprop(Φ i ∗ bigSep S Φ) := bigSep_insert h

theorem Site.sends_run {k : Prog (TpuEff 8 τ sig Val Λ .tc) PUnit} (l : List (Fin n)) : ∀ (_ : l.Nodup) (T : Finset (K n)) (_ : ∀ i ∈ l, K.got i ∈ T),
    records G.plan κ ⊢ iprop((bigSep l.toFinset fun i => iprop(G.X i c ∗ G.E i (G.across i c) ∗ tok G.plan c (K.snd i) ∗ tok G.plan c (K.got i))) -∗ owing G.plan T c
      -∗ (((bigSep l.toFinset fun i => due G.plan c (K.snd i)) ∗ owing G.plan (left T l) c) -∗ wp frame (wpE defs 𝒱 (c.tc : Thread 8 τ) none) Set.univ k Kt)
      -∗ wp frame (wpE defs 𝒱 (c.tc : Thread 8 τ) none) Set.univ (sends (G.src c) G.dst G.sm (fun i => G.across i c) k l) Kt) := by
  induction l with
  | nil =>
    intro _ T _
    rw [List.toFinset_nil, bigSep_empty, bigSep_empty]
    iintro - - HO Hk
    iapply Hk
    isplitr; · iempintro
    iexact HO
  | cons i l ih =>
    intro hl T hT
    obtain ⟨hi, hl⟩ := List.nodup_cons.mp hl
    have hi' : i ∉ l.toFinset := fun h => hi (List.mem_toFinset.mp h)
    rw [List.toFinset_cons, one_more hi', one_more hi']
    iintro #HR ⟨⟨HX, HE, Ht, Hg⟩, Hl⟩ HO Hk
    iapply (G.send 𝒱 κ i T (hT i List.mem_cons_self) rfl rfl rfl) $$ HR HX HE HO Ht Hg
    iintro ⟨Hd, HO⟩
    iapply (ih hl (T.erase (K.got i)) fun j hj => Finset.mem_erase.mpr ⟨fun h => hi (Sum.inr_injective h ▸ hj), hT j (List.mem_cons_of_mem _ hj)⟩) $$ HR Hl HO
    iintro ⟨Hds, HO⟩
    iapply Hk
    isplitr [HO]
    · isplitl [Hd] <;> iassumption
    iexact HO

theorem Site.waits_run (l : List (Fin n)) : ∀ (_ : l.Nodup),
    records G.plan κ ⊢ iprop(levAts L (lv G.plan)
      -∗ (bigSep l.toFinset fun i => iprop((due G.plan c (K.snd i) ∗ pos G.plan c (K.snd i)) ∗ due G.plan c (K.got i) ∗ pos G.plan c (K.got i))) -∗ owing G.plan ∅ c
      -∗ (((bigSep l.toFinset fun i => iprop((semVal (cell G.plan c (K.snd i)) 0 ∗ semVal (cell G.plan c (K.got i)) 0) ∗ G.X i c ∗ G.S i c)) ∗ owing G.plan ∅ c) -∗ Kt ⟨⟩)
      -∗ wp frame (wpE defs 𝒱 (c.tc : Thread 8 τ) none) Set.univ (waits (G.src c) G.dst G.sm l) Kt) := by
  induction l with
  | nil =>
    intro _
    rw [List.toFinset_nil, bigSep_empty, bigSep_empty]
    iintro - - - HO Hk
    unfold waits
    rw [wp_ret]
    imodintro
    iapply Hk
    isplitr; · iempintro
    iexact HO
  | cons i l ih =>
    intro hl
    obtain ⟨hi, hl⟩ := List.nodup_cons.mp hl
    have hi' : i ∉ l.toFinset := fun h => hi (List.mem_toFinset.mp h)
    rw [List.toFinset_cons, one_more hi', one_more hi']
    iintro #HR #HL ⟨⟨⟨Hds, Hps⟩, Hdg, Hpg⟩, Hl⟩ HO Hk
    iapply (G.await 𝒱 κ (K.snd i) (P := G.X i c) rfl (G.src_credit c i)) $$ HR HL Hds HO Hps
    iintro ⟨HO, Hzs, HX⟩
    iapply (G.await 𝒱 κ (K.got i) (P := G.S i c) rfl (G.dst_credit i)) $$ HR HL Hdg HO Hpg
    iintro ⟨HO, Hzg, HS⟩
    iapply (ih hl) $$ HR HL Hl HO
    iintro ⟨Hl, HO⟩
    iapply Hk
    isplitr [HO]
    · isplitr [Hl]
      · isplitl [Hzs Hzg]
        · isplitl [Hzs] <;> iassumption
        isplitl [HX] <;> iassumption
      iexact Hl
    iexact HO

/-- The exchange: every piece sent and given back, and every place filled. -/
theorem Site.run {P R : Fin n → Piece sig s e} {D : Fin n → Dev 8} (hP : ∀ i, P i = G.src c i) (hR : ∀ i, R i = G.dst i) (hD : ∀ i, D i = G.across i c)
    (l : List (Fin n)) (hl : l.Nodup) (hall : l.toFinset = Finset.univ) :
    iprop(kit G.plan c ∗ levAts L (lv G.plan) ∗ owing G.plan (far n) c ∗ (bigSep Finset.univ fun i => G.X i c) ∗ bigSep Finset.univ fun i => G.E i (G.across i c))
      ⊢ iprop(((owing G.plan ∅ c ∗ Pipeline.ownSems0 G.plan.osem c ∗ (bigSep Finset.univ fun i => G.X i c) ∗ bigSep Finset.univ fun i => G.S i c) -∗ Kt ⟨⟩)
        -∗ wp frame (wpE defs 𝒱 (c.tc : Thread 8 τ) none) Set.univ (sends P R G.sm D (waits P R G.sm l) l) Kt) := by
  obtain rfl : P = G.src c := funext hP
  obtain rfl : R = G.dst := funext hR
  obtain rfl : D = fun i => G.across i c := funext hD
  have hsend := fun κ => G.sends_run (defs := defs) 𝒱 κ c (Kt := Kt) (k := waits (G.src c) G.dst G.sm l) l hl (far n) fun i _ => Finset.mem_map_of_mem _ (Finset.mem_univ i)
  have hwait := fun κ => G.waits_run (defs := defs) 𝒱 κ c (Kt := Kt) l hl
  rw [hall, left_far hall] at hsend
  rw [hall] at hwait
  simp only [bigSep_sep'] at hsend hwait
  unfold kit Pipeline.ownSems0
  rw [all_K, all_K, show (bigSep G.plan.far fun k => due G.plan c k) = bigSep Finset.univ fun i => due G.plan c (K.got i) from bigSep_map _]
  simp only [bigSep_sep']
  iintro ⟨⟨⟨%κ, #HR⟩, ⟨⟨Hts, Hps⟩, Htg, Hpg⟩, Hdg⟩, #HL, HO, HX, HE⟩ Hk
  iapply (hsend κ) $$ HR [HX HE Hts Htg] HO
  · isplitl [HX]; · iexact HX
    isplitl [HE]; · iexact HE
    isplitl [Hts]; · iexact Hts
    iexact Htg
  iintro ⟨Hds, HO⟩
  iapply (hwait κ) $$ HR HL [Hds Hps Hdg Hpg] HO
  · isplitl [Hds Hps]
    · isplitl [Hds]; · iexact Hds
      iexact Hps
    isplitl [Hdg]; · iexact Hdg
    iexact Hpg
  iintro ⟨⟨⟨Hzs, Hzg⟩, HX, HS⟩, HO⟩
  iapply Hk
  isplitl [HO]; · iexact HO
  isplitl [Hzs Hzg]
  · isplitl [Hzs]; · iexact Hzs
    iexact Hzg
  isplitl [HX]; · iexact HX
  iexact HS

end Whole

end Talk.Swap

namespace Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

/-! ## Two arrays out of all of a core's -/

section Two

variable {nD : Nat} {τ : Topo} {sig : RefSig} {Val : EltTy → Type} {U : Type} [URA U]

local notation "𝕄" => MT nD τ sig Unit Val ℕ U ℕ

/-- All but `x` and `y`. -/
def but (x y : Ref sig .tc) : Finset (DevRef τ sig) := ucRefs τ sig \ {Proc.devRef .tc x, Proc.devRef .tc y}

theorem held_two {x y : Ref sig .tc} (hx : x.isScoped = false) (hy : y.isScoped = false) (hxy : x ≠ y) (c : Dev nD) (V : Valuation τ sig Val) :
    (StableHlo.held (c.tc : Thread nD τ) (ucRefs τ sig) V : sProp 𝕄)
      = iprop((((c.tc : Thread nD τ).loc x) ↦{fullShare} V (Proc.devRef .tc x)) ∗ (((c.tc : Thread nD τ).loc y) ↦{fullShare} V (Proc.devRef .tc y))
          ∗ StableHlo.held (c.tc : Thread nD τ) (but x y) V) := by
  have hu (r : Ref sig .tc) (h : r.isScoped = false) : (Proc.devRef .tc r : DevRef τ sig) ∈ ucRefs τ sig :=
    Finset.mem_filter.mpr ⟨StableHlo.devRef_mem_tcRefs r, fun h' => Bool.false_ne_true (h.symm.trans h')⟩
  have hs : ({Proc.devRef .tc x, Proc.devRef .tc y} : Finset (DevRef τ sig)) ⊆ ucRefs τ sig := fun b hb => by
    rcases Finset.mem_insert.mp hb with rfl | hb
    · exact hu x hx
    · rw [Finset.mem_singleton.mp hb]; exact hu y hy
  rw [StableHlo.held_sub_split (c.tc : Thread nD τ) hs V]
  have hp : (StableHlo.held (c.tc : Thread nD τ) {Proc.devRef .tc x, Proc.devRef .tc y} V : sProp 𝕄)
      = iprop((((c.tc : Thread nD τ).loc x) ↦{fullShare} V (Proc.devRef .tc x)) ∗ (((c.tc : Thread nD τ).loc y) ↦{fullShare} V (Proc.devRef .tc y))) := by
    unfold StableHlo.held
    rw [bigSep_insert (fun h => hxy (Proc.devRef_injective _ (Finset.mem_singleton.mp h))), bigSep_singleton]
    rfl
  rw [hp]
  exact equiv_iff.mp ⟨Idealize.SL.BI.sep_assoc, Idealize.SL.BI.sep_assoc'⟩

/-- The arrays with `y` at new contents. -/
theorem held_received {x y : Ref sig .tc} (hx : x.isScoped = false) (hy : y.isScoped = false) (hxy : x ≠ y) (c : Dev nD) (V : Valuation τ sig Val)
    (f : Buf Val ((c.tc : Thread nD τ).loc y)) :
    iprop((((c.tc : Thread nD τ).loc x) ↦{fullShare} V (Proc.devRef .tc x)) ∗ (((c.tc : Thread nD τ).loc y) ↦{fullShare} f)
        ∗ StableHlo.held (c.tc : Thread nD τ) (but x y) V)
      ⊢ (StableHlo.held (c.tc : Thread nD τ) (ucRefs τ sig) (Function.update V (Proc.devRef .tc y) f) : sProp 𝕄) := by
  rw [held_two hx hy hxy, Function.update_of_ne (fun h => hxy (Proc.devRef_injective _ h)), Function.update_self,
    StableHlo.held_congr (c.tc : Thread nD τ) (S := but x y) (V := Function.update V (Proc.devRef .tc y) f) (V' := V)
      fun b hb => Function.update_of_ne (fun h => (Finset.mem_sdiff.mp hb).2 (by rw [h]; exact Finset.mem_insert_of_mem (Finset.mem_singleton_self _))) _ _]

end Two

end Talk

end
-- ==== Proof.SwapMemory.lean ====
/- The memory around an exchange: what the cores hold before it and what they hold after.

   The pieces a core sends are tiles of one array of its own, `x`, and what it receives fills another, `y`. Of all its
   arrays a core hands the exchange the pieces and the places, and keeps the rest of `x` and every other array. -/
module

public import proofs.«01_k».proof.Proof.Swap
public import proofs.«01_k».proof.Proof.Tiles

@[expose] public section

noncomputable section

namespace Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

section

variable {nD : Nat} {τ : Topo} {sig : RefSig} {Val : EltTy → Type} {U : Type} [URA U]
variable {ℓ : Loc nD τ sig} {B J : Type} [Fintype B] [DecidableEq B] (T : Tiles (Idx ℓ) B J)

local notation "𝕄" => MT nD τ sig Unit Val ℕ U ℕ

/-- The tiles that `e` does not name. -/
def Tiles.others {n : ℕ} (K : B → Finset (Idx ℓ)) (e : Fin n ↪ B) (f : Buf Val ℓ) : sProp 𝕄 :=
  bigSep (Finset.univ \ Finset.univ.map e) fun b => ℓ ↦[K b]{fullShare} f

/-- The array cut into the tiles `e` names and the others. -/
theorem Tiles.along {n : ℕ} {K : B → Finset (Idx ℓ)} (h : T.Covers K) (e : Fin n ↪ B) (f : Buf Val ℓ) :
    (ℓ ↦{fullShare} f : sProp 𝕄) = iprop((bigSep Finset.univ fun i => ℓ ↦[K (e i)]{fullShare} f) ∗ Tiles.others K e f) := by
  rw [T.cut h f, bigSep_sdiff_split (Finset.subset_univ (Finset.univ.map e)), bigSep_map]; rfl

end

/-- An array as its one tile. -/
def Tiles.one (I : Type) : Tiles I (Fin 1) I where
  at_ _ j := j
  tile _ := 0
  elt i := i
  at_tile _ := rfl
  tile_at b _ := Subsingleton.elim _ _
  elt_at _ _ := rfl

/-- The `k` slices of an array of four axes along its second axis. -/
def slices (a k n m : ℕ) : Tiles (⟨4, ![a, k, n, m]⟩ : Shape).Idx (Fin k) (⟨4, ![a, 1, n, m]⟩ : Shape).Idx where
  at_ b j := ix4 (j 0) b (j 2) (j 3)
  tile i := i 1
  elt i := ix4 (i 0) 0 (i 2) (i 3)
  at_tile i := (eq_ix4 i).symm
  tile_at _ _ := rfl
  elt_at _ j := (congrArg (fun z => ix4 (j 0) z (j 2) (j 3)) (Subsingleton.elim (0 : Fin 1) (j 1))).trans (eq_ix4 j).symm

/-- Where a slice's element lies in the array. -/
theorem slice_emb {sig : RefSig} {a k n m : ℕ} {κ : Kind} {sp : Space} {e : EltTy} (M : Memref sig κ sp ⟨4, ![a, k, n, m]⟩ e) (b : Fin k) {off : Fin 4 → ℕ} (hoff : off = ![0, b.val, 0, 0])
    (inb : ∀ x, off x + (![a, 1, n, m] : Fin 4 → ℕ) x ≤ (![a, k, n, m] : Fin 4 → ℕ) x) (j : (⟨4, ![a, 1, n, m]⟩ : Shape).Idx) :
    (M.slice (Rect.unit (s := ⟨4, ![a, k, n, m]⟩) off ![a, 1, n, m] inb) (fun _ => rfl)).view.emb j = M.view.emb ((slices a k n m).at_ b j) := by
  subst hoff
  show M.view.emb ((Rect.unit (s := ⟨4, ![a, k, n, m]⟩) ![0, b.val, 0, 0] ![a, 1, n, m] inb).emb j) = _
  refine congrArg M.view.emb (funext fun x => Fin.ext ?_)
  match x with
  | ⟨0, _⟩ => exact (Nat.zero_add _).trans (Nat.one_mul _)
  | ⟨1, _⟩ =>
    show b.val + 1 * (j 1).val = b.val
    have h : (j 1).val < 1 := (j 1).isLt
    omega
  | ⟨2, _⟩ => exact (Nat.zero_add _).trans (Nat.one_mul _)
  | ⟨3, _⟩ => exact (Nat.zero_add _).trans (Nat.one_mul _)

namespace Swap

variable {τ : Topo} {sig : RefSig} {Val : EltTy → Type} {s : Shape} {e : EltTy} {n : ℕ} (G : Site τ sig Val s e n)

local notation "𝕄" => MT 8 τ sig Unit Val ℕ (UU 8 τ sig) ℕ

/-- What a core holds before the exchange: its pieces, the places it writes on the cores across, and what it keeps; -/
def Site.pre (keep : Dev 8 → sProp 𝕄) (c : Dev 8) : sProp 𝕄 :=
  iprop((bigSep Finset.univ fun i => G.X i c) ∗ (bigSep Finset.univ fun i => G.E i (G.across i c)) ∗ keep c)
/-- and after it: its pieces, its own places filled, and what it keeps. -/
def Site.post (keep : Dev 8 → sProp 𝕄) (c : Dev 8) : sProp 𝕄 :=
  iprop((bigSep Finset.univ fun i => G.X i c) ∗ (bigSep Finset.univ fun i => G.S i c) ∗ keep c)

/-- The exchange, from one to the other. -/
theorem Site.body {Λ : Labels} {defs : Defs 8 τ sig Val Λ} (𝒱 : Variants) (c : Dev 8) (keep : Dev 8 → sProp 𝕄)
    {P R : Fin n → Talk.Gather.Piece sig s e} {D : Fin n → Dev 8} (hP : ∀ i, P i = G.src c i) (hR : ∀ i, R i = G.dst i) (hD : ∀ i, D i = G.across i c)
    (l : List (Fin n)) (hl : l.Nodup) (hall : l.toFinset = Finset.univ) :
    iprop(kit G.plan c ∗ levAts L (lv G.plan) ∗ owing G.plan G.plan.far c ∗ G.pre keep c)
      ⊢ wp frame (wpE defs 𝒱 (c.tc : Thread 8 τ) none) Set.univ (sends P R G.sm D (waits P R G.sm l) l)
          fun _ => iprop(owing G.plan ∅ c ∗ ownSems0 G.plan.osem c ∗ G.post keep c) := by
  unfold Site.pre Site.post
  iintro ⟨Hk, HL, HO, HX, HE, Hr⟩
  iapply (G.run 𝒱 c hP hR hD l hl hall) $$ [Hk HL HO HX HE]
  · isplitl [Hk]; · iexact Hk
    isplitl [HL]; · iexact HL
    isplitl [HO]; · iexact HO
    isplitl [HX] <;> iassumption
  iintro ⟨HO, Hz, HX, HS⟩
  isplitl [HO]; · iexact HO
  isplitl [Hz]; · iexact Hz
  isplitl [HX]; · iexact HX
  isplitl [HS]; · iexact HS
  iexact Hr

variable {x y : Ref sig .tc} (hx : x.isScoped = false) (hy : y.isScoped = false) (hxy : x ≠ y) (V : Dev 8 → Valuation τ sig Val)

/-- All of a core's arrays but the two, and what it keeps of the first. -/
def rest (x y : Ref sig .tc) (V : Dev 8 → Valuation τ sig Val) (kept : Dev 8 → sProp 𝕄) (c : Dev 8) : sProp 𝕄 :=
  iprop(kept c ∗ StableHlo.held (c.tc : Thread 8 τ) (but x y) (V c))

include hx hy hxy in
/-- All the cores' arrays, dealt for the exchange. -/
theorem Site.enter (kept : Dev 8 → sProp 𝕄) (hX : ∀ c : Dev 8, ((((c.tc : Thread 8 τ).loc x) ↦{fullShare} V c (Proc.devRef .tc x)) : sProp 𝕄) = iprop((bigSep Finset.univ fun i => G.X i c) ∗ kept c))
    (hE : ∀ c : Dev 8, ((((c.tc : Thread 8 τ).loc y) ↦{fullShare} V c (Proc.devRef .tc y)) : sProp 𝕄) ⊢ bigSep Finset.univ fun i => G.E i c) :
    (bigSep Finset.univ fun c : Dev 8 => StableHlo.held (c.tc : Thread 8 τ) (ucRefs τ sig) (V c)) ⊢ (bigSep Finset.univ (G.pre (rest x y V kept)) : sProp 𝕄) := by
  have h (c : Dev 8) : (StableHlo.held (c.tc : Thread 8 τ) (ucRefs τ sig) (V c) : sProp 𝕄)
      ⊢ iprop((bigSep Finset.univ fun i => G.X i c) ∗ (bigSep Finset.univ fun i => G.E i c) ∗ rest x y V kept c) := by
    rw [held_two hx hy hxy, hX]
    unfold rest
    iintro ⟨⟨HX, Hk⟩, Hy, Hr⟩
    isplitl [HX]; · iexact HX
    isplitl [Hy]; · iapply (hE c); iexact Hy
    isplitl [Hk] <;> iassumption
  refine BIBase.Entails.trans (bigSep_mono fun c _ => h c) ?_
  unfold Site.pre
  simp only [bigSep_sep']
  rw [G.deal_places]

include hx hy hxy in
/-- A core's arrays after the exchange: the second holds what it received, the others are as they were. -/
theorem Site.leave (kept : Dev 8 → sProp 𝕄) (c : Dev 8) (hX : ((((c.tc : Thread 8 τ).loc x) ↦{fullShare} V c (Proc.devRef .tc x)) : sProp 𝕄) = iprop((bigSep Finset.univ fun i => G.X i c) ∗ kept c))
    (f : Buf Val ((c.tc : Thread 8 τ).loc y)) (hS : (bigSep Finset.univ fun i => G.S i c) ⊢ (((c.tc : Thread 8 τ).loc y) ↦{fullShare} f : sProp 𝕄)) :
    G.post (rest x y V kept) c ⊢ (StableHlo.held (c.tc : Thread 8 τ) (ucRefs τ sig) (Function.update (V c) (Proc.devRef .tc y) f) : sProp 𝕄) := by
  refine BIBase.Entails.trans ?_ (held_received hx hy hxy c (V c) f)
  rw [hX]
  unfold Site.post rest
  iintro ⟨HX, HS, Hk, Hr⟩
  isplitl [HX Hk]
  · isplitl [HX] <;> iassumption
  isplitl [HS]; · iapply hS; iexact HS
  iexact Hr

end Swap

end Talk

end
-- ==== Proof.Partials.lean ====
/- The partial gradients of a chip: a region that adds, block by block, a core's own half to the half its sibling sent.

   Each point of the grid reads one block of the core's array, at the half its table names, and the same block of what
   came from the sibling, and leaves the rounded sum in the same block of the result. -/
module

public import proofs.«01_k».proof.Proof.Quiet
public import proofs.«01_k».proof.Proof.Gen.CoresIdeal.Skeleton
public import proofs.«01_k».proof.Proof.Gen.CoresIdeal.Launch
public import Idealize.ShloMosaic.Lib.Pipeline.FrameBody
public import Idealize.ShloMosaic.Lib.Ring
public import Idealize.ShloMosaic.Lib.VecWindow
public import Idealize.ShloMosaic.Lib.WordCmp

@[expose] public section

set_option maxRecDepth 16384

noncomputable section

namespace Cert.CoresIdeal.Partials

open Cert.CoresIdeal Cert.CoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk

variable {F : FTy → Type} [FloatOps F]

local notation "𝕄" => MT nD τ sig Unit (Elt F) ℕ (UU nD τ sig) ℕ

/-- One point of the grid, on any whole buffers: the result's buffer ends at the rounded sum of the other two's. -/
theorem point (c : Dev nD) (i : grid1.Coords) (arg2 : Memref sig .tc .smem S1 .i32) (harg2 : arg2.IsWhole) (arg3 : Memref sig .tc .vmem S1x1x1200x128 .f32) (harg3 : arg3.IsWhole)
    (arg4 : Memref sig .tc .vmem S1x1x1200x128 .f32) (harg4 : arg4.IsWhole) (arg5 : Memref sig .tc .vmem S1x1200x128 .bf16) (harg5 : arg5.IsWhole)
    (x0 x1 : Vec F S1x1x1200x128 .f32) (Kt : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (k1_pay1 x0 x1)) -∗ Kt ⟨⟩))
      ⊢ wp frame (wpE (defs₀ (F := F)) Variants.none c none) Set.univ (cc1_rs_chip_partials i arg2 harg2 arg3 harg3 arg4 harg4 arg5 harg5) Kt := by
  rw [cc1_rs_chip_partials_eq_skeleton]; unfold cc1_rs_chip_partials_skel
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  refine (View.read_writes_full _ _ _ _ _).trans ?_
  rw [View.readAt_full, View.readAt_full, harg3.read_unread, harg4.read_unread]

/-! ## The region -/

variable (ad : (pcfg1 (F := F)).Adm) (c : Dev nD) (W : Valuation τ sig (Elt F))

/-- A window's block at a point, read off the array the region finds. -/
def iblk (w : Fin (cfg1 ad).W) (t : Fin (cfg1 ad).N) : (((cfg1 ad).win w).xblock ((cfg1 ad).grid.coords t)).Idx → Elt F ((cfg1 ad).win w).elt :=
  (((cfg1 ad).win w).blk t).view.read (Elt F) (W (Proc.devRef .tc (arrRef spec1 w)))

/-- What the region does: the two inputs' blocks stay as they are, the result's is their rounded sum. -/
def dat : Dat τ (Elt F) Unit ℕ (UU nD τ sig) ℕ (cfg1 ad) c where
  A w := W (Proc.devRef .tc (arrRef spec1 w))
  after w t := match w with
    | ⟨0, _⟩ => iblk ad W 0 t
    | ⟨1, _⟩ => iblk ad W 1 t
    | ⟨2, _⟩ => k1_pay1 (iblk ad W 0 t) (iblk ad W 1 t)
  Φ _ := iprop(scopedRest spec1 c ∗ prefHeld pre1 c (fun _ => fullShare) ad.1)
  q _ := fullShare
  owed _ := 0

theorem A_eq (w : Fin (cfg1 ad).W) : (dat ad c W).A w = W (Proc.devRef .tc (arrRef spec1 w)) := by dsimp only [dat]
theorem after_0 (t : Fin (cfg1 ad).N) : (dat ad c W).after 0 t = iblk ad W 0 t := by dsimp only [dat]; try rfl
theorem after_1 (t : Fin (cfg1 ad).N) : (dat ad c W).after 1 t = iblk ad W 1 t := by dsimp only [dat]; try rfl
theorem after_2 (t : Fin (cfg1 ad).N) : (dat ad c W).after 2 t = k1_pay1 (iblk ad W 0 t) (iblk ad W 1 t) := by dsimp only [dat]; try rfl

/-- The inputs' buffers hold their blocks when a point starts. -/
theorem before_0 (t : Fin (cfg1 ad).N) (d) : (dat ad c W).before 0 t d = iblk ad W 0 t :=
  steady (dat ad c W) 0 (iblk ad W 0) rfl (fun _ => rfl) (fun _ _ _ => rfl) (after_0 ad c W) (fun _ => rfl) (fun _ _ => rfl) t d
theorem before_1 (t : Fin (cfg1 ad).N) (d) : (dat ad c W).before 1 t d = iblk ad W 1 t :=
  steady (dat ad c W) 1 (iblk ad W 1) rfl (fun _ => rfl) (fun _ _ _ => rfl) (after_1 ad c W) (fun _ => rfl) (fun _ _ => rfl) t d

/-- The buffers a point works on. -/
abbrev ms_0 (t : Fin (cfg1 ad).N) : Memref sig .tc .vmem S1x1x1200x128 .f32 := spec1_0.stage ((cfg1 ad).slots t 0)
abbrev ms_1 (t : Fin (cfg1 ad).N) : Memref sig .tc .vmem S1x1x1200x128 .f32 := spec1_1.stage ((cfg1 ad).slots t 1)
abbrev ms_2 (t : Fin (cfg1 ad).N) : Memref sig .tc .vmem S1x1200x128 .bf16 := spec1_2.stage ((cfg1 ad).slots t 2)

/-- What a point runs. -/
abbrev bodyAt (t : Fin (cfg1 ad).N) : Prog (TpuEff nD τ sig (Elt F) Λ₀ .tc) PUnit :=
  cc1_rs_chip_partials (grid1.coords t) (Memref.whole main_v6) (Memref.isWhole_whole _) (ms_0 ad t) (hstage1_0 (((cfg1 ad).slots t 0).cast nbuf1_0))
    (ms_1 ad t) (hstage1_1 (((cfg1 ad).slots t 1).cast nbuf1_1)) (ms_2 ad t) (hstage1_2 (((cfg1 ad).slots t 2).cast nbuf1_2))

theorem row (t : Fin (cfg1 ad).N) : defs₀ (F := F) .tc (cfg1 ad).body ((cfg1 ad).bodyArgs t ((cfg1 ad).slots t)) = bodyAt ad t := by
  unfold defs₀; rw [Defs.onTc_tc]

theorem sound (t : Fin (cfg1 ad).N) :
    iprop((dat ad c W).Φ t.castSucc ∗ (dat ad c W).owesAt () t.castSucc
        ∗ (∃ d, owns (c : Thread nD τ) (ms_0 ad t) fullShare ((dat ad c W).before 0 t d))
        ∗ (∃ d, owns (c : Thread nD τ) (ms_1 ad t) fullShare ((dat ad c W).before 1 t d))
        ∗ (∃ d, owns (c : Thread nD τ) (ms_2 ad t) fullShare ((dat ad c W).before 2 t d)))
      ⊢ wp frame (wpE (defs₀ (F := F)) Variants.none c none) Set.univ (bodyAt ad t)
        fun _ => iprop((dat ad c W).Φ t.succ ∗ (dat ad c W).owesAt () t.succ
          ∗ owns (c : Thread nD τ) (ms_0 ad t) fullShare ((dat ad c W).after 0 t)
          ∗ owns (c : Thread nD τ) (ms_1 ad t) fullShare ((dat ad c W).after 1 t)
          ∗ owns (c : Thread nD τ) (ms_2 ad t) fullShare ((dat ad c W).after 2 t)) := by
  simp only [before_0, before_1, after_0, after_1, after_2]
  rw [show (dat ad c W).Φ t.succ = (dat ad c W).Φ t.castSucc from rfl, show (dat ad c W).owesAt () t.succ = (dat ad c W).owesAt () t.castSucc from rfl]
  iintro ⟨HΦ, Ho, ⟨%d0, H0⟩, ⟨%d1, H1⟩, ⟨%d2, H2⟩⟩
  iapply (point c (grid1.coords t) _ _ _ _ _ _ _ _ (iblk ad W 0 t) (iblk ad W 1 t))
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation : BodyObligation (dat ad c W) (defs₀ (F := F)) Variants.none () Set.univ := fun t => by
  rw [bigSep_W1, bigSep_W1, row ad]
  exact triple_restated (sound ad c W t) rfl .rfl fun _ => .rfl

end Cert.CoresIdeal.Partials

end
-- ==== Proof.Halves.lean ====
/- The exchange of halves between the two cores of a chip, and the chip's partial gradients after it.

   Core `c` holds every chunk of the gradient in two halves and sends its sibling the sibling's half. The host names
   the core's own half in a table, and the second region adds it to what the sibling sent. -/
module

public import proofs.«01_k».proof.Proof.SwapMemory
public import proofs.«01_k».proof.Proof.Partials
public import proofs.«01_k».proof.Proof.Gen.CoresIdeal.Regions

@[expose] public section

set_option maxRecDepth 16384

noncomputable section

namespace Cert.CoresIdeal.Halves

open Cert.CoresIdeal Cert.CoresIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Talk.Swap
open Talk.Gather (Piece toward toward_toward toward_zero)

variable {F : FTy → Type} [FloatOps F]

/-! ## The printed exchange -/

/-- A half of the core's array. -/
def halfAt (off : Fin 4 → ℕ) (inb : ∀ a, off a + S4x1x14400x128.size a ≤ S4x2x14400x128.size a) : Piece sig S4x1x14400x128 .f32 where
  m := (Memref.whole main_arg0).slice (Rect.unit (s := S4x2x14400x128) off S4x1x14400x128.size inb) (fun _ => rfl)
  we := View.wordExact_bits rfl
  sc := rfl

theorem halfAt_eq {off off' : Fin 4 → ℕ} (h : off = off') (inb) (inb') : halfAt off inb = halfAt off' inb' := by
  subst h; rfl

theorem off_inb (b : Fin 2) : ∀ a, (![0, b.val, 0, 0] : Fin 4 → ℕ) a + S4x1x14400x128.size a ≤ S4x2x14400x128.size a := by
  revert b; decide +kernel
/-- Half `b`. -/
def half (b : Fin 2) : Piece sig S4x1x14400x128 .f32 := halfAt ![0, b.val, 0, 0] (off_inb b)
/-- Where the sibling's half arrives. -/
def got : Piece sig S4x1x14400x128 .f32 := ⟨Memref.whole main_v1, (Memref.isWhole_whole main_v1).wordExact, rfl⟩

/-- The half that is a core's own, and the half that is its sibling's. -/
def own (c : Dev 8) : Fin 2 := ⟨c.val % 2, Nat.mod_lt _ (by decide)⟩
def theirs (c : Dev 8) : Fin 2 := own (toward 1 c)

/-- The exchange's two semaphores. -/
def sm : Talk.Swap.K 1 → DmaSem sig
  | .inl _ => (0 : Fin 8)
  | .inr _ => (1 : Fin 8)

theorem printed : cc0_rs_sibling_exchange (F := F) (Memref.whole main_arg0) (Memref.isWhole_whole _) (Memref.whole main_v1) (Memref.isWhole_whole _) cc0_scratch0 cc0_scratch1
    = .op .deviceId fun c => sends (fun _ : Fin 1 => halfAt (k0_off1 c) (k0_off1_inb c)) (fun _ => got) sm (fun _ => ⟨k0_dev1 c, k0_dev1_lt c⟩)
        (waits (fun _ : Fin 1 => halfAt (k0_off1 c) (k0_off1_inb c)) (fun _ => got) sm [0]) [0] := by
  rw [cc0_rs_sibling_exchange_eq_skeleton]; unfold cc0_rs_sibling_exchange_skel
  simp only [Prog.lift, Prog.bind_op, Prog.bind_ret, Prog.pure_eq_ret]
  rfl

theorem sibling_eq (c : Dev 8) : 4 * (c.val / 4) + 2 * (c.val / 2 % 2) + 1 - c.val % 2 = (toward 1 c).val := by decide +revert

variable (m : (ℓ : Loc nD τ sig) → Buf (Elt F) ℓ) (ρ : Dev nD → PrngReg)

theorem credit (p q : Piece sig S4x1x14400x128 .f32) : p.m.view.dmaCredit = q.m.view.dmaCredit := rfl

/-- The kernel as an exchange over one link. -/
def site : Site τ sig (Elt F) S4x1x14400x128 .f32 1 where
  src c _ := half (theirs c)
  dst _ := got
  sm := sm
  inj := by decide
  across _ := toward 1
  across_across _ c := by rw [toward_toward]; exact toward_zero c
  N := got.m.view.dmaCredit
  N_pos := View.dmaCredit_pos _ (by decide)
  src_credit _ _ := credit _ _
  dst_credit _ := rfl
  fx c _ := m ((c : Thread nD τ).loc main_arg0)
  routes := by decide

local notation "𝕄" => MT nD τ sig Unit (Elt F) ℕ (UU nD τ sig) ℕ

theorem body (c : Dev nD) (keep : Dev nD → sProp 𝕄) {defs' : Defs nD τ sig (Elt F) Λ₀} :
    iprop(kit (site m).plan c ∗ levAts L (lv (site m).plan) ∗ owing (site m).plan (site m).plan.far c ∗ (site m).pre keep c)
      ⊢ wp frame (wpE defs' Variants.none (c : Thread nD τ) none) Set.univ
          (cc0_rs_sibling_exchange (F := F) (Memref.whole main_arg0) (Memref.isWhole_whole _) (Memref.whole main_v1) (Memref.isWhole_whole _) cc0_scratch0 cc0_scratch1)
          fun _ => iprop(owing (site m).plan ∅ c ∗ ownSems0 (site m).plan.osem c ∗ (site m).post keep c) := by
  rw [printed]
  simp only [wp_deviceId]
  exact (site m).body Variants.none c keep (fun _ => halfAt_eq ((k0_off1_eq c).trans (by decide +revert)) _ _) (fun _ => rfl)
    (fun _ => Fin.ext ((k0_dev1_eq c).trans (sibling_eq c))) [0] (by decide) (by decide)

/-! ## The memory around it -/

abbrev pair : Tiles S4x2x14400x128.Idx (Fin 2) S4x1x14400x128.Idx := slices 4 2 14400 128

theorem covers : ∀ b i, Iff (i ∈ (half b).m.view.set) (pair.tile i = b) :=
  pair.covers_of_emb (fun _ => rfl) fun b j => slice_emb (Memref.whole main_arg0) b rfl (off_inb b) j

/-- The half of a core's array that it sends. -/
def sent (c : Dev 8) : Fin 1 ↪ Fin 2 := ⟨fun _ => theirs c, fun _ _ _ => Subsingleton.elim _ _⟩

/-- The core's own half, which it keeps. -/
def kept (c : Dev nD) : sProp 𝕄 := Tiles.others (ℓ := (c : Thread nD τ).loc main_arg0) (fun b => (half b).m.view.set) (sent c) (m ((c : Thread nD τ).loc main_arg0))

/-- What a core receives: its own half of its sibling's array. -/
def received (c : Dev nD) : S4x1x14400x128.Idx → Elt F .f32 := fun j => m ((toward 1 c : Thread nD τ).loc main_arg0) (pair.at_ (own c) j)

theorem sent_eq (c : Dev nD) (i : Fin 1) : (site m).sent (toward 1 c) i = received m c := by
  funext j
  have h : theirs (toward 1 c) = own c := by decide +revert
  refine (congrArg (m ((toward 1 c : Thread nD τ).loc main_arg0)) (slice_emb (Memref.whole main_arg0) (theirs (toward 1 c)) rfl (off_inb _) j)).trans ?_
  rw [h]; rfl

theorem hX (c : Dev nD) : ((((c : Thread nD τ).loc main_arg0) ↦{fullShare} m ((c : Thread nD τ).loc main_arg0)) : sProp 𝕄)
    = iprop((bigSep Finset.univ fun i => (site m).X i c) ∗ kept m c) :=
  Tiles.along (ℓ := (c : Thread nD τ).loc main_arg0) pair covers (sent c) _

theorem got_set : got.m.view.set = Finset.univ := Finset.map_refl

theorem hE (c : Dev nD) : ((((c : Thread nD τ).loc main_v1) ↦{fullShare} m ((c : Thread nD τ).loc main_v1)) : sProp 𝕄) ⊢ bigSep Finset.univ fun i => (site m).E i c := by
  rw [bigSep_univ_of_subsingleton (0 : Fin 1)]
  unfold Talk.Swap.Site.E
  show (_ : sProp 𝕄) ⊢ _
  iintro H
  iexists m ((c : Thread nD τ).loc main_v1)
  rw [show ((site m).dst 0).m.view.set = Finset.univ from got_set]
  iexact H

theorem hS (c : Dev nD) : (bigSep Finset.univ fun i => (site m).S i c) ⊢ (((c : Thread nD τ).loc main_v1) ↦{fullShare} received m c : sProp 𝕄) := by
  rw [bigSep_univ_of_subsingleton (0 : Fin 1)]
  unfold Talk.Swap.Site.S
  show (_ : sProp 𝕄) ⊢ _
  iintro ⟨%f, %hf, H⟩
  rw [show ((site m).dst 0).m.view.set = Finset.univ from got_set]
  obtain rfl : f = received m c := hf.trans (sent_eq m c 0)
  iexact H

/-! ## The host's table -/

/-- The table: the core's own half. -/
def tab (c : Dev nD) : pre1.Contents (Elt F) := fun | 0 => (fun _ => BitVec.ofNat 32 (c.val % 2) : S1.Idx → BitVec 32) | ⟨_ + 1, h⟩ => absurd h (Nat.not_lt.2 (Nat.le_add_left _ _))

theorem tab_index (c : Dev nD) (i : grid1.Coords) : cc1_transform_0 inb_S1_S1_0 numel1_S1 (tab (F := F) c) i = ![(i 0).val, (own c).val, (i 1).val, 0] := by
  have h0 : (i 0).val < 4 := (i 0).isLt
  have h1 : (i 1).val < 12 := (i 1).isLt
  show ![(BitVec.ofNat 32 (i 0).val).toNat, (BitVec.ofNat 32 (c.val % 2)).toNat, (BitVec.ofNat 32 (i 1).val).toNat, 0] = _
  have e (n : ℕ) (h : n < 2 ^ 32) : (BitVec.ofNat 32 n).toNat = n := by rw [BitVec.toNat_ofNat]; exact Nat.mod_eq_of_lt h
  rw [e _ (h0.trans (by decide)), e _ (h1.trans (by decide)), e _ ((Nat.mod_lt _ (by decide)).trans (by decide : 2 < 2 ^ 32))]
  rfl

theorem tab_ok (c : Dev nD) : ok1 (F := F) (tab c) := fun i => by
  refine ⟨fun a => ?_, Or.inl rfl⟩
  rw [tab_index]
  have h0 : (i 0).val < 4 := (i 0).isLt
  have h1 : (i 1).val < 12 := (i 1).isLt
  have h2 : (own c).val < 2 := (own c).isLt
  match a with
  | ⟨0, _⟩ => show ((i 0).val + 1) * 1 ≤ 4; omega
  | ⟨1, _⟩ => show ((own c).val + 1) * 1 ≤ 2; omega
  | ⟨2, _⟩ => show ((i 1).val + 1) * 1200 ≤ 14400; omega
  | ⟨3, _⟩ => show (0 + 1) * 128 ≤ 128; omega

/-- A core's arrays after the exchange, and after the host's operations. -/
def V (c : Dev nD) : Valuation τ sig (Elt F) := Function.update (fun b => m (c, b)) (Proc.devRef .tc main_v1) (received m c)
def W (c : Dev nD) : Valuation τ sig (Elt F) := StableHlo.after (hostOps1 c) (V m c)

theorem own_word : ∀ c : Dev nD, BitVec.ofNat 32 (c.val % 2) = IntOp.remui .host (IntOp.divui .host (Dev.word c) 1#32) 2#32 := by decide

theorem W_table (c : Dev nD) (k : Fin 1) : tab (F := F) c k = W m c (Proc.devRef .tc (pre1.ref k)) := by
  obtain rfl : k = 0 := Subsingleton.elim _ _
  refine Eq.trans (funext fun _ => own_word c) (b := broadcastInDim S1 ![] bcast_S_S1 (id (Host.remui (Host.divui (constantI S_ 32 (Dev.word c)) (constantI S_ 32 1#32)) (constantI S_ 32 2#32)))) ?_
  rfl

/-! ## The run -/

/-- The tables of a core's two regions: the first has none. -/
def tables (c : Dev nD) : (p : Fin 2) → (pcfgs (F := F) p).Adm := fun
  | 0 => cfg0.toPCfg_adm
  | 1 => ⟨tab c, tab_ok c⟩
  | ⟨_ + 2, h⟩ => absurd h (Nat.not_lt.2 (Nat.le_add_left _ _))

/-- The two regions' proof data. -/
def dats : (p : Fin 2) → (c : Dev nD) → Dat τ (Elt F) Unit ℕ (UU nD τ sig) ℕ (pinD (pcfgs (F := F)) tables c p) c := fun
  | 0, c => (site m).plan.dat cfg0 (hw := inferInstanceAs (IsEmpty (Fin 0))) ((site m).pre (rest main_arg0 main_v1 (fun c b => m (c, b)) (kept m))) ((site m).post (rest main_arg0 main_v1 (fun c b => m (c, b)) (kept m))) c
  | 1, c => Partials.dat ⟨tab c, tab_ok c⟩ c (W m c)
  | ⟨_ + 2, h⟩, _ => absurd h (Nat.not_lt.2 (Nat.le_add_left _ _))

theorem distinct : Function.Injective (PerCore.cellOf (nD := nD) (τ := τ) (pinD (pcfgs (F := F)) tables)) :=
  cells_distinct pcfgs tables semTab (fun | 0 => rfl | 1 => rfl | ⟨_ + 2, h⟩ => absurd h (Nat.not_lt.2 (Nat.le_add_left _ _))) semsDistinct semsDisjoint

/-- The second region is still. -/
theorem still : Still (pcfgs (F := F)) tables (dats m) (defs₀ (F := F)) Variants.none 1 (W m) where
  win := winFacts1
  pre := preFacts1
  block_pos := block_pos1
  arr_whole := arr_whole1
  stage_whole := stage_whole1
  body c := (Partials.obligation ⟨tab c, tab_ok c⟩ c (W m c)).loose
  owed _ _ := rfl
  recorded _ := rfl
  share c := (Partials.dat ⟨tab c, tab_ok c⟩ c (W m c)).share_full fun _ => rfl
  inv _ _ := rfl
  starts _ _ := rfl
  tables := W_table m

theorem ownSemFacts : OwnSemFacts cfg0.spec (site m).plan.osem := by
  have h : OwnSemFacts cfg0.spec fun k : Talk.Swap.K 1 => SemLoc.dma (sm k) := by decide
  exact h

abbrev before (c : Dev nD) : sProp 𝕄 := (site m).pre (rest main_arg0 main_v1 (fun c b => m (c, b)) (kept m)) c
abbrev then_ (c : Dev nD) : sProp 𝕄 := (site m).post (rest main_arg0 main_v1 (fun c b => m (c, b)) (kept m)) c

theorem hmem : (bigSep Finset.univ fun c : Dev nD => StableHlo.held (c.tc : Thread nD τ) (ucRefs τ sig) fun b => m (c, b)) ⊢ (bigSep Finset.univ (before m) : sProp 𝕄) :=
  (site m).enter (x := main_arg0) (y := main_v1) rfl rfl (by decide) (fun c b => m (c, b)) (kept m) (hX m) (hE m)

theorem hleft (c : Dev nD) : then_ m c ⊢ (StableHlo.held (c.tc : Thread nD τ) (ucRefs τ sig) (V m c) : sProp 𝕄) :=
  (site m).leave (x := main_arg0) (y := main_v1) rfl rfl (by decide) (fun c b => m (c, b)) (kept m) c (hX m c) (received m c) (hS m c)

theorem hsem : ∀ sm : SemLoc sig, sm.isScoped .tc = true := by decide

/-- Every run ends, a core's arrays at what the two regions and the host leave. -/
theorem run_main : θ_run defs (onTc (τ := τ) (main (F := F))) ⟨m, fun _ => 0, ρ⟩ fun r => (∀ c, Ends (dats m) 1 (W m) c r.2) ∧ r.2.sem = fun _ => 0 := by
  refine Still.run (site m).plan distinct (still m) m ρ main (p₀ := 0) (by decide) (hW := inferInstanceAs (IsEmpty (Fin 0))) (hP := inferInstanceAs (IsEmpty (Fin 0))) (fun _ => N_0)
    winFacts0.to₀ (ownSemFacts m) (before m) (then_ m) (fun _ => rfl) ?_ hostOps1 ?_ ?_ ?_ (V m) (fun _ => rfl) (hmem m) (hleft m) hsem
  · exact fun c _ => body m c _
  · exact fun c => List.forall_iff_forall_mem.mp (hostOps1_sub c)
  · exact fun c => List.forall_iff_forall_mem.mp (hostOps1_fresh c)
  · exact main_chain

end Cert.CoresIdeal.Halves

end
-- ==== Proof.CoresValue.lean ====
/- The value of a chip's partial gradients: the reference's sum over the two cores of a chip, each core's blocks. -/
module

public import proofs.«01_k».proof.Proof.Halves
public import proofs.«01_k».proof.Proof.Gen.CoresPlainIdeal
public import Idealize.ShloMosaic.Lib.Layout
public import Idealize.ShloMosaic.Lib.Claim
public import Idealize.ShloMosaic.Lib.Pipeline.ValueKit

@[expose] public section

set_option maxRecDepth 16384

noncomputable section

namespace Cert.CoresIdeal.Halves

open Cert.CoresIdeal Cert.CoresIdeal.Gen
open Idealize.ShloMosaic Idealize.ShloMosaic.TcCoe
open Idealize.SL.Sem
open Idealize.ShloMosaic.Pipeline
open Talk
open Talk.Gather (toward)

/-! ## The kernel's arguments and result at the end -/

section

variable {F : FTy → Type} [FloatOps F] (m : (ℓ : Loc nD τ sig) → Buf (Elt F) ℓ) (ρ : Dev nD → PrngReg)

/-- The host writes neither of the arrays the second region reads in blocks. -/
theorem W_arg0 (c : Dev nD) : W m c (Proc.devRef .tc main_arg0) = m ((c : Thread nD τ).loc main_arg0) :=
  (StableHlo.after_of_writes_sub (hostOps1 c) (V m c) (hostOps1_writes c) (r := main_arg0) (by decide)).trans
    (Function.update_of_ne (by decide) _ _)

theorem W_v1 (c : Dev nD) : W m c (Proc.devRef .tc main_v1) = received m c :=
  (StableHlo.after_of_writes_sub (hostOps1 c) (V m c) (hostOps1_writes c) (r := main_v1) (by decide)).trans
    (Function.update_self _ _ _)

/-- A core's result. -/
abbrev result (c : Dev nD) := (Partials.dat ⟨tab c, tab_ok c⟩ c (W m c)).arrAt 2 (cfg1 (F := F) ⟨tab c, tab_ok c⟩).N

theorem arg0_mem : (Proc.devRef .tc main_arg0 : DevRef τ sig) ∈ ucRefs τ sig := by decide
theorem v7_mem : (Proc.devRef .tc main_v7 : DevRef τ sig) ∈ ucRefs τ sig := by decide

/-- A core's memory at the end: its argument unchanged and its result in place. -/
theorem ends (c : Dev nD) (s : MemSt nD τ sig (Elt F)) (h : Ends (dats m) 1 (W m) c s) :
    s.mem ((c : Thread nD τ).loc main_v7) = result m c ∧ s.mem ((c : Thread nD τ).loc main_arg0) = m ((c : Thread nD τ).loc main_arg0) :=
  ⟨(h _ v7_mem).trans (afterRegion_arr (dats m 1 c) (W m c) winFacts1.arr_inj 2),
    ((h _ arg0_mem).trans ((afterRegion_arr (dats m 1 c) (W m c) winFacts1.arr_inj 0).trans (Dat.arrAt_in _ 0 rfl _))).trans (W_arg0 m c)⟩

theorem frame : θ_run defs (onTc (τ := τ) (main (F := F))) ⟨m, fun _ => 0, ρ⟩ fun r =>
    (∀ c : Dev nD, r.2.mem (c.tc.loc main_arg0) = m (c.tc.loc main_arg0)) ∧ r.2.sem = fun _ => 0 :=
  (θ_run defs _ _).mono (fun _ h => ⟨fun c => (ends m c _ (h.1 c)).2, h.2⟩) (run_main m ρ)

end

/-! ## The result over the reals -/

variable (m : (ℓ : Loc nD τ sig) → Buf (Elt Ideal) ℓ)

/-- A core's argument. -/
abbrev arg (c : Dev nD) : S4x2x14400x128.Idx → EReal := m ((c : Thread nD τ).loc main_arg0)

/-- The core's own half and its sibling's, added. -/
def summed (c : Dev nD) : S4x14400x128.Idx → EReal := fun i => arg m c (ix4 (i 0) (own c) (i 1) (i 2)) + arg m (toward 1 c) (ix4 (i 0) (own c) (i 1) (i 2))

theorem result_covers : ∀ c : Dev nD, ((cfg1 (F := Ideal) ⟨tab c, tab_ok c⟩).win 2).Covers := by decide +kernel

theorem index_0 (c : Dev nD) (t : Fin grid1.N) : ((cfg1 (F := Ideal) ⟨tab c, tab_ok c⟩).win 0).index t = ![(grid1.coords t 0).val, (own c).val, (grid1.coords t 1).val, 0] := tab_index c _
theorem transform_1 : ∀ t : Fin grid1.N, cc1_transform_1 (grid1.coords t) = ![(grid1.coords t 0).val, 0, (grid1.coords t 1).val, 0] := by decide +kernel
theorem transform_2 : ∀ t : Fin grid1.N, cc1_transform_2 (grid1.coords t) = ![(grid1.coords t 0).val, (grid1.coords t 1).val, 0] := by decide +kernel
theorem index_1 (c : Dev nD) (t : Fin grid1.N) : ((cfg1 (F := Ideal) ⟨tab c, tab_ok c⟩).win 1).index t = ![(grid1.coords t 0).val, 0, (grid1.coords t 1).val, 0] := transform_1 t
theorem index_2 (c : Dev nD) (t : Fin grid1.N) : ((cfg1 (F := Ideal) ⟨tab c, tab_ok c⟩).win 2).index t = ![(grid1.coords t 0).val, (grid1.coords t 1).val, 0] := transform_2 t

/-- What came from the sibling, at an index. -/
theorem got_at (c : Dev nD) (j : S4x1x14400x128.Idx) : W m c (Proc.devRef .tc main_v1) j = arg m (toward 1 c) (ix4 (j 0) (own c) (j 2) (j 3)) := congrFun (W_v1 m c) j

theorem result_eq (c : Dev nD) : result m c = summed m c := by
  refine Dat.arrAt_eq_of_covers (Partials.dat ⟨tab c, tab_ok c⟩ c (W m c)) 2 (summed m c) (result_covers c) fun t hf y => ?_
  blk_simp
  rw [Partials.after_2]
  pointwise [k1_pay1, summed]
  blk_point [Partials.iblk, W_arg0, W_v1, index_0 c t, index_1 c t, index_2 c t]
  refine (got_at m c _).trans ?_
  blk_ext [index_1 c t, index_2 c t]

end Cert.CoresIdeal.Halves

end
-- ==== Proof.Blocks.lean ====
/- A core's block of an array cut along its first axis, at an index. -/
module

public import Idealize.ShloMosaic.Lib.Layout
public import Idealize.ShloMosaic.Lib.Claim
public import Idealize.ShloMosaic.Lib.Pipeline.ValueKit

@[expose] public section

noncomputable section

namespace Talk

open Idealize.ShloMosaic

variable {α : Type} {A a n l r k : ℕ}

theorem block_two (v : (⟨2, ![A, n]⟩ : Shape).Idx → α) (h : Layout.Tiles ⟨2, ![a, n]⟩ ⟨2, ![A, n]⟩ 0 k) (c : Fin k) (i : (⟨2, ![a, n]⟩ : Shape).Idx) :
    Layout.block ⟨2, ![a, n]⟩ ⟨2, ![A, n]⟩ 0 k c v h i = v (ix2 ⟨c.val * a + (i 0).val, (h.idx c i 0).isLt⟩ (i 1)) :=
  congrArg v (funext fun b => match b with | ⟨0, _⟩ => rfl | ⟨1, _⟩ => rfl)

theorem block_three (v : (⟨3, ![A, n, l]⟩ : Shape).Idx → α) (h : Layout.Tiles ⟨3, ![a, n, l]⟩ ⟨3, ![A, n, l]⟩ 0 k) (c : Fin k) (i : (⟨3, ![a, n, l]⟩ : Shape).Idx) :
    Layout.block ⟨3, ![a, n, l]⟩ ⟨3, ![A, n, l]⟩ 0 k c v h i = v (ix3 ⟨c.val * a + (i 0).val, (h.idx c i 0).isLt⟩ (i 1) (i 2)) :=
  congrArg v (funext fun b => match b with | ⟨0, _⟩ => rfl | ⟨1, _⟩ => rfl | ⟨2, _⟩ => rfl)

theorem block_four (v : (⟨4, ![A, n, l, r]⟩ : Shape).Idx → α) (h : Layout.Tiles ⟨4, ![a, n, l, r]⟩ ⟨4, ![A, n, l, r]⟩ 0 k) (c : Fin k) (i : (⟨4, ![a, n, l, r]⟩ : Shape).Idx) :
    Layout.block ⟨4, ![a, n, l, r]⟩ ⟨4, ![A, n, l, r]⟩ 0 k c v h i = v (ix4 ⟨c.val * a + (i 0).val, (h.idx c i 0).isLt⟩ (i 1) (i 2) (i 3)) :=
  congrArg v (funext fun b => match b with | ⟨0, _⟩ => rfl | ⟨1, _⟩ => rfl | ⟨2, _⟩ => rfl | ⟨3, _⟩ => rfl)

end Talk

end
-- ==== Proof.CoresPlain.lean ====
/- The reference of a chip's partial gradients: its run, and its value block by block. -/
module

public import proofs.«01_k».proof.Proof.CoresValue
public import proofs.«01_k».proof.Proof.Blocks

@[expose] public section

set_option maxRecDepth 16384

noncomputable section

namespace Cert.CoresPlainIdeal.Sum

open Cert.CoresPlainIdeal
open Idealize.ShloMosaic Idealize.ShloMosaic.TcCoe Idealize.SL.Sem

variable {F : FTy → Type} [FloatOps F] (m : (ℓ : Loc nD τ sig) → Buf (Elt F) ℓ) (ρ : Dev nD → PrngReg)

/-- The reference's result of its argument. -/
def total (x : FVec F S32x2x14400x128 .f32) : FVec F S32x14400x128 .bf16 :=
  truncf .bf16 (shapeCast S32x14400x128 (transpose S4x2x4x14400x128 [0, 2, 1, 3, 4] (shapeCast S4x4x2x14400x128
    (Host.reduceAdd (shapeCast S4x2x8x14400x128 x (by decide)) (constant S_ .f32 0x00000000#32) (by decide : S4x2x8x14400x128.ReducesTo [1] S4x8x14400x128) (by decide : 0 < S_.numel))
      (by decide)) (by decide)) (by decide)) (by decide)

theorem run_main : θ_run defs (onTc (τ := τ) (main (F := F))) ⟨m, fun _ => 0, ρ⟩ fun r =>
    r.2.mem ((0 : Dev nD).tc.loc main_v5) = total (m ((0 : Dev nD).tc.loc main_arg0)) ∧ r.2.mem ((0 : Dev nD).tc.loc main_arg0) = m ((0 : Dev nD).tc.loc main_arg0) := by
  hlo_run
  rfl

theorem frame : θ_run defs (onTc (τ := τ) (main (F := F))) ⟨m, fun _ => 0, ρ⟩ fun r =>
    (∀ c : Dev nD, r.2.mem (c.tc.loc main_arg0) = m (c.tc.loc main_arg0)) ∧ r.2.sem = fun _ => 0 :=
  (θ_run defs _ _).mono (fun r h => ⟨fun c => by rw [show c = 0 from Subsingleton.elim _ _]; exact h.2, sem_eq_zero_of_no_sems (by decide) r.2⟩) (run_main m ρ)

/-- Two rows of the whole array, taken in either order, are a core's and its sibling's. -/
theorem either (c : Dev 8) (f : Fin 8 → EReal) : f ⟨c.val / 2 * 2, by omega⟩ + f ⟨c.val / 2 * 2 + 1, by omega⟩ = f c + f (Talk.Gather.toward 1 c) := by
  have h : (⟨c.val / 2 * 2, by omega⟩ = c ∧ (⟨c.val / 2 * 2 + 1, by omega⟩ : Fin 8) = Talk.Gather.toward 1 c)
      ∨ ((⟨c.val / 2 * 2, by omega⟩ : Fin 8) = Talk.Gather.toward 1 c ∧ (⟨c.val / 2 * 2 + 1, by omega⟩ : Fin 8) = c) := by revert c; decide
  rcases h with ⟨h, h'⟩ | ⟨h, h'⟩
  · rw [h, h']
  · rw [h, h', add_comm]

/-- Where the cores hold the blocks of the whole array, each ends with its block of the reference's result. -/
theorem summed_eq (m : (ℓ : Loc nD τ sig) → Buf (Elt Ideal) ℓ) (mk : (ℓ : Loc Cert.CoresIdeal.nD Cert.CoresIdeal.τ Cert.CoresIdeal.sig) → Buf (Elt Ideal) ℓ)
    (hagree : ∀ c : Dev Cert.CoresIdeal.nD, mk (c.tc.loc Cert.CoresIdeal.main_arg0) = Layout.block ⟨4, ![4, 2, 14400, 128]⟩ ⟨4, ![32, 2, 14400, 128]⟩ 0 8 c (m ((0 : Dev nD).tc.loc main_arg0)))
    (c : Dev 8) : Cert.CoresIdeal.Halves.summed mk c = Layout.block ⟨3, ![4, 14400, 128]⟩ ⟨3, ![32, 14400, 128]⟩ 0 8 c (total (F := Ideal) (m ((0 : Dev nD).tc.loc main_arg0))) := by
  let x : S32x2x14400x128.Idx → EReal := m ((0 : Dev nD).tc.loc main_arg0)
  funext j
  have hj : (j 0).val < 4 := (j 0).isLt
  have hrow (d : Dev 8) : Cert.CoresIdeal.Halves.arg mk d (ix4 (j 0) (Cert.CoresIdeal.Halves.own c) (j 1) (j 2))
      = x (ix4 ⟨d.val * 4 + (j 0).val, by omega⟩ (Cert.CoresIdeal.Halves.own c) (j 1) (j 2)) :=
    (congrFun (hagree d) _).trans (Talk.block_four _ _ d _)
  refine Eq.trans ?_ (Talk.block_three _ _ c j).symm
  unfold Cert.CoresIdeal.Halves.summed
  rw [hrow, hrow, ← either c fun d => x (ix4 ⟨d.val * 4 + (j 0).val, by omega⟩ (Cert.CoresIdeal.Halves.own c) (j 1) (j 2))]
  pointwise [total]
  rw [Fin.sum_univ_two]
  have hc : c.val < 8 := c.isLt
  refine congrArg₂ (· + ·) (congrArg x (congrArg₂ (fun a b => ix4 a b _ _) ?_ ?_)) (congrArg x (congrArg₂ (fun a b => ix4 a b _ _) ?_ ?_)) <;>
    refine Fin.ext ?_ <;> simp [Cert.CoresIdeal.Halves.own] <;> omega

end Cert.CoresPlainIdeal.Sum

end
-- ==== Proof.Shards.lean ====
/- The AdamW step of a core's shards: a region that sums, block by block, the partial gradients of the core's own block
   and moves the parameters' averages by the sum.

   Each point of the grid reads one block of rows of the core's own partial gradient, of its sibling's, of the three that
   came from the other chips, and of the parameters and their averages. It leaves the gradient, the step of the
   parameters and the new averages in the same block of rows of the four results. -/
module

public import proofs.«01_k».proof.Proof.Quiet
public import proofs.«01_k».proof.Proof.Gen.ChipsIdeal.Skeleton
public import proofs.«01_k».proof.Proof.Gen.ChipsIdeal.Launch
public import Idealize.ShloMosaic.Lib.Pipeline.FrameBody
public import Idealize.ShloMosaic.Lib.Ring
public import Idealize.ShloMosaic.Lib.VecWindow
public import Idealize.ShloMosaic.Lib.WordCmp

@[expose] public section

set_option maxRecDepth 16384

noncomputable section

namespace Cert.ChipsIdeal.Shards

open Cert.ChipsIdeal Cert.ChipsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk

variable {F : FTy → Type} [FloatOps F]

local notation "𝕄" => MT nD τ sig Unit (Elt F) ℕ (UU nD τ sig) ℕ

/-! ## What a point leaves -/

/-- One of the three blocks that came from the other chips. -/
def slot (x : Vec F S3x1200x128 .bf16) (off : Fin 3 → ℕ) (inb : ∀ a, off a + S1x1200x128.size a ≤ S3x1200x128.size a) : Vec F S1x1200x128 .bf16 :=
  View.ld x (Rect.unit (s := S3x1200x128) off S1x1200x128.size inb)

/-- The block a load at a member's offset finds. -/
theorem load_slot {arg : Memref sig .tc .vmem S3x1200x128 .bf16} (h : arg.IsWhole) (x : Vec F S3x1200x128 .bf16) (off) (inb) :
    View.readAt (Elt F) arg.view (Rect.unit (s := S3x1200x128) off S1x1200x128.size inb).toLoadRect (h.unread x) = slot x off inb := by
  rw [View.readAt_eq_ld, h.read_unread]; rfl

section
variable (x0 x1 : Vec F S1x1x1200x128 .f32) (x2 : Vec F S3x1200x128 .bf16) (x3 x4 x5 : Vec F S1200x128 .f32)

abbrev s0 := slot x2 ![0, 0, 0] inb_S3x1200x128_S1x1200x128_0_0_0
abbrev s1 := slot x2 ![1, 0, 0] inb_S3x1200x128_S1x1200x128_1_0_0
abbrev s2 := slot x2 ![2, 0, 0] inb_S3x1200x128_S1x1200x128_2_0_0

/-- The gradient, -/
def gradOf : Vec F S1200x128 .f32 := k1_pay3 x0 x1 (s0 x2) (s1 x2) (s2 x2)
/-- the new average of gradients, -/
def meanOf : Vec F S1200x128 .f32 := k1_pay5 x0 x1 (s0 x2) (s1 x2) (s2 x2) x4
/-- the new average of their squares, -/
def squareOf : Vec F S1200x128 .f32 := k1_pay1 (k1_pay6 x5) (k1_pay7 x0 x1 (s0 x2) (s1 x2) (s2 x2)) k1_pay8
/-- and the parameters' step. -/
def deltaOf : Vec F S1200x128 .f32 := k1_pay2 (k1_pay4 x3) (k1_pay5 x0 x1 (s0 x2) (s1 x2) (s2 x2) x4) (k1_pay6 x5) (k1_pay7 x0 x1 (s0 x2) (s1 x2) (s2 x2)) k1_pay8
end

set_option maxHeartbeats 1600000 in
/-- One point of the grid, on any whole buffers. -/
theorem point (c : Dev nD) (i : grid1.Coords) (arg1 : Memref sig .tc .smem S2 .i32) (harg1 : arg1.IsWhole) (arg2 : Memref sig .tc .vmem S1x1x1200x128 .f32) (harg2 : arg2.IsWhole) (arg3 : Memref sig .tc .vmem S1x1x1200x128 .f32) (harg3 : arg3.IsWhole) (arg4 : Memref sig .tc .vmem S3x1200x128 .bf16) (harg4 : arg4.IsWhole) (arg5 : Memref sig .tc .vmem S1200x128 .f32) (harg5 : arg5.IsWhole) (arg6 : Memref sig .tc .vmem S1200x128 .f32) (harg6 : arg6.IsWhole) (arg7 : Memref sig .tc .vmem S1200x128 .f32) (harg7 : arg7.IsWhole) (arg8 : Memref sig .tc .vmem S1200x128 .f32) (harg8 : arg8.IsWhole) (arg9 : Memref sig .tc .vmem S1200x128 .f32) (harg9 : arg9.IsWhole) (arg10 : Memref sig .tc .vmem S1200x128 .f32) (harg10 : arg10.IsWhole) (arg11 : Memref sig .tc .vmem S1200x128 .f32) (harg11 : arg11.IsWhole)
    (x0 x1 : Vec F S1x1x1200x128 .f32) (x2 : Vec F S3x1200x128 .bf16) (x3 x4 x5 : Vec F S1200x128 .f32) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (gradOf x0 x1 x2) ∗ owns (c : Thread nD τ) arg9 fullShare (deltaOf x0 x1 x2 x3 x4 x5) ∗ owns (c : Thread nD τ) arg10 fullShare (meanOf x0 x1 x2 x4) ∗ owns (c : Thread nD τ) arg11 fullShare (squareOf x0 x1 x2 x5)) -∗ Kt ⟨⟩))
      ⊢ wp frame (wpE (defs₀ (F := F)) Variants.none c none) Set.univ (cc1_adamw_shards i arg1 harg1 arg2 harg2 arg3 harg3 arg4 harg4 arg5 harg5 arg6 harg6 arg7 harg7 arg8 harg8 arg9 harg9 arg10 harg10 arg11 harg11) Kt := by
  rw [cc1_adamw_shards_eq_skeleton]; unfold cc1_adamw_shards_skel
  rw [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    repeat first | rw [View.readAt_full] | rw [load_slot] | rw [Memref.IsWhole.read_unread]
    rfl
  isplitl [H7]
  · iexists _; isplitr
    swap; · iexact H7
    ipureintro
    refine (View.read_writes_full _ _ _ _ _).trans ?_
    repeat first | rw [View.readAt_full] | rw [load_slot] | rw [Memref.IsWhole.read_unread]
    rfl
  isplitl [H8]
  · iexists _; isplitr
    swap; · iexact H8
    ipureintro
    refine (View.read_writes_full _ _ _ _ _).trans ?_
    repeat first | rw [View.readAt_full] | rw [load_slot] | rw [Memref.IsWhole.read_unread]
    rfl
  iexists _; isplitr
  swap; · iexact H9
  ipureintro
  refine (View.read_writes_full _ _ _ _ _).trans ?_
  repeat first | rw [View.readAt_full] | rw [load_slot] | rw [Memref.IsWhole.read_unread]
  rfl

/-! ## The region -/

variable (ad : (pcfg1 (F := F)).Adm) (c : Dev nD) (W : Valuation τ sig (Elt F))

/-- A window's block at a point, read off the array the region finds. -/
def iblk (w : Fin (cfg1 ad).W) (t : Fin (cfg1 ad).N) : (((cfg1 ad).win w).xblock ((cfg1 ad).grid.coords t)).Idx → Elt F ((cfg1 ad).win w).elt :=
  (((cfg1 ad).win w).blk t).view.read (Elt F) (W (Proc.devRef .tc (arrRef spec1 w)))

/-- What the region does: the inputs' blocks stay as they are, the results' are what a point leaves. -/
def dat : Dat τ (Elt F) Unit ℕ (UU nD τ sig) ℕ (cfg1 ad) c where
  A w := W (Proc.devRef .tc (arrRef spec1 w))
  after w t := match w with
    | ⟨0, _⟩ => iblk ad W 0 t
    | ⟨1, _⟩ => iblk ad W 1 t
    | ⟨2, _⟩ => iblk ad W 2 t
    | ⟨3, _⟩ => iblk ad W 3 t
    | ⟨4, _⟩ => iblk ad W 4 t
    | ⟨5, _⟩ => iblk ad W 5 t
    | ⟨6, _⟩ => gradOf (iblk ad W 0 t) (iblk ad W 1 t) (iblk ad W 2 t)
    | ⟨7, _⟩ => deltaOf (iblk ad W 0 t) (iblk ad W 1 t) (iblk ad W 2 t) (iblk ad W 3 t) (iblk ad W 4 t) (iblk ad W 5 t)
    | ⟨8, _⟩ => meanOf (iblk ad W 0 t) (iblk ad W 1 t) (iblk ad W 2 t) (iblk ad W 4 t)
    | ⟨9, _⟩ => squareOf (iblk ad W 0 t) (iblk ad W 1 t) (iblk ad W 2 t) (iblk ad W 5 t)
  Φ _ := iprop(scopedRest spec1 c ∗ prefHeld pre1 c (fun _ => fullShare) ad.1)
  q _ := fullShare
  owed _ := 0

theorem A_eq (w : Fin (cfg1 ad).W) : (dat ad c W).A w = W (Proc.devRef .tc (arrRef spec1 w)) := by dsimp only [dat]
theorem after_0 (t : Fin (cfg1 ad).N) : (dat ad c W).after 0 t = iblk ad W 0 t := by dsimp only [dat]; try rfl
theorem after_1 (t : Fin (cfg1 ad).N) : (dat ad c W).after 1 t = iblk ad W 1 t := by dsimp only [dat]; try rfl
theorem after_2 (t : Fin (cfg1 ad).N) : (dat ad c W).after 2 t = iblk ad W 2 t := by dsimp only [dat]; try rfl
theorem after_3 (t : Fin (cfg1 ad).N) : (dat ad c W).after 3 t = iblk ad W 3 t := by dsimp only [dat]; try rfl
theorem after_4 (t : Fin (cfg1 ad).N) : (dat ad c W).after 4 t = iblk ad W 4 t := by dsimp only [dat]; try rfl
theorem after_5 (t : Fin (cfg1 ad).N) : (dat ad c W).after 5 t = iblk ad W 5 t := by dsimp only [dat]; try rfl
theorem after_6 (t : Fin (cfg1 ad).N) : (dat ad c W).after 6 t = gradOf (iblk ad W 0 t) (iblk ad W 1 t) (iblk ad W 2 t) := by dsimp only [dat]; try rfl
theorem after_7 (t : Fin (cfg1 ad).N) : (dat ad c W).after 7 t = deltaOf (iblk ad W 0 t) (iblk ad W 1 t) (iblk ad W 2 t) (iblk ad W 3 t) (iblk ad W 4 t) (iblk ad W 5 t) := by dsimp only [dat]; try rfl
theorem after_8 (t : Fin (cfg1 ad).N) : (dat ad c W).after 8 t = meanOf (iblk ad W 0 t) (iblk ad W 1 t) (iblk ad W 2 t) (iblk ad W 4 t) := by dsimp only [dat]; try rfl
theorem after_9 (t : Fin (cfg1 ad).N) : (dat ad c W).after 9 t = squareOf (iblk ad W 0 t) (iblk ad W 1 t) (iblk ad W 2 t) (iblk ad W 5 t) := by dsimp only [dat]; try rfl

/-- The inputs' buffers hold their blocks when a point starts. -/
theorem before_0 (t : Fin (cfg1 ad).N) (d) : (dat ad c W).before 0 t d = iblk ad W 0 t :=
  steady (dat ad c W) 0 (iblk ad W 0) rfl (fun _ => rfl) (fun _ _ _ => rfl) (after_0 ad c W) (fun _ => rfl) (fun _ _ => rfl) t d
theorem before_1 (t : Fin (cfg1 ad).N) (d) : (dat ad c W).before 1 t d = iblk ad W 1 t :=
  steady (dat ad c W) 1 (iblk ad W 1) rfl (fun _ => rfl) (fun _ _ _ => rfl) (after_1 ad c W) (fun _ => rfl) (fun _ _ => rfl) t d
theorem before_2 (t : Fin (cfg1 ad).N) (d) : (dat ad c W).before 2 t d = iblk ad W 2 t :=
  steady (dat ad c W) 2 (iblk ad W 2) rfl (fun _ => rfl) (fun _ _ _ => rfl) (after_2 ad c W) (fun _ => rfl) (fun _ _ => rfl) t d
theorem before_3 (t : Fin (cfg1 ad).N) (d) : (dat ad c W).before 3 t d = iblk ad W 3 t :=
  steady (dat ad c W) 3 (iblk ad W 3) rfl (fun _ => rfl) (fun _ _ _ => rfl) (after_3 ad c W) (fun _ => rfl) (fun _ _ => rfl) t d
theorem before_4 (t : Fin (cfg1 ad).N) (d) : (dat ad c W).before 4 t d = iblk ad W 4 t :=
  steady (dat ad c W) 4 (iblk ad W 4) rfl (fun _ => rfl) (fun _ _ _ => rfl) (after_4 ad c W) (fun _ => rfl) (fun _ _ => rfl) t d
theorem before_5 (t : Fin (cfg1 ad).N) (d) : (dat ad c W).before 5 t d = iblk ad W 5 t :=
  steady (dat ad c W) 5 (iblk ad W 5) rfl (fun _ => rfl) (fun _ _ _ => rfl) (after_5 ad c W) (fun _ => rfl) (fun _ _ => rfl) t d

/-- The buffers a point works on. -/
abbrev ms_0 (t : Fin (cfg1 ad).N) : Memref sig .tc .vmem S1x1x1200x128 .f32 := spec1_0.stage ((cfg1 ad).slots t 0)
abbrev ms_1 (t : Fin (cfg1 ad).N) : Memref sig .tc .vmem S1x1x1200x128 .f32 := spec1_1.stage ((cfg1 ad).slots t 1)
abbrev ms_2 (t : Fin (cfg1 ad).N) : Memref sig .tc .vmem S3x1200x128 .bf16 := spec1_2.stage ((cfg1 ad).slots t 2)
abbrev ms_3 (t : Fin (cfg1 ad).N) : Memref sig .tc .vmem S1200x128 .f32 := spec1_3.stage ((cfg1 ad).slots t 3)
abbrev ms_4 (t : Fin (cfg1 ad).N) : Memref sig .tc .vmem S1200x128 .f32 := spec1_4.stage ((cfg1 ad).slots t 4)
abbrev ms_5 (t : Fin (cfg1 ad).N) : Memref sig .tc .vmem S1200x128 .f32 := spec1_5.stage ((cfg1 ad).slots t 5)
abbrev ms_6 (t : Fin (cfg1 ad).N) : Memref sig .tc .vmem S1200x128 .f32 := spec1_6.stage ((cfg1 ad).slots t 6)
abbrev ms_7 (t : Fin (cfg1 ad).N) : Memref sig .tc .vmem S1200x128 .f32 := spec1_7.stage ((cfg1 ad).slots t 7)
abbrev ms_8 (t : Fin (cfg1 ad).N) : Memref sig .tc .vmem S1200x128 .f32 := spec1_8.stage ((cfg1 ad).slots t 8)
abbrev ms_9 (t : Fin (cfg1 ad).N) : Memref sig .tc .vmem S1200x128 .f32 := spec1_9.stage ((cfg1 ad).slots t 9)

/-- What a point runs. -/
abbrev bodyAt (t : Fin (cfg1 ad).N) : Prog (TpuEff nD τ sig (Elt F) Λ₀ .tc) PUnit :=
  cc1_adamw_shards (grid1.coords t) (Memref.whole main_v18) (Memref.isWhole_whole _)
    (ms_0 ad t) (hstage1_0 (((cfg1 ad).slots t 0).cast nbuf1_0))
    (ms_1 ad t) (hstage1_1 (((cfg1 ad).slots t 1).cast nbuf1_1))
    (ms_2 ad t) (hstage1_2 (((cfg1 ad).slots t 2).cast nbuf1_2))
    (ms_3 ad t) (hstage1_3 (((cfg1 ad).slots t 3).cast nbuf1_3))
    (ms_4 ad t) (hstage1_4 (((cfg1 ad).slots t 4).cast nbuf1_4))
    (ms_5 ad t) (hstage1_5 (((cfg1 ad).slots t 5).cast nbuf1_5))
    (ms_6 ad t) (hstage1_6 (((cfg1 ad).slots t 6).cast nbuf1_6))
    (ms_7 ad t) (hstage1_7 (((cfg1 ad).slots t 7).cast nbuf1_7))
    (ms_8 ad t) (hstage1_8 (((cfg1 ad).slots t 8).cast nbuf1_8))
    (ms_9 ad t) (hstage1_9 (((cfg1 ad).slots t 9).cast nbuf1_9))

theorem row (t : Fin (cfg1 ad).N) : defs₀ (F := F) .tc (cfg1 ad).body ((cfg1 ad).bodyArgs t ((cfg1 ad).slots t)) = bodyAt ad t := by
  unfold defs₀; rw [Defs.onTc_tc]

theorem sound (t : Fin (cfg1 ad).N) :
    iprop((dat ad c W).Φ t.castSucc ∗ (dat ad c W).owesAt () t.castSucc
        ∗ (∃ d, owns (c : Thread nD τ) (ms_0 ad t) fullShare ((dat ad c W).before 0 t d))
        ∗ (∃ d, owns (c : Thread nD τ) (ms_1 ad t) fullShare ((dat ad c W).before 1 t d))
        ∗ (∃ d, owns (c : Thread nD τ) (ms_2 ad t) fullShare ((dat ad c W).before 2 t d))
        ∗ (∃ d, owns (c : Thread nD τ) (ms_3 ad t) fullShare ((dat ad c W).before 3 t d))
        ∗ (∃ d, owns (c : Thread nD τ) (ms_4 ad t) fullShare ((dat ad c W).before 4 t d))
        ∗ (∃ d, owns (c : Thread nD τ) (ms_5 ad t) fullShare ((dat ad c W).before 5 t d))
        ∗ (∃ d, owns (c : Thread nD τ) (ms_6 ad t) fullShare ((dat ad c W).before 6 t d))
        ∗ (∃ d, owns (c : Thread nD τ) (ms_7 ad t) fullShare ((dat ad c W).before 7 t d))
        ∗ (∃ d, owns (c : Thread nD τ) (ms_8 ad t) fullShare ((dat ad c W).before 8 t d))
        ∗ (∃ d, owns (c : Thread nD τ) (ms_9 ad t) fullShare ((dat ad c W).before 9 t d)))
      ⊢ wp frame (wpE (defs₀ (F := F)) Variants.none c none) Set.univ (bodyAt ad t)
        fun _ => iprop((dat ad c W).Φ t.succ ∗ (dat ad c W).owesAt () t.succ
          ∗ owns (c : Thread nD τ) (ms_0 ad t) fullShare ((dat ad c W).after 0 t)
          ∗ owns (c : Thread nD τ) (ms_1 ad t) fullShare ((dat ad c W).after 1 t)
          ∗ owns (c : Thread nD τ) (ms_2 ad t) fullShare ((dat ad c W).after 2 t)
          ∗ owns (c : Thread nD τ) (ms_3 ad t) fullShare ((dat ad c W).after 3 t)
          ∗ owns (c : Thread nD τ) (ms_4 ad t) fullShare ((dat ad c W).after 4 t)
          ∗ owns (c : Thread nD τ) (ms_5 ad t) fullShare ((dat ad c W).after 5 t)
          ∗ owns (c : Thread nD τ) (ms_6 ad t) fullShare ((dat ad c W).after 6 t)
          ∗ owns (c : Thread nD τ) (ms_7 ad t) fullShare ((dat ad c W).after 7 t)
          ∗ owns (c : Thread nD τ) (ms_8 ad t) fullShare ((dat ad c W).after 8 t)
          ∗ owns (c : Thread nD τ) (ms_9 ad t) fullShare ((dat ad c W).after 9 t)) := by
  simp only [before_0, before_1, before_2, before_3, before_4, before_5, after_0, after_1, after_2, after_3, after_4, after_5, after_6, after_7, after_8, after_9]
  rw [show (dat ad c W).Φ t.succ = (dat ad c W).Φ t.castSucc from rfl, show (dat ad c W).owesAt () t.succ = (dat ad c W).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point c (grid1.coords t) _ _ _ _ _ _ _ _ _ _ _ _ _ _ _ _ _ _ _ _ _ _ (iblk ad W 0 t) (iblk ad W 1 t) (iblk ad W 2 t) (iblk ad W 3 t) (iblk ad W 4 t) (iblk ad W 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation : BodyObligation (dat ad c W) (defs₀ (F := F)) Variants.none () Set.univ := fun t => by
  rw [bigSep_W1, bigSep_W1, row ad]
  exact triple_restated (sound ad c W t) rfl .rfl fun _ => .rfl

end Cert.ChipsIdeal.Shards

end
-- ==== Proof.Quads.lean ====
/- The exchange of partial gradients between the chips, and the AdamW step of the shards after it.

   A core sends each of the three other chips the partial gradient of that chip's block, to the core of that chip that
   has its own place there, and receives its own block's three other partial gradients. The host names the core and its
   chip in a table, and the second region sums the partial gradients of the core's block and takes the step. -/
module

public import proofs.«01_k».proof.Proof.SwapMemory
public import proofs.«01_k».proof.Proof.Shards
public import proofs.«01_k».proof.Proof.Gen.ChipsIdeal.Regions

@[expose] public section

set_option maxRecDepth 16384

noncomputable section

namespace Cert.ChipsIdeal.Quads

open Cert.ChipsIdeal Cert.ChipsIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Talk.Swap
open Talk.Gather (Piece toward toward_toward toward_zero)

variable {F : FTy → Type} [FloatOps F]

/-! ## The printed exchange -/

/-- A member of the core's array, -/
def chunkAt (off : Fin 3 → ℕ) (inb : ∀ a, off a + S1x14400x128.size a ≤ S4x14400x128.size a)
    (ww : (Rect.unit (s := S4x14400x128) off S1x14400x128.size inb).WholeWords (EltTy.packing .bf16)) : Piece sig S14400x128 .bf16 where
  m := ((Memref.whole main_arg0).slice (Rect.unit (s := S4x14400x128) off S1x14400x128.size inb) (fun _ => rfl)).squeeze S14400x128 squeezes_S1x14400x128_S14400x128
  we := ((Memref.isWhole_whole main_arg0).wordExact_slice rfl _ ww).reshape _ _
  sc := rfl

theorem chunkAt_eq {off off' : Fin 3 → ℕ} (h : off = off') (inb) (ww) (inb') (ww') : chunkAt off inb ww = chunkAt off' inb' ww' := by
  subst h; rfl

theorem off_inb (b : Fin 4) : ∀ a, (![b.val, 0, 0] : Fin 3 → ℕ) a + S1x14400x128.size a ≤ S4x14400x128.size a := by
  revert b; decide +kernel
theorem off_ww (b : Fin 4) : (Rect.unit (s := S4x14400x128) ![b.val, 0, 0] S1x14400x128.size (off_inb b)).WholeWords (EltTy.packing .bf16) := by
  revert b; decide +kernel
/-- the one for chip `b`; -/
def chunk (b : Fin 4) : Piece sig S14400x128 .bf16 := chunkAt ![b.val, 0, 0] (off_inb b) (off_ww b)

theorem got_inb (i : Fin 3) : ∀ a, (![i.val, 0, 0] : Fin 3 → ℕ) a + S1x14400x128.size a ≤ S3x14400x128.size a := by
  revert i; decide +kernel
theorem got_ww (i : Fin 3) : (Rect.unit (s := S3x14400x128) ![i.val, 0, 0] S1x14400x128.size (got_inb i)).WholeWords (EltTy.packing .bf16) := by
  revert i; decide +kernel
/-- and where what comes over link `i` arrives. -/
def got (i : Fin 3) : Piece sig S14400x128 .bf16 where
  m := ((Memref.whole main_v1).slice (Rect.unit (s := S3x14400x128) ![i.val, 0, 0] S1x14400x128.size (got_inb i)) (fun _ => rfl)).squeeze S14400x128 squeezes_S1x14400x128_S14400x128
  we := ((Memref.isWhole_whole main_v1).wordExact_slice rfl _ (got_ww i)).reshape _ _
  sc := rfl

/-- The exchange's six semaphores. -/
def sm : Talk.Swap.K 3 → DmaSem sig
  | .inl i => (⟨i.val, by omega⟩ : Fin 26)
  | .inr i => (⟨3 + i.val, by omega⟩ : Fin 26)

/-- The members and the cores that the kernel names, link by link. -/
def named (c : Dev 8) : Fin 3 → Piece sig S14400x128 .bf16 :=
  ![chunkAt (k0_off1 c) (k0_off1_inb c) (k0_off1_wordsbf16 c), chunkAt (k0_off2 c) (k0_off2_inb c) (k0_off2_wordsbf16 c), chunkAt (k0_off3 c) (k0_off3_inb c) (k0_off3_wordsbf16 c)]
def peers (c : Dev 8) : Fin 3 → Dev 8 := ![⟨k0_dev1 c, k0_dev1_lt c⟩, ⟨k0_dev2 c, k0_dev2_lt c⟩, ⟨k0_dev3 c, k0_dev3_lt c⟩]

theorem printed : cc0_rs_chip_exchange (F := F) (Memref.whole main_arg0) (Memref.isWhole_whole _) (Memref.whole main_v1) (Memref.isWhole_whole _) cc0_scratch0 cc0_scratch1
    = .op .deviceId fun c => sends (named c) got sm (peers c) (waits (named c) got sm [0, 1, 2]) [0, 1, 2] := by
  rw [cc0_rs_chip_exchange_eq_skeleton]; unfold cc0_rs_chip_exchange_skel
  rw [k0_part1_eq_skeleton, k0_part2_eq_skeleton, k0_part3_eq_skeleton]
  unfold k0_part1_skel k0_part2_skel k0_part3_skel
  simp only [Prog.lift, Prog.bind_op, Prog.bind_ret, Prog.pure_eq_ret]
  rfl

/-- The chip a core is on, and the chip across link `i`. -/
def chip (c : Dev 8) : Fin 4 := ⟨c.val / 2, by omega⟩
def link (i : Fin 3) : Dev 8 := ![4, 2, 6] i
def to_ (c : Dev 8) (i : Fin 3) : Fin 4 := chip (toward (link i) c)

theorem named_eq (c : Dev 8) (i : Fin 3) : named c i = chunk (to_ c i) := by
  have h : ∀ c : Dev 8, (((c.val / 2) % 2) + 2) - 2 * (c.val / 4) = (to_ c 0).val ∧ (2 * (c.val / 4) + 1) - ((c.val / 2) % 2) = (to_ c 1).val
      ∧ 3 - (2 * (c.val / 4) + ((c.val / 2) % 2)) = (to_ c 2).val := by decide
  match i with
  | 0 => exact chunkAt_eq ((k0_off1_eq c).trans (by rw [(h c).1])) _ (k0_off1_wordsbf16 c) _ _
  | 1 => exact chunkAt_eq ((k0_off2_eq c).trans (by rw [(h c).2.1])) _ (k0_off2_wordsbf16 c) _ _
  | 2 => exact chunkAt_eq ((k0_off3_eq c).trans (by rw [(h c).2.2])) _ (k0_off3_wordsbf16 c) _ _

theorem peers_eq (c : Dev 8) (i : Fin 3) : peers c i = toward (link i) c := by
  have h : ∀ c : Dev 8, (2 * ((c.val / 2) % 2) + (c.val % 2) + 4) - 4 * (c.val / 4) = (toward (link 0) c).val
      ∧ (4 * (c.val / 4) + (c.val % 2) + 2) - 2 * ((c.val / 2) % 2) = (toward (link 1) c).val
      ∧ ((c.val % 2) + 6) - (4 * (c.val / 4) + 2 * ((c.val / 2) % 2)) = (toward (link 2) c).val := by decide
  match i with
  | 0 => exact Fin.ext ((k0_dev1_eq c).trans (h c).1)
  | 1 => exact Fin.ext ((k0_dev2_eq c).trans (h c).2.1)
  | 2 => exact Fin.ext ((k0_dev3_eq c).trans (h c).2.2)

variable (m : (ℓ : Loc nD τ sig) → Buf (Elt F) ℓ) (ρ : Dev nD → PrngReg)

theorem credit (p q : Piece sig S14400x128 .bf16) : p.m.view.dmaCredit = q.m.view.dmaCredit := rfl

/-- The kernel as an exchange over three links. -/
def site : Site τ sig (Elt F) S14400x128 .bf16 3 where
  src c i := chunk (to_ c i)
  dst := got
  sm := sm
  inj := by decide
  across i := toward (link i)
  across_across i c := by revert i c; decide
  N := (got 0).m.view.dmaCredit
  N_pos := View.dmaCredit_pos _ (by decide)
  src_credit _ _ := credit _ _
  dst_credit _ := credit _ _
  fx c _ := m ((c : Thread nD τ).loc main_arg0)
  routes := by decide

local notation "𝕄" => MT nD τ sig Unit (Elt F) ℕ (UU nD τ sig) ℕ

theorem body (c : Dev nD) (keep : Dev nD → sProp 𝕄) {defs' : Defs nD τ sig (Elt F) Λ₀} :
    iprop(kit (site m).plan c ∗ levAts L (lv (site m).plan) ∗ owing (site m).plan (site m).plan.far c ∗ (site m).pre keep c)
      ⊢ wp frame (wpE defs' Variants.none (c : Thread nD τ) none) Set.univ
          (cc0_rs_chip_exchange (F := F) (Memref.whole main_arg0) (Memref.isWhole_whole _) (Memref.whole main_v1) (Memref.isWhole_whole _) cc0_scratch0 cc0_scratch1)
          fun _ => iprop(owing (site m).plan ∅ c ∗ ownSems0 (site m).plan.osem c ∗ (site m).post keep c) := by
  rw [printed]
  simp only [wp_deviceId]
  exact (site m).body Variants.none c keep (named_eq c) (fun _ => rfl) (peers_eq c) [0, 1, 2] (by decide) (by decide)

/-! ## The memory around it -/

abbrev four : Tiles S4x14400x128.Idx (Fin 4) S14400x128.Idx := members 4 14400 128
abbrev three : Tiles S3x14400x128.Idx (Fin 3) S14400x128.Idx := members 3 14400 128

theorem chunk_emb (b : Fin 4) (j : S14400x128.Idx) : (chunk b).m.view.emb j = four.at_ b j := member_emb (Memref.whole main_arg0) b rfl (off_inb b) squeezes_S1x14400x128_S14400x128 j
theorem got_emb (i : Fin 3) (j : S14400x128.Idx) : (got i).m.view.emb j = three.at_ i j := member_emb (Memref.whole main_v1) i rfl (got_inb i) squeezes_S1x14400x128_S14400x128 j

theorem covers : ∀ b i, Iff (i ∈ (chunk b).m.view.set) (four.tile i = b) := four.covers_of_emb (fun _ => rfl) chunk_emb
theorem places : ∀ b i, Iff (i ∈ (got b).m.view.set) (three.tile i = b) := three.covers_of_emb (fun _ => rfl) got_emb

/-- The members of a core's array that it sends. -/
def sent (c : Dev 8) : Fin 3 ↪ Fin 4 := ⟨to_ c, by revert c; decide⟩

/-- The member it keeps: its own chip's. -/
def kept (c : Dev nD) : sProp 𝕄 := Tiles.others (ℓ := (c : Thread nD τ).loc main_arg0) (fun b => (chunk b).m.view.set) (sent c) (m ((c : Thread nD τ).loc main_arg0))

/-- What a core receives: over each link, its own chip's member of the array across. -/
def received (c : Dev nD) : S3x14400x128.Idx → Elt F .bf16 := fun j => m ((toward (link (j 0)) c : Thread nD τ).loc main_arg0) (ix3 (chip c) (j 1) (j 2))

theorem sent_at (c : Dev nD) (i : Fin 3) (j : S14400x128.Idx) : (site m).sent (toward (link i) c) i j = received m c (three.at_ i j) := by
  have h : to_ (toward (link i) c) i = chip c := by revert i c; decide
  refine (congrArg (m ((toward (link i) c : Thread nD τ).loc main_arg0)) (chunk_emb (to_ (toward (link i) c) i) j)).trans ?_
  rw [h]; rfl

theorem hX (c : Dev nD) : ((((c : Thread nD τ).loc main_arg0) ↦{fullShare} m ((c : Thread nD τ).loc main_arg0)) : sProp 𝕄)
    = iprop((bigSep Finset.univ fun i => (site m).X i c) ∗ kept m c) :=
  Tiles.along (ℓ := (c : Thread nD τ).loc main_arg0) four covers (sent c) _

theorem hE (c : Dev nD) : ((((c : Thread nD τ).loc main_v1) ↦{fullShare} m ((c : Thread nD τ).loc main_v1)) : sProp 𝕄) ⊢ bigSep Finset.univ fun i => (site m).E i c := by
  rw [Tiles.cut (ℓ := (c : Thread nD τ).loc main_v1) three places]
  refine bigSep_mono fun i _ => ?_
  unfold Talk.Swap.Site.E
  show (_ : sProp 𝕄) ⊢ _
  iintro H
  iexists m ((c : Thread nD τ).loc main_v1)
  iexact H

theorem hS (c : Dev nD) : (bigSep Finset.univ fun i => (site m).S i c) ⊢ (((c : Thread nD τ).loc main_v1) ↦{fullShare} received m c : sProp 𝕄) := by
  refine BIBase.Entails.trans (bigSep_mono fun i _ => ?_) (Tiles.join (ℓ := (c : Thread nD τ).loc main_v1) three places (received m c))
  unfold Talk.Swap.Site.S
  show (_ : sProp 𝕄) ⊢ _
  iintro ⟨%f, %hf, H⟩
  iexists f
  isplitr
  · ipureintro
    intro j
    exact (congrArg f (got_emb i j)).symm.trans ((congrFun hf j).trans (sent_at m c i j))
  iexact H

/-! ## The host's table -/

/-- Which of its chip's two cores a core is. -/
def own (c : Dev 8) : Fin 2 := ⟨c.val % 2, Nat.mod_lt _ (by decide)⟩

/-- The table: the core's place on its chip, and its chip. -/
def tab (c : Dev nD) : pre1.Contents (Elt F) := fun
  | 0 => (fun j => ![BitVec.ofNat 32 (c.val % 2), BitVec.ofNat 32 (c.val / 2)] (j 0) : S2.Idx → BitVec 32)
  | ⟨_ + 1, h⟩ => absurd h (Nat.not_lt.2 (Nat.le_add_left _ _))

theorem word (n : ℕ) (h : n < 2 ^ 32) : (BitVec.ofNat 32 n).toNat = n := by rw [BitVec.toNat_ofNat]; exact Nat.mod_eq_of_lt h

theorem tab_index0 (c : Dev nD) (i : grid1.Coords) : cc1_transform_0 inb_S2_S1_1 numel1_S1 inb_S2_S1_0 (tab (F := F) c) i = ![(chip c).val, (own c).val, (i 0).val, 0] := by
  have h0 : (i 0).val < 12 := (i 0).isLt
  have hc : c.val < 8 := c.isLt
  show ![(BitVec.ofNat 32 (c.val / 2)).toNat, (BitVec.ofNat 32 (c.val % 2)).toNat, (BitVec.ofNat 32 (i 0).val).toNat, 0] = _
  rw [word _ (by omega), word _ (by omega), word _ (by omega)]
  rfl

theorem tab_index1 (c : Dev nD) (i : grid1.Coords) : cc1_transform_1 inb_S2_S1_1 numel1_S1 (tab (F := F) c) i = ![(chip c).val, 0, (i 0).val, 0] := by
  have h0 : (i 0).val < 12 := (i 0).isLt
  have hc : c.val < 8 := c.isLt
  show ![(BitVec.ofNat 32 (c.val / 2)).toNat, 0, (BitVec.ofNat 32 (i 0).val).toNat, 0] = _
  rw [word _ (by omega), word _ (by omega)]
  rfl

theorem tab_ok (c : Dev nD) : ok1 (F := F) (tab c) := by
  have hb (b i : ℕ) (hb : b < 4) (hi : i < 12) : (b + 1) * 1 ≤ 4 ∧ (i + 1) * 1200 ≤ 14400 := by omega
  have h2 : (own c).val < 2 := (own c).isLt
  refine ⟨fun i => ⟨fun a => ?_, Or.inl rfl⟩, fun i => ⟨fun a => ?_, Or.inl rfl⟩⟩
  · rw [tab_index0]
    match a with
    | ⟨0, _⟩ => exact (hb _ _ (chip c).isLt (i 0).isLt).1
    | ⟨1, _⟩ => show ((own c).val + 1) * 1 ≤ 2; omega
    | ⟨2, _⟩ => exact (hb _ _ (chip c).isLt (i 0).isLt).2
    | ⟨3, _⟩ => show (0 + 1) * 128 ≤ 128; omega
  · rw [tab_index1]
    match a with
    | ⟨0, _⟩ => exact (hb _ _ (chip c).isLt (i 0).isLt).1
    | ⟨1, _⟩ => show (0 + 1) * 1 ≤ 1; omega
    | ⟨2, _⟩ => exact (hb _ _ (chip c).isLt (i 0).isLt).2
    | ⟨3, _⟩ => show (0 + 1) * 128 ≤ 128; omega

/-- A core's arrays after the exchange, and after the host's operations. -/
def V (c : Dev nD) : Valuation τ sig (Elt F) := Function.update (fun b => m (c, b)) (Proc.devRef .tc main_v1) (received m c)
def W (c : Dev nD) : Valuation τ sig (Elt F) := StableHlo.after (hostOps1 c) (V m c)

theorem own_word : ∀ c : Dev nD, BitVec.ofNat 32 (c.val % 2) = IntOp.remui .host (IntOp.divui .host (Dev.word c) 1#32) 2#32 := by decide
theorem chip_word : ∀ c : Dev nD, BitVec.ofNat 32 (c.val / 2) = IntOp.addi (IntOp.muli 2#32 (IntOp.remui .host (IntOp.divui .host (Dev.word c) 4#32) 2#32)) (IntOp.remui .host (IntOp.divui .host (Dev.word c) 2#32) 2#32) := by decide

/-- The host's two words, joined. -/
def joined (c : Dev nD) : (⟨S2, .i32⟩ : BufTy).Contents (Elt F) :=
  concatenate S2 0 [⟨S1, broadcastInDim S1 ![] bcast_S_S1 (id (Host.remui (Host.divui (constantI S_ 32 (Dev.word c)) (constantI S_ 32 1#32)) (constantI S_ 32 2#32)))⟩,
    ⟨S1, broadcastInDim S1 ![] bcast_S_S1 (addi (muli (constantI S_ 32 2#32) (id (Host.remui (Host.divui (constantI S_ 32 (Dev.word c)) (constantI S_ 32 4#32)) (constantI S_ 32 2#32))))
      (id (Host.remui (Host.divui (constantI S_ 32 (Dev.word c)) (constantI S_ 32 2#32)) (constantI S_ 32 2#32))))⟩] concatenates_S1_S1_S2_d0

theorem joined_eq (c : Dev nD) (j : S2.Idx) : ![BitVec.ofNat 32 (c.val % 2), BitVec.ofNat 32 (c.val / 2)] (j 0) = joined (F := F) c j := by
  rw [own_word, chip_word]
  obtain ⟨k, rfl⟩ : ∃ k : Fin 2, j = fun | ⟨0, _⟩ => k | ⟨_ + 1, h⟩ => absurd h (Nat.not_lt.2 (Nat.le_add_left _ _)) := ⟨j 0, funext fun a => match a with | ⟨0, _⟩ => rfl⟩
  match k with
  | ⟨0, _⟩ => rfl
  | ⟨1, _⟩ => rfl

theorem W_table (c : Dev nD) (k : Fin 1) : tab (F := F) c k = W m c (Proc.devRef .tc (pre1.ref k)) := by
  obtain rfl : k = 0 := Subsingleton.elim _ _
  refine Eq.trans (funext fun j => joined_eq (F := F) c j) (b := joined (F := F) c) ?_
  rfl

/-! ## The run -/

/-- The tables of a core's two regions: the first has none. -/
def tables (c : Dev nD) : (p : Fin 2) → (pcfgs (F := F) p).Adm := fun
  | 0 => cfg0.toPCfg_adm
  | 1 => ⟨tab c, tab_ok c⟩
  | ⟨_ + 2, h⟩ => absurd h (Nat.not_lt.2 (Nat.le_add_left _ _))

/-- The two regions' proof data. -/
def dats : (p : Fin 2) → (c : Dev nD) → Dat τ (Elt F) Unit ℕ (UU nD τ sig) ℕ (pinD (pcfgs (F := F)) tables c p) c := fun
  | 0, c => (site m).plan.dat cfg0 (hw := inferInstanceAs (IsEmpty (Fin 0))) ((site m).pre (rest main_arg0 main_v1 (fun c b => m (c, b)) (kept m))) ((site m).post (rest main_arg0 main_v1 (fun c b => m (c, b)) (kept m))) c
  | 1, c => Shards.dat ⟨tab c, tab_ok c⟩ c (W m c)
  | ⟨_ + 2, h⟩, _ => absurd h (Nat.not_lt.2 (Nat.le_add_left _ _))

theorem distinct : Function.Injective (PerCore.cellOf (nD := nD) (τ := τ) (pinD (pcfgs (F := F)) tables)) :=
  cells_distinct pcfgs tables semTab (fun | 0 => rfl | 1 => rfl | ⟨_ + 2, h⟩ => absurd h (Nat.not_lt.2 (Nat.le_add_left _ _))) semsDistinct semsDisjoint

/-- The second region is still. -/
theorem still : Still (pcfgs (F := F)) tables (dats m) (defs₀ (F := F)) Variants.none 1 (W m) where
  win := winFacts1
  pre := preFacts1
  block_pos := block_pos1
  arr_whole := arr_whole1
  stage_whole := stage_whole1
  body c := (Shards.obligation ⟨tab c, tab_ok c⟩ c (W m c)).loose
  owed _ _ := rfl
  recorded _ := rfl
  share c := (Shards.dat ⟨tab c, tab_ok c⟩ c (W m c)).share_full fun _ => rfl
  inv _ _ := rfl
  starts _ _ := rfl
  tables := W_table m

theorem ownSemFacts : OwnSemFacts cfg0.spec (site m).plan.osem := by
  have h : OwnSemFacts cfg0.spec fun k : Talk.Swap.K 3 => SemLoc.dma (sm k) := by decide
  exact h

abbrev before (c : Dev nD) : sProp 𝕄 := (site m).pre (rest main_arg0 main_v1 (fun c b => m (c, b)) (kept m)) c
abbrev then_ (c : Dev nD) : sProp 𝕄 := (site m).post (rest main_arg0 main_v1 (fun c b => m (c, b)) (kept m)) c

theorem hmem : (bigSep Finset.univ fun c : Dev nD => StableHlo.held (c.tc : Thread nD τ) (ucRefs τ sig) fun b => m (c, b)) ⊢ (bigSep Finset.univ (before m) : sProp 𝕄) :=
  (site m).enter (x := main_arg0) (y := main_v1) rfl rfl (by decide) (fun c b => m (c, b)) (kept m) (hX m) (hE m)

theorem hleft (c : Dev nD) : then_ m c ⊢ (StableHlo.held (c.tc : Thread nD τ) (ucRefs τ sig) (V m c) : sProp 𝕄) :=
  (site m).leave (x := main_arg0) (y := main_v1) rfl rfl (by decide) (fun c b => m (c, b)) (kept m) c (hX m c) (received m c) (hS m c)

theorem hsem : ∀ sm : SemLoc sig, sm.isScoped .tc = true := by decide

/-- Every run ends, a core's arrays at what the two regions and the host leave. -/
theorem run_main : θ_run defs (onTc (τ := τ) (main (F := F))) ⟨m, fun _ => 0, ρ⟩ fun r => (∀ c, Ends (dats m) 1 (W m) c r.2) ∧ r.2.sem = fun _ => 0 := by
  refine Still.run (site m).plan distinct (still m) m ρ main (p₀ := 0) (by decide) (hW := inferInstanceAs (IsEmpty (Fin 0))) (hP := inferInstanceAs (IsEmpty (Fin 0))) (fun _ => N_0)
    winFacts0.to₀ (ownSemFacts m) (before m) (then_ m) (fun _ => rfl) ?_ hostOps1 ?_ ?_ ?_ (V m) (fun _ => rfl) (hmem m) (hleft m) hsem
  · exact fun c _ => body m c _
  · exact fun c => List.forall_iff_forall_mem.mp (hostOps1_sub c)
  · exact fun c => List.forall_iff_forall_mem.mp (hostOps1_fresh c)
  · exact main_chain

end Cert.ChipsIdeal.Quads

end
-- ==== Proof.ChipsValue.lean ====
/- The values of a core's shards: the sum of its block's partial gradients, and the AdamW step by it. -/
module

public import proofs.«01_k».proof.Proof.Quads
public import proofs.«01_k».proof.Proof.Gen.ChipsPlainIdeal
public import Idealize.ShloMosaic.Lib.Layout
public import Idealize.ShloMosaic.Lib.Claim
public import Idealize.ShloMosaic.Lib.Pipeline.ValueKit

@[expose] public section

set_option maxRecDepth 16384

noncomputable section

namespace Cert.ChipsIdeal.Quads

open Cert.ChipsIdeal Cert.ChipsIdeal.Gen
open Idealize.ShloMosaic Idealize.ShloMosaic.TcCoe
open Idealize.SL.Sem
open Idealize.ShloMosaic.Pipeline
open Talk
open Talk.Gather (toward)

/-! ## The kernel's arguments and results at the end -/

section

variable {F : FTy → Type} [FloatOps F] (m : (ℓ : Loc nD τ sig) → Buf (Elt F) ℓ) (ρ : Dev nD → PrngReg)

/-- Neither the exchange nor the host writes an array but the received one and the host's own. -/
theorem W_of (c : Dev nD) (r : Ref sig .tc) (h : r ∉ hostOps1_W) (h' : r ≠ main_v1) : W m c (Proc.devRef .tc r) = m ((c : Thread nD τ).loc r) :=
  (StableHlo.after_of_writes_sub (hostOps1 c) (V m c) (hostOps1_writes c) h).trans (Function.update_of_ne (fun e => h' (Proc.devRef_injective _ e)) _ _)

theorem W_v1 (c : Dev nD) : W m c (Proc.devRef .tc main_v1) = received m c :=
  (StableHlo.after_of_writes_sub (hostOps1 c) (V m c) (hostOps1_writes c) (r := main_v1) (by decide)).trans
    (Function.update_self _ _ _)

theorem W_arg1 (c : Dev nD) : W m c (Proc.devRef .tc main_arg1) = m ((c : Thread nD τ).loc main_arg1) := W_of m c _ (by decide) (by decide)
theorem W_arg2 (c : Dev nD) : W m c (Proc.devRef .tc main_arg2) = m ((c : Thread nD τ).loc main_arg2) := W_of m c _ (by decide) (by decide)
theorem W_arg3 (c : Dev nD) : W m c (Proc.devRef .tc main_arg3) = m ((c : Thread nD τ).loc main_arg3) := W_of m c _ (by decide) (by decide)
theorem W_arg4 (c : Dev nD) : W m c (Proc.devRef .tc main_arg4) = m ((c : Thread nD τ).loc main_arg4) := W_of m c _ (by decide) (by decide)
theorem W_arg5 (c : Dev nD) : W m c (Proc.devRef .tc main_arg5) = m ((c : Thread nD τ).loc main_arg5) := W_of m c _ (by decide) (by decide)

/-- A core's arrays after the second region. -/
abbrev result (c : Dev nD) (w : Fin 10) := (Shards.dat ⟨tab c, tab_ok c⟩ c (W m c)).arrAt w (cfg1 (F := F) ⟨tab c, tab_ok c⟩).N

theorem arr_mem : ∀ w : Fin 10, (Proc.devRef .tc (arrRef spec1 w) : DevRef τ sig) ∈ ucRefs τ sig := by decide
theorem arg_mem : ∀ r ∈ [main_arg0, main_arg1, main_arg2, main_arg3, main_arg4, main_arg5], (Proc.devRef .tc r : DevRef τ sig) ∈ ucRefs τ sig
    ∧ r ∉ hostOps1_W ∧ r ≠ main_v1 ∧ ∀ w : Fin 10, arrRef spec1 w = r → (spec1 w).isOut = false := by decide

/-- A core's memory at the end: every result in place, -/
theorem ends (c : Dev nD) (s : MemSt nD τ sig (Elt F)) (h : Ends (dats m) 1 (W m) c s) (w : Fin 10) :
    s.mem ((c : Thread nD τ).loc (arrRef spec1 w)) = result m c w :=
  (h _ (arr_mem w)).trans (afterRegion_arr (dats m 1 c) (W m c) winFacts1.arr_inj w)

/-- and every argument unchanged. -/
theorem keeps (c : Dev nD) (s : MemSt nD τ sig (Elt F)) (h : Ends (dats m) 1 (W m) c s) (r : Ref sig .tc) (hr : r ∈ [main_arg0, main_arg1, main_arg2, main_arg3, main_arg4, main_arg5]) :
    s.mem ((c : Thread nD τ).loc r) = m ((c : Thread nD τ).loc r) :=
  have k := arg_mem r hr
  (h _ k.1).trans ((afterRegion_keeps (dats m 1 c) (W m c) winFacts1.arr_inj (Shards.A_eq _ c (W m c)) r k.2.2.2).trans (W_of m c r k.2.1 k.2.2.1))

/-- The six arguments, unchanged. -/
def Kept (c : Dev nD) (s : MemSt nD τ sig (Elt F)) : Prop :=
  s.mem (c.tc.loc main_arg0) = m (c.tc.loc main_arg0) ∧ s.mem (c.tc.loc main_arg1) = m (c.tc.loc main_arg1) ∧ s.mem (c.tc.loc main_arg2) = m (c.tc.loc main_arg2)
    ∧ s.mem (c.tc.loc main_arg3) = m (c.tc.loc main_arg3) ∧ s.mem (c.tc.loc main_arg4) = m (c.tc.loc main_arg4) ∧ s.mem (c.tc.loc main_arg5) = m (c.tc.loc main_arg5)

theorem kept_at (c : Dev nD) (s : MemSt nD τ sig (Elt F)) (h : Ends (dats m) 1 (W m) c s) : Kept m c s :=
  have k := keeps m c s h
  ⟨k _ (by simp), k _ (by simp), k _ (by simp), k _ (by simp), k _ (by simp), k _ (by simp)⟩

theorem frame : θ_run defs (onTc (τ := τ) (main (F := F))) ⟨m, fun _ => 0, ρ⟩ fun r =>
    (∀ c : Dev nD, Kept m c r.2) ∧ r.2.sem = fun _ => 0 :=
  (θ_run defs _ _).mono (fun _ h => ⟨fun c => kept_at m c _ (h.1 c), h.2⟩) (run_main m ρ)

end

/-! ## The results over the reals -/

attribute [local irreducible] W

variable (m : (ℓ : Loc nD τ sig) → Buf (Elt Ideal) ℓ)

/-- A core's arguments. -/
abbrev parts (c : Dev nD) : S4x14400x128.Idx → EReal := m ((c : Thread nD τ).loc main_arg0)
abbrev grads (c : Dev nD) : S4x2x14400x128.Idx → EReal := m ((c : Thread nD τ).loc main_arg1)
abbrev sibs (c : Dev nD) : S4x1x14400x128.Idx → EReal := m ((c : Thread nD τ).loc main_arg2)
abbrev weight (c : Dev nD) : S14400x128.Idx → EReal := m ((c : Thread nD τ).loc main_arg3)
abbrev mean (c : Dev nD) : S14400x128.Idx → EReal := m ((c : Thread nD τ).loc main_arg4)
abbrev square (c : Dev nD) : S14400x128.Idx → EReal := m ((c : Thread nD τ).loc main_arg5)

/-- The gradient of a core's block: its own and its sibling's parts, and the three other chips'. -/
def grad (c : Dev nD) : S14400x128.Idx → EReal := fun i =>
  grads m c (ix4 (chip c) (own c) (i 0) (i 1)) + sibs m c (ix4 (chip c) 0 (i 0) (i 1))
    + parts m (toward 4 c) (ix3 (chip c) (i 0) (i 1)) + parts m (toward 2 c) (ix3 (chip c) (i 0) (i 1)) + parts m (toward 6 c) (ix3 (chip c) (i 0) (i 1))

theorem covers_6 : ∀ c : Dev nD, ((cfg1 (F := Ideal) ⟨tab c, tab_ok c⟩).win 6).Covers := by decide +kernel
theorem covers_7 : ∀ c : Dev nD, ((cfg1 (F := Ideal) ⟨tab c, tab_ok c⟩).win 7).Covers := by decide +kernel
theorem covers_8 : ∀ c : Dev nD, ((cfg1 (F := Ideal) ⟨tab c, tab_ok c⟩).win 8).Covers := by decide +kernel
theorem covers_9 : ∀ c : Dev nD, ((cfg1 (F := Ideal) ⟨tab c, tab_ok c⟩).win 9).Covers := by decide +kernel

theorem index_0 (c : Dev nD) (t : Fin grid1.N) : ((cfg1 (F := Ideal) ⟨tab c, tab_ok c⟩).win 0).index t = ![(chip c).val, (own c).val, (grid1.coords t 0).val, 0] := tab_index0 c _
theorem index_1 (c : Dev nD) (t : Fin grid1.N) : ((cfg1 (F := Ideal) ⟨tab c, tab_ok c⟩).win 1).index t = ![(chip c).val, 0, (grid1.coords t 0).val, 0] := tab_index1 c _
theorem transform_2 : ∀ t : Fin grid1.N, cc1_transform_2 (grid1.coords t) = ![0, (grid1.coords t 0).val, 0] := by decide +kernel
theorem transform_row : ∀ t : Fin grid1.N, cc1_transform_3 (grid1.coords t) = ![(grid1.coords t 0).val, 0] := by decide +kernel
theorem index_2 (c : Dev nD) (t : Fin grid1.N) : ((cfg1 (F := Ideal) ⟨tab c, tab_ok c⟩).win 2).index t = ![0, (grid1.coords t 0).val, 0] := transform_2 t
theorem index_3 (c : Dev nD) (t : Fin grid1.N) : ((cfg1 (F := Ideal) ⟨tab c, tab_ok c⟩).win 3).index t = ![(grid1.coords t 0).val, 0] := transform_row t
theorem index_4 (c : Dev nD) (t : Fin grid1.N) : ((cfg1 (F := Ideal) ⟨tab c, tab_ok c⟩).win 4).index t = ![(grid1.coords t 0).val, 0] := transform_row t
theorem index_5 (c : Dev nD) (t : Fin grid1.N) : ((cfg1 (F := Ideal) ⟨tab c, tab_ok c⟩).win 5).index t = ![(grid1.coords t 0).val, 0] := transform_row t
theorem index_6 (c : Dev nD) (t : Fin grid1.N) : ((cfg1 (F := Ideal) ⟨tab c, tab_ok c⟩).win 6).index t = ![(grid1.coords t 0).val, 0] := transform_row t
theorem index_7 (c : Dev nD) (t : Fin grid1.N) : ((cfg1 (F := Ideal) ⟨tab c, tab_ok c⟩).win 7).index t = ![(grid1.coords t 0).val, 0] := transform_row t
theorem index_8 (c : Dev nD) (t : Fin grid1.N) : ((cfg1 (F := Ideal) ⟨tab c, tab_ok c⟩).win 8).index t = ![(grid1.coords t 0).val, 0] := transform_row t
theorem index_9 (c : Dev nD) (t : Fin grid1.N) : ((cfg1 (F := Ideal) ⟨tab c, tab_ok c⟩).win 9).index t = ![(grid1.coords t 0).val, 0] := transform_row t

/-- What came over a link, at an index. -/
theorem got_at (c : Dev nD) (j : S3x14400x128.Idx) (k : Fin 3) (h : j 0 = k) (i : S14400x128.Idx) (h1 : j 1 = i 0) (h2 : j 2 = i 1) :
    W m c (Proc.devRef .tc main_v1) j = parts m (toward (link k) c) (ix3 (chip c) (i 0) (i 1)) := by
  subst h
  rw [← h1, ← h2]
  exact congrFun (W_v1 m c) j

/-- Row `i` of the whole is row `y` of point `t`'s blocks. -/
abbrev At (t : Fin grid1.N) (y : S1200x128.Idx) (i : S14400x128.Idx) : Prop := (i 0).val = (grid1.coords t 0).val * 1200 + (y 0).val ∧ (i 1).val = (y 1).val

/-- The blocks a core's windows hold at a point. -/
abbrev blk (c : Dev nD) (t : Fin (cfg1 (F := Ideal) ⟨tab c, tab_ok c⟩).grid.N) (w : Fin (cfg1 (F := Ideal) ⟨tab c, tab_ok c⟩).W) := Shards.iblk (F := Ideal) ⟨tab c, tab_ok c⟩ (W m c) w t

/-- A member's coordinates in the three. -/
theorem member_idx (off : Fin 3 → ℕ) (inb) (j : S1x1200x128.Idx) (a : Fin 3) : ((Rect.unit (s := S3x1200x128) off S1x1200x128.size inb).idx j a).val = off a + (j a).val := by
  show off a + 1 * (j a).val = _
  omega

/-- A member of what a point finds of the received. -/
theorem link_at (c : Dev nD) (t : Fin (cfg1 (F := Ideal) ⟨tab c, tab_ok c⟩).grid.N) (y : S1200x128.Idx) (i : S14400x128.Idx) (h : At t y i) (k : Fin 3) (inb) :
    Shards.slot (blk m c t 2) ![k.val, 0, 0] inb (ix3 0 (y 0) (y 1)) = parts m (toward (link k) c) (ix3 (chip c) (i 0) (i 1)) := by
  obtain ⟨h0, h1⟩ := h
  refine got_at m c _ k (Fin.ext ?_) i (Fin.ext ?_) (Fin.ext ?_) <;> blk_simp [index_2 c t]
  exacts [(member_idx _ _ _ 0).trans rfl, (congrArg _ (member_idx _ _ _ 1)).trans (by rw [h0]; simp), (member_idx _ _ _ 2).trans (by rw [h1]; simp)]

/-- A point's gradient is the core's, at its rows; -/
theorem grad_at (c : Dev nD) (t : Fin (cfg1 (F := Ideal) ⟨tab c, tab_ok c⟩).grid.N) (y : S1200x128.Idx) (i : S14400x128.Idx) (h : At t y i) : Shards.gradOf (blk m c t 0) (blk m c t 1) (blk m c t 2) y = grad m c i := by
  obtain ⟨h0, h1⟩ := h
  pointwise [Shards.gradOf, k1_pay3, grad]
  refine congrArg₂ (· + ·) (congrArg₂ (· + ·) (congrArg₂ (· + ·) (congrArg₂ (· + ·) ?_ ?_) ?_) ?_) ?_
  · refine (congrFun (W_arg1 m c) _).trans (congrArg (grads m c) ?_)
    blk_ext [index_0 c t]
    all_goals omega
  · refine (congrFun (W_arg2 m c) _).trans (congrArg (sibs m c) ?_)
    blk_ext [index_1 c t]
    all_goals omega
  · exact link_at m c t y i ⟨h0, h1⟩ 0 _
  · exact link_at m c t y i ⟨h0, h1⟩ 1 _
  · exact link_at m c t y i ⟨h0, h1⟩ 2 _

/-- and so are the parameters and their averages. -/
theorem weight_at (c : Dev nD) (t : Fin (cfg1 (F := Ideal) ⟨tab c, tab_ok c⟩).grid.N) (y : S1200x128.Idx) (i : S14400x128.Idx) (h : At t y i) : blk m c t 3 y = weight m c i := by
  refine (congrFun (W_arg3 m c) _).trans (congrArg (weight m c) ?_)
  blk_ext [index_3 c t]
  all_goals omega
theorem mean_at (c : Dev nD) (t : Fin (cfg1 (F := Ideal) ⟨tab c, tab_ok c⟩).grid.N) (y : S1200x128.Idx) (i : S14400x128.Idx) (h : At t y i) : blk m c t 4 y = mean m c i := by
  refine (congrFun (W_arg4 m c) _).trans (congrArg (mean m c) ?_)
  blk_ext [index_4 c t]
  all_goals omega
theorem square_at (c : Dev nD) (t : Fin (cfg1 (F := Ideal) ⟨tab c, tab_ok c⟩).grid.N) (y : S1200x128.Idx) (i : S14400x128.Idx) (h : At t y i) : blk m c t 5 y = square m c i := by
  refine (congrFun (W_arg5 m c) _).trans (congrArg (square m c) ?_)
  blk_ext [index_5 c t]
  all_goals omega

/-! ### The step -/

/-- The new average of gradients, -/
def meanStep (m g : EReal) : EReal := Ideal.ofBits .f32 0x3F666666#32 * m + Ideal.ofBits .f32 0x3DCCCCCD#32 * g
/-- the new average of their squares, -/
def squareStep (v g : EReal) : EReal := Ideal.ofBits .f32 0x3F7FBE77#32 * v + Ideal.ofBits .f32 0x3A83126F#32 * (g * g)
/-- and a parameter's step by them. -/
def deltaStep (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

section
variable (x0 x1 : Vec Ideal S1x1x1200x128 .f32) (x2 : Vec Ideal S3x1200x128 .bf16) (x3 x4 x5 : Vec Ideal S1200x128 .f32) (y : S1200x128.Idx)

theorem meanOf_at : Shards.meanOf x0 x1 x2 x4 y = meanStep (x4 y) (Shards.gradOf x0 x1 x2 y) := by
  pointwise [Shards.meanOf, k1_pay5, meanStep, Shards.gradOf]
theorem squareOf_at : Shards.squareOf x0 x1 x2 x5 y = squareStep (x5 y) (Shards.gradOf x0 x1 x2 y) := by
  pointwise [Shards.squareOf, k1_pay1, k1_pay6, k1_pay7, k1_pay8, squareStep, Shards.gradOf]
theorem deltaOf_at : Shards.deltaOf x0 x1 x2 x3 x4 x5 y = deltaStep (x3 y) (Shards.meanOf x0 x1 x2 x4 y) (Shards.squareOf x0 x1 x2 x5 y) := by
  pointwise [Shards.deltaOf, k1_pay2, k1_pay4, deltaStep, Shards.meanOf, Shards.squareOf]
end

/-- A core's new averages and its parameters' step. -/
def newMean (c : Dev nD) : S14400x128.Idx → EReal := fun i => meanStep (mean m c i) (grad m c i)
def newSquare (c : Dev nD) : S14400x128.Idx → EReal := fun i => squareStep (square m c i) (grad m c i)
def delta (c : Dev nD) : S14400x128.Idx → EReal := fun i => deltaStep (weight m c i) (newMean m c i) (newSquare m c i)

theorem newMean_at (c : Dev nD) (t : Fin (cfg1 (F := Ideal) ⟨tab c, tab_ok c⟩).grid.N) (y : S1200x128.Idx) (i : S14400x128.Idx) (h : At t y i) : Shards.meanOf (blk m c t 0) (blk m c t 1) (blk m c t 2) (blk m c t 4) y = newMean m c i :=
  (meanOf_at ..).trans (congrArg₂ meanStep (mean_at m c t y i h) (grad_at m c t y i h))
theorem newSquare_at (c : Dev nD) (t : Fin (cfg1 (F := Ideal) ⟨tab c, tab_ok c⟩).grid.N) (y : S1200x128.Idx) (i : S14400x128.Idx) (h : At t y i) : Shards.squareOf (blk m c t 0) (blk m c t 1) (blk m c t 2) (blk m c t 5) y = newSquare m c i :=
  (squareOf_at ..).trans (congrArg₂ squareStep (square_at m c t y i h) (grad_at m c t y i h))
theorem delta_at (c : Dev nD) (t : Fin (cfg1 (F := Ideal) ⟨tab c, tab_ok c⟩).grid.N) (y : S1200x128.Idx) (i : S14400x128.Idx) (h : At t y i) : Shards.deltaOf (blk m c t 0) (blk m c t 1) (blk m c t 2) (blk m c t 3) (blk m c t 4) (blk m c t 5) y = delta m c i :=
  (deltaOf_at ..).trans ((congrArg (deltaStep · _ _) (weight_at m c t y i h)).trans (congrArg₂ (deltaStep _) (newMean_at m c t y i h) (newSquare_at m c t y i h)))

theorem grad_eq (c : Dev nD) : result m c 6 = grad m c := by
  refine Dat.arrAt_eq_of_covers (Shards.dat ⟨tab c, tab_ok c⟩ c (W m c)) 6 (grad m c) (covers_6 c) fun t hf y => ?_
  blk_simp
  rw [Shards.after_6]
  refine grad_at m c t y _ ⟨?_, ?_⟩ <;> blk_simp [index_6 c t]

theorem delta_eq (c : Dev nD) : result m c 7 = delta m c := by
  refine Dat.arrAt_eq_of_covers (Shards.dat ⟨tab c, tab_ok c⟩ c (W m c)) 7 (delta m c) (covers_7 c) fun t hf y => ?_
  blk_simp
  rw [Shards.after_7]
  refine delta_at m c t y _ ⟨?_, ?_⟩ <;> blk_simp [index_7 c t]

theorem newMean_eq (c : Dev nD) : result m c 8 = newMean m c := by
  refine Dat.arrAt_eq_of_covers (Shards.dat ⟨tab c, tab_ok c⟩ c (W m c)) 8 (newMean m c) (covers_8 c) fun t hf y => ?_
  blk_simp
  rw [Shards.after_8]
  refine newMean_at m c t y _ ⟨?_, ?_⟩ <;> blk_simp [index_8 c t]

theorem newSquare_eq (c : Dev nD) : result m c 9 = newSquare m c := by
  refine Dat.arrAt_eq_of_covers (Shards.dat ⟨tab c, tab_ok c⟩ c (W m c)) 9 (newSquare m c) (covers_9 c) fun t hf y => ?_
  blk_simp
  rw [Shards.after_9]
  refine newSquare_at m c t y _ ⟨?_, ?_⟩ <;> blk_simp [index_9 c t]

end Cert.ChipsIdeal.Quads

end
-- ==== Proof.ChipsPlain.lean ====
/- The reference of the shards' step: its run, and its values block by block. -/
module

public import proofs.«01_k».proof.Proof.ChipsValue
public import proofs.«01_k».proof.Proof.Blocks

@[expose] public section

set_option maxRecDepth 16384

noncomputable section

namespace Cert.ChipsPlainIdeal.Sum

open Cert.ChipsPlainIdeal Cert.ChipsPlainIdeal.Gen
open Idealize.ShloMosaic Idealize.ShloMosaic.TcCoe Idealize.SL.Sem

section

variable {F : FTy → Type} [FloatOps F]

/-- The cores' own parts and what their siblings sent them, added. -/
def own (g : FVec F S32x2x14400x128 .f32) (a : FVec F S32x1x14400x128 .f32) : FVec F S4x2x4x14400x128 .f32 :=
  let g' : FVec F S4x2x8x14400x128 .f32 := shapeCast S4x2x8x14400x128 g shapeCasts_S32x2x14400x128_S4x2x8x14400x128
  addf (concatenate S4x2x4x14400x128 1
    [⟨S4x1x4x14400x128, broadcastInDim S4x1x4x14400x128 ![0, 2, 3, 4] bcast_S4x4x14400x128_S4x1x4x14400x128_0_2_3_4
        (shapeCast S4x4x14400x128 (Host.slice S4x1x4x14400x128 ![0, 0, 0, 0, 0] ![1, 1, 2, 1, 1] g' slicesBy_S4x2x8x14400x128_S4x1x4x14400x128_0s1_0s1_0s2_0s1_0s1) shapeCasts_S4x1x4x14400x128_S4x4x14400x128)⟩,
      ⟨S4x1x4x14400x128, broadcastInDim S4x1x4x14400x128 ![0, 2, 3, 4] bcast_S4x4x14400x128_S4x1x4x14400x128_0_2_3_4
        (shapeCast S4x4x14400x128 (Host.slice S4x1x4x14400x128 ![0, 1, 1, 0, 0] ![1, 1, 2, 1, 1] g' slicesBy_S4x2x8x14400x128_S4x1x4x14400x128_0s1_1s1_1s2_0s1_0s1) shapeCasts_S4x1x4x14400x128_S4x4x14400x128)⟩]
      concatenates_S4x1x4x14400x128_S4x1x4x14400x128_S4x2x4x14400x128_d1)
    (shapeCast S4x2x4x14400x128 a shapeCasts_S32x1x14400x128_S4x2x4x14400x128)

/-- Where a chip's part is for that chip itself. -/
def mine : IVec S4x2x4x14400x128 1 :=
  broadcastInDim S4x2x4x14400x128 ![0, 1, 2, 3, 4] bcast_S4x1x4x1x1_S4x2x4x14400x128_0_1_2_3_4 (broadcastInDim S4x1x4x1x1 ![0, 2] bcast_S4x4_S4x1x4x1x1_0_2
    (cmpi .eq (broadcastInDim S4x4 ![0, 1] bcast_S4x1_S4x4_0_1 (broadcastInDim S4x1 ![0] bcast_S4_S4x1_0 (iotaInDim S4 32 0)))
      (broadcastInDim S4x4 ![0, 1] bcast_S1x4_S4x4_0_1 (broadcastInDim S1x4 ![1] bcast_S4_S1x4_1 (iotaInDim S4 32 0)))))

/-- Every chip's part of every block. -/
def every (p : FVec F S32x14400x128 .bf16) (g : FVec F S32x2x14400x128 .f32) (a : FVec F S32x1x14400x128 .f32) : FVec F S4x2x4x14400x128 .f32 :=
  select mine (own g a) (extf .f32 (shapeCast S4x2x4x14400x128 p shapeCasts_S32x14400x128_S4x2x4x14400x128) bitsLt_bf16_f32)

/-- The gradient of all the shards. -/
def total (p : FVec F S32x14400x128 .bf16) (g : FVec F S32x2x14400x128 .f32) (a : FVec F S32x1x14400x128 .f32) : FVec F S115200x128 .f32 :=
  shapeCast S115200x128 (transpose S4x2x14400x128 [1, 0, 2, 3] (Host.reduceAdd (every p g a) (constant S_ .f32 0x00000000#32) reducesTo_S4x2x4x14400x128_S2x4x14400x128_d0 h_S_)
    transposes_S2x4x14400x128_S4x2x14400x128_1_0_2_3) shapeCasts_S4x2x14400x128_S115200x128

/-- A number in every place. -/
abbrev all (w : BitVec 32) : FVec F S115200x128 .f32 := broadcastInDim S115200x128 ![] bcast_S_S115200x128 (constant S_ .f32 w)

/-- The averages after it, and the step. -/
def newMean (g m : FVec F S115200x128 .f32) : FVec F S115200x128 .f32 := addf (mulf (all 0x3F666666#32) m) (mulf (all 0x3DCCCCCD#32) g)
def newSquare (g v : FVec F S115200x128 .f32) : FVec F S115200x128 .f32 := addf (mulf (all 0x3F7FBE77#32) v) (mulf (all 0x3A83126F#32) (mulf g g))
def delta (w m v : FVec F S115200x128 .f32) : FVec F S115200x128 .f32 :=
  mulf (all 0xBA83126F#32) (addf (Host.divf (Host.divf m (all 0x3F26BD02#32)) (addf (Host.sqrt (Host.divf v (all 0x3C231ACC#32))) (all 0x322BCC77#32))) (mulf (all 0x3C23D70A#32) w))

variable (m : (ℓ : Loc nD τ sig) → Buf (Elt F) ℓ) (ρ : Dev nD → PrngReg)

/-- The results of the reference's arguments. -/
abbrev gradR : FVec F S115200x128 .f32 := total (m ((0 : Dev nD).tc.loc main_arg0)) (m ((0 : Dev nD).tc.loc main_arg1)) (m ((0 : Dev nD).tc.loc main_arg2))
abbrev meanR : FVec F S115200x128 .f32 := newMean (gradR m) (m ((0 : Dev nD).tc.loc main_arg4))
abbrev squareR : FVec F S115200x128 .f32 := newSquare (gradR m) (m ((0 : Dev nD).tc.loc main_arg5))
abbrev deltaR : FVec F S115200x128 .f32 := delta (m ((0 : Dev nD).tc.loc main_arg3)) (meanR m) (squareR m)

theorem run_main : θ_run defs (onTc (τ := τ) (main (F := F))) ⟨m, fun _ => 0, ρ⟩ fun r =>
    r.2.mem ((0 : Dev nD).tc.loc main_v22) = gradR m ∧ r.2.mem ((0 : Dev nD).tc.loc main_v46) = deltaR m
      ∧ r.2.mem ((0 : Dev nD).tc.loc main_v27) = meanR m ∧ r.2.mem ((0 : Dev nD).tc.loc main_v33) = squareR m
      ∧ r.2.mem ((0 : Dev nD).tc.loc main_arg0) = m ((0 : Dev nD).tc.loc main_arg0) ∧ r.2.mem ((0 : Dev nD).tc.loc main_arg1) = m ((0 : Dev nD).tc.loc main_arg1)
      ∧ r.2.mem ((0 : Dev nD).tc.loc main_arg2) = m ((0 : Dev nD).tc.loc main_arg2) ∧ r.2.mem ((0 : Dev nD).tc.loc main_arg3) = m ((0 : Dev nD).tc.loc main_arg3)
      ∧ r.2.mem ((0 : Dev nD).tc.loc main_arg4) = m ((0 : Dev nD).tc.loc main_arg4) ∧ r.2.mem ((0 : Dev nD).tc.loc main_arg5) = m ((0 : Dev nD).tc.loc main_arg5) := by
  hlo_run
  all_goals rfl

theorem frame : θ_run defs (onTc (τ := τ) (main (F := F))) ⟨m, fun _ => 0, ρ⟩ fun r =>
    (∀ c : Dev nD, r.2.mem (c.tc.loc main_arg0) = m (c.tc.loc main_arg0) ∧ r.2.mem (c.tc.loc main_arg1) = m (c.tc.loc main_arg1) ∧ r.2.mem (c.tc.loc main_arg2) = m (c.tc.loc main_arg2)
      ∧ r.2.mem (c.tc.loc main_arg3) = m (c.tc.loc main_arg3) ∧ r.2.mem (c.tc.loc main_arg4) = m (c.tc.loc main_arg4) ∧ r.2.mem (c.tc.loc main_arg5) = m (c.tc.loc main_arg5))
    ∧ r.2.sem = fun _ => 0 :=
  (θ_run defs _ _).mono (fun r h => ⟨fun c => by rw [show c = 0 from Subsingleton.elim _ _]; exact h.2.2.2.2, sem_eq_zero_of_no_sems (by decide) r.2⟩) (run_main m ρ)

end

/-! ### Its values by block -/

/-- Chip numbers compare as numbers. -/
theorem same_chip (s b : Fin 4) : IntOp.cmpi CmpIPredicate.eq (BitVec.ofNat 32 s.val) (BitVec.ofNat 32 b.val) = if s = b then 1#1 else 0#1 := by
  revert s b
  decide

section
variable (p : FVec Ideal S32x14400x128 .bf16) (g : FVec Ideal S32x2x14400x128 .f32) (a : FVec Ideal S32x1x14400x128 .f32) (s : Fin 4) (k : Fin 2) (b : Fin 4) (r : Fin 14400) (l : Fin 128)

/-- A chip's part of its own block is the two cores' parts; -/
theorem every_own : every p g a (ix5 b k b r l) = (g (ix4 ⟨(2 * b.val + k.val) * 4 + b.val, by omega⟩ k r l) + a (ix4 ⟨(2 * b.val + k.val) * 4 + b.val, by omega⟩ 0 r l) : EReal) := by
  pointwise [every, own, mine]
  refine congrArg₂ (fun x y : EReal => x + y) ?_ (congrArg a (congrArg (fun d => ix4 d _ _ _) (Fin.ext (by show _ = _; simp; omega))))
  split <;> refine congrArg g (congrArg₂ (fun d e => ix4 d e _ _) (Fin.ext ?_) (Fin.ext ?_)) <;> simp <;> omega

/-- of another's, what it sends. -/
theorem every_other (h : s ≠ b) : every p g a (ix5 s k b r l) = p (ix3 ⟨(2 * s.val + k.val) * 4 + b.val, by omega⟩ r l) := by
  pointwise [every, own, mine]
  rw [same_chip, if_neg h]
  change p _ = p _
  exact congrArg p (congrArg (fun d => ix3 d _ _) (Fin.ext (by show _ = _; simp; omega)))
end

/-- A row of a core's block is the sum over the chips of their parts of it. -/
theorem total_at (p : FVec Ideal S32x14400x128 .bf16) (g : FVec Ideal S32x2x14400x128 .f32) (a : FVec Ideal S32x1x14400x128 .f32) (c : Fin 8) (r : Fin 14400) (l : Fin 128) (h) :
    total p g a (ix2 ⟨c.val * 14400 + r.val, h⟩ l) = ∑ s : Fin 4, every p g a (ix5 s ⟨c.val % 2, by omega⟩ ⟨c.val / 2, by omega⟩ r l) := by
  pointwise [total]
  refine Finset.sum_congr rfl fun s _ => congrArg (every p g a) ?_
  rw [show (⟨(c.val * 14400 + r.val) / 14400 % 2, by omega⟩ : Fin 2) = ⟨c.val % 2, by omega⟩ from Fin.ext (by show _ / _ % 2 = c.val % 2; omega),
    show (⟨(c.val * 14400 + r.val) / 28800, by omega⟩ : Fin 4) = ⟨c.val / 2, by omega⟩ from Fin.ext (by show _ / 28800 = c.val / 2; omega)]

/-- The sum over the chips, from any of them. -/
theorem from_chip (E : Fin 4 → EReal) (x : Fin 4) : ∑ s, E s = E x + E (x ^^^ 2) + E (x ^^^ 1) + E (x ^^^ 3) := by
  rw [Fin.sum_univ_four]
  match x with
  | 0 => show _ = E 0 + E 2 + E 1 + E 3; ac_rfl
  | 1 => show _ = E 1 + E 3 + E 0 + E 2; ac_rfl
  | 2 => show _ = E 2 + E 0 + E 3 + E 1; ac_rfl
  | 3 => show _ = E 3 + E 1 + E 2 + E 0; ac_rfl

open Cert.ChipsIdeal.Quads (chip parts grads sibs weight mean square grad)

/-- It is that over a core's own chip and its links, which are to the same core of the other chips. -/
theorem around (c : Fin 8) (E : Fin 4 → EReal) (o : EReal) (q : Fin 8 → EReal) (h : E (chip c) = o)
    (h' : ∀ s : Fin 4, s ≠ chip c → E s = q ⟨2 * s.val + c.val % 2, by omega⟩) :
    ∑ s, E s = o + q (Talk.Gather.toward 4 c) + q (Talk.Gather.toward 2 c) + q (Talk.Gather.toward 6 c) := by
  have other (x : Fin 4) (d : Fin 8) (hx : x ≠ chip c) (hd : (⟨2 * x.val + c.val % 2, by omega⟩ : Fin 8) = d) : E x = q d := (h' x hx).trans (congrArg q hd)
  rw [from_chip E (chip c), h, other (chip c ^^^ 2) (Talk.Gather.toward 4 c), other (chip c ^^^ 1) (Talk.Gather.toward 2 c), other (chip c ^^^ 3) (Talk.Gather.toward 6 c)] <;>
    clear other h h' <;> revert c <;> decide

variable (m' : (ℓ : Loc nD τ sig) → Buf (Elt Ideal) ℓ) (m : (ℓ : Loc Cert.ChipsIdeal.nD Cert.ChipsIdeal.τ Cert.ChipsIdeal.sig) → Buf (Elt Ideal) ℓ)

/-- The cores' arguments are the blocks of the reference's. -/
abbrev Agree : Prop := ∀ c : Dev Cert.ChipsIdeal.nD,
  parts m c = Layout.block ⟨3, ![4, 14400, 128]⟩ ⟨3, ![32, 14400, 128]⟩ 0 8 c (m' ((0 : Dev nD).tc.loc main_arg0))
  ∧ grads m c = Layout.block ⟨4, ![4, 2, 14400, 128]⟩ ⟨4, ![32, 2, 14400, 128]⟩ 0 8 c (m' ((0 : Dev nD).tc.loc main_arg1))
  ∧ sibs m c = Layout.block ⟨4, ![4, 1, 14400, 128]⟩ ⟨4, ![32, 1, 14400, 128]⟩ 0 8 c (m' ((0 : Dev nD).tc.loc main_arg2))
  ∧ weight m c = Layout.block ⟨2, ![14400, 128]⟩ ⟨2, ![115200, 128]⟩ 0 8 c (m' ((0 : Dev nD).tc.loc main_arg3))
  ∧ mean m c = Layout.block ⟨2, ![14400, 128]⟩ ⟨2, ![115200, 128]⟩ 0 8 c (m' ((0 : Dev nD).tc.loc main_arg4))
  ∧ square m c = Layout.block ⟨2, ![14400, 128]⟩ ⟨2, ![115200, 128]⟩ 0 8 c (m' ((0 : Dev nD).tc.loc main_arg5))

variable (hagree : Agree m' m) (c : Dev Cert.ChipsIdeal.nD)
include hagree

/-- A core's gradient is its block of the reference's, -/
theorem grad_block : grad m c = Layout.block ⟨2, ![14400, 128]⟩ ⟨2, ![115200, 128]⟩ 0 8 c (gradR m') := by
  funext j
  refine Eq.trans ?_ (Talk.block_two _ _ c j).symm
  have hc : c.val < 8 := c.isLt
  refine Eq.symm ((total_at _ _ _ c (j 0) (j 1) _).trans ((around c _ _ (fun d => parts m d (ix3 (chip c) (j 0) (j 1))) (every_own _ _ _ ⟨c.val % 2, by omega⟩ (chip c) (j 0) (j 1)) fun s hs => ?_).trans ?_))
  · refine (every_other _ _ _ s ⟨c.val % 2, by omega⟩ (chip c) (j 0) (j 1) hs).trans ?_
    exact ((congrFun (hagree ⟨2 * s.val + c.val % 2, by show _ < 8; omega⟩).1 (ix3 (chip c) (j 0) (j 1))).trans (Talk.block_three _ _ _ _)).symm
  · have hd : (2 * (chip c).val + c.val % 2) = c.val := by show 2 * (c.val / 2) + c.val % 2 = c.val; omega
    refine congrArg (· + _ + _ + _) (congrArg₂ (fun x y : EReal => x + y) ?_ ?_)
    · refine Eq.symm (((congrFun (hagree c).2.1 _).trans (Talk.block_four _ _ c _)).trans ?_)
      exact congrArg _ (congrArg (fun d => ix4 d _ _ _) (Fin.ext (by show c.val * 4 + _ = (2 * (chip c).val + c.val % 2) * 4 + _; rw [hd]; rfl)))
    · refine Eq.symm (((congrFun (hagree c).2.2.1 _).trans (Talk.block_four _ _ c _)).trans ?_)
      exact congrArg _ (congrArg (fun d => ix4 d _ _ _) (Fin.ext (by show c.val * 4 + _ = (2 * (chip c).val + c.val % 2) * 4 + _; rw [hd]; rfl)))

/-- and so are its new averages and its parameters' step. -/
theorem mean_block : Cert.ChipsIdeal.Quads.newMean m c = Layout.block ⟨2, ![14400, 128]⟩ ⟨2, ![115200, 128]⟩ 0 8 c (meanR m') := by
  funext j
  refine Eq.trans ?_ (Talk.block_two _ _ c j).symm
  pointwise [meanR, newMean]
  exact congrArg₂ Cert.ChipsIdeal.Quads.meanStep ((congrFun (hagree c).2.2.2.2.1 j).trans (Talk.block_two _ _ c j)) ((congrFun (grad_block m' m hagree c) j).trans (Talk.block_two _ _ c j))

theorem square_block : Cert.ChipsIdeal.Quads.newSquare m c = Layout.block ⟨2, ![14400, 128]⟩ ⟨2, ![115200, 128]⟩ 0 8 c (squareR m') := by
  funext j
  refine Eq.trans ?_ (Talk.block_two _ _ c j).symm
  pointwise [squareR, newSquare]
  exact congrArg₂ Cert.ChipsIdeal.Quads.squareStep ((congrFun (hagree c).2.2.2.2.2 j).trans (Talk.block_two _ _ c j)) ((congrFun (grad_block m' m hagree c) j).trans (Talk.block_two _ _ c j))

theorem delta_block : Cert.ChipsIdeal.Quads.delta m c = Layout.block ⟨2, ![14400, 128]⟩ ⟨2, ![115200, 128]⟩ 0 8 c (deltaR m') := by
  funext j
  refine Eq.trans ?_ (Talk.block_two _ _ c j).symm
  pointwise [deltaR, delta]
  exact (congrArg (Cert.ChipsIdeal.Quads.deltaStep · _ _) ((congrFun (hagree c).2.2.2.1 j).trans (Talk.block_two _ _ c j))).trans
    (congrArg₂ (Cert.ChipsIdeal.Quads.deltaStep _) ((congrFun (mean_block m' m hagree c) j).trans (Talk.block_two _ _ c j)) ((congrFun (square_block m' m hagree c) j).trans (Talk.block_two _ _ c j)))

end Cert.ChipsPlainIdeal.Sum

end
-- ==== Proof.GatherMemory.lean ====
/- The memory around a gather: what the cores hold before it and what they hold after.

   A core's shard is all of one array of its own, `x`, and the shards it receives fill another, `y`. Every other array
   it keeps. -/
module

public import proofs.«01_k».proof.Proof.Gather
public import proofs.«01_k».proof.Proof.SwapMemory

@[expose] public section

noncomputable section

namespace Talk.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {τ : Topo} {sig : RefSig} {Val : EltTy → Type} {s : Shape} {e : EltTy} (G : Site τ sig Val s e)

local notation "𝕄" => MT 8 τ sig Unit Val ℕ (UU 8 τ sig) ℕ

variable (x y : Ref sig .tc) (V : Dev 8 → Valuation τ sig Val)

/-- What a core holds before the gather: its shard, the places it writes, and its other arrays; -/
def Site.pre (c : Dev 8) : sProp 𝕄 := iprop(G.X fullShare c ∗ G.landing c ∗ StableHlo.held (c.tc : Thread 8 τ) (but x y) (V c))
/-- and after it: its shard, its own places filled, and its other arrays. -/
def Site.post (c : Dev 8) : sProp 𝕄 := iprop(G.X fullShare c ∗ G.filled c ∗ StableHlo.held (c.tc : Thread 8 τ) (but x y) (V c))

variable {x y} (hx : x.isScoped = false) (hy : y.isScoped = false) (hxy : x ≠ y)

include hx hy hxy in
/-- All the cores' arrays, dealt for the gather. -/
theorem Site.enter (hX : ∀ c : Dev 8, ((((c.tc : Thread 8 τ).loc x) ↦{fullShare} V c (Proc.devRef .tc x)) : sProp 𝕄) = G.X fullShare c)
    (hE : ∀ c : Dev 8, ((((c.tc : Thread 8 τ).loc y) ↦{fullShare} V c (Proc.devRef .tc y)) : sProp 𝕄) ⊢ bigSep Finset.univ fun b => G.E b c) :
    (bigSep Finset.univ fun c : Dev 8 => StableHlo.held (c.tc : Thread 8 τ) (ucRefs τ sig) (V c)) ⊢ (bigSep Finset.univ (G.pre x y V) : sProp 𝕄) := by
  unfold Site.pre
  simp only [held_two hx hy hxy, hX, bigSep_sep']
  exact sep_mono_right (sep_mono_left ((bigSep_mono fun c _ => hE c).trans G.deal_slots))

include hx hy hxy in
/-- A core's arrays after the gather: the second holds all the shards, the others are as they were. -/
theorem Site.leave (c : Dev 8) (hX : ((((c.tc : Thread 8 τ).loc x) ↦{fullShare} V c (Proc.devRef .tc x)) : sProp 𝕄) = G.X fullShare c)
    (f : Buf Val ((c.tc : Thread 8 τ).loc y)) (hS : G.filled c ⊢ (((c.tc : Thread 8 τ).loc y) ↦{fullShare} f : sProp 𝕄)) :
    G.post x y V c ⊢ (StableHlo.held (c.tc : Thread 8 τ) (ucRefs τ sig) (Function.update (V c) (Proc.devRef .tc y) f) : sProp 𝕄) := by
  refine BIBase.Entails.trans ?_ (held_received hx hy hxy c (V c) f)
  rw [hX]
  exact sep_mono_right (sep_mono_left hS)

end Talk.Gather

end
-- ==== Proof.Step.lean ====
/- The AdamW step of the packed gains: a region of one point that sums the cores' partial gradients and moves the gains'
   averages by the sum.

   It leaves the gradient, the step of the gains and the new averages in its four results. -/
module

public import proofs.«01_k».proof.Proof.Quiet
public import proofs.«01_k».proof.Proof.Gen.GainsIdeal.Skeleton
public import proofs.«01_k».proof.Proof.Gen.GainsIdeal.Launch
public import Idealize.ShloMosaic.Lib.Pipeline.FrameBody
public import Idealize.ShloMosaic.Lib.Ring
public import Idealize.ShloMosaic.Lib.VecWindow

@[expose] public section

set_option maxRecDepth 16384

noncomputable section

namespace Cert.GainsIdeal.Step

open Cert.GainsIdeal Cert.GainsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk

variable {F : FTy → Type} [FloatOps F]

local notation "𝕄" => MT nD τ sig Unit (Elt F) ℕ (UU nD τ sig) ℕ

/-! ## What the point leaves -/

/-- One core's partial gradients. -/
def part (x : Vec F S8x144x128 .f32) (off : Fin 3 → ℕ) (inb : ∀ a, off a + S1x144x128.size a ≤ S8x144x128.size a) : Vec F S1x144x128 .f32 :=
  View.ld x (Rect.unit (s := S8x144x128) off S1x144x128.size inb)

/-- What a load at a core's offset finds. -/
theorem load_part {arg : Memref sig .tc .vmem S8x144x128 .f32} (h : arg.IsWhole) (x : Vec F S8x144x128 .f32) (off) (inb) :
    View.readAt (Elt F) arg.view (Rect.unit (s := S8x144x128) off S1x144x128.size inb).toLoadRect (h.unread x) = part x off inb := by
  rw [View.readAt_eq_ld, h.read_unread]; rfl

section
variable (x0 : Vec F S8x144x128 .f32) (x1 x2 x3 : Vec F S144x128 .f32)

/-- The gradient, -/
def gradOf : Vec F S144x128 .f32 := k1_pay4 (part x0 ![0, 0, 0] inb_S8x144x128_S1x144x128_0_0_0) (part x0 ![1, 0, 0] inb_S8x144x128_S1x144x128_1_0_0) (part x0 ![2, 0, 0] inb_S8x144x128_S1x144x128_2_0_0) (part x0 ![3, 0, 0] inb_S8x144x128_S1x144x128_3_0_0) (part x0 ![4, 0, 0] inb_S8x144x128_S1x144x128_4_0_0) (part x0 ![5, 0, 0] inb_S8x144x128_S1x144x128_5_0_0) (part x0 ![6, 0, 0] inb_S8x144x128_S1x144x128_6_0_0) (part x0 ![7, 0, 0] inb_S8x144x128_S1x144x128_7_0_0)
/-- the new average of gradients, -/
def meanOf : Vec F S144x128 .f32 := k1_pay1 (gradOf x0) (k1_pay6 x2) (Scalar.ofBits .f32 0x3F666666#32)
/-- the new average of their squares, -/
def squareOf : Vec F S144x128 .f32 := k1_pay2 (gradOf x0) (k1_pay7 x3)
/-- and the gains' step. -/
def deltaOf : Vec F S144x128 .f32 := k1_pay3 (gradOf x0) (k1_pay5 x1) (k1_pay6 x2) (k1_pay7 x3) (Scalar.ofBits .f32 0x3F666666#32)
end

set_option maxHeartbeats 1600000 in
/-- The point, on any whole buffers. -/
theorem point (c : Dev nD) (arg0 : Memref sig .tc .vmem S8x144x128 .f32) (harg0 : arg0.IsWhole) (arg1 : Memref sig .tc .vmem S144x128 .f32) (harg1 : arg1.IsWhole) (arg2 : Memref sig .tc .vmem S144x128 .f32) (harg2 : arg2.IsWhole) (arg3 : Memref sig .tc .vmem S144x128 .f32) (harg3 : arg3.IsWhole) (arg4 : Memref sig .tc .vmem S144x128 .f32) (harg4 : arg4.IsWhole) (arg5 : Memref sig .tc .vmem S144x128 .f32) (harg5 : arg5.IsWhole) (arg6 : Memref sig .tc .vmem S144x128 .f32) (harg6 : arg6.IsWhole) (arg7 : Memref sig .tc .vmem S144x128 .f32) (harg7 : arg7.IsWhole)
    (x0 : Vec F S8x144x128 .f32) (x1 x2 x3 : Vec F S144x128 .f32) (Kt : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (gradOf x0) ∗ owns (c : Thread nD τ) arg5 fullShare (deltaOf x0 x1 x2 x3) ∗ owns (c : Thread nD τ) arg6 fullShare (meanOf x0 x2) ∗ owns (c : Thread nD τ) arg7 fullShare (squareOf x0 x3)) -∗ Kt ⟨⟩))
      ⊢ wp frame (wpE (defs₀ (F := F)) Variants.none c none) Set.univ (cc1_adamw_gains arg0 harg0 arg1 harg1 arg2 harg2 arg3 harg3 arg4 harg4 arg5 harg5 arg6 harg6 arg7 harg7) Kt := by
  rw [cc1_adamw_gains_eq_skeleton]; unfold cc1_adamw_gains_skel
  rw [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg0.eq_unread hf0; obtain rfl := harg1.eq_unread hf1; obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (View.read_writes_full _ _ _ _ _).trans ?_
    repeat first | rw [View.readAt_full] | rw [load_part] | rw [Memref.IsWhole.read_unread]
    rfl
  isplitl [H5]
  · iexists _; isplitr
    swap; · iexact H5
    ipureintro
    refine (View.read_writes_full _ _ _ _ _).trans ?_
    repeat first | rw [View.readAt_full] | rw [load_part] | rw [Memref.IsWhole.read_unread]
    rfl
  isplitl [H6]
  · iexists _; isplitr
    swap; · iexact H6
    ipureintro
    refine (View.read_writes_full _ _ _ _ _).trans ?_
    repeat first | rw [View.readAt_full] | rw [load_part] | rw [Memref.IsWhole.read_unread]
    rfl
  iexists _; isplitr
  swap; · iexact H7
  ipureintro
  refine (View.read_writes_full _ _ _ _ _).trans ?_
  repeat first | rw [View.readAt_full] | rw [load_part] | rw [Memref.IsWhole.read_unread]
  rfl

/-! ## The region -/

variable (c : Dev nD) (W : Valuation τ sig (Elt F))

/-- A window's block, read off the array the region finds. -/
def iblk (w : Fin cfg1.W) (t : Fin cfg1.N) : ((cfg1.win w).xblock (cfg1.grid.coords t)).Idx → Elt F (cfg1.win w).elt :=
  ((cfg1.win w).blk t).view.read (Elt F) (W (Proc.devRef .tc (arrRef spec1 w)))

/-- What the region does: the inputs' blocks stay as they are, the results' are what the point leaves. -/
def dat : Dat τ (Elt F) Unit ℕ (UU nD τ sig) ℕ cfg1 c where
  A w := W (Proc.devRef .tc (arrRef spec1 w))
  after w t := match w with
    | ⟨0, _⟩ => iblk W 0 t
    | ⟨1, _⟩ => iblk W 1 t
    | ⟨2, _⟩ => iblk W 2 t
    | ⟨3, _⟩ => iblk W 3 t
    | ⟨4, _⟩ => gradOf (iblk W 0 t)
    | ⟨5, _⟩ => deltaOf (iblk W 0 t) (iblk W 1 t) (iblk W 2 t) (iblk W 3 t)
    | ⟨6, _⟩ => meanOf (iblk W 0 t) (iblk W 2 t)
    | ⟨7, _⟩ => squareOf (iblk W 0 t) (iblk W 3 t)
  Φ _ := iprop(scopedRest spec1 c ∗ prefHeld (pcfgs (F := F) 1).pre c (fun _ => fullShare) (cfg1.toPCfg_adm (Val := Elt F)).1)
  q _ := fullShare
  owed _ := 0

theorem A_eq (w : Fin cfg1.W) : (dat c W).A w = W (Proc.devRef .tc (arrRef spec1 w)) := by dsimp only [dat]
theorem after_0 (t : Fin cfg1.N) : (dat c W).after 0 t = iblk W 0 t := by dsimp only [dat]; try rfl
theorem after_1 (t : Fin cfg1.N) : (dat c W).after 1 t = iblk W 1 t := by dsimp only [dat]; try rfl
theorem after_2 (t : Fin cfg1.N) : (dat c W).after 2 t = iblk W 2 t := by dsimp only [dat]; try rfl
theorem after_3 (t : Fin cfg1.N) : (dat c W).after 3 t = iblk W 3 t := by dsimp only [dat]; try rfl
theorem after_4 (t : Fin cfg1.N) : (dat c W).after 4 t = gradOf (iblk W 0 t) := by dsimp only [dat]; try rfl
theorem after_5 (t : Fin cfg1.N) : (dat c W).after 5 t = deltaOf (iblk W 0 t) (iblk W 1 t) (iblk W 2 t) (iblk W 3 t) := by dsimp only [dat]; try rfl
theorem after_6 (t : Fin cfg1.N) : (dat c W).after 6 t = meanOf (iblk W 0 t) (iblk W 2 t) := by dsimp only [dat]; try rfl
theorem after_7 (t : Fin cfg1.N) : (dat c W).after 7 t = squareOf (iblk W 0 t) (iblk W 3 t) := by dsimp only [dat]; try rfl

/-- The inputs' buffers hold their blocks when the point starts. -/
theorem before_0 (t : Fin cfg1.N) (d) : (dat c W).before 0 t d = iblk W 0 t :=
  steady (dat c W) 0 (iblk W 0) rfl (fun _ => rfl) (fun _ _ _ => rfl) (after_0 c W) (fun _ => rfl) (fun _ _ => rfl) t d
theorem before_1 (t : Fin cfg1.N) (d) : (dat c W).before 1 t d = iblk W 1 t :=
  steady (dat c W) 1 (iblk W 1) rfl (fun _ => rfl) (fun _ _ _ => rfl) (after_1 c W) (fun _ => rfl) (fun _ _ => rfl) t d
theorem before_2 (t : Fin cfg1.N) (d) : (dat c W).before 2 t d = iblk W 2 t :=
  steady (dat c W) 2 (iblk W 2) rfl (fun _ => rfl) (fun _ _ _ => rfl) (after_2 c W) (fun _ => rfl) (fun _ _ => rfl) t d
theorem before_3 (t : Fin cfg1.N) (d) : (dat c W).before 3 t d = iblk W 3 t :=
  steady (dat c W) 3 (iblk W 3) rfl (fun _ => rfl) (fun _ _ _ => rfl) (after_3 c W) (fun _ => rfl) (fun _ _ => rfl) t d

/-- The buffers the point works on. -/
abbrev ms_0 (t : Fin cfg1.N) : Memref sig .tc .vmem S8x144x128 .f32 := win1_0.stage (cfg1.slots t 0)
abbrev ms_1 (t : Fin cfg1.N) : Memref sig .tc .vmem S144x128 .f32 := win1_1.stage (cfg1.slots t 1)
abbrev ms_2 (t : Fin cfg1.N) : Memref sig .tc .vmem S144x128 .f32 := win1_2.stage (cfg1.slots t 2)
abbrev ms_3 (t : Fin cfg1.N) : Memref sig .tc .vmem S144x128 .f32 := win1_3.stage (cfg1.slots t 3)
abbrev ms_4 (t : Fin cfg1.N) : Memref sig .tc .vmem S144x128 .f32 := win1_4.stage (cfg1.slots t 4)
abbrev ms_5 (t : Fin cfg1.N) : Memref sig .tc .vmem S144x128 .f32 := win1_5.stage (cfg1.slots t 5)
abbrev ms_6 (t : Fin cfg1.N) : Memref sig .tc .vmem S144x128 .f32 := win1_6.stage (cfg1.slots t 6)
abbrev ms_7 (t : Fin cfg1.N) : Memref sig .tc .vmem S144x128 .f32 := win1_7.stage (cfg1.slots t 7)

/-- What the point runs. -/
abbrev bodyAt (t : Fin cfg1.N) : Prog (TpuEff nD τ sig (Elt F) Λ₀ .tc) PUnit :=
  cc1_adamw_gains (ms_0 t) (hstage1_0 0) (ms_1 t) (hstage1_1 0) (ms_2 t) (hstage1_2 0) (ms_3 t) (hstage1_3 0) (ms_4 t) (hstage1_4 0) (ms_5 t) (hstage1_5 0) (ms_6 t) (hstage1_6 0) (ms_7 t) (hstage1_7 0)

theorem row (t : Fin cfg1.N) : defs₀ (F := F) .tc cfg1.body (cfg1.bodyArgs t (cfg1.slots t)) = bodyAt t := by
  unfold defs₀; rw [Defs.onTc_tc]

theorem sound (t : Fin cfg1.N) :
    iprop((dat c W).Φ t.castSucc ∗ (dat c W).owesAt () t.castSucc
        ∗ (∃ d, owns (c : Thread nD τ) (ms_0 t) fullShare ((dat c W).before 0 t d))
        ∗ (∃ d, owns (c : Thread nD τ) (ms_1 t) fullShare ((dat c W).before 1 t d))
        ∗ (∃ d, owns (c : Thread nD τ) (ms_2 t) fullShare ((dat c W).before 2 t d))
        ∗ (∃ d, owns (c : Thread nD τ) (ms_3 t) fullShare ((dat c W).before 3 t d))
        ∗ (∃ d, owns (c : Thread nD τ) (ms_4 t) fullShare ((dat c W).before 4 t d))
        ∗ (∃ d, owns (c : Thread nD τ) (ms_5 t) fullShare ((dat c W).before 5 t d))
        ∗ (∃ d, owns (c : Thread nD τ) (ms_6 t) fullShare ((dat c W).before 6 t d))
        ∗ (∃ d, owns (c : Thread nD τ) (ms_7 t) fullShare ((dat c W).before 7 t d)))
      ⊢ wp frame (wpE (defs₀ (F := F)) Variants.none c none) Set.univ (bodyAt t)
        fun _ => iprop((dat c W).Φ t.succ ∗ (dat c W).owesAt () t.succ
          ∗ owns (c : Thread nD τ) (ms_0 t) fullShare ((dat c W).after 0 t)
          ∗ owns (c : Thread nD τ) (ms_1 t) fullShare ((dat c W).after 1 t)
          ∗ owns (c : Thread nD τ) (ms_2 t) fullShare ((dat c W).after 2 t)
          ∗ owns (c : Thread nD τ) (ms_3 t) fullShare ((dat c W).after 3 t)
          ∗ owns (c : Thread nD τ) (ms_4 t) fullShare ((dat c W).after 4 t)
          ∗ owns (c : Thread nD τ) (ms_5 t) fullShare ((dat c W).after 5 t)
          ∗ owns (c : Thread nD τ) (ms_6 t) fullShare ((dat c W).after 6 t)
          ∗ owns (c : Thread nD τ) (ms_7 t) fullShare ((dat c W).after 7 t)) := by
  simp only [before_0, before_1, before_2, before_3, after_0, after_1, after_2, after_3, after_4, after_5, after_6, after_7]
  rw [show (dat c W).Φ t.succ = (dat c W).Φ t.castSucc from rfl, show (dat c W).owesAt () t.succ = (dat c W).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (point c _ _ _ _ _ _ _ _ _ _ _ _ _ _ _ _ (iblk W 0 t) (iblk W 1 t) (iblk W 2 t) (iblk W 3 t))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation : BodyObligation (dat c W) (defs₀ (F := F)) Variants.none () Set.univ := fun t => by
  rw [bigSep_W1, bigSep_W1, row]
  exact triple_restated (sound c W t) rfl .rfl fun _ => .rfl

end Cert.GainsIdeal.Step

end
-- ==== Proof.Small.lean ====
/- The all-gather of the packed gains' partial gradients, and the AdamW step of the gains after it.

   Every core receives every core's packed partial gradients. The second region sums them and takes the step. -/
module

public import proofs.«01_k».proof.Proof.GatherMemory
public import proofs.«01_k».proof.Proof.Step
public import proofs.«01_k».proof.Proof.Gen.GainsIdeal.Regions

@[expose] public section

set_option maxRecDepth 16384

noncomputable section

namespace Cert.GainsIdeal.Small

open Cert.GainsIdeal Cert.GainsIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Talk Talk.Gather

variable {F : FTy → Type} [FloatOps F]

/-! ## The printed gather -/

/-- The core's packed partial gradients. -/
def packed : Piece sig S144x128 .f32 := ⟨Memref.whole main_arg0, (Memref.isWhole_whole main_arg0).wordExact, rfl⟩

/-- A member of the stack it receives into. -/
def memberAt (off : Fin 3 → ℕ) (inb : ∀ a, off a + S1x144x128.size a ≤ S8x144x128.size a) : Piece sig S144x128 .f32 where
  m := ((Memref.whole main_v1).slice (Rect.unit (s := S8x144x128) off S1x144x128.size inb) (fun _ => rfl)).squeeze S144x128 squeezes_S1x144x128_S144x128
  we := (View.wordExact_bits rfl).reshape _ _
  sc := rfl

theorem inside (b : Dev 8) : ∀ a, (![b.val, 0, 0] : Fin 3 → ℕ) a + S1x144x128.size a ≤ S8x144x128.size a := by
  revert b; decide +kernel
/-- Member `b`. -/
def member (b : Dev 8) : Piece sig S144x128 .f32 := memberAt ![b.val, 0, 0] (inside b)

theorem member_of (b : Dev 8) {off : Fin 3 → ℕ} (h : off = ![b.val, 0, 0]) (inb) : memberAt off inb = member b := by
  subst h; rfl

/-- The kernel's semaphores. -/
def sm : Talk.Gather.K → DmaSem sig
  | .snd i => (![0, 1, 2, 3] : Fin 4 → Fin 23) i
  | .fwd i => (![4, 5, 6] : Fin 3 → Fin 23) i
  | .got i => (![7, 8, 9, 10] : Fin 4 → Fin 23) i
  | .fgot i => (![11, 12, 13] : Fin 3 → Fin 23) i
  | .own => (14 : Fin 23)

theorem printed : cc0_ag_gains (F := F) (Memref.whole main_arg0) (Memref.isWhole_whole _) (Memref.whole main_v1) (Memref.isWhole_whole _) cc0_scratch0 cc0_scratch1 cc0_scratch2
    = .op .deviceId fun c => prog packed (memberAt (k0_off1 c) (k0_off1_inb c)) (memberAt (k0_off2 c) (k0_off2_inb c)) (memberAt (k0_off3 c) (k0_off3_inb c)) (memberAt (k0_off4 c) (k0_off4_inb c))
        (memberAt (k0_off5 c) (k0_off5_inb c)) (memberAt (k0_off6 c) (k0_off6_inb c)) (memberAt (k0_off7 c) (k0_off7_inb c)) (memberAt (k0_off8 c) (k0_off8_inb c)) sm
        ⟨k0_dev1 c, k0_dev1_lt c⟩ ⟨k0_dev2 c, k0_dev2_lt c⟩ ⟨k0_dev3 c, k0_dev3_lt c⟩ ⟨k0_dev4 c, k0_dev4_lt c⟩ ⟨k0_dev5 c, k0_dev5_lt c⟩ ⟨k0_dev6 c, k0_dev6_lt c⟩ ⟨k0_dev7 c, k0_dev7_lt c⟩ := by
  rw [cc0_ag_gains_eq_skeleton]; unfold cc0_ag_gains_skel
  rw [k0_part10_eq_skeleton]; unfold k0_part10_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret]
  rfl

variable (m : (ℓ : Loc nD τ sig) → Buf (Elt F) ℓ) (ρ : Dev nD → PrngReg)

theorem credit (p q : Piece sig S144x128 .f32) : p.m.view.dmaCredit = q.m.view.dmaCredit := rfl

/-- The kernel as a gathering site. -/
def site : Site τ sig (Elt F) S144x128 .f32 where
  x := packed
  slot := member
  sm := sm
  inj := by decide
  N := packed.m.view.dmaCredit
  N_pos := View.dmaCredit_pos _ (by decide)
  x_credit := rfl
  slot_credit b := credit _ _
  fx c := m ((c : Thread nD τ).loc main_arg0)
  routes := by decide

local notation "𝕄" => MT nD τ sig Unit (Elt F) ℕ (UU nD τ sig) ℕ

/-- What a core holds around the gather. -/
abbrev before (c : Dev nD) : sProp 𝕄 := (site m).pre main_arg0 main_v1 (fun c b => m (c, b)) c
abbrev then_ (c : Dev nD) : sProp 𝕄 := (site m).post main_arg0 main_v1 (fun c b => m (c, b)) c

theorem body (c : Dev nD) {defs' : Defs nD τ sig (Elt F) Λ₀} :
    iprop(kit (site m).plan c ∗ levAts L (lv (site m).plan) ∗ owing (site m).plan far c ∗ before m c)
      ⊢ wp frame (wpE defs' Variants.none (c : Thread nD τ) none) Set.univ
          (cc0_ag_gains (F := F) (Memref.whole main_arg0) (Memref.isWhole_whole _) (Memref.whole main_v1) (Memref.isWhole_whole _) cc0_scratch0 cc0_scratch1 cc0_scratch2)
          fun _ => iprop(owing (site m).plan ∅ c ∗ ownSems0 (site m).plan.osem c ∗ then_ m c) := by
  rw [printed]
  simp only [wp_deviceId]
  unfold before then_ Site.pre Site.post
  iintro ⟨Hk, HL, HO, HX, HE, Hr⟩
  iapply ((site m).run Variants.none c
    (member_of _ (by rw [k0_off1_eq]; decide +revert) _) (member_of _ (by rw [k0_off2_eq]; decide +revert) _) (member_of _ (by rw [k0_off3_eq]; decide +revert) _)
    (member_of _ (by rw [k0_off4_eq]; decide +revert) _) (member_of _ (by rw [k0_off5_eq]; decide +revert) _) (member_of _ (by rw [k0_off6_eq]; decide +revert) _)
    (member_of _ (by rw [k0_off7_eq]; decide +revert) _) (member_of _ (by rw [k0_off8_eq]; decide +revert) _)
    (Fin.ext ((k0_dev1_eq c).trans (by decide +revert))) (Fin.ext ((k0_dev2_eq c).trans (by decide +revert))) (Fin.ext ((k0_dev3_eq c).trans (by decide +revert)))
    (Fin.ext ((k0_dev4_eq c).trans (by decide +revert))) (Fin.ext ((k0_dev5_eq c).trans (by decide +revert))) (Fin.ext ((k0_dev6_eq c).trans (by decide +revert)))
    (Fin.ext ((k0_dev7_eq c).trans (by decide +revert)))) $$ [Hk HL HO HX HE]
  · isplitl [Hk]; · iexact Hk
    isplitl [HL]; · iexact HL
    isplitl [HO]; · iexact HO
    isplitl [HX] <;> iassumption
  iintro ⟨HO, Hz, HX, HF⟩
  isplitl [HO]; · iexact HO
  isplitl [Hz]; · iexact Hz
  isplitl [HX]; · iexact HX
  isplitl [HF]; · iexact HF
  iexact Hr

/-! ## The memory around it -/

/-- The received array as the stack of its members. -/
abbrev stack : Tiles S8x144x128.Idx (Fin 8) S144x128.Idx := members 8 144 128

theorem emb_at (b : Dev 8) (j : S144x128.Idx) : (member b).m.view.emb j = stack.at_ b j :=
  member_emb (Memref.whole main_v1) b rfl (inside b) squeezes_S1x144x128_S144x128 j

theorem places : ∀ b i, Iff (i ∈ (member b).m.view.set) (stack.tile i = b) := stack.covers_of_emb (fun _ => rfl) emb_at

/-- The cores' packed partial gradients, one under the other. -/
def gathered : S8x144x128.Idx → Elt F .f32 := fun i => m (((stack.tile i : Dev nD) : Thread nD τ).loc main_arg0) (stack.elt i)

theorem hX (c : Dev nD) : ((((c : Thread nD τ).loc main_arg0) ↦{fullShare} m ((c : Thread nD τ).loc main_arg0)) : sProp 𝕄) = (site m).X fullShare c := by
  unfold Site.X
  rw [show (site m).x.m.view.set = Finset.univ from Finset.map_refl]
  rfl

theorem hE (c : Dev nD) : ((((c : Thread nD τ).loc main_v1) ↦{fullShare} m ((c : Thread nD τ).loc main_v1)) : sProp 𝕄) ⊢ bigSep Finset.univ fun b => (site m).E b c := by
  rw [Tiles.cut (ℓ := (c : Thread nD τ).loc main_v1) stack places]
  refine bigSep_mono fun b _ => ?_
  unfold Site.E
  show (_ : sProp 𝕄) ⊢ _
  iintro H
  iexists m ((c : Thread nD τ).loc main_v1)
  iexact H

theorem hS (c : Dev nD) : (site m).filled c ⊢ (((c : Thread nD τ).loc main_v1) ↦{fullShare} gathered m : sProp 𝕄) := by
  refine BIBase.Entails.trans (bigSep_mono fun b _ => ?_) (Tiles.join (ℓ := (c : Thread nD τ).loc main_v1) stack places (gathered m))
  unfold Site.S
  show (_ : sProp 𝕄) ⊢ _
  iintro ⟨%f, %hf, H⟩
  iexists f
  isplitr
  · ipureintro
    intro j
    refine (congrArg f (emb_at b j).symm).trans ((congrFun hf j).trans ?_)
    show m (((b : Dev nD) : Thread nD τ).loc main_arg0) j = m (((stack.tile (stack.at_ b j) : Dev nD) : Thread nD τ).loc main_arg0) (stack.elt (stack.at_ b j))
    rw [stack.tile_at, stack.elt_at]
  · iexact H

/-! ## The run -/

/-- A core's arrays after the gather. -/
def W (c : Dev nD) : Valuation τ sig (Elt F) := Function.update (fun b => m (c, b)) (Proc.devRef .tc main_v1) (gathered m)

abbrev tables : Dev nD → (p : Fin 2) → (pcfgs (F := F) p).Adm := fun _ p => (cfgs p).toPCfg_adm

/-- The two regions' proof data. -/
def dats : (p : Fin 2) → (c : Dev nD) → Dat τ (Elt F) Unit ℕ (UU nD τ sig) ℕ (pinD (pcfgs (F := F)) tables c p) c := fun
  | 0, c => (site m).plan.dat cfg0 (hw := inferInstanceAs (IsEmpty (Fin 0))) (before m) (then_ m) c
  | 1, c => Step.dat c (W m c)
  | ⟨_ + 2, h⟩, _ => absurd h (Nat.not_lt.2 (Nat.le_add_left _ _))

theorem distinct : Function.Injective (PerCore.cellOf (nD := nD) (τ := τ) (pinD (pcfgs (F := F)) tables)) :=
  cells_distinct pcfgs tables semTab (fun | 0 => rfl | 1 => rfl | ⟨_ + 2, h⟩ => absurd h (Nat.not_lt.2 (Nat.le_add_left _ _))) semsDistinct semsDisjoint

/-- The second region is still. -/
theorem still : Still (pcfgs (F := F)) tables (dats m) (defs₀ (F := F)) Variants.none 1 (W m) where
  win := winFacts1
  pre := PreFacts.none _
  block_pos := block_pos1
  arr_whole := arr_whole1
  stage_whole := stage_whole1
  body c := (Step.obligation c (W m c)).loose
  owed _ _ := rfl
  recorded _ := rfl
  share c := (Step.dat c (W m c)).share_full fun _ => rfl
  inv _ _ := rfl
  starts _ _ := rfl
  tables _ k := k.elim0

theorem ownSemFacts : OwnSemFacts cfg0.spec (site m).plan.osem := by
  have h : OwnSemFacts cfg0.spec fun k : Talk.Gather.K => SemLoc.dma (sm k) := by decide
  exact h

theorem hmem : (bigSep Finset.univ fun c : Dev nD => StableHlo.held (c.tc : Thread nD τ) (ucRefs τ sig) fun b => m (c, b)) ⊢ (bigSep Finset.univ (before m) : sProp 𝕄) :=
  (site m).enter (x := main_arg0) (y := main_v1) (fun c b => m (c, b)) rfl rfl (by decide) (hX m) (hE m)

theorem hleft (c : Dev nD) : then_ m c ⊢ (StableHlo.held (c.tc : Thread nD τ) (ucRefs τ sig) (W m c) : sProp 𝕄) :=
  (site m).leave (x := main_arg0) (y := main_v1) (fun c b => m (c, b)) rfl rfl (by decide) c (hX m c) (gathered m) (hS m c)

theorem hsem : ∀ sm : SemLoc sig, sm.isScoped .tc = true := by decide

/-- Every run ends, a core's arrays at what the two regions leave. -/
theorem run_main : θ_run defs (onTc (τ := τ) (main (F := F))) ⟨m, fun _ => 0, ρ⟩ fun r => (∀ c, Ends (dats m) 1 (W m) c r.2) ∧ r.2.sem = fun _ => 0 := by
  refine Still.run (site m).plan distinct (still m) m ρ main (p₀ := 0) (by decide) (hW := inferInstanceAs (IsEmpty (Fin 0))) (hP := inferInstanceAs (IsEmpty (Fin 0))) (fun _ => N_0)
    winFacts0.to₀ (ownSemFacts m) (before m) (then_ m) (fun _ => rfl) ?_ (fun _ => []) ?_ ?_ ?_ (W m) (fun _ => rfl) (hmem m) (hleft m) hsem
  · exact fun c _ => body m c
  · exact fun _ _ h => absurd h List.not_mem_nil
  · exact fun _ _ h => absurd h List.not_mem_nil
  · exact main_chain

end Cert.GainsIdeal.Small

end
-- ==== Proof.SmallValue.lean ====
/- The values of the packed gains: the sum of the cores' partial gradients, and the AdamW step by it. -/
module

public import proofs.«01_k».proof.Proof.Small
public import proofs.«01_k».proof.Proof.ChipsValue
public import Idealize.ShloMosaic.Lib.Layout
public import Idealize.ShloMosaic.Lib.Claim
public import Idealize.ShloMosaic.Lib.Pipeline.ValueKit

@[expose] public section

set_option maxRecDepth 16384

noncomputable section

namespace Cert.GainsIdeal.Small

open Cert.GainsIdeal Cert.GainsIdeal.Gen
open Idealize.ShloMosaic Idealize.ShloMosaic.TcCoe
open Idealize.SL.Sem
open Idealize.ShloMosaic.Pipeline
open Talk
open Cert.ChipsIdeal.Quads (meanStep squareStep deltaStep)

/-! ## The kernel's arguments and results at the end -/

section

variable {F : FTy → Type} [FloatOps F] (m : (ℓ : Loc nD τ sig) → Buf (Elt F) ℓ) (ρ : Dev nD → PrngReg)

/-- The gather writes no array but the received one. -/
theorem W_of (c : Dev nD) (r : Ref sig .tc) (h : r ≠ main_v1) : W m c (Proc.devRef .tc r) = m ((c : Thread nD τ).loc r) :=
  Function.update_of_ne (fun e => h (Proc.devRef_injective _ e)) _ _

theorem W_v1 (c : Dev nD) : W m c (Proc.devRef .tc main_v1) = gathered m := Function.update_self _ _ _

/-- A core's arrays after the second region. -/
abbrev result (c : Dev nD) (w : Fin 8) := (Step.dat c (W m c)).arrAt w cfg1.N

theorem arr_mem : ∀ w : Fin 8, (Proc.devRef .tc (arrRef spec1 w) : DevRef τ sig) ∈ ucRefs τ sig := by decide
theorem arg_mem : ∀ r ∈ [main_arg0, main_arg1, main_arg2, main_arg3], (Proc.devRef .tc r : DevRef τ sig) ∈ ucRefs τ sig
    ∧ r ≠ main_v1 ∧ ∀ w : Fin 8, arrRef spec1 w = r → (spec1 w).isOut = false := by decide

/-- A core's memory at the end: every result in place, -/
theorem ends (c : Dev nD) (s : MemSt nD τ sig (Elt F)) (h : Ends (dats m) 1 (W m) c s) (w : Fin 8) :
    s.mem ((c : Thread nD τ).loc (arrRef spec1 w)) = result m c w :=
  (h _ (arr_mem w)).trans (afterRegion_arr (dats m 1 c) (W m c) winFacts1.arr_inj w)

/-- and every argument unchanged. -/
theorem keeps (c : Dev nD) (s : MemSt nD τ sig (Elt F)) (h : Ends (dats m) 1 (W m) c s) (r : Ref sig .tc) (hr : r ∈ [main_arg0, main_arg1, main_arg2, main_arg3]) :
    s.mem ((c : Thread nD τ).loc r) = m ((c : Thread nD τ).loc r) :=
  have k := arg_mem r hr
  (h _ k.1).trans ((afterRegion_keeps (dats m 1 c) (W m c) winFacts1.arr_inj (Step.A_eq c (W m c)) r k.2.2).trans (W_of m c r k.2.1))

/-- The four arguments, unchanged. -/
def Kept (c : Dev nD) (s : MemSt nD τ sig (Elt F)) : Prop :=
  s.mem (c.tc.loc main_arg0) = m (c.tc.loc main_arg0) ∧ s.mem (c.tc.loc main_arg1) = m (c.tc.loc main_arg1)
    ∧ s.mem (c.tc.loc main_arg2) = m (c.tc.loc main_arg2) ∧ s.mem (c.tc.loc main_arg3) = m (c.tc.loc main_arg3)

theorem kept_at (c : Dev nD) (s : MemSt nD τ sig (Elt F)) (h : Ends (dats m) 1 (W m) c s) : Kept m c s :=
  have k := keeps m c s h
  ⟨k _ (by simp), k _ (by simp), k _ (by simp), k _ (by simp)⟩

theorem frame : θ_run defs (onTc (τ := τ) (main (F := F))) ⟨m, fun _ => 0, ρ⟩ fun r =>
    (∀ c : Dev nD, Kept m c r.2) ∧ r.2.sem = fun _ => 0 :=
  (θ_run defs _ _).mono (fun _ h => ⟨fun c => kept_at m c _ (h.1 c), h.2⟩) (run_main m ρ)

end

/-! ## The results over the reals -/

variable (m : (ℓ : Loc nD τ sig) → Buf (Elt Ideal) ℓ)

/-- A core's arguments. -/
abbrev parts (c : Dev nD) : S144x128.Idx → EReal := m ((c : Thread nD τ).loc main_arg0)
abbrev weight (c : Dev nD) : S144x128.Idx → EReal := m ((c : Thread nD τ).loc main_arg1)
abbrev mean (c : Dev nD) : S144x128.Idx → EReal := m ((c : Thread nD τ).loc main_arg2)
abbrev square (c : Dev nD) : S144x128.Idx → EReal := m ((c : Thread nD τ).loc main_arg3)

/-- The gradient: the sum of the cores' parts. -/
def grad : S144x128.Idx → EReal := fun i => ∑ d : Fin 8, parts m d i

/-- The averages after it, and the gains' step. -/
def newMean (c : Dev nD) : S144x128.Idx → EReal := fun i => meanStep (mean m c i) (grad m i)
def newSquare (c : Dev nD) : S144x128.Idx → EReal := fun i => squareStep (square m c i) (grad m i)
def delta (c : Dev nD) : S144x128.Idx → EReal := fun i => deltaStep (weight m c i) (newMean m c i) (newSquare m c i)

section
variable (x0 : Vec Ideal S8x144x128 .f32) (x1 x2 x3 : Vec Ideal S144x128 .f32) (y : S144x128.Idx)

theorem meanOf_at : Step.meanOf x0 x2 y = meanStep (x2 y) (Step.gradOf x0 y) := by
  pointwise [Step.meanOf, k1_pay1, k1_pay6, meanStep]
theorem squareOf_at : Step.squareOf x0 x3 y = squareStep (x3 y) (Step.gradOf x0 y) := by
  pointwise [Step.squareOf, k1_pay2, k1_pay7, squareStep]
theorem deltaOf_at : Step.deltaOf x0 x1 x2 x3 y = deltaStep (x1 y) (Step.meanOf x0 x2 y) (Step.squareOf x0 x3 y) := by
  pointwise [Step.deltaOf, k1_pay3, k1_pay5, deltaStep, Step.meanOf, Step.squareOf]

/-- A core's part, at an index. -/
theorem part_at (d : Fin 8) (inb) (j : S1x144x128.Idx) (h1 : j 1 = y 0) (h2 : j 2 = y 1) : Step.part x0 ![d.val, 0, 0] inb j = x0 (ix3 d (y 0) (y 1)) := by
  have h0 := (j 0).isLt
  refine congrArg x0 (funext fun a => Fin.ext ?_)
  show ![d.val, 0, 0] a + 1 * (j a).val = _
  match a with
  | 0 => show d.val + 1 * (j 0).val = d.val; have : (j 0).val < 1 := h0; omega
  | 1 => show 0 + 1 * (j 1).val = (y 0).val; rw [h1]; omega
  | 2 => show 0 + 1 * (j 2).val = (y 1).val; rw [h2]; omega

theorem gradOf_at : Step.gradOf x0 y = ∑ d : Fin 8, x0 (ix3 d (y 0) (y 1)) := by
  rw [Fin.sum_univ_eight]
  pointwise [Step.gradOf, k1_pay4]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  exacts [part_at x0 y 0 _ _ rfl rfl, part_at x0 y 1 _ _ rfl rfl, part_at x0 y 2 _ _ rfl rfl, part_at x0 y 3 _ _ rfl rfl,
    part_at x0 y 4 _ _ rfl rfl, part_at x0 y 5 _ _ rfl rfl, part_at x0 y 6 _ _ rfl rfl, part_at x0 y 7 _ _ rfl rfl]
end

/-! ### The region's windows, each a whole array -/

theorem covers_4 : (cfg1.win 4).Covers := by decide +kernel
theorem covers_5 : (cfg1.win 5).Covers := by decide +kernel
theorem covers_6 : (cfg1.win 6).Covers := by decide +kernel
theorem covers_7 : (cfg1.win 7).Covers := by decide +kernel

theorem index_0 (t : Fin cfg1.grid.N) : (cfg1.win 0).index t = ![0, 0, 0] := by
  revert t
  decide +kernel
theorem index_1 (t : Fin cfg1.grid.N) : (cfg1.win 1).index t = ![0, 0] := by
  revert t
  decide +kernel
theorem index_2 (t : Fin cfg1.grid.N) : (cfg1.win 2).index t = ![0, 0] := by
  revert t
  decide +kernel
theorem index_3 (t : Fin cfg1.grid.N) : (cfg1.win 3).index t = ![0, 0] := by
  revert t
  decide +kernel
theorem index_4 (t : Fin cfg1.grid.N) : (cfg1.win 4).index t = ![0, 0] := by
  revert t
  decide +kernel
theorem index_5 (t : Fin cfg1.grid.N) : (cfg1.win 5).index t = ![0, 0] := by
  revert t
  decide +kernel
theorem index_6 (t : Fin cfg1.grid.N) : (cfg1.win 6).index t = ![0, 0] := by
  revert t
  decide +kernel
theorem index_7 (t : Fin cfg1.grid.N) : (cfg1.win 7).index t = ![0, 0] := by
  revert t
  decide +kernel

/-- What the region's windows hold. -/
abbrev blk (c : Dev nD) (t : Fin cfg1.grid.N) (w : Fin cfg1.W) := Step.iblk (F := Ideal) (W m c) w t

variable (c : Dev nD) (t : Fin cfg1.grid.N) (y : S144x128.Idx)

theorem weight_at : blk m c t 1 y = weight m c y := by
  refine (congrFun (W_of m c main_arg1 (by decide)) _).trans (congrArg (weight m c) ?_)
  blk_ext [index_1 t]
  all_goals simp

theorem mean_at : blk m c t 2 y = mean m c y := by
  refine (congrFun (W_of m c main_arg2 (by decide)) _).trans (congrArg (mean m c) ?_)
  blk_ext [index_2 t]
  all_goals simp

theorem square_at : blk m c t 3 y = square m c y := by
  refine (congrFun (W_of m c main_arg3 (by decide)) _).trans (congrArg (square m c) ?_)
  blk_ext [index_3 t]
  all_goals simp

theorem stack_at (j : S8x144x128.Idx) : blk m c t 0 j = parts m (j 0) (ix2 (j 1) (j 2)) := by
  refine (congrFun (W_v1 m c) _).trans (congrArg (gathered m) (?_ : _ = j))
  blk_ext [index_0 t]
  all_goals simp

/-- The region's gradient is the sum of the cores' parts, -/
theorem grad_at : Step.gradOf (blk m c t 0) y = grad m y :=
  (gradOf_at ..).trans (Finset.sum_congr rfl fun d _ => (stack_at m c t _).trans (congrArg (parts m d) (by pointwise [])))

/-- and its step is by that sum. -/
theorem newMean_at : Step.meanOf (blk m c t 0) (blk m c t 2) y = newMean m c y :=
  (meanOf_at ..).trans (congrArg₂ meanStep (mean_at m c t y) (grad_at m c t y))
theorem newSquare_at : Step.squareOf (blk m c t 0) (blk m c t 3) y = newSquare m c y :=
  (squareOf_at ..).trans (congrArg₂ squareStep (square_at m c t y) (grad_at m c t y))
theorem delta_at : Step.deltaOf (blk m c t 0) (blk m c t 1) (blk m c t 2) (blk m c t 3) y = delta m c y :=
  (deltaOf_at ..).trans ((congrArg (deltaStep · _ _) (weight_at m c t y)).trans (congrArg₂ (deltaStep _) (newMean_at m c t y) (newSquare_at m c t y)))

theorem grad_eq : result m c 4 = grad m := by
  refine Dat.arrAt_eq_of_covers (Step.dat c (W m c)) 4 (grad m) covers_4 fun t hf y => ?_
  blk_simp
  rw [Step.after_4]
  refine (grad_at m c t y).trans (congrArg (grad m) ?_)
  blk_ext [index_4 t]
  all_goals simp

theorem delta_eq : result m c 5 = delta m c := by
  refine Dat.arrAt_eq_of_covers (Step.dat c (W m c)) 5 (delta m c) covers_5 fun t hf y => ?_
  blk_simp
  rw [Step.after_5]
  refine (delta_at m c t y).trans (congrArg (delta m c) ?_)
  blk_ext [index_5 t]
  all_goals simp

theorem newMean_eq : result m c 6 = newMean m c := by
  refine Dat.arrAt_eq_of_covers (Step.dat c (W m c)) 6 (newMean m c) covers_6 fun t hf y => ?_
  blk_simp
  rw [Step.after_6]
  refine (newMean_at m c t y).trans (congrArg (newMean m c) ?_)
  blk_ext [index_6 t]
  all_goals simp

theorem newSquare_eq : result m c 7 = newSquare m c := by
  refine Dat.arrAt_eq_of_covers (Step.dat c (W m c)) 7 (newSquare m c) covers_7 fun t hf y => ?_
  blk_simp
  rw [Step.after_7]
  refine (newSquare_at m c t y).trans (congrArg (newSquare m c) ?_)
  blk_ext [index_7 t]
  all_goals simp

end Cert.GainsIdeal.Small

end
-- ==== Proof.GainsPlain.lean ====
/- The reference of the packed gains' step: its run, and its values as every core has them. -/
module

public import proofs.«01_k».proof.Proof.SmallValue
public import proofs.«01_k».proof.Proof.Blocks
public import proofs.«01_k».proof.Proof.Gen.GainsPlainIdeal

@[expose] public section

set_option maxRecDepth 16384

noncomputable section

namespace Cert.GainsPlainIdeal.Whole

open Cert.GainsPlainIdeal Cert.GainsPlainIdeal.Gen
open Idealize.ShloMosaic Idealize.ShloMosaic.TcCoe Idealize.SL.Sem

section

variable {F : FTy → Type} [FloatOps F]

/-- The sum of the eight parts. -/
def total (p : FVec F S1152x128 .f32) : FVec F S144x128 .f32 :=
  Host.reduceAdd (shapeCast S8x144x128 p shapeCasts_S1152x128_S8x144x128) (constant S_ .f32 0x00000000#32) reducesTo_S8x144x128_S144x128_d0 h_S_

/-- A number in every place. -/
abbrev all (w : BitVec 32) : FVec F S144x128 .f32 := broadcastInDim S144x128 ![] bcast_S_S144x128 (constant S_ .f32 w)

/-- The averages after it, and the step. -/
def newMean (g m : FVec F S144x128 .f32) : FVec F S144x128 .f32 := addf (mulf (all 0x3F666666#32) m) (mulf (all 0x3DCCCCCD#32) g)
def newSquare (g v : FVec F S144x128 .f32) : FVec F S144x128 .f32 := addf (mulf (all 0x3F7FBE77#32) v) (mulf (all 0x3A83126F#32) (mulf g g))
def delta (w m v : FVec F S144x128 .f32) : FVec F S144x128 .f32 :=
  mulf (all 0xBA83126F#32) (addf (Host.divf (Host.divf m (all 0x3F26BD02#32)) (addf (Host.sqrt (Host.divf v (all 0x3C231ACC#32))) (all 0x322BCC77#32))) (mulf (all 0x3C23D70A#32) w))

variable (m : (ℓ : Loc nD τ sig) → Buf (Elt F) ℓ) (ρ : Dev nD → PrngReg)

/-- The results of the reference's arguments. -/
abbrev gradR : FVec F S144x128 .f32 := total (m ((0 : Dev nD).tc.loc main_arg0))
abbrev meanR : FVec F S144x128 .f32 := newMean (gradR m) (m ((0 : Dev nD).tc.loc main_arg2))
abbrev squareR : FVec F S144x128 .f32 := newSquare (gradR m) (m ((0 : Dev nD).tc.loc main_arg3))
abbrev deltaR : FVec F S144x128 .f32 := delta (m ((0 : Dev nD).tc.loc main_arg1)) (meanR m) (squareR m)

theorem run_main : θ_run defs (onTc (τ := τ) (main (F := F))) ⟨m, fun _ => 0, ρ⟩ fun r =>
    r.2.mem ((0 : Dev nD).tc.loc main_v1) = gradR m ∧ r.2.mem ((0 : Dev nD).tc.loc main_v25) = deltaR m
      ∧ r.2.mem ((0 : Dev nD).tc.loc main_v6) = meanR m ∧ r.2.mem ((0 : Dev nD).tc.loc main_v12) = squareR m
      ∧ r.2.mem ((0 : Dev nD).tc.loc main_arg0) = m ((0 : Dev nD).tc.loc main_arg0)
      ∧ r.2.mem ((0 : Dev nD).tc.loc main_arg1) = m ((0 : Dev nD).tc.loc main_arg1)
      ∧ r.2.mem ((0 : Dev nD).tc.loc main_arg2) = m ((0 : Dev nD).tc.loc main_arg2)
      ∧ r.2.mem ((0 : Dev nD).tc.loc main_arg3) = m ((0 : Dev nD).tc.loc main_arg3) := by
  hlo_run
  all_goals rfl

theorem frame : θ_run defs (onTc (τ := τ) (main (F := F))) ⟨m, fun _ => 0, ρ⟩ fun r =>
    (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
    ∧ r.2.sem = fun _ => 0 :=
  (θ_run defs _ _).mono (fun r h => ⟨fun c => by rw [show c = 0 from Subsingleton.elim _ _]; exact h.2.2.2.2, sem_eq_zero_of_no_sems (by decide) r.2⟩) (run_main m ρ)

end

/-! ### Its values -/

/-- The sum at an index: a core's part is its block of rows. -/
theorem total_at (p : FVec Ideal S1152x128 .f32) (i : S144x128.Idx) : total p i = ∑ d : Fin 8, p (ix2 ⟨d.val * 144 + (i 0).val, by have : (i 0).val < 144 := (i 0).isLt; omega⟩ (i 1)) := by
  pointwise [total]

open Cert.GainsIdeal.Small (parts weight mean square grad)

variable (m' : (ℓ : Loc nD τ sig) → Buf (Elt Ideal) ℓ) (m : (ℓ : Loc Cert.GainsIdeal.nD Cert.GainsIdeal.τ Cert.GainsIdeal.sig) → Buf (Elt Ideal) ℓ)

/-- The cores' parts are the blocks of the reference's, and every core has the gains and their averages whole. -/
abbrev Agree : Prop := ∀ c : Dev Cert.GainsIdeal.nD,
  parts m c = Layout.block ⟨2, ![144, 128]⟩ ⟨2, ![1152, 128]⟩ 0 8 c (m' ((0 : Dev nD).tc.loc main_arg0))
  ∧ weight m c = m' ((0 : Dev nD).tc.loc main_arg1)
  ∧ mean m c = m' ((0 : Dev nD).tc.loc main_arg2)
  ∧ square m c = m' ((0 : Dev nD).tc.loc main_arg3)

variable (hagree : Agree m' m) (c : Dev Cert.GainsIdeal.nD)
include hagree

/-- The cores' gradient is the reference's, -/
theorem grad_whole : grad m = gradR m' := by
  funext j
  exact Eq.symm ((total_at _ j).trans (Finset.sum_congr rfl fun d _ => ((congrFun (hagree d).1 j).trans (Talk.block_two _ _ d j)).symm))

/-- and so are every core's new averages and its gains' step. -/
theorem mean_whole : Cert.GainsIdeal.Small.newMean m c = meanR m' := by
  funext j
  pointwise [meanR, newMean]
  exact congrArg₂ Cert.ChipsIdeal.Quads.meanStep (congrFun (hagree c).2.2.1 j) (congrFun (grad_whole m' m hagree) j)

theorem square_whole : Cert.GainsIdeal.Small.newSquare m c = squareR m' := by
  funext j
  pointwise [squareR, newSquare]
  exact congrArg₂ Cert.ChipsIdeal.Quads.squareStep (congrFun (hagree c).2.2.2 j) (congrFun (grad_whole m' m hagree) j)

theorem delta_whole : Cert.GainsIdeal.Small.delta m c = deltaR m' := by
  funext j
  pointwise [deltaR, delta]
  exact (congrArg (Cert.ChipsIdeal.Quads.deltaStep · _ _) (congrFun (hagree c).2.1 j)).trans
    (congrArg₂ (Cert.ChipsIdeal.Quads.deltaStep _) (congrFun (mean_whole m' m hagree c) j) (congrFun (square_whole m' m hagree c) j))

end Cert.GainsPlainIdeal.Whole

end
-- ==== Proof.Norm.lean ====
/- The backward pass of the root-mean-square norm over the extended reals: two ways of writing it, shown equal. -/
module

public import Idealize.ShloMosaic.PureOps.Ideal

@[expose] public section

noncomputable section

namespace Cert.Norm

open Idealize.ShloMosaic

/-! ### The constants -/

theorem width : Ideal.ofBits .f32 0x44800000#32 = ((1024 : ℝ) : EReal) := by
  simp [Ideal.ofBits, Ideal.ieee, -EReal.coe_mul]
  norm_num

theorem share : Ideal.ofBits .f32 0x3A800000#32 = ((1 / 1024 : ℝ) : EReal) := by
  simp [Ideal.ofBits, Ideal.ieee, -EReal.coe_mul]
  norm_num

theorem half : Ideal.ofBits .f32 0xBF000000#32 = ((-(1 / 2) : ℝ) : EReal) := by
  simp [Ideal.ofBits, Ideal.ieee, -EReal.coe_mul]
  norm_num

theorem one_half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem little : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

theorem above : Ideal.ofBits .f32 0x7F800000#32 = (⊤ : EReal) := by
  simp [Ideal.ofBits, Ideal.ieee]

theorem above_narrow : Ideal.ofBits .bf16 0x7F80#16 = (⊤ : EReal) := by
  simp [Ideal.ofBits, Ideal.ieee]

/-- Division by the width is multiplication by its share. -/
theorem div_width (y : EReal) : Ideal.div y (Ideal.ofBits .f32 0x44800000#32) = y * Ideal.ofBits .f32 0x3A800000#32 := by
  rw [width, share, Ideal.div_coe (by norm_num)]

/-! ### The root -/

theorem sq_nonneg (a : EReal) : 0 ≤ a * a := by
  induction a with
  | bot => simp
  | top => simp
  | coe r => exact_mod_cast mul_self_nonneg r

/-- What the root is taken of is above zero. -/
theorem mean_pos (x : Fin 1024 → EReal) : 0 < (∑ k, x k * x k) * Ideal.ofBits .f32 0x3A800000#32 + Ideal.ofBits .f32 0x358637BD#32 := by
  obtain ⟨e, he, h⟩ := little
  rw [h, share]
  have h0 : (0 : EReal) ≤ (∑ k, x k * x k) * ((1 / 1024 : ℝ) : EReal) :=
    mul_nonneg (Finset.sum_nonneg fun k _ => sq_nonneg (x k)) (by exact_mod_cast (by norm_num : (0 : ℝ) ≤ 1 / 1024))
  exact lt_of_lt_of_le (by exact_mod_cast he) (le_add_of_nonneg_left h0)

/-- The root's reciprocal over its argument is its cube. -/
theorem cube (v : EReal) (h : 0 < v) : Ideal.div (Ideal.rsqrt v) v = Ideal.rsqrt v * Ideal.rsqrt v * Ideal.rsqrt v := by
  induction v with
  | bot => simp at h
  | top => simp [Ideal.div]
  | coe v =>
    have hv : 0 < v := by exact_mod_cast h
    rw [Ideal.div_coe hv.ne', Ideal.rsqrt_coe, if_neg hv.not_gt, if_neg hv.ne']
    rw [← EReal.coe_mul, ← EReal.coe_mul, ← EReal.coe_mul]
    congr 1
    have hs : Real.sqrt v * Real.sqrt v = v := Real.mul_self_sqrt hv.le
    have h0 : Real.sqrt v ≠ 0 := (Real.sqrt_pos.mpr hv).ne'
    field_simp
    rw [pow_two, hs]

theorem twice (b : EReal) : b + b = ((2 : ℝ) : EReal) * b := by
  induction b with
  | bot => rw [EReal.coe_mul_bot_of_pos (by norm_num)]; rfl
  | top => rw [EReal.coe_mul_top_of_pos (by norm_num)]; rfl
  | coe r => rw [← EReal.coe_mul, ← EReal.coe_add]; congr 1; ring

/-- Half the step along the row, taken back twice, is the step taken away. -/
theorem two_halves (a s p : EReal) : a * (s * (((-(1 / 2) : ℝ) : EReal) * p) * ((1 / 1024 : ℝ) : EReal)) + s * (((-(1 / 2) : ℝ) : EReal) * p) * ((1 / 1024 : ℝ) : EReal) * a
    = -(a * p * (s * ((1 / 1024 : ℝ) : EReal))) := by
  have h : a * (s * (((-(1 / 2) : ℝ) : EReal) * p) * ((1 / 1024 : ℝ) : EReal)) = ((-(1 / 2) : ℝ) : EReal) * (a * p * (s * ((1 / 1024 : ℝ) : EReal))) := by ac_rfl
  rw [mul_comm _ a, twice, h, ← mul_assoc, ← EReal.coe_mul, show (2 : ℝ) * -(1 / 2) = -1 by norm_num]
  rw [show ((-1 : ℝ) : EReal) = -1 from rfl, EReal.neg_mul, one_mul]

/-- The step of a place, of the gradients there and along its row. -/
def step (e u a s v : EReal) : EReal := e + (Ideal.rsqrt v * u - a * (Ideal.rsqrt v * Ideal.rsqrt v * Ideal.rsqrt v) * (s * Ideal.ofBits .f32 0x3A800000#32))

/-- The gradient at a place, both ways: with the root's derivative as the chain rule gives it, and with its cube. -/
theorem grad_eq (e u a s v : EReal) (hv : 0 < v) :
    e + (u * Ideal.rsqrt v + a * Ideal.div (s * (Ideal.ofBits .f32 0xBF000000#32 * Ideal.div (Ideal.rsqrt v) v)) (Ideal.ofBits .f32 0x44800000#32)
        + Ideal.div (s * (Ideal.ofBits .f32 0xBF000000#32 * Ideal.div (Ideal.rsqrt v) v)) (Ideal.ofBits .f32 0x44800000#32) * a)
      = step e u a s v := by
  unfold step
  rw [div_width, cube v hv, half, share, add_assoc (u * Ideal.rsqrt v), two_halves, mul_comm u, sub_eq_add_neg]

/-! ### Half the mean of the squares -/

/-- The derivative of half a square's mean, both ways. -/
theorem slope (e : EReal) : Ideal.div (Ideal.ofBits .f32 0x3F000000#32) (Ideal.ofBits .f32 0x44800000#32) * (Ideal.ofBits .f32 0x40000000#32 * e)
    = e * Ideal.ofBits .f32 0x3A800000#32 := by
  rw [div_width, one_half, two, share, mul_comm e, ← mul_assoc, ← EReal.coe_mul, ← EReal.coe_mul]
  norm_num

theorem mul_sum {ι : Type} (s : Finset ι) (a : EReal) (f : ι → EReal) (hf : ∀ i, 0 ≤ f i) : a * ∑ i ∈ s, f i = ∑ i ∈ s, a * f i := by
  classical
  induction s using Finset.induction_on with
  | empty => simp
  | insert i s hi h => rw [Finset.sum_insert hi, Finset.sum_insert hi, EReal.left_distrib_of_nonneg (hf i) (Finset.sum_nonneg fun j _ => hf j), h]

/-- The part of a row in half the mean, of the sum of its squares. -/
def halved (q : EReal) : EReal := Ideal.ofBits .f32 0x3F000000#32 * q * Ideal.ofBits .f32 0x3A800000#32

/-- Half the mean of several rows' sums is the sum of the rows' parts, -/
theorem halved_sum {ι : Type} [Fintype ι] (f : ι → EReal) (hf : ∀ i, 0 ≤ f i) : halved (∑ i, f i) = ∑ i, halved (f i) := by
  unfold halved
  rw [mul_right_comm, mul_sum _ _ f hf]
  exact Finset.sum_congr rfl fun i _ => mul_right_comm _ _ _

/-- and half the sum of the rows' means is too. -/
theorem mean_sum {ι : Type} [Fintype ι] (f : ι → EReal) (hf : ∀ i, 0 ≤ f i) :
    Ideal.ofBits .f32 0x3F000000#32 * ∑ i, Ideal.div (f i) (Ideal.ofBits .f32 0x44800000#32) = ∑ i, halved (f i) := by
  rw [mul_sum _ _ _ fun i => ?_]
  · exact Finset.sum_congr rfl fun i _ => by rw [div_width, ← mul_assoc]; rfl
  · rw [div_width, share]
    exact mul_nonneg (hf i) (by exact_mod_cast (by norm_num : (0 : ℝ) ≤ 1 / 1024))

/-! ### The product over the packed columns -/

/-- A row of the five parts side by side, as the reference reads it. -/
def packed (a : Fin 512 → EReal) (b : Fin 1024 → EReal) (c d : Fin 512 → EReal) (e : Fin 640 → EReal) (x : Fin 3200) : EReal :=
  if h : x.val < 512 then a ⟨x.val, h⟩
  else if h : x.val - 512 < 1024 then b ⟨x.val - 512, h⟩
  else if h : x.val - 512 - 1024 < 512 then c ⟨x.val - 512 - 1024, h⟩
  else if h : x.val - 512 - 1024 - 512 < 512 then d ⟨x.val - 512 - 1024 - 512, h⟩
  else e ⟨x.val - 512 - 1024 - 512 - 512, by have := x.isLt; omega⟩

theorem split (f : Fin 3200 → EReal) : ∑ x, f x
    = ∑ k : Fin 512, f ⟨k.val, by omega⟩ + ∑ k : Fin 512, f ⟨512 + k.val, by omega⟩ + ∑ k : Fin 512, f ⟨1024 + k.val, by omega⟩
      + ∑ k : Fin 512, f ⟨1536 + k.val, by omega⟩ + ∑ k : Fin 512, f ⟨2048 + k.val, by omega⟩ + ∑ k : Fin 640, f ⟨2560 + k.val, by omega⟩ := by
  refine (Fin.sum_univ_add (a := 2560) (b := 640) f).trans (congrArg₂ (fun x y : EReal => x + y) ?_ rfl)
  refine (Fin.sum_univ_add (a := 2048) (b := 512) _).trans (congrArg₂ (fun x y : EReal => x + y) ?_ rfl)
  refine (Fin.sum_univ_add (a := 1536) (b := 512) _).trans (congrArg₂ (fun x y : EReal => x + y) ?_ rfl)
  refine (Fin.sum_univ_add (a := 1024) (b := 512) _).trans (congrArg₂ (fun x y : EReal => x + y) ?_ rfl)
  exact Fin.sum_univ_add (a := 512) (b := 512) _

variable (a : Fin 512 → EReal) (b : Fin 1024 → EReal) (c d : Fin 512 → EReal) (e : Fin 640 → EReal) (w : Fin 3200 → EReal)

/-- The product of a row of the five parts with a row of the weight, part by part. -/
def parts : EReal :=
  ∑ k : Fin 512, a k * w ⟨k.val, by omega⟩ + ∑ k : Fin 512, b ⟨k.val, by omega⟩ * w ⟨512 + k.val, by omega⟩
    + ∑ k : Fin 512, b ⟨512 + k.val, by omega⟩ * w ⟨1024 + k.val, by omega⟩ + ∑ k : Fin 512, c k * w ⟨1536 + k.val, by omega⟩
    + ∑ k : Fin 512, d k * w ⟨2048 + k.val, by omega⟩ + ∑ k : Fin 640, e k * w ⟨2560 + k.val, by omega⟩

theorem packed_a (k : Fin 512) : packed a b c d e ⟨k.val, by omega⟩ = a k := dif_pos k.isLt
theorem packed_b (k : Fin 1024) : packed a b c d e ⟨512 + k.val, by omega⟩ = b k := by
  unfold packed
  simp only
  rw [dif_neg (by omega), dif_pos (by omega)]
  exact congrArg b (Fin.ext (by simp only; omega))
theorem packed_c (k : Fin 512) : packed a b c d e ⟨1536 + k.val, by omega⟩ = c k := by
  unfold packed
  simp only
  rw [dif_neg (by omega), dif_neg (by omega), dif_pos (by omega)]
  exact congrArg c (Fin.ext (by simp only; omega))
theorem packed_d (k : Fin 512) : packed a b c d e ⟨2048 + k.val, by omega⟩ = d k := by
  unfold packed
  simp only
  rw [dif_neg (by omega), dif_neg (by omega), dif_neg (by omega), dif_pos (by omega)]
  exact congrArg d (Fin.ext (by simp only; omega))
theorem packed_e (k : Fin 640) : packed a b c d e ⟨2560 + k.val, by omega⟩ = e k := by
  unfold packed
  simp only
  rw [dif_neg (by omega), dif_neg (by omega), dif_neg (by omega), dif_neg (by omega)]
  exact congrArg e (Fin.ext (by simp only; omega))

theorem packed_sum : ∑ x, packed a b c d e x * w x = parts a b c d e w := by
  refine (split _).trans ?_
  unfold parts
  refine congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_ <;>
    refine Finset.sum_congr rfl fun k _ => congrArg (· * _) ?_
  · exact packed_a a b c d e k
  · exact packed_b a b c d e ⟨k.val, by omega⟩
  · refine (congrArg (packed a b c d e) (Fin.ext ?_)).trans (packed_b a b c d e ⟨512 + k.val, by omega⟩)
    simp only
    omega
  · exact packed_c a b c d e k
  · exact packed_d a b c d e k
  · exact packed_e a b c d e k

end Cert.Norm

end
-- ==== Proof.InputsValue.lean ====
/- The values of the input's gradient. -/
module

public import proofs.«01_k».proof.Proof.Gen.InputsIdeal.Value
public import proofs.«01_k».proof.Proof.Norm
public import Idealize.ShloMosaic.Lib.Pipeline.ValueKit

@[expose] public section

set_option maxRecDepth 16384

noncomputable section

namespace Cert.InputsIdeal.Rows

open Cert.InputsIdeal Cert.InputsIdeal.Gen
open Idealize.ShloMosaic Idealize.ShloMosaic.TcCoe
open Idealize.SL.Sem
open Idealize.ShloMosaic.Pipeline

variable (m : (ℓ : Loc nD τ sig) → Buf (Elt Ideal) ℓ) (c : Dev nD)

/-! ### What the results are, of the arguments -/

abbrev hq : FVec Ideal S4096x512 .bf16 := m (c.tc.loc main_arg0)
abbrev hf : FVec Ideal S4096x1024 .bf16 := m (c.tc.loc main_arg1)
abbrev hi : FVec Ideal S4096x512 .bf16 := m (c.tc.loc main_arg2)
abbrev hg : FVec Ideal S4096x512 .bf16 := m (c.tc.loc main_arg3)
abbrev mla : FVec Ideal S4096x640 .bf16 := m (c.tc.loc main_arg4)
abbrev weight : FVec Ideal S1024x3200 .bf16 := m (c.tc.loc main_arg5)
abbrev input : FVec Ideal S4096x1024 .f32 := m (c.tc.loc main_arg6)
abbrev gain : FVec Ideal S1x1024 .f32 := m (c.tc.loc main_arg7)
abbrev after : FVec Ideal S4096x1024 .f32 := m (c.tc.loc main_arg8)

/-- The gradient of the normed input. -/
def normed (i : Fin 4096) (j : Fin 1024) : EReal :=
  Norm.parts (fun k => hq m c (ix2 i k)) (fun k => hf m c (ix2 i k)) (fun k => hi m c (ix2 i k)) (fun k => hg m c (ix2 i k)) (fun k => mla m c (ix2 i k)) fun k => weight m c (ix2 j k)

/-- What a row's root is taken of. -/
def square (i : Fin 4096) : EReal := (∑ k, input m c (ix2 i k) * input m c (ix2 i k)) * Ideal.ofBits .f32 0x3A800000#32 + Ideal.ofBits .f32 0x358637BD#32

/-- The gradient of the input, -/
def gradX : FVec Ideal S4096x1024 .f32 := fun i =>
  Norm.step (after m c i) (normed m c (i 0) (i 1) * gain m c (ix2 0 (i 1))) (input m c i) (∑ k, normed m c (i 0) k * gain m c (ix2 0 k) * input m c (ix2 (i 0) k)) (square m c (i 0))

/-- and of the gain, with a row's part of it. -/
def gainPart (i : Fin 4096) (j : Fin 1024) : EReal := normed m c i j * input m c (ix2 i j) * Ideal.rsqrt (square m c i)
def gradGain : FVec Ideal S1x1024 .f32 := fun y => ∑ i, gainPart m c i (y 1)

/-! ### The blocks of a point -/

/-- The gradient that reaches the norm, of the blocks a point holds. -/
abbrev back (t : Fin cfg0.N) : FVec Ideal S256x1024 .f32 :=
  k0_pay5 (iblk m c 0 t) (X0_6 m c t) (iblk m c 1 t) (X0_7 m c t) (iblk m c 2 t) (X0_8 m c t) (iblk m c 3 t) (X0_9 m c t) (iblk m c 4 t) (X0_10 m c t) (iblk m c 5 t) (iblk m c 11 t)

theorem out_A (t : Fin cfg0.N) (h : t.val % 16 = 0) : outsAt0 m c t.val t.isLt
    = (k0_pay2 (back m c t) (iblk m c 12 t) (iblk m c 13 t) (iblk m c 14 t), k0_pay3 (back m c t) (iblk m c 12 t) (k0_pay4 (F := Ideal))) := by
  rw [outsAt0_A m c t h]
  frame_out

theorem out_B (t : Fin cfg0.N) (h : ¬t.val % 16 = 0) : outsAt0 m c t.val t.isLt
    = (k0_pay2 (back m c t) (iblk m c 12 t) (iblk m c 13 t) (iblk m c 14 t),
      k0_pay3 (back m c t) (iblk m c 12 t) (outsAt0 m c (t.val - 1) (Nat.lt_of_le_of_lt (Nat.sub_le _ _) t.isLt)).2) := by
  rw [outsAt0_B m c t h]
  frame_out

/-- The row of the arrays that a row of a point's blocks is. -/
def row (t : Fin cfg0.N) (p : Fin 256) : Fin 4096 := ⟨256 * t.val + p.val, by
  have : t.val < 16 := t.isLt
  omega⟩

theorem rows_0 (t : Fin cfg0.N) : (cfg0.win 0).index t = ![t.val, 0] := by
  revert t
  decide +kernel
theorem rows_1 (t : Fin cfg0.N) : (cfg0.win 1).index t = ![t.val, 0] := by
  revert t
  decide +kernel
theorem rows_2 (t : Fin cfg0.N) : (cfg0.win 2).index t = ![t.val, 1] := by
  revert t
  decide +kernel
theorem rows_3 (t : Fin cfg0.N) : (cfg0.win 3).index t = ![t.val, 0] := by
  revert t
  decide +kernel
theorem rows_4 (t : Fin cfg0.N) : (cfg0.win 4).index t = ![t.val, 0] := by
  revert t
  decide +kernel
theorem rows_5 (t : Fin cfg0.N) : (cfg0.win 5).index t = ![t.val, 0] := by
  revert t
  decide +kernel
theorem cols_6 (t : Fin cfg0.N) : (cfg0.win 6).index t = ![0, 0] := by
  revert t
  decide +kernel
theorem cols_7 (t : Fin cfg0.N) : (cfg0.win 7).index t = ![0, 1] := by
  revert t
  decide +kernel
theorem cols_8 (t : Fin cfg0.N) : (cfg0.win 8).index t = ![0, 2] := by
  revert t
  decide +kernel
theorem cols_9 (t : Fin cfg0.N) : (cfg0.win 9).index t = ![0, 3] := by
  revert t
  decide +kernel
theorem cols_10 (t : Fin cfg0.N) : (cfg0.win 10).index t = ![0, 4] := by
  revert t
  decide +kernel
theorem cols_11 (t : Fin cfg0.N) : (cfg0.win 11).index t = ![0, 4] := by
  revert t
  decide +kernel
theorem rows_12 (t : Fin cfg0.N) : (cfg0.win 12).index t = ![t.val, 0] := by
  revert t
  decide +kernel
theorem rows_13 (t : Fin cfg0.N) : (cfg0.win 13).index t = ![0, 0] := by
  revert t
  decide +kernel
theorem rows_14 (t : Fin cfg0.N) : (cfg0.win 14).index t = ![t.val, 0] := by
  revert t
  decide +kernel
theorem rows_15 (t : Fin cfg0.N) : (cfg0.win 15).index t = ![t.val, 0] := by
  revert t
  decide +kernel
theorem rows_16 (t : Fin cfg0.N) : (cfg0.win 16).index t = ![0, 0] := by
  revert t
  decide +kernel

section
variable (t : Fin cfg0.N)

theorem hq_at (p : Fin 256) (k : Fin 512) : iblk m c 0 t (ix2 p k) = hq m c (ix2 (row t p) k) := by
  refine congrArg (hq m c) ?_
  blk_ext [rows_0 t, row]
theorem hf_left_at (p : Fin 256) (k : Fin 512) : iblk m c 1 t (ix2 p k) = hf m c (ix2 (row t p) ⟨k.val, by omega⟩) := by
  refine congrArg (hf m c) ?_
  blk_ext [rows_1 t, row]
theorem hf_right_at (p : Fin 256) (k : Fin 512) : iblk m c 2 t (ix2 p k) = hf m c (ix2 (row t p) ⟨512 + k.val, by omega⟩) := by
  refine congrArg (hf m c) ?_
  blk_ext [rows_2 t, row]
theorem hi_at (p : Fin 256) (k : Fin 512) : iblk m c 3 t (ix2 p k) = hi m c (ix2 (row t p) k) := by
  refine congrArg (hi m c) ?_
  blk_ext [rows_3 t, row]
theorem hg_at (p : Fin 256) (k : Fin 512) : iblk m c 4 t (ix2 p k) = hg m c (ix2 (row t p) k) := by
  refine congrArg (hg m c) ?_
  blk_ext [rows_4 t, row]
theorem mla_at (p : Fin 256) (k : Fin 640) : iblk m c 5 t (ix2 p k) = mla m c (ix2 (row t p) k) := by
  refine congrArg (mla m c) ?_
  blk_ext [rows_5 t, row]
theorem weight_6 (j : Fin 1024) (k : Fin 512) : X0_6 m c t (ix2 j k) = weight m c (ix2 j ⟨k.val, by omega⟩) := by
  unfold X0_6 Pipeline.Window.fill
  rw [dif_pos (moved0_6 t _)]
  refine congrArg (weight m c) ?_
  blk_ext [cols_6 t]
theorem weight_7 (j : Fin 1024) (k : Fin 512) : X0_7 m c t (ix2 j k) = weight m c (ix2 j ⟨512 + k.val, by omega⟩) := by
  unfold X0_7 Pipeline.Window.fill
  rw [dif_pos (moved0_7 t _)]
  refine congrArg (weight m c) ?_
  blk_ext [cols_7 t]
theorem weight_8 (j : Fin 1024) (k : Fin 512) : X0_8 m c t (ix2 j k) = weight m c (ix2 j ⟨1024 + k.val, by omega⟩) := by
  unfold X0_8 Pipeline.Window.fill
  rw [dif_pos (moved0_8 t _)]
  refine congrArg (weight m c) ?_
  blk_ext [cols_8 t]
theorem weight_9 (j : Fin 1024) (k : Fin 512) : X0_9 m c t (ix2 j k) = weight m c (ix2 j ⟨1536 + k.val, by omega⟩) := by
  unfold X0_9 Pipeline.Window.fill
  rw [dif_pos (moved0_9 t _)]
  refine congrArg (weight m c) ?_
  blk_ext [cols_9 t]
theorem weight_10 (j : Fin 1024) (k : Fin 512) : X0_10 m c t (ix2 j k) = weight m c (ix2 j ⟨2048 + k.val, by omega⟩) := by
  unfold X0_10 Pipeline.Window.fill
  rw [dif_pos (moved0_10 t _)]
  refine congrArg (weight m c) ?_
  blk_ext [cols_10 t]
theorem weight_11 (j : Fin 1024) (k : Fin 640) : iblk m c 11 t (ix2 j k) = weight m c (ix2 j ⟨2560 + k.val, by omega⟩) := by
  refine congrArg (weight m c) ?_
  blk_ext [cols_11 t]
theorem input_at (p : Fin 256) (j : Fin 1024) : iblk m c 12 t (ix2 p j) = input m c (ix2 (row t p) j) := by
  refine congrArg (input m c) ?_
  blk_ext [rows_12 t, row]
theorem gain_at (j : Fin 1024) : iblk m c 13 t (ix2 0 j) = gain m c (ix2 0 j) := by
  refine congrArg (gain m c) ?_
  blk_ext [rows_13 t]
theorem after_at (p : Fin 256) (j : Fin 1024) : iblk m c 14 t (ix2 p j) = after m c (ix2 (row t p) j) := by
  refine congrArg (after m c) ?_
  blk_ext [rows_14 t, row]

theorem back_at (p : Fin 256) (j : Fin 1024) : back m c t (ix2 p j) = normed m c (row t p) j := by
  pointwise [back, k0_pay5]
  unfold normed Norm.parts
  refine congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_ <;>
    refine Finset.sum_congr rfl fun k _ => congrArg₂ (fun x y : EReal => x * y) ?_ ?_
  exacts [hq_at m c t p k, weight_6 m c t j k, hf_left_at m c t p k, weight_7 m c t j k, hf_right_at m c t p k, weight_8 m c t j k,
    hi_at m c t p k, weight_9 m c t j k, hg_at m c t p k, weight_10 m c t j k, mla_at m c t p k, weight_11 m c t j k]

/-- The rows of the input that a point holds. -/
abbrev inputs : FVec Ideal S256x1024 .f32 := iblk m c 12 t

theorem square_at (p : Fin 256) : (∑ k, inputs m c t (ix2 p k) * inputs m c t (ix2 p k)) * Ideal.ofBits .f32 0x3A800000#32 + Ideal.ofBits .f32 0x358637BD#32 = square m c (row t p) := by
  simp only [input_at m c t]
  rfl

theorem step_at (p : Fin 256) (j : Fin 1024) : k0_pay2 (back m c t) (iblk m c 12 t) (iblk m c 13 t) (iblk m c 14 t) (ix2 p j) = gradX m c (ix2 (row t p) j) := by
  pointwise [k0_pay2, k0_pay1]
  rw [square_at m c t p]
  simp only [back_at m c t, input_at m c t, gain_at m c t, after_at m c t]
  rfl

theorem part_at (a : FVec Ideal S1x1024 .f32) (y : S1x1024.Idx) : k0_pay3 (back m c t) (iblk m c 12 t) a y = a y + ∑ p, gainPart m c (row t p) (y 1) := by
  pointwise [k0_pay3, k0_pay1]
  refine congrArg (fun z : EReal => a y + z) (Finset.sum_congr rfl fun p _ => ?_)
  rw [square_at m c t p]
  exact congrArg (fun z : EReal => z * _) (congrArg₂ (fun x y : EReal => x * y) (back_at m c t p (y 1)) (input_at m c t p (y 1)))
end

/-! ### The results -/

theorem covers_15 : (cfg0.win 15).Covers := by decide +kernel
theorem covers_16 : (cfg0.win 16).Covers := by decide +kernel

theorem point_at (t : Fin cfg0.N) (p : Fin 256) (j : Fin 1024) : (outsAt0 m c t.val t.isLt).1 (ix2 p j) = gradX m c (ix2 (row t p) j) := by
  by_cases h : t.val % 16 = 0
  · rw [out_A m c t h]
    exact step_at m c t p j
  · rw [out_B m c t h]
    exact step_at m c t p j

theorem gradX_eq : (dats m 0 c).arrAt 15 cfg0.N = gradX m c := by
  refine Dat.arrAt_eq_of_covers (dats m 0 c) 15 (gradX m c) covers_15 fun t hf y => ?_
  blk_simp
  rw [after0_15]
  have hy : y = ix2 (y 0) (y 1) := by pointwise []
  refine ((congrArg (outsAt0 m c t.val t.isLt).1 hy).trans (point_at m c t (y 0) (y 1))).trans (congrArg (gradX m c) ?_)
  blk_ext [rows_15 t, row]

/-- The gain's gradient after the last point is the parts of all the rows. -/
theorem sum_at (t : Fin cfg0.N) (ht : t.val + 1 = cfg0.N) (y : S1x1024.Idx) : (outsAt0 m c t.val t.isLt).2 y = gradGain m c y := by
  rw [Pipeline.eq_sum_fin_of_reset_step_apply_last (fun n h => (outsAt0 m c n h).2) 16 (fun _ => (0 : EReal)) (fun t y => ∑ p, gainPart m c (row t p) (y 1))
    (fun t h y => by
      rw [out_A m c t h]
      refine (part_at m c t _ y).trans (congrArg (fun z : EReal => z + _) ?_)
      pointwise [k0_pay4])
    (fun t h y => by
      rw [out_B m c t h]
      exact part_at m c t _ y) (by decide) t ht y]
  rw [zero_add]
  unfold gradGain
  refine Fin.sum_mul_add_congr fun s k h => ?_
  exact congrArg (gainPart m c · (y 1)) (Fin.ext (by simp only [row]; omega))

theorem gradGain_eq : (dats m 0 c).arrAt 16 cfg0.N = gradGain m c := by
  refine Dat.arrAt_eq_of_covers (dats m 0 c) 16 (gradGain m c) covers_16 fun t hf y => ?_
  have h := (flush0_16 t).mp hf
  blk_simp
  rw [after0_16]
  refine (sum_at m c t (by have : t.val < 16 := t.isLt; show t.val + 1 = 16; omega) y).trans (congrArg (gradGain m c) ?_)
  blk_ext [rows_16 t]

end Cert.InputsIdeal.Rows

end
-- ==== Proof.InputsPlain.lean ====
/- The reference of the input's gradient: its values, and that they are the calls'. -/
module

public import proofs.«01_k».proof.Proof.InputsValue
public import proofs.«01_k».proof.Proof.Gen.InputsPlainIdeal.Run
public import Idealize.ShloMosaic.Lib.Tactic

@[expose] public section

set_option maxRecDepth 16384

noncomputable section

namespace Cert.InputsPlainIdeal.Whole

open Cert.InputsPlainIdeal Cert.InputsPlainIdeal.Gen
open Idealize.ShloMosaic Idealize.ShloMosaic.TcCoe Idealize.SL.Sem

variable (m : (ℓ : Loc nD τ sig) → Buf (Elt Ideal) ℓ)

abbrev hq : FVec Ideal S4096x512 .bf16 := m ((0 : Dev nD).tc.loc main_arg0)
abbrev hf : FVec Ideal S4096x1024 .bf16 := m ((0 : Dev nD).tc.loc main_arg1)
abbrev hi : FVec Ideal S4096x512 .bf16 := m ((0 : Dev nD).tc.loc main_arg2)
abbrev hg : FVec Ideal S4096x512 .bf16 := m ((0 : Dev nD).tc.loc main_arg3)
abbrev mla : FVec Ideal S4096x640 .bf16 := m ((0 : Dev nD).tc.loc main_arg4)
abbrev weight : FVec Ideal S1024x3200 .bf16 := m ((0 : Dev nD).tc.loc main_arg5)
abbrev input : FVec Ideal S4096x1024 .f32 := m ((0 : Dev nD).tc.loc main_arg6)
abbrev gain : FVec Ideal S1x1024 .f32 := m ((0 : Dev nD).tc.loc main_arg7)
abbrev after : FVec Ideal S4096x1024 .f32 := m ((0 : Dev nD).tc.loc main_arg8)

/-- The gradient of the normed input, -/
def normed (i : Fin 4096) (j : Fin 1024) : EReal :=
  ∑ x, Norm.packed (fun k => hq m (ix2 i k)) (fun k => hf m (ix2 i k)) (fun k => hi m (ix2 i k)) (fun k => hg m (ix2 i k)) (fun k => mla m (ix2 i k)) x * weight m (ix2 j x)

/-- and what a row's root is taken of. -/
def square (i : Fin 4096) : EReal := Ideal.div (∑ k, input m (ix2 i k) * input m (ix2 i k)) (Ideal.ofBits .f32 0x44800000#32) + Ideal.ofBits .f32 0x358637BD#32

/-- The share of a row's step that each of the square's two factors carries. -/
def carried (i : Fin 4096) : EReal :=
  Ideal.div ((∑ k, input m (ix2 i k) * (normed m i k * gain m (ix2 0 k))) * (Ideal.ofBits .f32 0xBF000000#32 * Ideal.div (Ideal.rsqrt (square m i)) (square m i))) (Ideal.ofBits .f32 0x44800000#32)

theorem grad_at (i : S4096x1024.Idx) : Value.res_out0 m 0 i
    = after m i + (normed m (i 0) (i 1) * gain m (ix2 0 (i 1)) * Ideal.rsqrt (square m (i 0)) + input m i * carried m (i 0) + carried m (i 0) * input m i : EReal) := by
  pointwise [Value.res_main_v39]
  simp only [Finset.univ_unique, Finset.sum_singleton]
  rfl

/-- The gradient of the gain. -/
def gradGain : FVec Ideal S1x1024 .f32 := fun y => ∑ i, (input m (ix2 i (y 1)) * Ideal.rsqrt (square m i) * normed m i (y 1) : EReal)

theorem run_main (ρ : Dev nD → PrngReg) : θ_run defs (onTc (τ := τ) (main (F := Ideal))) ⟨m, fun _ => 0, ρ⟩ fun r => ∀ c : Dev nD,
    r.2.mem (c.tc.loc main_v39) = Value.res_out0 m c ∧ r.2.mem (c.tc.loc main_v22) = gradGain m
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) ∧ r.2.mem (c.tc.loc main_arg7) = m (c.tc.loc main_arg7)
    ∧ r.2.mem (c.tc.loc main_arg8) = m (c.tc.loc main_arg8) := by
  refine (θ_run defs _ _).mono (fun r h c => ⟨(h c).1, (h c).2.1.trans ?_, (h c).2.2⟩) (Value.run m ρ)
  obtain rfl : c = 0 := Subsingleton.elim _ _
  funext y
  pointwise []
  rfl

theorem frame (ρ : Dev nD → PrngReg) : θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7)
      ∧ r.2.mem (c.tc.loc main_arg8) = m (c.tc.loc main_arg8)) ∧ r.2.sem = fun _ => 0 :=
  (θ_run defs _ _).mono (fun r h => ⟨fun c => (h c).2.2, sem_eq_zero_of_no_sems (by decide) r.2⟩) (run_main m ρ)

/-! ### The reference's results are the calls' -/

section

variable (k : (ℓ : Loc Cert.InputsIdeal.nD Cert.InputsIdeal.τ Cert.InputsIdeal.sig) → Buf (Elt Ideal) ℓ) (d : Dev Cert.InputsIdeal.nD)

open Cert.InputsIdeal (Rows.normed Rows.square Rows.gradX Rows.gradGain)

/-- The call has the reference's arguments. -/
structure Agree : Prop where
  hq : hq m = Cert.InputsIdeal.Rows.hq k d
  hf : hf m = Cert.InputsIdeal.Rows.hf k d
  hi : hi m = Cert.InputsIdeal.Rows.hi k d
  hg : hg m = Cert.InputsIdeal.Rows.hg k d
  mla : mla m = Cert.InputsIdeal.Rows.mla k d
  weight : weight m = Cert.InputsIdeal.Rows.weight k d
  input : input m = Cert.InputsIdeal.Rows.input k d
  gain : gain m = Cert.InputsIdeal.Rows.gain k d
  after : after m = Cert.InputsIdeal.Rows.after k d

variable {m k d}

theorem normed_eq (h : Agree m k d) (i : Fin 4096) (j : Fin 1024) : normed m i j = Rows.normed k d i j := by
  unfold normed
  rw [Norm.packed_sum, h.hq, h.hf, h.hi, h.hg, h.mla, h.weight]
  rfl

theorem square_eq (h : Agree m k d) (i : Fin 4096) : square m i = Rows.square k d i := by
  unfold square
  rw [Norm.div_width, h.input]
  rfl

/-- A place of the input's gradient, -/
theorem place_eq (h : Agree m k d) (p : Fin 4096) (q : Fin 1024) (i : S4096x1024.Idx) :
    (after m i + (normed m p q * gain m (ix2 0 q) * Ideal.rsqrt (square m p) + input m i * carried m p + carried m p * input m i) : EReal)
      = Norm.step (Cert.InputsIdeal.Rows.after k d i) (Rows.normed k d p q * Cert.InputsIdeal.Rows.gain k d (ix2 0 q)) (Cert.InputsIdeal.Rows.input k d i)
          (∑ j, Rows.normed k d p j * Cert.InputsIdeal.Rows.gain k d (ix2 0 j) * Cert.InputsIdeal.Rows.input k d (ix2 p j)) (Rows.square k d p) := by
  have hv : 0 < Rows.square k d p := Norm.mean_pos fun j => Cert.InputsIdeal.Rows.input k d (ix2 p j)
  unfold carried
  rw [square_eq h, h.input, h.gain, h.after, normed_eq h, Norm.grad_eq _ _ _ _ _ hv]
  refine congrArg (fun s => Norm.step _ _ _ s _) (Finset.sum_congr rfl fun j _ => ?_)
  rw [normed_eq h]
  exact mul_comm _ _

/-- and a row's part of the gain's. -/
theorem part_eq (h : Agree m k d) (p : Fin 4096) (q : Fin 1024) :
    Cert.InputsIdeal.Rows.gainPart k d p q = (input m (ix2 p q) * Ideal.rsqrt (square m p) * normed m p q : EReal) := by
  rw [square_eq h, normed_eq h, h.input]
  unfold Cert.InputsIdeal.Rows.gainPart
  exact (congrArg (fun z : EReal => z * _) (mul_comm _ _)).trans (mul_right_comm _ _ _)

theorem gradX_eq (h : Agree m k d) (c : Dev nD) : Rows.gradX k d = Value.res_out0 m c := by
  obtain rfl : c = 0 := Subsingleton.elim _ _
  funext i
  exact ((grad_at m i).trans (place_eq h (i 0) (i 1) i)).symm

theorem gradGain_eq (h : Agree m k d) : Rows.gradGain k d = gradGain m :=
  funext fun y => Finset.sum_congr rfl fun i _ => part_eq h i (y 1)

end

end Cert.InputsPlainIdeal.Whole

end
-- ==== Proof.HeadValue.lean ====
/- The values of the head: the gate of the layer's embedding, the loss, and the gradients behind them. -/
module

public import proofs.«01_k».proof.Proof.Gen.HeadIdeal.Frame
public import proofs.«01_k».proof.Proof.Norm
public import Idealize.ShloMosaic.Lib.Pipeline.ValueKit

@[expose] public section

set_option maxRecDepth 16384

noncomputable section

namespace Cert.HeadIdeal.Rows

open Cert.HeadIdeal Cert.HeadIdeal.Gen
open Idealize.ShloMosaic Idealize.ShloMosaic.TcCoe
open Idealize.SL.Sem
open Idealize.ShloMosaic.Pipeline

variable (V : (c : Dev nD) → (b : Ref sig .tc) → Buf (Elt Ideal) ((c.tc : Thread nD τ).loc b)) (c : Dev nD)

/-! ### What the results are, of the arguments -/

abbrev input : FVec Ideal S4096x1024 .f32 := V c main_arg0
abbrev gain : FVec Ideal S1x1024 .f32 := V c main_arg1
abbrev gateWeight : FVec Ideal S1024x1024 .bf16 := V c main_arg2
abbrev embedding : FVec Ideal S4096x256 .f32 := V c main_arg3
abbrev weight : FVec Ideal S256x1024 .bf16 := V c main_arg4
abbrev target : FVec Ideal S4096x1024 .f32 := V c main_arg5

/-- What a row's root is taken of. -/
def square (i : Fin 4096) : EReal := (∑ k, input V c (ix2 i k) * input V c (ix2 i k)) * Ideal.ofBits .f32 0x3A800000#32 + Ideal.ofBits .f32 0x358637BD#32

/-- The normed input, the gate, the embedding's product, and how far the output is from the target. -/
def normed (i : Fin 4096) (j : Fin 1024) : EReal := input V c (ix2 i j) * Ideal.rsqrt (square V c i) * gain V c (ix2 0 j)
def gate (i : Fin 4096) (j : Fin 1024) : EReal := Ideal.logistic (∑ k, normed V c i k * gateWeight V c (ix2 k j))
def product (i : Fin 4096) (j : Fin 1024) : EReal := ∑ k, embedding V c (ix2 i k) * weight V c (ix2 k j)
def error (i : Fin 4096) (j : Fin 1024) : EReal := input V c (ix2 i j) + gate V c i j * product V c i j - target V c (ix2 i j)

/-- The gradients of the output, of what the gate is of, and of the normed input. -/
def gradY (i : Fin 4096) (j : Fin 1024) : EReal := error V c i j * Ideal.ofBits .f32 0x3A800000#32
def gradPre (i : Fin 4096) (j : Fin 1024) : EReal := gradY V c i j * product V c i j * gate V c i j * (1 - gate V c i j)
def gradH (i : Fin 4096) (j : Fin 1024) : EReal := ∑ k, gradPre V c i k * gateWeight V c (ix2 j k)

/-- The results: the gradient of the input, the normed input, the gradients of what the gate is of and of the embedding's product, -/
def gradX : FVec Ideal S4096x1024 .f32 := fun i =>
  Norm.step (gradY V c (i 0) (i 1)) (gradH V c (i 0) (i 1) * gain V c (ix2 0 (i 1))) (input V c i) (∑ k, gradH V c (i 0) k * gain V c (ix2 0 k) * input V c (ix2 (i 0) k)) (square V c (i 0))
def normedArr : FVec Ideal S4096x1024 .bf16 := fun i => normed V c (i 0) (i 1)
def gradPreArr : FVec Ideal S4096x1024 .bf16 := fun i => gradPre V c (i 0) (i 1)
def gradProduct : FVec Ideal S4096x1024 .bf16 := fun i => (gradY V c (i 0) (i 1) * gate V c (i 0) (i 1) : EReal)

/-- the gradient of the gain, with a row's part of it, -/
def gainPart (i : Fin 4096) (j : Fin 1024) : EReal := gradH V c i j * input V c (ix2 i j) * Ideal.rsqrt (square V c i)
def gradGain : FVec Ideal S1x1024 .f32 := fun y => ∑ i, gainPart V c i (y 1)

/-- and the loss, with the sum of a row's squares. -/
def squares (i : Fin 4096) : EReal := ∑ j, error V c i j * error V c i j
def loss : FVec Ideal S8x128 .f32 := fun _ => ∑ i, Norm.halved (squares V c i)

/-! ### The blocks of a point -/

section
variable (t : Fin cfg0.N)

abbrev inputs : FVec Ideal S256x1024 .f32 := iblk0 V c 0 t
abbrev gates : FVec Ideal S256x1024 .f32 := k0_pay6 (iblk0 V c 0 t) (iblk0 V c 1 t) (iblk0 V c 2 t)
abbrev products : FVec Ideal S256x1024 .f32 := k0_pay7 (iblk0 V c 3 t) (iblk0 V c 4 t)
abbrev errors : FVec Ideal S256x1024 .f32 := k0_pay8 (iblk0 V c 0 t) (iblk0 V c 1 t) (iblk0 V c 2 t) (iblk0 V c 3 t) (iblk0 V c 4 t) (iblk0 V c 5 t)
abbrev steps : FVec Ideal S256x1024 .f32 :=
  k0_pay15 (iblk0 V c 0 t) (iblk0 V c 1 t) (k0_pay4 (iblk0 V c 0 t)) (gates V c t) (products V c t) (errors V c t) (iblk0 V c 2 t)
abbrev gainAfter (a : FVec Ideal S1x1024 .f32) : FVec Ideal S1x1024 .f32 :=
  k0_pay16 (iblk0 V c 0 t) (k0_pay4 (iblk0 V c 0 t)) (gates V c t) (products V c t) (errors V c t) (iblk0 V c 2 t) a
abbrev lossAfter (a : FVec Ideal S8x128 .f32) : FVec Ideal S8x128 .f32 :=
  k0_pay11 (k0_pay9 a) (k0_pay10 (iblk0 V c 0 t) (iblk0 V c 1 t) (iblk0 V c 2 t) (iblk0 V c 3 t) (iblk0 V c 4 t) (iblk0 V c 5 t))

theorem out_A (h : t.val % 16 = 0) : outsAt0 V c t.val t.isLt
    = (steps V c t, k0_pay5 (iblk0 V c 0 t) (iblk0 V c 1 t), k0_pay13 (gates V c t) (products V c t) (errors V c t),
      k0_pay1 (gates V c t) (k0_pay12 (errors V c t)), gainAfter V c t (k0_pay2 (F := Ideal)), lossAfter V c t (k0_pay3 (F := Ideal))) := by
  rw [outsAt0_A V c t h]
  frame_out

theorem out_B (h : ¬t.val % 16 = 0) : outsAt0 V c t.val t.isLt
    = (steps V c t, k0_pay5 (iblk0 V c 0 t) (iblk0 V c 1 t), k0_pay13 (gates V c t) (products V c t) (errors V c t),
      k0_pay1 (gates V c t) (k0_pay12 (errors V c t)), gainAfter V c t (outsAt0 V c (t.val - 1) (Nat.lt_of_le_of_lt (Nat.sub_le _ _) t.isLt)).2.2.2.2.1,
      lossAfter V c t (outsAt0 V c (t.val - 1) (Nat.lt_of_le_of_lt (Nat.sub_le _ _) t.isLt)).2.2.2.2.2) := by
  rw [outsAt0_B V c t h]
  frame_out
end

/-- The row of the arrays that a row of a point's blocks is. -/
def row (t : Fin cfg0.N) (p : Fin 256) : Fin 4096 := ⟨256 * t.val + p.val, by
  have : t.val < 16 := t.isLt
  omega⟩

theorem rows_0 (t : Fin cfg0.N) : (cfg0.win 0).index t = ![t.val, 0] := by
  revert t
  decide +kernel
theorem rows_1 (t : Fin cfg0.N) : (cfg0.win 1).index t = ![0, 0] := by
  revert t
  decide +kernel
theorem rows_2 (t : Fin cfg0.N) : (cfg0.win 2).index t = ![0, 0] := by
  revert t
  decide +kernel
theorem rows_3 (t : Fin cfg0.N) : (cfg0.win 3).index t = ![t.val, 0] := by
  revert t
  decide +kernel
theorem rows_4 (t : Fin cfg0.N) : (cfg0.win 4).index t = ![0, 0] := by
  revert t
  decide +kernel
theorem rows_5 (t : Fin cfg0.N) : (cfg0.win 5).index t = ![t.val, 0] := by
  revert t
  decide +kernel
theorem rows_6 (t : Fin cfg0.N) : (cfg0.win 6).index t = ![t.val, 0] := by
  revert t
  decide +kernel
theorem rows_7 (t : Fin cfg0.N) : (cfg0.win 7).index t = ![t.val, 0] := by
  revert t
  decide +kernel
theorem rows_8 (t : Fin cfg0.N) : (cfg0.win 8).index t = ![t.val, 0] := by
  revert t
  decide +kernel
theorem rows_9 (t : Fin cfg0.N) : (cfg0.win 9).index t = ![t.val, 0] := by
  revert t
  decide +kernel
theorem rows_10 (t : Fin cfg0.N) : (cfg0.win 10).index t = ![0, 0] := by
  revert t
  decide +kernel

section
variable (t : Fin cfg0.N)

theorem input_at (p : Fin 256) (j : Fin 1024) : iblk0 V c 0 t (ix2 p j) = input V c (ix2 (row t p) j) := by
  refine congrArg (input V c) ?_
  blk_ext [rows_0 t, row]
theorem gain_at (j : Fin 1024) : iblk0 V c 1 t (ix2 0 j) = gain V c (ix2 0 j) := by
  refine congrArg (gain V c) ?_
  blk_ext [rows_1 t]
theorem gateWeight_at (j k : Fin 1024) : iblk0 V c 2 t (ix2 j k) = gateWeight V c (ix2 j k) := by
  refine congrArg (gateWeight V c) ?_
  blk_ext [rows_2 t]
theorem embedding_at (p : Fin 256) (k : Fin 256) : iblk0 V c 3 t (ix2 p k) = embedding V c (ix2 (row t p) k) := by
  refine congrArg (embedding V c) ?_
  blk_ext [rows_3 t, row]
theorem weight_at (k : Fin 256) (j : Fin 1024) : iblk0 V c 4 t (ix2 k j) = weight V c (ix2 k j) := by
  refine congrArg (weight V c) ?_
  blk_ext [rows_4 t]
theorem target_at (p : Fin 256) (j : Fin 1024) : iblk0 V c 5 t (ix2 p j) = target V c (ix2 (row t p) j) := by
  refine congrArg (target V c) ?_
  blk_ext [rows_5 t, row]

theorem square_at (p : Fin 256) : (∑ k, inputs V c t (ix2 p k) * inputs V c t (ix2 p k)) * Ideal.ofBits .f32 0x3A800000#32 + Ideal.ofBits .f32 0x358637BD#32 = square V c (row t p) := by
  simp only [input_at V c t]
  rfl

theorem normed_at (p : Fin 256) (j : Fin 1024) : k0_pay5 (iblk0 V c 0 t) (iblk0 V c 1 t) (ix2 p j) = normed V c (row t p) j := by
  pointwise [k0_pay5, k0_pay4]
  rw [square_at V c t p]
  simp only [input_at V c t, gain_at V c t]
  rfl

theorem gate_at (p : Fin 256) (j : Fin 1024) : gates V c t (ix2 p j) = gate V c (row t p) j := by
  pointwise [gates, k0_pay6]
  simp only [normed_at V c t, gateWeight_at V c t]
  rfl

theorem product_at (p : Fin 256) (j : Fin 1024) : products V c t (ix2 p j) = product V c (row t p) j := by
  pointwise [products, k0_pay7]
  simp only [embedding_at V c t, weight_at V c t]
  rfl

theorem error_at (p : Fin 256) (j : Fin 1024) : errors V c t (ix2 p j) = error V c (row t p) j := by
  pointwise [errors, k0_pay8]
  exact congrArg₂ (fun x y : EReal => x - y) (congrArg₂ (fun x y : EReal => x + y) (input_at V c t p j)
    (congrArg₂ (fun x y : EReal => x * y) (gate_at V c t p j) (product_at V c t p j))) (target_at V c t p j)

theorem gradY_at (p : Fin 256) (j : Fin 1024) : k0_pay12 (errors V c t) (ix2 p j) = gradY V c (row t p) j := by
  pointwise [k0_pay12]
  rw [error_at V c t]
  rfl

theorem gradPre_at (p : Fin 256) (j : Fin 1024) : k0_pay13 (gates V c t) (products V c t) (errors V c t) (ix2 p j) = gradPre V c (row t p) j := by
  pointwise [k0_pay13]
  rw [gradY_at V c t, gate_at V c t, product_at V c t]
  rfl

theorem gradProduct_at (p : Fin 256) (j : Fin 1024) : k0_pay1 (gates V c t) (k0_pay12 (errors V c t)) (ix2 p j) = gradProduct V c (ix2 (row t p) j) := by
  pointwise [k0_pay1]
  rw [gradY_at V c t, gate_at V c t]
  rfl

theorem gradH_at (p : Fin 256) (j : Fin 1024) : k0_pay14 (gates V c t) (products V c t) (errors V c t) (iblk0 V c 2 t) (ix2 p j) = gradH V c (row t p) j := by
  pointwise [k0_pay14]
  simp only [gradPre_at V c t, gateWeight_at V c t]
  rfl

theorem step_at (p : Fin 256) (j : Fin 1024) : steps V c t (ix2 p j) = gradX V c (ix2 (row t p) j) := by
  pointwise [steps, k0_pay15, k0_pay4]
  rw [square_at V c t p]
  simp only [gradY_at V c t, gradH_at V c t, input_at V c t, gain_at V c t]
  rfl

theorem part_at (a : FVec Ideal S1x1024 .f32) (y : S1x1024.Idx) : gainAfter V c t a y = a y + ∑ p, gainPart V c (row t p) (y 1) := by
  pointwise [gainAfter, k0_pay16, k0_pay4]
  refine congrArg (fun z : EReal => a y + z) (Finset.sum_congr rfl fun p _ => ?_)
  rw [square_at V c t p]
  exact congrArg (fun z : EReal => z * _) (congrArg₂ (fun x y : EReal => x * y) (gradH_at V c t p (y 1)) (input_at V c t p (y 1)))

theorem squares_nonneg (i : Fin 4096) : 0 ≤ squares V c i := Finset.sum_nonneg fun j _ => Norm.sq_nonneg (error V c i j)

theorem loss_at (a : FVec Ideal S8x128 .f32) (y : S8x128.Idx) : lossAfter V c t a y = a y + ∑ p, Norm.halved (squares V c (row t p)) := by
  rw [← Norm.halved_sum _ fun p => squares_nonneg V c (row t p)]
  pointwise [lossAfter, k0_pay11, k0_pay10, k0_pay9]
  simp only [error_at V c t]
  rfl
end

/-! ### The results -/

theorem covers_6 : (cfg0.win 6).Covers := by decide +kernel
theorem covers_7 : (cfg0.win 7).Covers := by decide +kernel
theorem covers_8 : (cfg0.win 8).Covers := by decide +kernel
theorem covers_9 : (cfg0.win 9).Covers := by decide +kernel
theorem covers_10 : (cfg0.win 10).Covers := by decide +kernel
theorem covers_11 : (cfg0.win 11).Covers := by decide +kernel

/-- The blocks of rows that a point leaves. -/
theorem point_at (t : Fin cfg0.N) (p : Fin 256) (j : Fin 1024) : (outsAt0 V c t.val t.isLt).1 (ix2 p j) = gradX V c (ix2 (row t p) j)
    ∧ (outsAt0 V c t.val t.isLt).2.1 (ix2 p j) = normedArr V c (ix2 (row t p) j)
    ∧ (outsAt0 V c t.val t.isLt).2.2.1 (ix2 p j) = gradPreArr V c (ix2 (row t p) j)
    ∧ (outsAt0 V c t.val t.isLt).2.2.2.1 (ix2 p j) = gradProduct V c (ix2 (row t p) j) := by
  by_cases h : t.val % 16 = 0
  · rw [out_A V c t h]
    exact ⟨step_at V c t p j, normed_at V c t p j, gradPre_at V c t p j, gradProduct_at V c t p j⟩
  · rw [out_B V c t h]
    exact ⟨step_at V c t p j, normed_at V c t p j, gradPre_at V c t p j, gradProduct_at V c t p j⟩

theorem gradX_eq : (dat0 V c).arrAt 6 cfg0.N = gradX V c := by
  refine Dat.arrAt_eq_of_covers (dat0 V c) 6 (gradX V c) covers_6 fun t hf y => ?_
  blk_simp
  rw [after0_6]
  have hy : y = ix2 (y 0) (y 1) := by pointwise []
  refine ((congrArg (outsAt0 V c t.val t.isLt).1 hy).trans (point_at V c t (y 0) (y 1)).1).trans (congrArg (gradX V c) ?_)
  blk_ext [rows_6 t, row]

theorem normed_eq : (dat0 V c).arrAt 7 cfg0.N = normedArr V c := by
  refine Dat.arrAt_eq_of_covers (dat0 V c) 7 (normedArr V c) covers_7 fun t hf y => ?_
  blk_simp
  rw [after0_7]
  have hy : y = ix2 (y 0) (y 1) := by pointwise []
  refine ((congrArg (outsAt0 V c t.val t.isLt).2.1 hy).trans (point_at V c t (y 0) (y 1)).2.1).trans (congrArg (normedArr V c) ?_)
  blk_ext [rows_7 t, row]

theorem gradPre_eq : (dat0 V c).arrAt 8 cfg0.N = gradPreArr V c := by
  refine Dat.arrAt_eq_of_covers (dat0 V c) 8 (gradPreArr V c) covers_8 fun t hf y => ?_
  blk_simp
  rw [after0_8]
  have hy : y = ix2 (y 0) (y 1) := by pointwise []
  refine ((congrArg (outsAt0 V c t.val t.isLt).2.2.1 hy).trans (point_at V c t (y 0) (y 1)).2.2.1).trans (congrArg (gradPreArr V c) ?_)
  blk_ext [rows_8 t, row]

theorem gradProduct_eq : (dat0 V c).arrAt 9 cfg0.N = gradProduct V c := by
  refine Dat.arrAt_eq_of_covers (dat0 V c) 9 (gradProduct V c) covers_9 fun t hf y => ?_
  blk_simp
  rw [after0_9]
  have hy : y = ix2 (y 0) (y 1) := by pointwise []
  refine ((congrArg (outsAt0 V c t.val t.isLt).2.2.2.1 hy).trans (point_at V c t (y 0) (y 1)).2.2.2).trans (congrArg (gradProduct V c) ?_)
  blk_ext [rows_9 t, row]

/-- The gain's gradient after the last point is the parts of all the rows, -/
theorem sum_at (t : Fin cfg0.N) (ht : t.val + 1 = cfg0.N) (y : S1x1024.Idx) : (outsAt0 V c t.val t.isLt).2.2.2.2.1 y = gradGain V c y := by
  rw [Pipeline.eq_sum_fin_of_reset_step_apply_last (fun n h => (outsAt0 V c n h).2.2.2.2.1) 16 (fun _ => (0 : EReal)) (fun t y => ∑ p, gainPart V c (row t p) (y 1))
    (fun t h y => by
      rw [out_A V c t h]
      refine (part_at V c t _ y).trans (congrArg (fun z : EReal => z + _) ?_)
      pointwise [k0_pay2])
    (fun t h y => by
      rw [out_B V c t h]
      exact part_at V c t _ y) (by decide) t ht y]
  rw [zero_add]
  unfold gradGain
  refine Fin.sum_mul_add_congr fun s k h => ?_
  exact congrArg (gainPart V c · (y 1)) (Fin.ext (by simp only [row]; omega))

/-- and so is the loss. -/
theorem total_at (t : Fin cfg0.N) (ht : t.val + 1 = cfg0.N) (y : S8x128.Idx) : (outsAt0 V c t.val t.isLt).2.2.2.2.2 y = loss V c y := by
  rw [Pipeline.eq_sum_fin_of_reset_step_apply_last (fun n h => (outsAt0 V c n h).2.2.2.2.2) 16 (fun _ => (0 : EReal)) (fun t _ => ∑ p, Norm.halved (squares V c (row t p)))
    (fun t h y => by
      rw [out_A V c t h]
      refine (loss_at V c t _ y).trans (congrArg (fun z : EReal => z + _) ?_)
      pointwise [k0_pay3])
    (fun t h y => by
      rw [out_B V c t h]
      exact loss_at V c t _ y) (by decide) t ht y]
  rw [zero_add]
  unfold loss
  refine Fin.sum_mul_add_congr fun s k h => ?_
  exact congrArg (fun i => Norm.halved (squares V c i)) (Fin.ext (by simp only [row]; omega))

theorem gradGain_eq : (dat0 V c).arrAt 10 cfg0.N = gradGain V c := by
  refine Dat.arrAt_eq_of_covers (dat0 V c) 10 (gradGain V c) covers_10 fun t hf y => ?_
  have h := (flush0_10 t).mp hf
  blk_simp
  rw [after0_10]
  refine (sum_at V c t (by have : t.val < 16 := t.isLt; show t.val + 1 = 16; omega) y).trans (congrArg (gradGain V c) ?_)
  blk_ext [rows_10 t]

theorem loss_eq : (dat0 V c).arrAt 11 cfg0.N = loss V c := by
  refine Dat.arrAt_eq_of_covers (dat0 V c) 11 (loss V c) covers_11 fun t hf y => ?_
  have h := (flush0_11 t).mp hf
  blk_simp
  rw [after0_11]
  exact total_at V c t (by have : t.val < 16 := t.isLt; show t.val + 1 = 16; omega) y

end Cert.HeadIdeal.Rows

end
-- ==== Proof.HeadWeights.lean ====
/- The values of the head's two products: the gradients of its weights. -/
module

public import proofs.«01_k».proof.Proof.HeadValue

@[expose] public section

set_option maxRecDepth 16384

noncomputable section

namespace Cert.HeadIdeal.Rows

open Cert.HeadIdeal Cert.HeadIdeal.Gen
open Idealize.ShloMosaic Idealize.ShloMosaic.TcCoe
open Idealize.SL.Sem
open Idealize.ShloMosaic.Pipeline

variable (V : (c : Dev nD) → (b : Ref sig .tc) → Buf (Elt Ideal) ((c.tc : Thread nD τ).loc b)) (c : Dev nD)

/-! ### The gate's weight -/

abbrev gateLeft : FVec Ideal S4096x1024 .bf16 := V c main_v0_1
abbrev gateRight : FVec Ideal S4096x1024 .bf16 := V c main_v0_2

/-- The product of the two arrays along their rows. -/
def gateSum : FVec Ideal S1024x1024 .f32 := fun y => (∑ i : Fin 4096, gateLeft V c (ix2 i (y 0)) * gateRight V c (ix2 i (y 1)) : EReal)

/-- The row of the arrays that a row of a point's blocks is. -/
def gateRow (t : Fin cfg1.N) (p : Fin 512) : Fin 4096 := ⟨512 * t.val + p.val, by
  have : t.val < 8 := t.isLt
  omega⟩

theorem gateRows_0 (t : Fin cfg1.N) : (cfg1.win 0).index t = ![t.val, 0] := by
  revert t
  decide +kernel
theorem gateRows_1 (t : Fin cfg1.N) : (cfg1.win 1).index t = ![t.val, 0] := by
  revert t
  decide +kernel
theorem gateRows_2 (t : Fin cfg1.N) : (cfg1.win 2).index t = ![0, 0] := by
  revert t
  decide +kernel

theorem gateLeft_at (t : Fin cfg1.N) (p : Fin 512) (j : Fin 1024) : iblk1 V c 0 t (ix2 p j) = gateLeft V c (ix2 (gateRow t p) j) := by
  refine congrArg (gateLeft V c) ?_
  blk_ext [gateRows_0 t, gateRow]
theorem gateRight_at (t : Fin cfg1.N) (p : Fin 512) (j : Fin 1024) : iblk1 V c 1 t (ix2 p j) = gateRight V c (ix2 (gateRow t p) j) := by
  refine congrArg (gateRight V c) ?_
  blk_ext [gateRows_1 t, gateRow]

/-- A point adds its rows' part of the sum. -/
theorem gateAfter_at (t : Fin cfg1.N) (a : FVec Ideal S1024x1024 .f32) (y : S1024x1024.Idx) : k1_pay2 a (iblk1 V c 0 t) (iblk1 V c 1 t) y
    = a y + ∑ p, gateLeft V c (ix2 (gateRow t p) (y 0)) * gateRight V c (ix2 (gateRow t p) (y 1)) := by
  pointwise [k1_pay2]
  exact congrArg (fun z : EReal => a y + z) (Finset.sum_congr rfl fun p _ =>
    congrArg₂ (fun x y : EReal => x * y) (gateLeft_at V c t p (y 0)) (gateRight_at V c t p (y 1)))

theorem gateOut_A (t : Fin cfg1.N) (h : t.val % 8 = 0) : outsAt1 V c t.val t.isLt = k1_pay2 (k1_pay1 (F := Ideal)) (iblk1 V c 0 t) (iblk1 V c 1 t) := by
  rw [outsAt1_A V c t h]
  frame_out
theorem gateOut_B (t : Fin cfg1.N) (h : ¬t.val % 8 = 0) : outsAt1 V c t.val t.isLt
    = k1_pay2 (outsAt1 V c (t.val - 1) (Nat.lt_of_le_of_lt (Nat.sub_le _ _) t.isLt)) (iblk1 V c 0 t) (iblk1 V c 1 t) := by
  rw [outsAt1_B V c t h]
  frame_out

theorem gateCovers : (cfg1.win 2).Covers := by decide +kernel

theorem gateSum_at (t : Fin cfg1.N) (ht : t.val + 1 = cfg1.N) (y : S1024x1024.Idx) : outsAt1 V c t.val t.isLt y = gateSum V c y := by
  rw [Pipeline.eq_sum_fin_of_reset_step_apply_last (outsAt1 V c) 8 (fun _ => (0 : EReal))
    (fun t y => ∑ p, gateLeft V c (ix2 (gateRow t p) (y 0)) * gateRight V c (ix2 (gateRow t p) (y 1)))
    (fun t h y => by
      rw [gateOut_A V c t h]
      refine (gateAfter_at V c t _ y).trans (congrArg (fun z : EReal => z + _) ?_)
      pointwise [k1_pay1])
    (fun t h y => by
      rw [gateOut_B V c t h]
      exact gateAfter_at V c t _ y) (by decide) t ht y]
  rw [zero_add]
  unfold gateSum
  refine Fin.sum_mul_add_congr fun s k h => ?_
  exact congrArg (fun i => gateLeft V c (ix2 i (y 0)) * gateRight V c (ix2 i (y 1))) (Fin.ext (by simp only [gateRow]; omega))

theorem gateSum_eq : (dat1 V c).arrAt 2 cfg1.N = gateSum V c := by
  refine Dat.arrAt_eq_of_covers (dat1 V c) 2 (gateSum V c) gateCovers fun t hf y => ?_
  have h := (flush1_2 t).mp hf
  blk_simp
  rw [after1_2]
  refine (gateSum_at V c t (by have : t.val < 8 := t.isLt; show t.val + 1 = 8; omega) y).trans (congrArg (gateSum V c) ?_)
  blk_ext [gateRows_2 t]

/-! ### The embedding's weight -/

abbrev weightRight : FVec Ideal S4096x1024 .bf16 := V c main_v0_3

/-- The product of the embedding and the other array along their rows. -/
def weightSum : FVec Ideal S256x1024 .f32 := fun y => (∑ i : Fin 4096, embedding V c (ix2 i (y 0)) * weightRight V c (ix2 i (y 1)) : EReal)

/-- The row of the arrays that a row of a point's blocks is. -/
def weightRow (t : Fin cfg2.N) (p : Fin 512) : Fin 4096 := ⟨512 * t.val + p.val, by
  have : t.val < 8 := t.isLt
  omega⟩

theorem weightRows_0 (t : Fin cfg2.N) : (cfg2.win 0).index t = ![t.val, 0] := by
  revert t
  decide +kernel
theorem weightRows_1 (t : Fin cfg2.N) : (cfg2.win 1).index t = ![t.val, 0] := by
  revert t
  decide +kernel
theorem weightRows_2 (t : Fin cfg2.N) : (cfg2.win 2).index t = ![0, 0] := by
  revert t
  decide +kernel

theorem weightLeft_at (t : Fin cfg2.N) (p : Fin 512) (j : Fin 256) : iblk2 V c 0 t (ix2 p j) = embedding V c (ix2 (weightRow t p) j) := by
  refine congrArg (embedding V c) ?_
  blk_ext [weightRows_0 t, weightRow]
theorem weightRight_at (t : Fin cfg2.N) (p : Fin 512) (j : Fin 1024) : iblk2 V c 1 t (ix2 p j) = weightRight V c (ix2 (weightRow t p) j) := by
  refine congrArg (weightRight V c) ?_
  blk_ext [weightRows_1 t, weightRow]

/-- A point adds its rows' part of the sum. -/
theorem weightAfter_at (t : Fin cfg2.N) (a : FVec Ideal S256x1024 .f32) (y : S256x1024.Idx) : k2_pay2 a (iblk2 V c 0 t) (iblk2 V c 1 t) y
    = a y + ∑ p, embedding V c (ix2 (weightRow t p) (y 0)) * weightRight V c (ix2 (weightRow t p) (y 1)) := by
  pointwise [k2_pay2]
  exact congrArg (fun z : EReal => a y + z) (Finset.sum_congr rfl fun p _ =>
    congrArg₂ (fun x y : EReal => x * y) (weightLeft_at V c t p (y 0)) (weightRight_at V c t p (y 1)))

theorem weightOut_A (t : Fin cfg2.N) (h : t.val % 8 = 0) : outsAt2 V c t.val t.isLt = k2_pay2 (k2_pay1 (F := Ideal)) (iblk2 V c 0 t) (iblk2 V c 1 t) := by
  rw [outsAt2_A V c t h]
  frame_out
theorem weightOut_B (t : Fin cfg2.N) (h : ¬t.val % 8 = 0) : outsAt2 V c t.val t.isLt
    = k2_pay2 (outsAt2 V c (t.val - 1) (Nat.lt_of_le_of_lt (Nat.sub_le _ _) t.isLt)) (iblk2 V c 0 t) (iblk2 V c 1 t) := by
  rw [outsAt2_B V c t h]
  frame_out

theorem weightCovers : (cfg2.win 2).Covers := by decide +kernel

theorem weightSum_at (t : Fin cfg2.N) (ht : t.val + 1 = cfg2.N) (y : S256x1024.Idx) : outsAt2 V c t.val t.isLt y = weightSum V c y := by
  rw [Pipeline.eq_sum_fin_of_reset_step_apply_last (outsAt2 V c) 8 (fun _ => (0 : EReal))
    (fun t y => ∑ p, embedding V c (ix2 (weightRow t p) (y 0)) * weightRight V c (ix2 (weightRow t p) (y 1)))
    (fun t h y => by
      rw [weightOut_A V c t h]
      refine (weightAfter_at V c t _ y).trans (congrArg (fun z : EReal => z + _) ?_)
      pointwise [k2_pay1])
    (fun t h y => by
      rw [weightOut_B V c t h]
      exact weightAfter_at V c t _ y) (by decide) t ht y]
  rw [zero_add]
  unfold weightSum
  refine Fin.sum_mul_add_congr fun s k h => ?_
  exact congrArg (fun i => embedding V c (ix2 i (y 0)) * weightRight V c (ix2 i (y 1))) (Fin.ext (by simp only [weightRow]; omega))

theorem weightSum_eq : (dat2 V c).arrAt 2 cfg2.N = weightSum V c := by
  refine Dat.arrAt_eq_of_covers (dat2 V c) 2 (weightSum V c) weightCovers fun t hf y => ?_
  have h := (flush2_2 t).mp hf
  blk_simp
  rw [after2_2]
  refine (weightSum_at V c t (by have : t.val < 8 := t.isLt; show t.val + 1 = 8; omega) y).trans (congrArg (weightSum V c) ?_)
  blk_ext [weightRows_2 t]

end Cert.HeadIdeal.Rows

end
-- ==== Proof.HeadRun.lean ====
/- The run of the head's three calls: where its results come from. -/
module

public import proofs.«01_k».proof.Proof.HeadWeights

@[expose] public section

set_option maxRecDepth 16384

noncomputable section

namespace Cert.HeadIdeal.Rows

open Cert.HeadIdeal Cert.HeadIdeal.Gen
open Idealize.ShloMosaic Idealize.ShloMosaic.TcCoe
open Idealize.ShloMosaic.Rounds
open Idealize.SL Idealize.SL.RA Idealize.SL.BI Idealize.SL.BI.BIBase Idealize.SL.BI.Laws Idealize.SL.ProofMode Idealize.SL.Sem

variable (m : (ℓ : Loc nD τ sig) → Buf (Elt Ideal) ℓ) (ρ : Dev nD → PrngReg)

set_option backward.isDefEq.respectTransparency.types false in
/-- Every run ends, and every buffer that outlives the calls holds what the last call leaves there. -/
theorem run_left : θ_run defs (onTc (τ := τ) (main (F := Ideal))) ⟨m, fun _ => 0, ρ⟩ fun r => ∀ c : Dev nD,
    ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-! ### What each call is given, and what is left at the end -/

variable (c : Dev nD)

theorem left_gateLeft : gateLeft (V1 m ρ) c = normedArr (V0 m ρ) c := (W1_arr m ρ c 7).trans (normed_eq (V0 m ρ) c)
theorem left_gateRight : gateRight (V1 m ρ) c = gradPreArr (V0 m ρ) c := (W1_arr m ρ c 8).trans (gradPre_eq (V0 m ρ) c)
theorem left_weightRight : weightRight (V2 m ρ) c = gradProduct (V0 m ρ) c :=
  ((W2_of_ne m ρ c main_v0_3 (by decide)).trans (W1_arr m ρ c 9)).trans (gradProduct_eq (V0 m ρ) c)
theorem left_embedding : embedding (V2 m ρ) c = embedding (V0 m ρ) c := W2_args m ρ c main_arg3 (by decide)

/-- What the first call leaves stays. -/
theorem left_first (b : Ref sig .tc) (h1 : ∀ w, Pipeline.arrRef spec1 w ≠ b) (h2 : ∀ w, Pipeline.arrRef spec2 w ≠ b) :
    W3 m ρ c (Proc.devRef .tc b) = W1 m ρ c (Proc.devRef .tc b) := (W3_of_ne m ρ c b h2).trans (W2_of_ne m ρ c b h1)

theorem left_loss : W3 m ρ c (Proc.devRef .tc main_v0_5) = loss (V0 m ρ) c :=
  ((left_first m ρ c main_v0_5 (by decide) (by decide)).trans (W1_arr m ρ c 11)).trans (loss_eq (V0 m ρ) c)
theorem left_gradX : W3 m ρ c (Proc.devRef .tc main_v0_0) = gradX (V0 m ρ) c :=
  ((left_first m ρ c main_v0_0 (by decide) (by decide)).trans (W1_arr m ρ c 6)).trans (gradX_eq (V0 m ρ) c)
theorem left_gradGain : W3 m ρ c (Proc.devRef .tc main_v0_4) = gradGain (V0 m ρ) c :=
  ((left_first m ρ c main_v0_4 (by decide) (by decide)).trans (W1_arr m ρ c 10)).trans (gradGain_eq (V0 m ρ) c)

/-- The gradient of the gate's weight, and that of the embedding's. -/
def gradGate : FVec Ideal S1024x1024 .f32 := fun y => (∑ i, normed (V0 m ρ) c i (y 0) * gradPre (V0 m ρ) c i (y 1) : EReal)
def gradWeight : FVec Ideal S256x1024 .f32 := fun y => (∑ i, embedding (V0 m ρ) c (ix2 i (y 0)) * gradProduct (V0 m ρ) c (ix2 i (y 1)) : EReal)

theorem left_gradGate : W3 m ρ c (Proc.devRef .tc main_v1) = gradGate m ρ c := by
  refine ((W3_of_ne m ρ c main_v1 (by decide)).trans (W2_arr m ρ c 2)).trans ((gateSum_eq (V1 m ρ) c).trans ?_)
  unfold gateSum
  rw [left_gateLeft, left_gateRight]
  rfl
theorem left_gradWeight : W3 m ρ c (Proc.devRef .tc main_v2) = gradWeight m ρ c := by
  refine (W3_arr m ρ c 2).trans ((weightSum_eq (V2 m ρ) c).trans ?_)
  unfold weightSum
  rw [left_embedding, left_weightRight]
  rfl

/-- The run's results are these, and its arguments end unchanged. -/
theorem run_main : θ_run defs (onTc (τ := τ) (main (F := Ideal))) ⟨m, fun _ => 0, ρ⟩ fun r => ∀ c : Dev nD,
    (r.2.mem ((c : Thread nD τ).loc main_v0_5) = loss (V0 m ρ) c ∧ r.2.mem ((c : Thread nD τ).loc main_v0_0) = gradX (V0 m ρ) c
      ∧ r.2.mem ((c : Thread nD τ).loc main_v0_4) = gradGain (V0 m ρ) c ∧ r.2.mem ((c : Thread nD τ).loc main_v1) = gradGate m ρ c
      ∧ r.2.mem ((c : Thread nD τ).loc main_v2) = gradWeight m ρ c)
    ∧ ∀ a ∈ argRefs, r.2.mem ((c : Thread nD τ).loc a) = m ((c : Thread nD τ).loc a) := by
  refine (θ_run defs _ _).mono (fun r h c => ?_) (run_left m ρ)
  have read (b : Ref sig .tc) (hb : ¬ (Proc.devRef .tc b : DevRef τ sig).isScoped) := h c _ (mem_uc b hb)
  refine ⟨⟨(read main_v0_5 (by decide)).trans (left_loss m ρ c), (read main_v0_0 (by decide)).trans (left_gradX m ρ c),
    (read main_v0_4 (by decide)).trans (left_gradGain m ρ c), (read main_v1 (by decide)).trans (left_gradGate m ρ c),
    (read main_v2 (by decide)).trans (left_gradWeight m ρ c)⟩, fun a ha => ?_⟩
  exact (read a ((by decide : ∀ a ∈ argRefs, ¬ (Proc.devRef .tc a : DevRef τ sig).isScoped) a ha)).trans (W3_args m ρ c a ha)

end Cert.HeadIdeal.Rows

end
-- ==== Proof.HeadPlain.lean ====
/- The reference of the head: its values, and that they are the calls'. -/
module

public import proofs.«01_k».proof.Proof.HeadRun
public import proofs.«01_k».proof.Proof.Gen.HeadPlainIdeal.Run
public import Idealize.ShloMosaic.Lib.Tactic

@[expose] public section

set_option maxRecDepth 16384

noncomputable section

namespace Cert.HeadPlainIdeal.Whole

open Cert.HeadPlainIdeal Cert.HeadPlainIdeal.Gen
open Idealize.ShloMosaic Idealize.ShloMosaic.TcCoe Idealize.SL.Sem

variable (m : (ℓ : Loc nD τ sig) → Buf (Elt Ideal) ℓ)

abbrev input : FVec Ideal S4096x1024 .f32 := m ((0 : Dev nD).tc.loc main_arg0)
abbrev gain : FVec Ideal S1x1024 .f32 := m ((0 : Dev nD).tc.loc main_arg1)
abbrev gateWeight : FVec Ideal S1024x1024 .bf16 := m ((0 : Dev nD).tc.loc main_arg2)
abbrev embedding : FVec Ideal S4096x256 .f32 := m ((0 : Dev nD).tc.loc main_arg3)
abbrev weight : FVec Ideal S256x1024 .bf16 := m ((0 : Dev nD).tc.loc main_arg4)
abbrev target : FVec Ideal S4096x1024 .f32 := m ((0 : Dev nD).tc.loc main_arg5)

/-- What a row's root is taken of. -/
def square (i : Fin 4096) : EReal := Ideal.div (∑ k, input m (ix2 i k) * input m (ix2 i k)) (Ideal.ofBits .f32 0x44800000#32) + Ideal.ofBits .f32 0x358637BD#32

/-- The normed input, the gate, the embedding's product, and how far the output is from the target. -/
def normed (i : Fin 4096) (j : Fin 1024) : EReal := input m (ix2 i j) * Ideal.rsqrt (square m i) * gain m (ix2 0 j)
def gate (i : Fin 4096) (j : Fin 1024) : EReal := Ideal.div 1 (1 + Ideal.exp (-∑ k, normed m i k * gateWeight m (ix2 k j)))
def product (i : Fin 4096) (j : Fin 1024) : EReal := ∑ k, embedding m (ix2 i k) * weight m (ix2 k j)
def error (i : Fin 4096) (j : Fin 1024) : EReal := input m (ix2 i j) + gate m i j * product m i j - target m (ix2 i j)

/-- The gradients of the output, of what the gate is of, and of the normed input. -/
def gradY (i : Fin 4096) (j : Fin 1024) : EReal := Ideal.div (Ideal.ofBits .f32 0x3F000000#32) (Ideal.ofBits .f32 0x44800000#32) * (Ideal.ofBits .f32 0x40000000#32 * error m i j)
def gradPre (i : Fin 4096) (j : Fin 1024) : EReal := gradY m i j * product m i j * (gate m i j * (1 - gate m i j))
def gradH (i : Fin 4096) (j : Fin 1024) : EReal := ∑ k, gradPre m i k * gateWeight m (ix2 j k)

/-- The share of a row's step that each of the square's two factors carries. -/
def carried (i : Fin 4096) : EReal :=
  Ideal.div ((∑ k, input m (ix2 i k) * (gradH m i k * gain m (ix2 0 k))) * (Ideal.ofBits .f32 0xBF000000#32 * Ideal.div (Ideal.rsqrt (square m i)) (square m i))) (Ideal.ofBits .f32 0x44800000#32)

theorem grad_at (i : Fin 4096) (j : Fin 1024) : Value.res_out1 m 0 (ix2 i j)
    = (gradY m i j + gradH m i j * gain m (ix2 0 j) * Ideal.rsqrt (square m i) + input m (ix2 i j) * carried m i + carried m i * input m (ix2 i j) : EReal) := by
  pointwise [Value.res_main_v72]
  simp only [Finset.univ_unique, Finset.sum_singleton]
  rfl

theorem gain_at (y : S1x1024.Idx) : Value.res_out2 m 0 y = ∑ i, (input m (ix2 i (y 1)) * Ideal.rsqrt (square m i) * gradH m i (y 1) : EReal) := by
  pointwise [Value.res_main_v55]
  rfl

theorem gate_weight_at (j k : Fin 1024) : Value.res_out3 m 0 (ix2 j k) = ∑ i, (gradPre m i k * normed m i j : EReal) := by
  pointwise [Value.res_main_v51]
  rfl

/-- The other results. -/
def gradWeight : FVec Ideal S256x1024 .f32 := fun y => (∑ i, gate m i (y 1) * gradY m i (y 1) * embedding m (ix2 i (y 0)) : EReal)
def loss : FVec Ideal S8x128 .f32 := fun _ =>
  (Ideal.ofBits .f32 0x3F000000#32 * ∑ i, Ideal.div (∑ j, error m i j * error m i j) (Ideal.ofBits .f32 0x44800000#32) : EReal)

theorem run_main (ρ : Dev nD → PrngReg) : θ_run defs (onTc (τ := τ) (main (F := Ideal))) ⟨m, fun _ => 0, ρ⟩ fun r => ∀ c : Dev nD,
    (r.2.mem (c.tc.loc main_v73) = loss m ∧ r.2.mem (c.tc.loc main_v72) = Value.res_out1 m c ∧ r.2.mem (c.tc.loc main_v55) = Value.res_out2 m c
      ∧ r.2.mem (c.tc.loc main_v51) = Value.res_out3 m c ∧ r.2.mem (c.tc.loc main_v48) = gradWeight m)
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5) := by
  refine (θ_run defs _ _).mono (fun r h c => ⟨⟨(h c).1.trans ?_, (h c).2.1, (h c).2.2.1, (h c).2.2.2.1, (h c).2.2.2.2.1.trans ?_⟩,
    (h c).2.2.2.2.2⟩) (Value.run m ρ)
  all_goals
    obtain rfl : c = 0 := Subsingleton.elim _ _
    funext y
    obtain ⟨i, j, rfl⟩ : ∃ i j, y = ix2 i j := ⟨y 0, y 1, by pointwise []⟩
    pointwise []
    rfl

theorem frame (ρ : Dev nD → PrngReg) : θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) ∧ r.2.sem = fun _ => 0 :=
  (θ_run defs _ _).mono (fun r h => ⟨fun c => (h c).2, sem_eq_zero_of_no_sems (by decide) r.2⟩) (run_main m ρ)

/-! ### The reference's results are the calls' -/

section

variable (k : (c : Dev Cert.HeadIdeal.nD) → (b : Ref Cert.HeadIdeal.sig .tc) → Buf (Elt Ideal) ((c.tc : Thread Cert.HeadIdeal.nD Cert.HeadIdeal.τ).loc b)) (d : Dev Cert.HeadIdeal.nD)

open Cert.HeadIdeal (Rows.square Rows.normed Rows.gate Rows.product Rows.error Rows.gradY Rows.gradPre Rows.gradH Rows.gradX Rows.gradProduct Rows.gainPart Rows.gradGain Rows.loss)

/-- The calls have the reference's arguments. -/
structure Agree : Prop where
  input : input m = Cert.HeadIdeal.Rows.input k d
  gain : gain m = Cert.HeadIdeal.Rows.gain k d
  gateWeight : gateWeight m = Cert.HeadIdeal.Rows.gateWeight k d
  embedding : embedding m = Cert.HeadIdeal.Rows.embedding k d
  weight : weight m = Cert.HeadIdeal.Rows.weight k d
  target : target m = Cert.HeadIdeal.Rows.target k d

variable {m k d}

theorem square_eq (h : Agree m k d) (i : Fin 4096) : square m i = Rows.square k d i := by
  unfold square
  rw [Norm.div_width, h.input]
  rfl

theorem normed_eq (h : Agree m k d) (i : Fin 4096) (j : Fin 1024) : normed m i j = Rows.normed k d i j := by
  unfold normed
  rw [square_eq h, h.input, h.gain]
  rfl

theorem gate_eq (h : Agree m k d) (i : Fin 4096) (j : Fin 1024) : gate m i j = Rows.gate k d i j := by
  unfold gate
  simp only [normed_eq h]
  rw [h.gateWeight]
  rfl

theorem product_eq (h : Agree m k d) (i : Fin 4096) (j : Fin 1024) : product m i j = Rows.product k d i j := by
  unfold product
  rw [h.embedding, h.weight]
  rfl

theorem error_eq (h : Agree m k d) (i : Fin 4096) (j : Fin 1024) : error m i j = Rows.error k d i j := by
  unfold error
  rw [gate_eq h, product_eq h, h.input, h.target]
  rfl

theorem gradY_eq (h : Agree m k d) (i : Fin 4096) (j : Fin 1024) : gradY m i j = Rows.gradY k d i j := by
  unfold gradY
  rw [Norm.slope, error_eq h]
  rfl

theorem gradPre_eq (h : Agree m k d) (i : Fin 4096) (j : Fin 1024) : gradPre m i j = Rows.gradPre k d i j := by
  unfold gradPre
  rw [gradY_eq h, product_eq h, gate_eq h, ← mul_assoc]
  rfl

theorem gradH_eq (h : Agree m k d) (i : Fin 4096) (j : Fin 1024) : gradH m i j = Rows.gradH k d i j := by
  unfold gradH
  simp only [gradPre_eq h]
  rw [h.gateWeight]
  rfl

/-- A place of the input's gradient, -/
theorem place_eq (h : Agree m k d) (p : Fin 4096) (q : Fin 1024) :
    (gradY m p q + gradH m p q * gain m (ix2 0 q) * Ideal.rsqrt (square m p) + input m (ix2 p q) * carried m p + carried m p * input m (ix2 p q) : EReal)
      = Rows.gradX k d (ix2 p q) := by
  have hv : 0 < Rows.square k d p := Norm.mean_pos fun j => Cert.HeadIdeal.Rows.input k d (ix2 p j)
  unfold carried
  rw [add_assoc (gradY m p q), add_assoc (gradY m p q), square_eq h, h.input, h.gain, gradY_eq h, gradH_eq h, Norm.grad_eq _ _ _ _ _ hv]
  refine congrArg (fun s => Norm.step _ _ _ s _) (Finset.sum_congr rfl fun j _ => ?_)
  rw [gradH_eq h]
  exact mul_comm _ _

/-- and a row's part of the gain's. -/
theorem part_eq (h : Agree m k d) (p : Fin 4096) (q : Fin 1024) :
    Rows.gainPart k d p q = (input m (ix2 p q) * Ideal.rsqrt (square m p) * gradH m p q : EReal) := by
  rw [square_eq h, gradH_eq h, h.input]
  unfold Rows.gainPart
  exact (congrArg (fun z : EReal => z * _) (mul_comm _ _)).trans (mul_right_comm _ _ _)

theorem gradProduct_at (h : Agree m k d) (i : Fin 4096) (j : Fin 1024) : Rows.gradProduct k d (ix2 i j) = (gate m i j * gradY m i j : EReal) := by
  rw [gradY_eq h, gate_eq h, mul_comm]
  rfl

theorem gradX_eq (h : Agree m k d) (c : Dev nD) : Rows.gradX k d = Value.res_out1 m c := by
  obtain rfl : c = 0 := Subsingleton.elim _ _
  funext y
  obtain ⟨i, j, rfl⟩ : ∃ i j, y = ix2 i j := ⟨y 0, y 1, by pointwise []⟩
  exact ((grad_at m i j).trans (place_eq h i j)).symm

theorem gradGain_eq (h : Agree m k d) (c : Dev nD) : Rows.gradGain k d = Value.res_out2 m c := by
  obtain rfl : c = 0 := Subsingleton.elim _ _
  funext y
  exact (Finset.sum_congr rfl fun i _ => part_eq h i (y 1)).trans (gain_at m y).symm

theorem loss_eq (h : Agree m k d) : Rows.loss k d = loss m := by
  funext y
  unfold loss
  simp only [error_eq h]
  exact (Norm.mean_sum _ fun i => Cert.HeadIdeal.Rows.squares_nonneg k d i).symm

/-- The gradient of the gate's weight at a place, -/
theorem gradGate_eq (h : Agree m k d) (i j : Fin 1024) : (∑ p, Rows.normed k d p i * Rows.gradPre k d p j : EReal) = Value.res_out3 m 0 (ix2 i j) := by
  rw [gate_weight_at]
  refine Finset.sum_congr rfl fun p _ => ?_
  rw [gradPre_eq h, normed_eq h, mul_comm]

/-- and that of the embedding's. -/
theorem gradWeight_eq (h : Agree m k d) (i : Fin 256) (j : Fin 1024) :
    (∑ p, Cert.HeadIdeal.Rows.embedding k d (ix2 p i) * Rows.gradProduct k d (ix2 p j) : EReal) = gradWeight m (ix2 i j) := by
  refine Finset.sum_congr rfl fun p _ => ?_
  exact (congrArg₂ (fun x y : EReal => x * y) (congrFun h.embedding _).symm (gradProduct_at h p j)).trans (mul_comm _ _)

end

end Cert.HeadPlainIdeal.Whole

end
-- ==== Proof.FfnValue.lean ====
/- The values of the gated layer's two calls: its output, and the gradients behind it. -/
module

public import proofs.«01_k».proof.Proof.Gen.FfnIdeal.Frame
public import proofs.«01_k».proof.Proof.Norm
public import Idealize.ShloMosaic.Lib.Pipeline.ValueKit

@[expose] public section

set_option maxRecDepth 16384

noncomputable section

namespace Cert.FfnIdeal.Rows

open Cert.FfnIdeal Cert.FfnIdeal.Gen
open Idealize.ShloMosaic Idealize.ShloMosaic.TcCoe
open Idealize.SL.Sem
open Idealize.ShloMosaic.Pipeline

variable (V : (c : Dev nD) → (b : Ref sig .tc) → Buf (Elt Ideal) ((c.tc : Thread nD τ).loc b)) (c : Dev nD)

/-! ### What the results are, of the arguments -/

abbrev input : FVec Ideal S4096x1024 .f32 := V c main_arg0
abbrev outGrad : FVec Ideal S4096x1024 .f32 := V c main_arg1
abbrev gain : FVec Ideal S1x1024 .f32 := V c main_arg2
abbrev gateWeight : FVec Ideal S1024x2816 .bf16 := V c main_arg3
abbrev upWeight : FVec Ideal S1024x2816 .bf16 := V c main_arg4
abbrev downWeight : FVec Ideal S2816x1024 .bf16 := V c main_arg5

/-- What the second call is given of the first. -/
abbrev gateIn : FVec Ideal S4096x2816 .f32 := V c main_v0_1
abbrev upIn : FVec Ideal S4096x2816 .f32 := V c main_v0_2

/-- What a row's root is taken of, and the normed input. -/
def square (i : Fin 4096) : EReal := (∑ k, input V c (ix2 i k) * input V c (ix2 i k)) * Ideal.ofBits .f32 0x3A800000#32 + Ideal.ofBits .f32 0x358637BD#32
def normed (i : Fin 4096) (j : Fin 1024) : EReal := input V c (ix2 i j) * Ideal.rsqrt (square V c i) * gain V c (ix2 0 j)

/-- The first call's results: the two products of the normed input, and the output. -/
def gateArr : FVec Ideal S4096x2816 .f32 := fun i => (∑ k, normed V c (i 0) k * gateWeight V c (ix2 k (i 1)) : EReal)
def upArr : FVec Ideal S4096x2816 .f32 := fun i => (∑ k, normed V c (i 0) k * upWeight V c (ix2 k (i 1)) : EReal)
def output : FVec Ideal S4096x1024 .f32 := fun i =>
  (input V c i + ∑ k, gateArr V c (ix2 (i 0) k) * Ideal.logistic (gateArr V c (ix2 (i 0) k)) * upArr V c (ix2 (i 0) k) * downWeight V c (ix2 k (i 1)) : EReal)

/-- The second call's: what the last product is of, the gradients of that and of the two products, -/
def gated (i : Fin 4096) (j : Fin 2816) : EReal := gateIn V c (ix2 i j) * Ideal.logistic (gateIn V c (ix2 i j))
def gradAct (i : Fin 4096) (j : Fin 2816) : EReal := ∑ k, outGrad V c (ix2 i k) * downWeight V c (ix2 j k)
def gradGate (i : Fin 4096) (j : Fin 2816) : EReal :=
  gradAct V c i j * upIn V c (ix2 i j) * (Ideal.logistic (gateIn V c (ix2 i j)) * (1 + gateIn V c (ix2 i j) * (1 - Ideal.logistic (gateIn V c (ix2 i j)))))
def gradUp (i : Fin 4096) (j : Fin 2816) : EReal := gradAct V c i j * gated V c i j

/-- the gradient of the normed input, and that of the input, -/
def gradH (i : Fin 4096) (j : Fin 1024) : EReal := ∑ k, gradGate V c i k * gateWeight V c (ix2 j k) + ∑ k, gradUp V c i k * upWeight V c (ix2 j k)
def gradX : FVec Ideal S4096x1024 .f32 := fun i =>
  Norm.step (outGrad V c i) (gradH V c (i 0) (i 1) * gain V c (ix2 0 (i 1))) (input V c i) (∑ k, gradH V c (i 0) k * gain V c (ix2 0 k) * input V c (ix2 (i 0) k)) (square V c (i 0))

/-- the arrays that the weights' gradients are products of: the two gradients stand side by side, -/
def normedArr : FVec Ideal S4096x1024 .bf16 := fun i => normed V c (i 0) (i 1)
def actArr : FVec Ideal S4096x2816 .bf16 := fun i => (gated V c (i 0) (i 1) * upIn V c i : EReal)
def gradBoth (i : Fin 4096) (j : Fin 5632) : EReal :=
  if h : j.val < 2816 then gradGate V c i ⟨j.val, h⟩ else gradUp V c i ⟨j.val - 2816, by have := j.isLt; omega⟩
def gradBothArr : FVec Ideal S4096x5632 .bf16 := fun i => gradBoth V c (i 0) (i 1)

/-- and the gradient of the gain, with a row's part of it. -/
def gainPart (i : Fin 4096) (j : Fin 1024) : EReal := gradH V c i j * input V c (ix2 i j) * Ideal.rsqrt (square V c i)
def gradGain : FVec Ideal S1x1024 .f32 := fun y => ∑ i, gainPart V c i (y 1)

/-! ### The first call -/

/-- The row of the arrays that a row of a point's blocks is. -/
def row (t : Fin cfg0.N) (p : Fin 256) : Fin 4096 := ⟨256 * t.val + p.val, by
  have : t.val < 16 := t.isLt
  omega⟩

theorem rows_0 (t : Fin cfg0.N) : (cfg0.win 0).index t = ![t.val, 0] := by
  revert t
  decide +kernel
theorem rows_1 (t : Fin cfg0.N) : (cfg0.win 1).index t = ![0, 0] := by
  revert t
  decide +kernel
theorem rows_2 (t : Fin cfg0.N) : (cfg0.win 2).index t = ![0, 0] := by
  revert t
  decide +kernel
theorem rows_3 (t : Fin cfg0.N) : (cfg0.win 3).index t = ![0, 0] := by
  revert t
  decide +kernel
theorem rows_4 (t : Fin cfg0.N) : (cfg0.win 4).index t = ![0, 0] := by
  revert t
  decide +kernel
theorem rows_5 (t : Fin cfg0.N) : (cfg0.win 5).index t = ![t.val, 0] := by
  revert t
  decide +kernel
theorem rows_6 (t : Fin cfg0.N) : (cfg0.win 6).index t = ![t.val, 0] := by
  revert t
  decide +kernel
theorem rows_7 (t : Fin cfg0.N) : (cfg0.win 7).index t = ![t.val, 0] := by
  revert t
  decide +kernel

section
variable (t : Fin cfg0.N)

abbrev inputs : FVec Ideal S256x1024 .f32 := iblk0 V c 0 t

theorem input_at (p : Fin 256) (j : Fin 1024) : iblk0 V c 0 t (ix2 p j) = input V c (ix2 (row t p) j) := by
  refine congrArg (input V c) ?_
  blk_ext [rows_0 t, row]
theorem gain_at (j : Fin 1024) : iblk0 V c 1 t (ix2 0 j) = gain V c (ix2 0 j) := by
  refine congrArg (gain V c) ?_
  blk_ext [rows_1 t]
theorem gateWeight_at (j : Fin 1024) (k : Fin 2816) : iblk0 V c 2 t (ix2 j k) = gateWeight V c (ix2 j k) := by
  refine congrArg (gateWeight V c) ?_
  blk_ext [rows_2 t]
theorem upWeight_at (j : Fin 1024) (k : Fin 2816) : iblk0 V c 3 t (ix2 j k) = upWeight V c (ix2 j k) := by
  refine congrArg (upWeight V c) ?_
  blk_ext [rows_3 t]
theorem downWeight_at (k : Fin 2816) (j : Fin 1024) : iblk0 V c 4 t (ix2 k j) = downWeight V c (ix2 k j) := by
  refine congrArg (downWeight V c) ?_
  blk_ext [rows_4 t]

theorem square_at (p : Fin 256) : (∑ k, inputs V c t (ix2 p k) * inputs V c t (ix2 p k)) * Ideal.ofBits .f32 0x3A800000#32 + Ideal.ofBits .f32 0x358637BD#32 = square V c (row t p) := by
  simp only [input_at V c t]
  rfl

theorem normed_at (p : Fin 256) (j : Fin 1024) : k0_pay1 (iblk0 V c 0 t) (iblk0 V c 1 t) (ix2 p j) = normed V c (row t p) j := by
  pointwise [k0_pay1]
  rw [square_at V c t p]
  simp only [input_at V c t, gain_at V c t]
  rfl

theorem gate_at (p : Fin 256) (j : Fin 2816) : k0_pay2 (iblk0 V c 0 t) (iblk0 V c 1 t) (iblk0 V c 2 t) (ix2 p j) = gateArr V c (ix2 (row t p) j) := by
  pointwise [k0_pay2]
  simp only [normed_at V c t, gateWeight_at V c t]
  rfl

theorem up_at (p : Fin 256) (j : Fin 2816) : k0_pay3 (iblk0 V c 0 t) (iblk0 V c 1 t) (iblk0 V c 3 t) (ix2 p j) = upArr V c (ix2 (row t p) j) := by
  pointwise [k0_pay3]
  simp only [normed_at V c t, upWeight_at V c t]
  rfl

theorem output_at (p : Fin 256) (j : Fin 1024) : k0_pay4 (iblk0 V c 0 t) (iblk0 V c 1 t) (iblk0 V c 2 t) (iblk0 V c 3 t) (iblk0 V c 4 t) (ix2 p j)
    = output V c (ix2 (row t p) j) := by
  pointwise [k0_pay4]
  simp only [gate_at V c t, up_at V c t, downWeight_at V c t, input_at V c t]
  rfl
end

theorem covers_5 : (cfg0.win 5).Covers := by decide +kernel
theorem covers_6 : (cfg0.win 6).Covers := by decide +kernel
theorem covers_7 : (cfg0.win 7).Covers := by decide +kernel

theorem output_eq : (dat0 V c).arrAt 5 cfg0.N = output V c := by
  refine Dat.arrAt_eq_of_covers (dat0 V c) 5 (output V c) covers_5 fun t hf y => ?_
  blk_simp
  rw [after0_5]
  frame_out
  have hy : y = ix2 (y 0) (y 1) := by pointwise []
  refine ((congrArg _ hy).trans (output_at V c t (y 0) (y 1))).trans (congrArg (output V c) ?_)
  blk_ext [rows_5 t, row]

theorem gateArr_eq : (dat0 V c).arrAt 6 cfg0.N = gateArr V c := by
  refine Dat.arrAt_eq_of_covers (dat0 V c) 6 (gateArr V c) covers_6 fun t hf y => ?_
  blk_simp
  rw [after0_6]
  frame_out
  have hy : y = ix2 (y 0) (y 1) := by pointwise []
  refine ((congrArg _ hy).trans (gate_at V c t (y 0) (y 1))).trans (congrArg (gateArr V c) ?_)
  blk_ext [rows_6 t, row]

theorem upArr_eq : (dat0 V c).arrAt 7 cfg0.N = upArr V c := by
  refine Dat.arrAt_eq_of_covers (dat0 V c) 7 (upArr V c) covers_7 fun t hf y => ?_
  blk_simp
  rw [after0_7]
  frame_out
  have hy : y = ix2 (y 0) (y 1) := by pointwise []
  refine ((congrArg _ hy).trans (up_at V c t (y 0) (y 1))).trans (congrArg (upArr V c) ?_)
  blk_ext [rows_7 t, row]

end Cert.FfnIdeal.Rows

end
-- ==== Proof.FfnBack.lean ====
/- The values of the gated layer's backward call. -/
module

public import proofs.«01_k».proof.Proof.FfnValue

@[expose] public section

set_option maxRecDepth 16384

noncomputable section

namespace Cert.FfnIdeal.Rows

open Cert.FfnIdeal Cert.FfnIdeal.Gen
open Idealize.ShloMosaic Idealize.ShloMosaic.TcCoe
open Idealize.SL.Sem
open Idealize.ShloMosaic.Pipeline

variable (V : (c : Dev nD) → (b : Ref sig .tc) → Buf (Elt Ideal) ((c.tc : Thread nD τ).loc b)) (c : Dev nD)

abbrev one : Ideal .f32 := Scalar.ofBits .f32 0x3F800000#32

/-! ### What the payloads are at a place, of any blocks -/

section
variable (x d : FVec Ideal S128x1024 .f32) (g a : FVec Ideal S1x1024 .f32) (r : FVec Ideal S128x1 .f32)
  (v21 v24 v25 v31 v32 : FVec Ideal S128x2816 .f32) (o : Ideal .f32) (w u : FVec Ideal S1024x2816 .bf16)

theorem ix2_of (x : S128x2816.Idx) {p : Fin 128} {j : Fin 2816} (h0 : x 0 = p) (h1 : x 1 = j) : x = ix2 p j := by
  subst h0 h1
  pointwise []

theorem gates_of (p : Fin 128) (j : Fin 2816) : k1_pay12 v21 v24 v32 one (ix2 p j) = (v32 (ix2 p j) * (v24 (ix2 p j) * (1 + v21 (ix2 p j) * (1 - v24 (ix2 p j)))) : EReal) := by
  pointwise [k1_pay12]

theorem sums_of (p : Fin 128) (j : Fin 1024) : k1_pay14 v21 v24 v25 v31 v32 o w u (ix2 p j)
    = (∑ k, k1_pay12 v21 v24 v32 o (ix2 p k) * w (ix2 j k) + ∑ k, k1_pay13 v25 v31 (ix2 p k) * u (ix2 j k) : EReal) := by
  pointwise [k1_pay14]

theorem step_of (s : EReal) (p : Fin 128) (j : Fin 1024) (hr : r (ix2 p 0) = Ideal.rsqrt s) : k1_pay16 x g d r v21 v24 v25 v31 v32 o w u (ix2 p j)
    = Norm.step (d (ix2 p j)) (k1_pay14 v21 v24 v25 v31 v32 o w u (ix2 p j) * g (ix2 0 j)) (x (ix2 p j))
        (∑ k, k1_pay14 v21 v24 v25 v31 v32 o w u (ix2 p k) * g (ix2 0 k) * x (ix2 p k)) s := by
  unfold Norm.step
  rw [← hr]
  pointwise [k1_pay16]

theorem part_of (y : S1x1024.Idx) : k1_pay1 (k1_pay15 x r v21 v24 v25 v31 v32 o w u) (k1_pay17 a) y
    = (a y + ∑ p, k1_pay14 v21 v24 v25 v31 v32 o w u (ix2 p (y 1)) * x (ix2 p (y 1)) * r (ix2 p 0) : EReal) := by
  pointwise [k1_pay1, k1_pay15, k1_pay17]
end

/-! ### The blocks of a point -/

section
variable (t : Fin cfg1.N)

abbrev backInputs : FVec Ideal S128x1024 .f32 := iblk1 V c 1 t
abbrev roots : FVec Ideal S128x1 .f32 := k1_pay3 (iblk1 V c 1 t)
abbrev gates : FVec Ideal S128x2816 .f32 := k1_pay5 (iblk1 V c 2 t)
abbrev logistics : FVec Ideal S128x2816 .f32 := k1_pay7 (iblk1 V c 2 t)
abbrev gateds : FVec Ideal S128x2816 .f32 := k1_pay8 (iblk1 V c 2 t)
abbrev gradActs : FVec Ideal S128x2816 .f32 := k1_pay10 (iblk1 V c 0 t) (iblk1 V c 7 t)
abbrev gradSlopes : FVec Ideal S128x2816 .f32 := k1_pay11 (iblk1 V c 0 t) (iblk1 V c 3 t) (iblk1 V c 7 t)
abbrev gradGates : FVec Ideal S128x2816 .bf16 := k1_pay12 (gates V c t) (logistics V c t) (gradSlopes V c t) one
abbrev gradUps : FVec Ideal S128x2816 .bf16 := k1_pay13 (gateds V c t) (gradActs V c t)
abbrev steps : FVec Ideal S128x1024 .f32 :=
  k1_pay16 (iblk1 V c 1 t) (iblk1 V c 4 t) (iblk1 V c 0 t) (roots V c t) (gates V c t) (logistics V c t) (gateds V c t) (gradActs V c t) (gradSlopes V c t) one
    (iblk1 V c 5 t) (iblk1 V c 6 t)
abbrev gainAfter (a : FVec Ideal S1x1024 .f32) : FVec Ideal S1x1024 .f32 :=
  k1_pay1 (k1_pay15 (iblk1 V c 1 t) (roots V c t) (gates V c t) (logistics V c t) (gateds V c t) (gradActs V c t) (gradSlopes V c t) one (iblk1 V c 5 t) (iblk1 V c 6 t)) (k1_pay17 a)

/-- The two halves of the columns, each stored by itself. -/
abbrev boths : FVec Ideal S128x5632 .bf16 :=
  View.canon [(⟨Rect.unit (s := S128x5632) ![0, 2816] S128x2816.size inb_S128x5632_S128x2816_0_2816, gradUps V c t⟩ : View.Piece (Elt Ideal) S128x5632 .bf16),
    ⟨Rect.unit (s := S128x5632) ![0, 0] S128x2816.size inb_S128x5632_S128x2816_0_0, gradGates V c t⟩]

theorem out_A (h : t.val % 32 = 0) : outsAt1 V c t.val t.isLt
    = (steps V c t, k1_pay4 (iblk1 V c 1 t) (iblk1 V c 4 t), k1_pay9 (iblk1 V c 2 t) (iblk1 V c 3 t), boths V c t, gainAfter V c t (k1_pay2 (F := Ideal))) := by
  rw [outsAt1_A V c t h]
  frame_out

theorem out_B (h : ¬t.val % 32 = 0) : outsAt1 V c t.val t.isLt
    = (steps V c t, k1_pay4 (iblk1 V c 1 t) (iblk1 V c 4 t), k1_pay9 (iblk1 V c 2 t) (iblk1 V c 3 t), boths V c t,
      gainAfter V c t (outsAt1 V c (t.val - 1) (Nat.lt_of_le_of_lt (Nat.sub_le _ _) t.isLt)).2.2.2.2) := by
  rw [outsAt1_B V c t h]
  frame_out
end

/-- The row of the arrays that a row of a point's blocks is. -/
def backRow (t : Fin cfg1.N) (p : Fin 128) : Fin 4096 := ⟨128 * t.val + p.val, by
  have : t.val < 32 := t.isLt
  omega⟩

theorem backRows_0 (t : Fin cfg1.N) : (cfg1.win 0).index t = ![t.val, 0] := by
  revert t
  decide +kernel
theorem backRows_1 (t : Fin cfg1.N) : (cfg1.win 1).index t = ![t.val, 0] := by
  revert t
  decide +kernel
theorem backRows_2 (t : Fin cfg1.N) : (cfg1.win 2).index t = ![t.val, 0] := by
  revert t
  decide +kernel
theorem backRows_3 (t : Fin cfg1.N) : (cfg1.win 3).index t = ![t.val, 0] := by
  revert t
  decide +kernel
theorem backRows_4 (t : Fin cfg1.N) : (cfg1.win 4).index t = ![0, 0] := by
  revert t
  decide +kernel
theorem backRows_5 (t : Fin cfg1.N) : (cfg1.win 5).index t = ![0, 0] := by
  revert t
  decide +kernel
theorem backRows_6 (t : Fin cfg1.N) : (cfg1.win 6).index t = ![0, 0] := by
  revert t
  decide +kernel
theorem backRows_7 (t : Fin cfg1.N) : (cfg1.win 7).index t = ![0, 0] := by
  revert t
  decide +kernel
theorem backRows_8 (t : Fin cfg1.N) : (cfg1.win 8).index t = ![t.val, 0] := by
  revert t
  decide +kernel
theorem backRows_9 (t : Fin cfg1.N) : (cfg1.win 9).index t = ![t.val, 0] := by
  revert t
  decide +kernel
theorem backRows_10 (t : Fin cfg1.N) : (cfg1.win 10).index t = ![t.val, 0] := by
  revert t
  decide +kernel
theorem backRows_11 (t : Fin cfg1.N) : (cfg1.win 11).index t = ![t.val, 0] := by
  revert t
  decide +kernel
theorem backRows_12 (t : Fin cfg1.N) : (cfg1.win 12).index t = ![0, 0] := by
  revert t
  decide +kernel

section
variable (t : Fin cfg1.N)

theorem back_outGrad (p : Fin 128) (j : Fin 1024) : iblk1 V c 0 t (ix2 p j) = outGrad V c (ix2 (backRow t p) j) := by
  refine congrArg (outGrad V c) ?_
  blk_ext [backRows_0 t, backRow]
theorem back_input (p : Fin 128) (j : Fin 1024) : iblk1 V c 1 t (ix2 p j) = input V c (ix2 (backRow t p) j) := by
  refine congrArg (input V c) ?_
  blk_ext [backRows_1 t, backRow]
theorem back_gate (p : Fin 128) (j : Fin 2816) : iblk1 V c 2 t (ix2 p j) = gateIn V c (ix2 (backRow t p) j) := by
  refine congrArg (gateIn V c) ?_
  blk_ext [backRows_2 t, backRow]
theorem back_up (p : Fin 128) (j : Fin 2816) : iblk1 V c 3 t (ix2 p j) = upIn V c (ix2 (backRow t p) j) := by
  refine congrArg (upIn V c) ?_
  blk_ext [backRows_3 t, backRow]
theorem back_gain (j : Fin 1024) : iblk1 V c 4 t (ix2 0 j) = gain V c (ix2 0 j) := by
  refine congrArg (gain V c) ?_
  blk_ext [backRows_4 t]
theorem back_gateWeight (j : Fin 1024) (k : Fin 2816) : iblk1 V c 5 t (ix2 j k) = gateWeight V c (ix2 j k) := by
  refine congrArg (gateWeight V c) ?_
  blk_ext [backRows_5 t]
theorem back_upWeight (j : Fin 1024) (k : Fin 2816) : iblk1 V c 6 t (ix2 j k) = upWeight V c (ix2 j k) := by
  refine congrArg (upWeight V c) ?_
  blk_ext [backRows_6 t]
theorem back_downWeight (k : Fin 2816) (j : Fin 1024) : iblk1 V c 7 t (ix2 k j) = downWeight V c (ix2 k j) := by
  refine congrArg (downWeight V c) ?_
  blk_ext [backRows_7 t]

theorem back_square (p : Fin 128) : (∑ k, backInputs V c t (ix2 p k) * backInputs V c t (ix2 p k)) * Ideal.ofBits .f32 0x3A800000#32 + Ideal.ofBits .f32 0x358637BD#32
    = square V c (backRow t p) := by
  simp only [back_input V c t]
  rfl

theorem root_at (p : Fin 128) (j : Fin 1) : roots V c t (ix2 p j) = Ideal.rsqrt (square V c (backRow t p)) := by
  pointwise [roots, k1_pay3]
  rw [back_square V c t p]

theorem back_normed (p : Fin 128) (j : Fin 1024) : k1_pay4 (iblk1 V c 1 t) (iblk1 V c 4 t) (ix2 p j) = normedArr V c (ix2 (backRow t p) j) := by
  pointwise [k1_pay4]
  exact congrArg₂ (fun x y : EReal => x * y) (congrArg₂ (fun x y : EReal => x * y) (back_input V c t p j) (root_at V c t p 0)) (back_gain V c t j)

theorem gates_at (p : Fin 128) (j : Fin 2816) : gates V c t (ix2 p j) = gateIn V c (ix2 (backRow t p) j) := by
  pointwise [gates, k1_pay5]
  exact back_gate V c t p j

theorem logistics_at (p : Fin 128) (j : Fin 2816) : logistics V c t (ix2 p j) = Ideal.logistic (gateIn V c (ix2 (backRow t p) j)) := by
  pointwise [logistics, k1_pay7]
  exact congrArg Ideal.logistic (gates_at V c t p j)

theorem gateds_at (p : Fin 128) (j : Fin 2816) : gateds V c t (ix2 p j) = gated V c (backRow t p) j := by
  pointwise [gateds, k1_pay8]
  exact congrArg₂ (fun x y : EReal => x * y) (gates_at V c t p j) (logistics_at V c t p j)

theorem ups_at (p : Fin 128) (j : Fin 2816) : k1_pay6 (iblk1 V c 3 t) (ix2 p j) = upIn V c (ix2 (backRow t p) j) := by
  pointwise [k1_pay6]
  exact back_up V c t p j

theorem act_at (p : Fin 128) (j : Fin 2816) : k1_pay9 (iblk1 V c 2 t) (iblk1 V c 3 t) (ix2 p j) = actArr V c (ix2 (backRow t p) j) := by
  pointwise [k1_pay9]
  exact congrArg₂ (fun x y : EReal => x * y) (gateds_at V c t p j) (ups_at V c t p j)

theorem gradActs_at (p : Fin 128) (j : Fin 2816) : gradActs V c t (ix2 p j) = gradAct V c (backRow t p) j := by
  pointwise [gradActs, k1_pay10]
  simp only [back_outGrad V c t, back_downWeight V c t]
  rfl

theorem gradSlopes_at (p : Fin 128) (j : Fin 2816) : gradSlopes V c t (ix2 p j) = (gradAct V c (backRow t p) j * upIn V c (ix2 (backRow t p) j) : EReal) := by
  pointwise [gradSlopes, k1_pay11]
  exact congrArg₂ (fun x y : EReal => x * y) (gradActs_at V c t p j) (ups_at V c t p j)

theorem gradGates_at (p : Fin 128) (j : Fin 2816) : gradGates V c t (ix2 p j) = gradGate V c (backRow t p) j := by
  refine (gates_of _ _ _ p j).trans ?_
  exact congrArg₂ (fun x y : EReal => x * y) (gradSlopes_at V c t p j) (congrArg₂ (fun x y : EReal => x * (1 + y * (1 - x))) (logistics_at V c t p j) (gates_at V c t p j))

theorem gradUps_at (p : Fin 128) (j : Fin 2816) : gradUps V c t (ix2 p j) = gradUp V c (backRow t p) j := by
  pointwise [gradUps, k1_pay13]
  exact congrArg₂ (fun x y : EReal => x * y) (gradActs_at V c t p j) (gateds_at V c t p j)

theorem boths_at (p : Fin 128) (j : Fin 5632) : boths V c t (ix2 p j) = gradBoth V c (backRow t p) j := by
  unfold boths
  canon_tiles x h
  · have e0 : x 0 = p := Fin.ext h0.symm
    have hj : ¬ j.val < 2816 := by have h' : j.val = 2816 + (x 1).val := h1; omega
    unfold gradBoth
    rw [dif_neg hj]
    have e1 : x 1 = (⟨j.val - 2816, by have := j.isLt; omega⟩ : Fin 2816) := Fin.ext (by have h' : j.val = 2816 + (x 1).val := h1; show (x 1).val = j.val - 2816; rw [h', Nat.add_sub_cancel_left])
    refine Eq.trans (congrArg (gradUps V c t) ?_) (gradUps_at V c t p ⟨j.val - 2816, by have := j.isLt; omega⟩)
    exact ix2_of x e0 e1
  · have e0 : x 0 = p := Fin.ext h0.symm
    have hj : j.val < 2816 := by have h' : j.val = (x 1).val := h1; omega
    unfold gradBoth
    rw [dif_pos hj]
    refine Eq.trans (congrArg (gradGates V c t) ?_) (gradGates_at V c t p ⟨j.val, hj⟩)
    exact ix2_of x e0 (Fin.ext h1.symm)

abbrev gradHs : FVec Ideal S128x1024 .f32 :=
  k1_pay14 (gates V c t) (logistics V c t) (gateds V c t) (gradActs V c t) (gradSlopes V c t) one (iblk1 V c 5 t) (iblk1 V c 6 t)

theorem gradH_at (p : Fin 128) (j : Fin 1024) : gradHs V c t (ix2 p j) = gradH V c (backRow t p) j := by
  refine (sums_of _ _ _ _ _ _ _ _ p j).trans ?_
  exact congrArg₂ (fun x y : EReal => x + y)
    (Finset.sum_congr rfl fun k _ => congrArg₂ (fun x y : EReal => x * y) (gradGates_at V c t p k) (back_gateWeight V c t j k))
    (Finset.sum_congr rfl fun k _ => congrArg₂ (fun x y : EReal => x * y) (gradUps_at V c t p k) (back_upWeight V c t j k))

theorem step_at (p : Fin 128) (j : Fin 1024) : steps V c t (ix2 p j) = gradX V c (ix2 (backRow t p) j) := by
  refine (step_of _ _ _ _ _ _ _ _ _ _ _ _ (square V c (backRow t p)) p j (root_at V c t p 0)).trans ?_
  refine (congrArg₂ (fun e u => Norm.step e u _ _ _) (back_outGrad V c t p j) (congrArg₂ (fun x y : EReal => x * y) (gradH_at V c t p j) (back_gain V c t j))).trans ?_
  refine (congrArg₂ (fun a s => Norm.step _ _ a s _) (back_input V c t p j) (Finset.sum_congr rfl fun k _ => ?_)).trans rfl
  exact congrArg₂ (fun x y : EReal => x * y) (congrArg₂ (fun x y : EReal => x * y) (gradH_at V c t p k) (back_gain V c t k)) (back_input V c t p k)

theorem part_at (a : FVec Ideal S1x1024 .f32) (y : S1x1024.Idx) : gainAfter V c t a y = a y + ∑ p, gainPart V c (backRow t p) (y 1) :=
  (part_of (iblk1 V c 1 t) a (roots V c t) (gates V c t) (logistics V c t) (gateds V c t) (gradActs V c t) (gradSlopes V c t) one (iblk1 V c 5 t) (iblk1 V c 6 t) y).trans
    (congrArg (fun z : EReal => a y + z) (Finset.sum_congr rfl fun p _ => congrArg₂ (fun x y : EReal => x * y)
      (congrArg₂ (fun x y : EReal => x * y) (gradH_at V c t p (y 1)) (back_input V c t p (y 1))) (root_at V c t p 0)))
end

/-! ### The results -/

theorem covers_8 : (cfg1.win 8).Covers := by decide +kernel
theorem covers_9 : (cfg1.win 9).Covers := by decide +kernel
theorem covers_10 : (cfg1.win 10).Covers := by decide +kernel
theorem covers_11 : (cfg1.win 11).Covers := by decide +kernel
theorem covers_12 : (cfg1.win 12).Covers := by decide +kernel

theorem parts {α β γ δ ε : Type} {o : α × β × γ × δ × ε} {x : α} {y : β} {z : γ} {u : δ} {w : ε} (h : o = (x, y, z, u, w)) :
    o.1 = x ∧ o.2.1 = y ∧ o.2.2.1 = z ∧ o.2.2.2.1 = u := by
  subst h
  exact ⟨rfl, rfl, rfl, rfl⟩

/-- The blocks that a point leaves. -/
theorem point_at (t : Fin cfg1.N) : (outsAt1 V c t.val t.isLt).1 = steps V c t
    ∧ (outsAt1 V c t.val t.isLt).2.1 = k1_pay4 (iblk1 V c 1 t) (iblk1 V c 4 t)
    ∧ (outsAt1 V c t.val t.isLt).2.2.1 = k1_pay9 (iblk1 V c 2 t) (iblk1 V c 3 t)
    ∧ (outsAt1 V c t.val t.isLt).2.2.2.1 = boths V c t := by
  by_cases h : t.val % 32 = 0
  · exact parts (out_A V c t h)
  · exact parts (out_B V c t h)

theorem gradX_eq : (dat1 V c).arrAt 8 cfg1.N = gradX V c := by
  refine Dat.arrAt_eq_of_covers (dat1 V c) 8 (gradX V c) covers_8 fun t hf y => ?_
  blk_simp
  rw [after1_8, (point_at V c t).1]
  have hy : y = ix2 (y 0) (y 1) := by pointwise []
  refine ((congrArg (steps V c t) hy).trans (step_at V c t (y 0) (y 1))).trans (congrArg (gradX V c) ?_)
  blk_ext [backRows_8 t, backRow]

theorem normed_eq : (dat1 V c).arrAt 9 cfg1.N = normedArr V c := by
  refine Dat.arrAt_eq_of_covers (dat1 V c) 9 (normedArr V c) covers_9 fun t hf y => ?_
  blk_simp
  rw [after1_9, (point_at V c t).2.1]
  have hy : y = ix2 (y 0) (y 1) := by pointwise []
  refine ((congrArg _ hy).trans (back_normed V c t (y 0) (y 1))).trans (congrArg (normedArr V c) ?_)
  blk_ext [backRows_9 t, backRow]

theorem act_eq : (dat1 V c).arrAt 10 cfg1.N = actArr V c := by
  refine Dat.arrAt_eq_of_covers (dat1 V c) 10 (actArr V c) covers_10 fun t hf y => ?_
  blk_simp
  rw [after1_10, (point_at V c t).2.2.1]
  have hy : y = ix2 (y 0) (y 1) := by pointwise []
  refine ((congrArg _ hy).trans (act_at V c t (y 0) (y 1))).trans (congrArg (actArr V c) ?_)
  blk_ext [backRows_10 t, backRow]

theorem gradBoth_eq : (dat1 V c).arrAt 11 cfg1.N = gradBothArr V c := by
  refine Dat.arrAt_eq_of_covers (dat1 V c) 11 (gradBothArr V c) covers_11 fun t hf y => ?_
  blk_simp
  rw [after1_11, (point_at V c t).2.2.2]
  have hy : y = ix2 (y 0) (y 1) := by pointwise []
  refine ((congrArg (boths V c t) hy).trans (boths_at V c t (y 0) (y 1))).trans (congrArg (gradBothArr V c) (?_ : ix2 (backRow t (y 0)) (y 1) = _))
  blk_ext [backRows_11 t, backRow]

/-- The gain's gradient after the last point is the parts of all the rows. -/
theorem sum_at (t : Fin cfg1.N) (ht : t.val + 1 = cfg1.N) (y : S1x1024.Idx) : (outsAt1 V c t.val t.isLt).2.2.2.2 y = gradGain V c y := by
  rw [Pipeline.eq_sum_fin_of_reset_step_apply_last (fun n h => (outsAt1 V c n h).2.2.2.2) 32 (fun _ => (0 : EReal)) (fun t y => ∑ p, gainPart V c (backRow t p) (y 1))
    (fun t h y => by
      rw [out_A V c t h]
      refine (part_at V c t _ y).trans (congrArg (fun z : EReal => z + _) ?_)
      pointwise [k1_pay2])
    (fun t h y => by
      rw [out_B V c t h]
      exact part_at V c t _ y) (by decide) t ht y]
  rw [zero_add]
  unfold gradGain
  refine Fin.sum_mul_add_congr fun s k h => ?_
  exact congrArg (gainPart V c · (y 1)) (Fin.ext (by simp only [backRow]; omega))

theorem gradGain_eq : (dat1 V c).arrAt 12 cfg1.N = gradGain V c := by
  refine Dat.arrAt_eq_of_covers (dat1 V c) 12 (gradGain V c) covers_12 fun t hf y => ?_
  have h := (flush1_12 t).mp hf
  blk_simp
  rw [after1_12]
  refine (sum_at V c t (by have : t.val < 32 := t.isLt; show t.val + 1 = 32; omega) y).trans (congrArg (gradGain V c) ?_)
  blk_ext [backRows_12 t]

end Cert.FfnIdeal.Rows

end
-- ==== Proof.FfnWeights.lean ====
/- The values of the gated layer's last two calls: the gradients of its weights. -/
module

public import proofs.«01_k».proof.Proof.FfnBack

@[expose] public section

set_option maxRecDepth 16384

noncomputable section

namespace Cert.FfnIdeal.Rows

open Cert.FfnIdeal Cert.FfnIdeal.Gen
open Idealize.ShloMosaic Idealize.ShloMosaic.TcCoe
open Idealize.SL.Sem
open Idealize.ShloMosaic.Pipeline

variable (V : (c : Dev nD) → (b : Ref sig .tc) → Buf (Elt Ideal) ((c.tc : Thread nD τ).loc b)) (c : Dev nD)

/-! ### The weights of the gate and of the other product, side by side -/

abbrev bothLeft : FVec Ideal S4096x1024 .bf16 := V c main_v1_1
abbrev bothRight : FVec Ideal S4096x5632 .bf16 := V c main_v1_3

/-- The product of the two arrays along their rows. -/
def bothSum : FVec Ideal S1024x5632 .f32 := fun y => (∑ i : Fin 4096, bothLeft V c (ix2 i (y 0)) * bothRight V c (ix2 i (y 1)) : EReal)

/-- The row of the arrays that a row of a point's blocks is, and the column of the second that a column is. -/
def bothRow (t : Fin cfg2.N) (p : Fin 512) : Fin 4096 := ⟨512 * (t.val % 8) + p.val, by omega⟩
def bothCol (t : Fin cfg2.N) (j : Fin 1408) : Fin 5632 := ⟨1408 * (t.val / 8) + j.val, by
  have : t.val < 32 := t.isLt
  omega⟩

theorem bothRows_0 (t : Fin cfg2.N) : (cfg2.win 0).index t = ![t.val % 8, 0] := by
  revert t
  decide +kernel
theorem bothRows_1 (t : Fin cfg2.N) : (cfg2.win 1).index t = ![t.val % 8, t.val / 8] := by
  revert t
  decide +kernel
theorem bothRows_2 (t : Fin cfg2.N) : (cfg2.win 2).index t = ![0, t.val / 8] := by
  revert t
  decide +kernel

theorem bothLeft_at (t : Fin cfg2.N) (p : Fin 512) (j : Fin 1024) : iblk2 V c 0 t (ix2 p j) = bothLeft V c (ix2 (bothRow t p) j) := by
  refine congrArg (bothLeft V c) ?_
  blk_ext [bothRows_0 t, bothRow]
theorem bothRight_at (t : Fin cfg2.N) (p : Fin 512) (j : Fin 1408) : iblk2 V c 1 t (ix2 p j) = bothRight V c (ix2 (bothRow t p) (bothCol t j)) := by
  refine congrArg (bothRight V c) ?_
  blk_ext [bothRows_1 t, bothRow, bothCol]

/-- A row's part of the sum, in the columns of a point. -/
def bothTerm (t : Fin cfg2.N) (y : S1024x1408.Idx) : EReal :=
  ∑ p, bothLeft V c (ix2 (bothRow t p) (y 0)) * bothRight V c (ix2 (bothRow t p) (bothCol t (y 1)))

/-- A point adds its rows' part of the sum. -/
theorem bothAfter_at (t : Fin cfg2.N) (a : FVec Ideal S1024x1408 .f32) (y : S1024x1408.Idx) : k2_pay2 a (iblk2 V c 0 t) (iblk2 V c 1 t) y = a y + bothTerm V c t y := by
  pointwise [k2_pay2]
  exact congrArg (fun z : EReal => a y + z) (Finset.sum_congr rfl fun p _ =>
    congrArg₂ (fun x y : EReal => x * y) (bothLeft_at V c t p (y 0)) (bothRight_at V c t p (y 1)))

theorem bothOut_A (t : Fin cfg2.N) (h : t.val % 8 = 0) : outsAt2 V c t.val t.isLt = k2_pay2 (k2_pay1 (F := Ideal)) (iblk2 V c 0 t) (iblk2 V c 1 t) := by
  rw [outsAt2_A V c t h]
  frame_out
theorem bothOut_B (t : Fin cfg2.N) (h : ¬t.val % 8 = 0) : outsAt2 V c t.val t.isLt
    = k2_pay2 (outsAt2 V c (t.val - 1) (Nat.lt_of_le_of_lt (Nat.sub_le _ _) t.isLt)) (iblk2 V c 0 t) (iblk2 V c 1 t) := by
  rw [outsAt2_B V c t h]
  frame_out

theorem bothCovers : (cfg2.win 2).Covers := by decide +kernel

/-- At the last point of a block of columns its sums are over all the rows. -/
theorem bothSum_at (t : Fin cfg2.N) (ht : t.val % 8 = 7) (y : S1024x1408.Idx) : outsAt2 V c t.val t.isLt y = bothSum V c (ix2 (y 0) (bothCol t (y 1))) := by
  rw [Pipeline.eq_sum_fin_of_reset_step_apply_of_flush (outsAt2 V c) 8 (fun _ => (0 : EReal)) (bothTerm V c)
    (fun t h y => by
      rw [bothOut_A V c t h]
      refine (bothAfter_at V c t _ y).trans (congrArg (fun z : EReal => z + _) ?_)
      pointwise [k2_pay1])
    (fun t h y => by
      rw [bothOut_B V c t h]
      exact bothAfter_at V c t _ y) t ht y]
  rw [zero_add]
  unfold bothSum bothTerm
  refine Fin.sum_mul_add_congr fun s k h => ?_
  have e0 : bothRow ⟨8 * (t.val / 8) + s.val, by have := t.isLt; have : t.val < 32 := this; show _ < 32; omega⟩ k = ⟨s.val * 512 + k.val, h⟩ :=
    Fin.ext (by simp only [bothRow]; omega)
  have e1 : bothCol ⟨8 * (t.val / 8) + s.val, by have := t.isLt; have : t.val < 32 := this; show _ < 32; omega⟩ (y 1) = bothCol t (y 1) :=
    Fin.ext (by simp only [bothCol]; omega)
  exact congrArg₂ (fun i j => bothLeft V c (ix2 i (y 0)) * bothRight V c (ix2 i j)) e0 e1

theorem bothSum_eq : (dat2 V c).arrAt 2 cfg2.N = bothSum V c := by
  refine Dat.arrAt_eq_of_covers (dat2 V c) 2 (bothSum V c) bothCovers fun t hf y => ?_
  have h := (flush2_2 t).mp hf
  blk_simp
  rw [after2_2]
  refine (bothSum_at V c t h y).trans (congrArg (bothSum V c) ?_)
  blk_ext [bothRows_2 t, bothCol]

/-! ### The weight of the last product -/

abbrev downLeft : FVec Ideal S4096x2816 .bf16 := V c main_v1_2

/-- The product of the two arrays along their rows. -/
def downSum : FVec Ideal S2816x1024 .f32 := fun y => (∑ i : Fin 4096, downLeft V c (ix2 i (y 0)) * outGrad V c (ix2 i (y 1)) : EReal)

/-- The row of the arrays that a row of a point's blocks is, and the column of the first that a column is. -/
def downRow (t : Fin cfg3.N) (p : Fin 512) : Fin 4096 := ⟨512 * (t.val % 8) + p.val, by omega⟩
def downCol (t : Fin cfg3.N) (j : Fin 1408) : Fin 2816 := ⟨1408 * (t.val / 8) + j.val, by
  have : t.val < 16 := t.isLt
  omega⟩

theorem downRows_0 (t : Fin cfg3.N) : (cfg3.win 0).index t = ![t.val % 8, t.val / 8] := by
  revert t
  decide +kernel
theorem downRows_1 (t : Fin cfg3.N) : (cfg3.win 1).index t = ![t.val % 8, 0] := by
  revert t
  decide +kernel
theorem downRows_2 (t : Fin cfg3.N) : (cfg3.win 2).index t = ![t.val / 8, 0] := by
  revert t
  decide +kernel

theorem downLeft_at (t : Fin cfg3.N) (p : Fin 512) (j : Fin 1408) : iblk3 V c 0 t (ix2 p j) = downLeft V c (ix2 (downRow t p) (downCol t j)) := by
  refine congrArg (downLeft V c) ?_
  blk_ext [downRows_0 t, downRow, downCol]
theorem downRight_at (t : Fin cfg3.N) (p : Fin 512) (j : Fin 1024) : iblk3 V c 1 t (ix2 p j) = outGrad V c (ix2 (downRow t p) j) := by
  refine congrArg (outGrad V c) ?_
  blk_ext [downRows_1 t, downRow]

/-- A row's part of the sum, in the columns of a point. -/
def downTerm (t : Fin cfg3.N) (y : S1408x1024.Idx) : EReal :=
  ∑ p, downLeft V c (ix2 (downRow t p) (downCol t (y 0))) * outGrad V c (ix2 (downRow t p) (y 1))

/-- A point adds its rows' part of the sum. -/
theorem downAfter_at (t : Fin cfg3.N) (a : FVec Ideal S1408x1024 .f32) (y : S1408x1024.Idx) : k3_pay2 a (iblk3 V c 0 t) (iblk3 V c 1 t) y = a y + downTerm V c t y := by
  pointwise [k3_pay2]
  exact congrArg (fun z : EReal => a y + z) (Finset.sum_congr rfl fun p _ =>
    congrArg₂ (fun x y : EReal => x * y) (downLeft_at V c t p (y 0)) (downRight_at V c t p (y 1)))

theorem downOut_A (t : Fin cfg3.N) (h : t.val % 8 = 0) : outsAt3 V c t.val t.isLt = k3_pay2 (k3_pay1 (F := Ideal)) (iblk3 V c 0 t) (iblk3 V c 1 t) := by
  rw [outsAt3_A V c t h]
  frame_out
theorem downOut_B (t : Fin cfg3.N) (h : ¬t.val % 8 = 0) : outsAt3 V c t.val t.isLt
    = k3_pay2 (outsAt3 V c (t.val - 1) (Nat.lt_of_le_of_lt (Nat.sub_le _ _) t.isLt)) (iblk3 V c 0 t) (iblk3 V c 1 t) := by
  rw [outsAt3_B V c t h]
  frame_out

theorem downCovers : (cfg3.win 2).Covers := by decide +kernel

/-- At the last point of a block of rows its sums are over all the rows of the arrays. -/
theorem downSum_at (t : Fin cfg3.N) (ht : t.val % 8 = 7) (y : S1408x1024.Idx) : outsAt3 V c t.val t.isLt y = downSum V c (ix2 (downCol t (y 0)) (y 1)) := by
  rw [Pipeline.eq_sum_fin_of_reset_step_apply_of_flush (outsAt3 V c) 8 (fun _ => (0 : EReal)) (downTerm V c)
    (fun t h y => by
      rw [downOut_A V c t h]
      refine (downAfter_at V c t _ y).trans (congrArg (fun z : EReal => z + _) ?_)
      pointwise [k3_pay1])
    (fun t h y => by
      rw [downOut_B V c t h]
      exact downAfter_at V c t _ y) t ht y]
  rw [zero_add]
  unfold downSum downTerm
  refine Fin.sum_mul_add_congr fun s k h => ?_
  have e0 : downRow ⟨8 * (t.val / 8) + s.val, by have := t.isLt; have : t.val < 16 := this; show _ < 16; omega⟩ k = ⟨s.val * 512 + k.val, h⟩ :=
    Fin.ext (by simp only [downRow]; omega)
  have e1 : downCol ⟨8 * (t.val / 8) + s.val, by have := t.isLt; have : t.val < 16 := this; show _ < 16; omega⟩ (y 0) = downCol t (y 0) :=
    Fin.ext (by simp only [downCol]; omega)
  exact congrArg₂ (fun i j => downLeft V c (ix2 i j) * outGrad V c (ix2 i (y 1))) e0 e1

theorem downSum_eq : (dat3 V c).arrAt 2 cfg3.N = downSum V c := by
  refine Dat.arrAt_eq_of_covers (dat3 V c) 2 (downSum V c) downCovers fun t hf y => ?_
  have h := (flush3_2 t).mp hf
  blk_simp
  rw [after3_2]
  refine (downSum_at V c t h y).trans (congrArg (downSum V c) ?_)
  blk_ext [downRows_2 t, downCol]

end Cert.FfnIdeal.Rows

end
-- ==== Proof.FfnRun.lean ====
/- The run of the gated layer's four calls: where its results come from. -/
module

public import proofs.«01_k».proof.Proof.FfnWeights

@[expose] public section

set_option maxRecDepth 16384

noncomputable section

namespace Cert.FfnIdeal.Rows

open Cert.FfnIdeal Cert.FfnIdeal.Gen
open Idealize.ShloMosaic Idealize.ShloMosaic.TcCoe
open Idealize.ShloMosaic.Rounds
open Idealize.SL Idealize.SL.RA Idealize.SL.BI Idealize.SL.BI.BIBase Idealize.SL.BI.Laws Idealize.SL.ProofMode Idealize.SL.Sem

variable (m : (ℓ : Loc nD τ sig) → Buf (Elt Ideal) ℓ) (ρ : Dev nD → PrngReg)

set_option backward.isDefEq.respectTransparency.types false in
/-- Every run ends, and every buffer that outlives the calls holds what the last call leaves there. -/
theorem run_left : θ_run defs (onTc (τ := τ) (main (F := Ideal))) ⟨m, fun _ => 0, ρ⟩ fun r => ∀ c : Dev nD,
    ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ### What each call is given -/

variable (c : Dev nD)

theorem left_input : input (V1 m ρ) c = input (V0 m ρ) c := W1_args m ρ c main_arg0 (by decide)
theorem left_outGrad : outGrad (V1 m ρ) c = outGrad (V0 m ρ) c := W1_args m ρ c main_arg1 (by decide)
theorem left_gain : gain (V1 m ρ) c = gain (V0 m ρ) c := W1_args m ρ c main_arg2 (by decide)
theorem left_gateWeight : gateWeight (V1 m ρ) c = gateWeight (V0 m ρ) c := W1_args m ρ c main_arg3 (by decide)
theorem left_upWeight : upWeight (V1 m ρ) c = upWeight (V0 m ρ) c := W1_args m ρ c main_arg4 (by decide)
theorem left_downWeight : downWeight (V1 m ρ) c = downWeight (V0 m ρ) c := W1_args m ρ c main_arg5 (by decide)

/-- What the first call leaves, of what the second is given. -/
theorem same_normed : normed (V1 m ρ) c = normed (V0 m ρ) c := by
  unfold normed square
  rw [left_input, left_gain]
theorem same_gateArr : gateArr (V1 m ρ) c = gateArr (V0 m ρ) c := by
  unfold gateArr
  rw [same_normed, left_gateWeight]
theorem same_upArr : upArr (V1 m ρ) c = upArr (V0 m ρ) c := by
  unfold upArr
  rw [same_normed, left_upWeight]
theorem same_output : output (V1 m ρ) c = output (V0 m ρ) c := by
  unfold output
  rw [same_gateArr, same_upArr, left_input, left_downWeight]

theorem left_gateIn : gateIn (V1 m ρ) c = gateArr (V1 m ρ) c := ((W1_arr m ρ c 6).trans (gateArr_eq (V0 m ρ) c)).trans (same_gateArr m ρ c).symm
theorem left_upIn : upIn (V1 m ρ) c = upArr (V1 m ρ) c := ((W1_arr m ρ c 7).trans (upArr_eq (V0 m ρ) c)).trans (same_upArr m ρ c).symm

theorem left_bothLeft : bothLeft (V2 m ρ) c = normedArr (V1 m ρ) c := (W2_arr m ρ c 9).trans (normed_eq (V1 m ρ) c)
theorem left_bothRight : bothRight (V2 m ρ) c = gradBothArr (V1 m ρ) c := (W2_arr m ρ c 11).trans (gradBoth_eq (V1 m ρ) c)
theorem left_downLeft : downLeft (V3 m ρ) c = actArr (V1 m ρ) c :=
  ((W3_of_ne m ρ c main_v1_2 (by decide)).trans (W2_arr m ρ c 10)).trans (act_eq (V1 m ρ) c)
theorem left_downRight : outGrad (V3 m ρ) c = outGrad (V1 m ρ) c :=
  (W3_args m ρ c main_arg1 (by decide)).trans (W1_args m ρ c main_arg1 (by decide)).symm

/-! ### What is left at the end -/

/-- What the second call leaves stays. -/
theorem left_second (b : Ref sig .tc) (h2 : ∀ w, Pipeline.arrRef spec2 w ≠ b) (h3 : ∀ w, Pipeline.arrRef spec3 w ≠ b) :
    W4 m ρ c (Proc.devRef .tc b) = W2 m ρ c (Proc.devRef .tc b) := (W4_of_ne m ρ c b h3).trans (W3_of_ne m ρ c b h2)

theorem left_output : W4 m ρ c (Proc.devRef .tc main_v0_0) = output (V1 m ρ) c :=
  ((left_second m ρ c main_v0_0 (by decide) (by decide)).trans (W2_of_ne m ρ c main_v0_0 (by decide))).trans
    (((W1_arr m ρ c 5).trans (output_eq (V0 m ρ) c)).trans (same_output m ρ c).symm)
theorem left_gradX : W4 m ρ c (Proc.devRef .tc main_v1_0) = gradX (V1 m ρ) c :=
  ((left_second m ρ c main_v1_0 (by decide) (by decide)).trans (W2_arr m ρ c 8)).trans (gradX_eq (V1 m ρ) c)
theorem left_gradGain : W4 m ρ c (Proc.devRef .tc main_v1_4) = gradGain (V1 m ρ) c :=
  ((left_second m ρ c main_v1_4 (by decide) (by decide)).trans (W2_arr m ρ c 12)).trans (gradGain_eq (V1 m ρ) c)

/-- The gradients of the weights: of the gate's and the other's side by side, and of the last product's. -/
def gradWeights : FVec Ideal S1024x5632 .f32 := fun y => (∑ i, normed (V1 m ρ) c i (y 0) * gradBoth (V1 m ρ) c i (y 1) : EReal)
def gradDown : FVec Ideal S2816x1024 .f32 := fun y =>
  (∑ i, gated (V1 m ρ) c i (y 0) * upIn (V1 m ρ) c (ix2 i (y 0)) * outGrad (V1 m ρ) c (ix2 i (y 1)) : EReal)

theorem left_gradWeights : W4 m ρ c (Proc.devRef .tc main_v2) = gradWeights m ρ c := by
  refine ((W4_of_ne m ρ c main_v2 (by decide)).trans (W3_arr m ρ c 2)).trans ((bothSum_eq (V2 m ρ) c).trans ?_)
  unfold bothSum
  rw [left_bothLeft, left_bothRight]
  rfl
theorem left_gradDown : W4 m ρ c (Proc.devRef .tc main_v3) = gradDown m ρ c := by
  refine (W4_arr m ρ c 2).trans ((downSum_eq (V3 m ρ) c).trans ?_)
  unfold downSum
  rw [left_downLeft, left_downRight]
  rfl

/-- The run's results are these, and its arguments end unchanged. -/
theorem run_main : θ_run defs (onTc (τ := τ) (main (F := Ideal))) ⟨m, fun _ => 0, ρ⟩ fun r => ∀ c : Dev nD,
    (r.2.mem ((c : Thread nD τ).loc main_v0_0) = output (V1 m ρ) c ∧ r.2.mem ((c : Thread nD τ).loc main_v1_0) = gradX (V1 m ρ) c
      ∧ r.2.mem ((c : Thread nD τ).loc main_v1_4) = gradGain (V1 m ρ) c ∧ r.2.mem ((c : Thread nD τ).loc main_v2) = gradWeights m ρ c
      ∧ r.2.mem ((c : Thread nD τ).loc main_v3) = gradDown m ρ c)
    ∧ ∀ a ∈ argRefs, r.2.mem ((c : Thread nD τ).loc a) = m ((c : Thread nD τ).loc a) := by
  refine (θ_run defs _ _).mono (fun r h c => ?_) (run_left m ρ)
  have read (b : Ref sig .tc) (hb : ¬ (Proc.devRef .tc b : DevRef τ sig).isScoped) := h c _ (mem_uc b hb)
  refine ⟨⟨(read main_v0_0 (by decide)).trans (left_output m ρ c), (read main_v1_0 (by decide)).trans (left_gradX m ρ c),
    (read main_v1_4 (by decide)).trans (left_gradGain m ρ c), (read main_v2 (by decide)).trans (left_gradWeights m ρ c),
    (read main_v3 (by decide)).trans (left_gradDown m ρ c)⟩, fun a ha => ?_⟩
  exact (read a ((by decide : ∀ a ∈ argRefs, ¬ (Proc.devRef .tc a : DevRef τ sig).isScoped) a ha)).trans (W4_args m ρ c a ha)

end Cert.FfnIdeal.Rows

end
-- ==== Proof.Finite.lean ====
/- Extended reals that are real numbers, and the slope of a value times its logistic, both ways. -/
module

public import proofs.«01_k».proof.Proof.Norm

@[expose] public section

noncomputable section

namespace Cert.Norm

open Idealize.ShloMosaic

/-- The value is a real number. -/
def Finite (x : EReal) : Prop := ∃ r : ℝ, x = (r : EReal)

theorem finite_mul {x y : EReal} (hx : Finite x) (hy : Finite y) : Finite (x * y) := by
  obtain ⟨r, rfl⟩ := hx
  obtain ⟨s, rfl⟩ := hy
  exact ⟨r * s, (EReal.coe_mul r s).symm⟩

theorem finite_sum {ι : Type} (s : Finset ι) (f : ι → EReal) (h : ∀ i, Finite (f i)) : Finite (∑ i ∈ s, f i) := by
  choose r hr using h
  refine ⟨∑ i ∈ s, r i, ?_⟩
  simp only [hr]
  exact (map_sum (⟨⟨Real.toEReal, EReal.coe_zero⟩, EReal.coe_add⟩ : ℝ →+ EReal) r s).symm

/-- A value whose size is below the top is a real number. -/
theorem finite_of_size {x : EReal} (h : max x (-x) < ⊤) : Finite x := by
  induction x with
  | bot => simp at h
  | top => simp at h
  | coe r => exact ⟨r, rfl⟩

/-- The comparison that holds of such a value. -/
theorem finite_of_cmp {x b : EReal} (hb : b = ⊤) (h : Ideal.cmp .olt (max x (-x)) b = 1#1) : Finite x := by
  refine finite_of_size ?_
  by_contra hn
  subst hb
  simp only [Ideal.cmp, hn] at h
  exact absurd h (by decide)

/-- A place of the normed row is a real number where the gain is one, whatever the row is. -/
theorem finite_normed (x : Fin 1024 → EReal) (g : EReal) (hg : Finite g) (j : Fin 1024) :
    Finite (x j * Ideal.rsqrt ((∑ k, x k * x k) * Ideal.ofBits .f32 0x3A800000#32 + Ideal.ofBits .f32 0x358637BD#32) * g) := by
  refine finite_mul ?_ hg
  have hv := mean_pos x
  have hj : x j * x j ≤ ∑ k, x k * x k := Finset.single_le_sum (f := fun k => x k * x k) (fun k _ => sq_nonneg (x k)) (Finset.mem_univ j)
  have htop (h : ∑ k, x k * x k = ⊤) : (∑ k, x k * x k) * Ideal.ofBits .f32 0x3A800000#32 + Ideal.ofBits .f32 0x358637BD#32 = ⊤ := by
    obtain ⟨e, -, he⟩ := little
    rw [h, share, he, EReal.top_mul_coe_of_pos (by norm_num)]
    rfl
  generalize (∑ k, x k * x k) * Ideal.ofBits .f32 0x3A800000#32 + Ideal.ofBits .f32 0x358637BD#32 = v at hv htop
  induction v with
  | bot => simp at hv
  | top => exact ⟨0, by simp⟩
  | coe v =>
    have hv' : 0 < v := by exact_mod_cast hv
    have hs : ∑ k, x k * x k ≠ ⊤ := fun h => EReal.coe_ne_top v (htop h)
    refine finite_mul ?_ ⟨(Real.sqrt v)⁻¹, by rw [Ideal.rsqrt_coe, if_neg hv'.not_gt, if_neg hv'.ne']⟩
    generalize x j = y at hj
    induction y with
    | bot => exact absurd (top_le_iff.mp (by simpa using hj)) hs
    | top => exact absurd (top_le_iff.mp (by simpa using hj)) hs
    | coe r => exact ⟨r, rfl⟩

/-- The slope of a value times its logistic, times a real number: taken at once, and term by term. -/
theorem slope_gated (a g : EReal) (ha : Finite a) :
    a * (Ideal.logistic g * (1 + g * (1 - Ideal.logistic g))) = a * Ideal.logistic g + g * a * (Ideal.logistic g * (1 - Ideal.logistic g)) := by
  obtain ⟨a, rfl⟩ := ha
  induction g with
  | bot => simp
  | top =>
    have h : (1 : EReal) - 1 = 0 := by rw [← EReal.coe_one, ← EReal.coe_sub, sub_self, EReal.coe_zero]
    simp [h]
  | coe g =>
    rw [Ideal.logistic_coe]
    exact_mod_cast (by ring : a * ((1 + Real.exp (-g))⁻¹ * (1 + g * (1 - (1 + Real.exp (-g))⁻¹))) = a * (1 + Real.exp (-g))⁻¹ + g * a * ((1 + Real.exp (-g))⁻¹ * (1 - (1 + Real.exp (-g))⁻¹)))

end Cert.Norm

end
-- ==== Proof.FfnPlain.lean ====
/- The reference of the gated layer: its values, and that they are the calls'. -/
module

public import proofs.«01_k».proof.Proof.FfnRun
public import proofs.«01_k».proof.Proof.Finite
public import proofs.«01_k».proof.Proof.Gen.FfnPlainIdeal.Run
public import Idealize.ShloMosaic.Lib.Tactic

@[expose] public section

set_option maxRecDepth 16384

noncomputable section

namespace Cert.FfnPlainIdeal.Whole

open Cert.FfnPlainIdeal Cert.FfnPlainIdeal.Gen
open Idealize.ShloMosaic Idealize.ShloMosaic.TcCoe Idealize.SL.Sem

variable (m : (ℓ : Loc nD τ sig) → Buf (Elt Ideal) ℓ)

abbrev input : FVec Ideal S4096x1024 .f32 := m ((0 : Dev nD).tc.loc main_arg0)
abbrev outGrad : FVec Ideal S4096x1024 .f32 := m ((0 : Dev nD).tc.loc main_arg1)
abbrev gain : FVec Ideal S1x1024 .f32 := m ((0 : Dev nD).tc.loc main_arg2)
abbrev gateWeight : FVec Ideal S1024x2816 .bf16 := m ((0 : Dev nD).tc.loc main_arg3)
abbrev upWeight : FVec Ideal S1024x2816 .bf16 := m ((0 : Dev nD).tc.loc main_arg4)
abbrev downWeight : FVec Ideal S2816x1024 .bf16 := m ((0 : Dev nD).tc.loc main_arg5)

/-- What a row's root is taken of. -/
def square (i : Fin 4096) : EReal := Ideal.div (∑ k, input m (ix2 i k) * input m (ix2 i k)) (Ideal.ofBits .f32 0x44800000#32) + Ideal.ofBits .f32 0x358637BD#32

/-- The normed input, its two products, the logistic of the first, and what the last product is of. -/
def normed (i : Fin 4096) (j : Fin 1024) : EReal := input m (ix2 i j) * Ideal.rsqrt (square m i) * gain m (ix2 0 j)
def gate (i : Fin 4096) (j : Fin 2816) : EReal := ∑ k, normed m i k * gateWeight m (ix2 k j)
def up (i : Fin 4096) (j : Fin 2816) : EReal := ∑ k, normed m i k * upWeight m (ix2 k j)
def opening (i : Fin 4096) (j : Fin 2816) : EReal := Ideal.div 1 (1 + Ideal.exp (-gate m i j))
def gated (i : Fin 4096) (j : Fin 2816) : EReal := gate m i j * opening m i j

/-- The gradients of what the last product is of, of the two products, and of the normed input. -/
def gradAct (i : Fin 4096) (j : Fin 2816) : EReal := ∑ k, outGrad m (ix2 i k) * downWeight m (ix2 j k)
def gradUp (i : Fin 4096) (j : Fin 2816) : EReal := gated m i j * gradAct m i j
def gradGate (i : Fin 4096) (j : Fin 2816) : EReal :=
  gradAct m i j * up m i j * opening m i j + gate m i j * (gradAct m i j * up m i j) * (opening m i j * (1 - opening m i j))
def gradH (i : Fin 4096) (j : Fin 1024) : EReal := ∑ k, gradUp m i k * upWeight m (ix2 j k) + ∑ k, gradGate m i k * gateWeight m (ix2 j k)

/-- The share of a row's step that each of the square's two factors carries. -/
def carried (i : Fin 4096) : EReal :=
  Ideal.div ((∑ k, input m (ix2 i k) * (gradH m i k * gain m (ix2 0 k))) * (Ideal.ofBits .f32 0xBF000000#32 * Ideal.div (Ideal.rsqrt (square m i)) (square m i))) (Ideal.ofBits .f32 0x44800000#32)

set_option maxHeartbeats 1000000 in
theorem grad_at (i : Fin 4096) (j : Fin 1024) : Value.res_out1 m 0 (ix2 i j)
    = (outGrad m (ix2 i j) + gradH m i j * gain m (ix2 0 j) * Ideal.rsqrt (square m i) + input m (ix2 i j) * carried m i + carried m i * input m (ix2 i j) : EReal) := by
  pointwise [Value.res_main_v57]
  simp only [Finset.univ_unique, Finset.sum_singleton]
  rfl

set_option maxHeartbeats 1000000 in
theorem gain_at (y : S1x1024.Idx) : Value.res_out2 m 0 y = ∑ i, (input m (ix2 i (y 1)) * Ideal.rsqrt (square m i) * gradH m i (y 1) : EReal) := by
  pointwise [Value.res_main_v40]
  rfl

set_option maxHeartbeats 1000000 in
theorem weights_at (j : Fin 1024) (k : Fin 5632) : Value.res_out3 m 0 (ix2 j k)
    = if h : k.val < 2816 then ∑ i, (gradGate m i ⟨k.val, h⟩ * normed m i j : EReal) else ∑ i, (gradUp m i ⟨k.val - 2816, by have := k.isLt; omega⟩ * normed m i j : EReal) := by
  pointwise [Value.res_main_v58]
  rfl

/-- The other results. -/
def output : FVec Ideal S4096x1024 .f32 := fun y => (input m y + ∑ k, gated m (y 0) k * up m (y 0) k * downWeight m (ix2 k (y 1)) : EReal)
def gradDown : FVec Ideal S2816x1024 .f32 := fun y => (∑ i, outGrad m (ix2 i (y 1)) * (gated m i (y 0) * up m i (y 0)) : EReal)

theorem run_main (ρ : Dev nD → PrngReg) : θ_run defs (onTc (τ := τ) (main (F := Ideal))) ⟨m, fun _ => 0, ρ⟩ fun r => ∀ c : Dev nD,
    (r.2.mem (c.tc.loc main_v23) = output m ∧ r.2.mem (c.tc.loc main_v57) = Value.res_out1 m c ∧ r.2.mem (c.tc.loc main_v40) = Value.res_out2 m c
      ∧ r.2.mem (c.tc.loc main_v58) = Value.res_out3 m c ∧ r.2.mem (c.tc.loc main_v26) = gradDown m)
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5) := by
  refine (θ_run defs _ _).mono (fun r h c => ⟨⟨(h c).1.trans ?_, (h c).2.1, (h c).2.2.1, (h c).2.2.2.1, (h c).2.2.2.2.1.trans ?_⟩,
    (h c).2.2.2.2.2⟩) (Value.run m ρ)
  all_goals
    obtain rfl : c = 0 := Subsingleton.elim _ _
    funext y
    obtain ⟨i, j, rfl⟩ : ∃ i j, y = ix2 i j := ⟨y 0, y 1, by pointwise []⟩
    pointwise []
    rfl

theorem frame (ρ : Dev nD → PrngReg) : θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) ∧ r.2.sem = fun _ => 0 :=
  (θ_run defs _ _).mono (fun r h => ⟨fun c => (h c).2, sem_eq_zero_of_no_sems (by decide) r.2⟩) (run_main m ρ)

/-! ### The reference's results are the calls' -/

section

variable (k : (c : Dev Cert.FfnIdeal.nD) → (b : Ref Cert.FfnIdeal.sig .tc) → Buf (Elt Ideal) ((c.tc : Thread Cert.FfnIdeal.nD Cert.FfnIdeal.τ).loc b)) (d : Dev Cert.FfnIdeal.nD)

open Cert.FfnIdeal (Rows.square Rows.normed Rows.gateIn Rows.upIn Rows.gateArr Rows.upArr Rows.output Rows.gated Rows.gradAct Rows.gradGate Rows.gradUp Rows.gradH Rows.gradX
  Rows.gradBoth Rows.gainPart Rows.gradGain)

/-- The second call has the reference's arguments, and the first's two products of them. -/
structure Agree : Prop where
  input : input m = Cert.FfnIdeal.Rows.input k d
  outGrad : outGrad m = Cert.FfnIdeal.Rows.outGrad k d
  gain : gain m = Cert.FfnIdeal.Rows.gain k d
  gateWeight : gateWeight m = Cert.FfnIdeal.Rows.gateWeight k d
  upWeight : upWeight m = Cert.FfnIdeal.Rows.upWeight k d
  downWeight : downWeight m = Cert.FfnIdeal.Rows.downWeight k d
  gateIn : Rows.gateIn k d = Rows.gateArr k d
  upIn : Rows.upIn k d = Rows.upArr k d

/-- The arguments that the slope's two forms need to be real numbers are. -/
structure Real : Prop where
  outGrad : ∀ y, Norm.Finite (outGrad m y)
  gain : ∀ y, Norm.Finite (gain m y)
  upWeight : ∀ y, Norm.Finite (upWeight m y)
  downWeight : ∀ y, Norm.Finite (downWeight m y)

variable {m k d}

theorem square_eq (h : Agree m k d) (i : Fin 4096) : square m i = Rows.square k d i := by
  unfold square
  rw [Norm.div_width, h.input]
  rfl

theorem normed_eq (h : Agree m k d) (i : Fin 4096) (j : Fin 1024) : normed m i j = Rows.normed k d i j := by
  unfold normed
  rw [square_eq h, h.input, h.gain]
  rfl

theorem gate_eq (h : Agree m k d) (i : Fin 4096) (j : Fin 2816) : gate m i j = Rows.gateIn k d (ix2 i j) := by
  rw [h.gateIn]
  unfold gate
  simp only [normed_eq h]
  rw [h.gateWeight]
  rfl

theorem up_eq (h : Agree m k d) (i : Fin 4096) (j : Fin 2816) : up m i j = Rows.upIn k d (ix2 i j) := by
  rw [h.upIn]
  unfold up
  simp only [normed_eq h]
  rw [h.upWeight]
  rfl

theorem gated_eq (h : Agree m k d) (i : Fin 4096) (j : Fin 2816) : gated m i j = Rows.gated k d i j := by
  unfold gated opening
  rw [gate_eq h]
  rfl

theorem gradAct_eq (h : Agree m k d) (i : Fin 4096) (j : Fin 2816) : gradAct m i j = Rows.gradAct k d i j := by
  unfold gradAct
  rw [h.outGrad, h.downWeight]
  rfl

theorem gradUp_eq (h : Agree m k d) (i : Fin 4096) (j : Fin 2816) : gradUp m i j = Rows.gradUp k d i j := by
  unfold gradUp
  rw [gradAct_eq h, gated_eq h, mul_comm]
  rfl

theorem finite_gradAct (hr : Real m) (i : Fin 4096) (j : Fin 2816) : Norm.Finite (gradAct m i j) :=
  Norm.finite_sum _ _ fun _ => Norm.finite_mul (hr.outGrad _) (hr.downWeight _)

theorem finite_up (hr : Real m) (i : Fin 4096) (j : Fin 2816) : Norm.Finite (up m i j) := by
  refine Norm.finite_sum _ _ fun l => Norm.finite_mul ?_ (hr.upWeight _)
  unfold normed square
  rw [Norm.div_width]
  exact Norm.finite_normed (fun l => input m (ix2 i l)) _ (hr.gain _) l

theorem gradGate_eq (h : Agree m k d) (hr : Real m) (i : Fin 4096) (j : Fin 2816) : gradGate m i j = Rows.gradGate k d i j := by
  refine (Norm.slope_gated _ (gate m i j) (Norm.finite_mul (finite_gradAct hr i j) (finite_up hr i j))).symm.trans ?_
  rw [gradAct_eq h, up_eq h, gate_eq h]
  rfl

theorem gradH_eq (h : Agree m k d) (hr : Real m) (i : Fin 4096) (j : Fin 1024) : gradH m i j = Rows.gradH k d i j := by
  unfold gradH
  simp only [gradUp_eq h, gradGate_eq h hr]
  rw [h.upWeight, h.gateWeight, add_comm]
  rfl

/-- A place of the input's gradient, -/
theorem place_eq (h : Agree m k d) (hr : Real m) (p : Fin 4096) (q : Fin 1024) :
    (outGrad m (ix2 p q) + gradH m p q * gain m (ix2 0 q) * Ideal.rsqrt (square m p) + input m (ix2 p q) * carried m p + carried m p * input m (ix2 p q) : EReal)
      = Rows.gradX k d (ix2 p q) := by
  have hv : 0 < Rows.square k d p := Norm.mean_pos fun j => Cert.FfnIdeal.Rows.input k d (ix2 p j)
  unfold carried
  rw [add_assoc (outGrad m (ix2 p q)), add_assoc (outGrad m (ix2 p q)), square_eq h, h.input, h.gain, h.outGrad, gradH_eq h hr, Norm.grad_eq _ _ _ _ _ hv]
  refine congrArg (fun s => Norm.step _ _ _ s _) (Finset.sum_congr rfl fun j _ => ?_)
  rw [gradH_eq h hr]
  exact mul_comm _ _

/-- and a row's part of the gain's. -/
theorem part_eq (h : Agree m k d) (hr : Real m) (p : Fin 4096) (q : Fin 1024) :
    Rows.gainPart k d p q = (input m (ix2 p q) * Ideal.rsqrt (square m p) * gradH m p q : EReal) := by
  rw [square_eq h, gradH_eq h hr, h.input]
  unfold Rows.gainPart
  exact (mul_assoc _ _ _).trans (mul_comm _ _)

theorem output_eq (h : Agree m k d) : Rows.output k d = output m := by
  funext y
  obtain ⟨i, j, rfl⟩ : ∃ i j, y = ix2 i j := ⟨y 0, y 1, by pointwise []⟩
  refine congrArg₂ (fun x y : EReal => x + y) (congrFun h.input _).symm (Finset.sum_congr rfl fun l _ => ?_)
  have e : (Rows.gateArr k d (ix2 i l) * Ideal.logistic (Rows.gateArr k d (ix2 i l)) : EReal) = gated m i l := by
    rw [← h.gateIn]
    exact (gated_eq h i l).symm
  exact congrArg₂ (fun x y : EReal => x * y) (congrArg₂ (fun x y : EReal => x * y) e ((congrFun h.upIn _).symm.trans (up_eq h i l).symm)) (congrFun h.downWeight _).symm

theorem gradX_eq (h : Agree m k d) (hr : Real m) (c : Dev nD) : Rows.gradX k d = Value.res_out1 m c := by
  obtain rfl : c = 0 := Subsingleton.elim _ _
  funext y
  obtain ⟨i, j, rfl⟩ : ∃ i j, y = ix2 i j := ⟨y 0, y 1, by pointwise []⟩
  exact ((grad_at m i j).trans (place_eq h hr i j)).symm

theorem gradGain_eq (h : Agree m k d) (hr : Real m) (c : Dev nD) : Rows.gradGain k d = Value.res_out2 m c := by
  obtain rfl : c = 0 := Subsingleton.elim _ _
  funext y
  exact (Finset.sum_congr rfl fun i _ => part_eq h hr i (y 1)).trans (gain_at m y).symm

/-- The gradients of the gate's and the other product's weight at a place, -/
theorem gradWeights_eq (h : Agree m k d) (hr : Real m) (i : Fin 1024) (j : Fin 5632) :
    (∑ p, Rows.normed k d p i * Rows.gradBoth k d p j : EReal) = Value.res_out3 m 0 (ix2 i j) := by
  rw [weights_at]
  unfold Rows.gradBoth
  by_cases hj : j.val < 2816
  · simp only [dif_pos hj]
    exact Finset.sum_congr rfl fun p _ => by rw [gradGate_eq h hr, normed_eq h, mul_comm]
  · simp only [dif_neg hj]
    exact Finset.sum_congr rfl fun p _ => by rw [gradUp_eq h, normed_eq h, mul_comm]

/-- and that of the last product's. -/
theorem gradDown_eq (h : Agree m k d) (i : Fin 2816) (j : Fin 1024) :
    (∑ p, Rows.gated k d p i * Rows.upIn k d (ix2 p i) * Cert.FfnIdeal.Rows.outGrad k d (ix2 p j) : EReal) = gradDown m (ix2 i j) := by
  refine Finset.sum_congr rfl fun p _ => ?_
  refine (mul_comm _ _).trans (congrArg₂ (fun x y : EReal => x * y) (congrFun h.outGrad _).symm (congrArg₂ (fun x y : EReal => x * y) (gated_eq h p i).symm (up_eq h p i).symm))

end

end Cert.FfnPlainIdeal.Whole

end
-- ==== Proof.lean ====
/- The claims about the training step's communicating calls: what the runs of each program are shown to end with, read against its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Cores
public import proofs.«01_k».proof.Proof.Gen.CoresIdeal
public import proofs.«01_k».proof.Proof.Gen.CoresIdeal.Skeleton
public import proofs.«01_k».proof.Proof.Gen.CoresIdeal.Launch
public import proofs.«01_k».proof.Proof.Gen.CoresIdeal.Regions
public import proofs.«01_k».proof.Proof.Gen.CoresIdeal.Points
public import proofs.«01_k».proof.Proof.Gen.CoresPlainIdeal
public import proofs.«01_k».proof.Proof.Gen.Chips
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Regions
public import proofs.«01_k».proof.Proof.Gen.ChipsIdeal.Points
public import proofs.«01_k».proof.Proof.Gen.ChipsPlainIdeal
public import proofs.«01_k».proof.Proof.Gen.Gains
public import proofs.«01_k».proof.Proof.Gen.GainsIdeal
public import proofs.«01_k».proof.Proof.Gen.GainsIdeal.Skeleton
public import proofs.«01_k».proof.Proof.Gen.GainsIdeal.Launch
public import proofs.«01_k».proof.Proof.Gen.GainsIdeal.Regions
public import proofs.«01_k».proof.Proof.Gen.GainsIdeal.Points
public import proofs.«01_k».proof.Proof.Gen.GainsPlainIdeal
public import proofs.«01_k».proof.Proof.Gen.Inputs
public import proofs.«01_k».proof.Proof.Gen.InputsIdeal
public import proofs.«01_k».proof.Proof.Gen.InputsIdeal.Skeleton
public import proofs.«01_k».proof.Proof.Gen.InputsIdeal.Launch
public import proofs.«01_k».proof.Proof.Gen.InputsIdeal.Frame
public import proofs.«01_k».proof.Proof.Gen.InputsIdeal.Points
public import proofs.«01_k».proof.Proof.Gen.InputsIdeal.Value
public import proofs.«01_k».proof.Proof.Gen.InputsPlainIdeal
public import proofs.«01_k».proof.Proof.Gen.InputsPlainIdeal.Run
public import proofs.«01_k».proof.Proof.Gen.Head
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Frame
public import proofs.«01_k».proof.Proof.Gen.HeadIdeal.Points
public import proofs.«01_k».proof.Proof.Gen.HeadPlainIdeal
public import proofs.«01_k».proof.Proof.Gen.HeadPlainIdeal.Run
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Frame
public import proofs.«01_k».proof.Proof.Gen.FfnIdeal.Points
public import proofs.«01_k».proof.Proof.Gen.FfnPlainIdeal
public import proofs.«01_k».proof.Proof.Gen.FfnPlainIdeal.Run
public import proofs.«01_k».proof.Proof.Gen.Pre_finite_ffn
public import proofs.«01_k».proof.Proof.WeightsValue
public import proofs.«01_k».proof.Proof.CoresPlain
public import proofs.«01_k».proof.Proof.ChipsPlain
public import proofs.«01_k».proof.Proof.GainsPlain
public import proofs.«01_k».proof.Proof.InputsPlain
public import proofs.«01_k».proof.Proof.HeadPlain
public import proofs.«01_k».proof.Proof.FfnPlain
public import Idealize.ShloMosaic.Adequacy
public import Idealize.ShloMosaic.Init

@[expose] public section

noncomputable section

namespace Cert.Proof

open Idealize.ShloMosaic Idealize.SL.Sem

/-- Every run of the gathering kernel ends, its argument unchanged and every semaphore at zero. -/
theorem frame_kernel : Cert.quiescent_Kernel := fun m ρ _ =>
  (θ_run Cert.KernelIdeal.defs _ _).mono (fun _ h => ⟨fun c => (h.1 c).2, h.2⟩) (Cert.KernelIdeal.Weights.run_main (F := Bits) m ρ)

/-- The same over the reals. -/
theorem frame_kernelIdeal : Cert.quiescent_KernelIdeal := fun m ρ _ =>
  (θ_run Cert.KernelIdeal.defs _ _).mono (fun _ h => ⟨fun c => (h.1 c).2, h.2⟩) (Cert.KernelIdeal.Weights.run_main (F := Ideal) m ρ)

theorem frame_referenceIdeal : Cert.quiescent_ReferenceIdeal := fun m ρ _ => Cert.ReferenceIdeal.Weights.frame (F := Ideal) m ρ

theorem frame_reference : Cert.quiescent_Reference := fun m ρ _ => Cert.ReferenceIdeal.Weights.frame (F := Bits) m ρ

/-- Over the reals every device ends with the whole array, as the reference cuts it. -/
theorem algebraic : Cert.algebraic_KernelIdeal_ReferenceIdeal := fun m ρ m' ρ' _ hagree =>
  ⟨_, (θ_run Cert.KernelIdeal.defs _ _).mono (fun _ h c => ⟨(h.1 c).1.trans (Cert.ReferenceIdeal.Weights.gathered_eq m' m hagree), (h.1 c).2⟩) (Cert.KernelIdeal.Weights.run_main (F := Ideal) m ρ),
    Cert.ReferenceIdeal.Weights.run_main (F := Ideal) m' ρ'⟩

/-- The same of the programs' own words. -/
theorem bitexact : Cert.bitexact_Kernel_Reference := fun m ρ m' ρ' _ hagree =>
  ⟨_, (θ_run Cert.KernelIdeal.defs _ _).mono (fun _ h c => ⟨(h.1 c).1.trans (Cert.ReferenceIdeal.Weights.gathered_eq m' m hagree), (h.1 c).2⟩) (Cert.KernelIdeal.Weights.run_main (F := Bits) m ρ),
    Cert.ReferenceIdeal.Weights.run_main (F := Bits) m' ρ'⟩

/-! ## The reduce-scatter between the cores -/

/-- The two programs' pipelines are the same, -/
theorem cores_pipelines : Cert.Cores.pcfgs (F := Bits) = Cert.CoresIdeal.pcfgs := by rfl

/-- and so are their kernels' functions. -/
theorem cores_functions : Cert.Cores.defs₀ (F := Bits) = Cert.CoresIdeal.defs₀ := by
  refine congrArg Defs.onTc (funext fun l => funext fun a => ?_)
  match l, a with
  | 0, (t, s) => rfl
  | 1, (t, s) => rfl

/-- Every run ends, its argument unchanged and every semaphore at zero. -/
theorem frame_cores : Cert.quiescent_Cores := by
  intro m ρ _
  have h := Cert.CoresIdeal.Halves.frame (F := Bits) m ρ
  unfold Cert.CoresIdeal.defs Cert.CoresIdeal.main at h
  unfold Cert.Cores.defs Cert.Cores.main
  rw [cores_functions, cores_pipelines]
  exact h

/-- The same over the reals. -/
theorem frame_coresIdeal : Cert.quiescent_CoresIdeal := fun m ρ _ => Cert.CoresIdeal.Halves.frame (F := Ideal) m ρ

theorem frame_coresPlainIdeal : Cert.quiescent_CoresPlainIdeal := fun m ρ _ => Cert.CoresPlainIdeal.Sum.frame (F := Ideal) m ρ

/-- Over the reals each core ends with its block of the reference's sums. -/
theorem algebraic_cores : Cert.algebraic_CoresIdeal_CoresPlainIdeal := fun m ρ m' ρ' _ hagree =>
  ⟨_, (θ_run Cert.CoresIdeal.defs _ _).mono (fun _ h c =>
      have e := Cert.CoresIdeal.Halves.ends m c _ (h.1 c)
      ⟨e.1.trans ((Cert.CoresIdeal.Halves.result_eq m c).trans (Cert.CoresPlainIdeal.Sum.summed_eq m' m hagree c)), e.2⟩) (Cert.CoresIdeal.Halves.run_main m ρ),
    Cert.CoresPlainIdeal.Sum.run_main m' ρ'⟩

/-! ## The reduce-scatter between the chips, and the step -/

theorem chips_pipelines : Cert.Chips.pcfgs (F := Bits) = Cert.ChipsIdeal.pcfgs := by rfl

theorem chips_functions : Cert.Chips.defs₀ (F := Bits) = Cert.ChipsIdeal.defs₀ := by
  refine congrArg Defs.onTc (funext fun l => funext fun a => ?_)
  match l, a with
  | 0, (t, s) => rfl
  | 1, (t, s) => rfl

set_option maxHeartbeats 4000000 in
/-- Every run ends, its arguments unchanged and every semaphore at zero. -/
theorem frame_chips : Cert.quiescent_Chips := by
  intro m ρ _
  have h := Cert.ChipsIdeal.Quads.frame (F := Bits) m ρ
  unfold Cert.ChipsIdeal.defs Cert.ChipsIdeal.main at h
  unfold Cert.Chips.defs Cert.Chips.main
  rw [chips_functions, chips_pipelines]
  exact h

/-- The same over the reals. -/
theorem frame_chipsIdeal : Cert.quiescent_ChipsIdeal := fun m ρ _ => Cert.ChipsIdeal.Quads.frame (F := Ideal) m ρ

theorem frame_chipsPlainIdeal : Cert.quiescent_ChipsPlainIdeal := fun m ρ _ => Cert.ChipsPlainIdeal.Sum.frame (F := Ideal) m ρ

open Cert.ChipsIdeal.Quads Cert.ChipsPlainIdeal.Sum in
/-- Over the reals each device ends with its block of the reference's gradient, step and averages. -/
theorem algebraic_chips : Cert.algebraic_ChipsIdeal_ChipsPlainIdeal := fun m ρ m' ρ' _ hagree =>
  ⟨_, _, _, _, (θ_run Cert.ChipsIdeal.defs _ _).mono (fun _ h c =>
      have e := ends m c _ (h.1 c)
      ⟨(e 6).trans ((grad_eq m c).trans (grad_block m' m hagree c)), (e 7).trans ((delta_eq m c).trans (delta_block m' m hagree c)),
        (e 8).trans ((newMean_eq m c).trans (mean_block m' m hagree c)), (e 9).trans ((newSquare_eq m c).trans (square_block m' m hagree c)), kept_at m c _ (h.1 c)⟩)
      (Cert.ChipsIdeal.Quads.run_main m ρ),
    Cert.ChipsPlainIdeal.Sum.run_main m' ρ'⟩

/-! ## The sum of the gains' gradients, and their step -/

theorem gains_pipelines : Cert.Gains.pcfgs (F := Bits) = Cert.GainsIdeal.pcfgs := by rfl

theorem gains_functions : Cert.Gains.defs₀ (F := Bits) = Cert.GainsIdeal.defs₀ := by
  refine congrArg Defs.onTc (funext fun l => funext fun a => ?_)
  match l, a with
  | 0, (t, s) => rfl
  | 1, (t, s) => rfl

set_option maxHeartbeats 4000000 in
/-- Every run ends, its arguments unchanged and every semaphore at zero. -/
theorem frame_gains : Cert.quiescent_Gains := by
  intro m ρ _
  have h := Cert.GainsIdeal.Small.frame (F := Bits) m ρ
  unfold Cert.GainsIdeal.defs Cert.GainsIdeal.main at h
  unfold Cert.Gains.defs Cert.Gains.main
  rw [gains_functions, gains_pipelines]
  exact h

/-- The same over the reals. -/
theorem frame_gainsIdeal : Cert.quiescent_GainsIdeal := fun m ρ _ => Cert.GainsIdeal.Small.frame (F := Ideal) m ρ

theorem frame_gainsPlainIdeal : Cert.quiescent_GainsPlainIdeal := fun m ρ _ => Cert.GainsPlainIdeal.Whole.frame (F := Ideal) m ρ

open Cert.GainsIdeal.Small Cert.GainsPlainIdeal.Whole in
/-- Over the reals every device ends with the whole of the reference's sum, step and averages. -/
theorem algebraic_gains : Cert.algebraic_GainsIdeal_GainsPlainIdeal := fun m ρ m' ρ' _ hagree =>
  ⟨_, _, _, _, (θ_run Cert.GainsIdeal.defs _ _).mono (fun _ h c =>
      have e := ends m c _ (h.1 c)
      ⟨(e 4).trans ((grad_eq m c).trans (grad_whole m' m hagree)), (e 5).trans ((delta_eq m c).trans (delta_whole m' m hagree c)),
        (e 6).trans ((newMean_eq m c).trans (mean_whole m' m hagree c)), (e 7).trans ((newSquare_eq m c).trans (square_whole m' m hagree c)), kept_at m c _ (h.1 c)⟩)
      (Cert.GainsIdeal.Small.run_main m ρ),
    Cert.GainsPlainIdeal.Whole.run_main m' ρ'⟩

/-! ## The gradient of the input -/

theorem inputs_pipelines : Cert.Inputs.pcfgs (F := Bits) = Cert.InputsIdeal.pcfgs := by rfl

theorem inputs_functions : Cert.Inputs.defs₀ (F := Bits) = Cert.InputsIdeal.defs₀ := by
  refine congrArg Defs.onTc (funext fun l => funext fun a => ?_)
  match l, a with
  | 0, (t, s) => rfl

set_option maxHeartbeats 4000000 in
/-- Every run ends, its arguments unchanged and every semaphore at zero. -/
theorem frame_inputs : Cert.quiescent_Inputs := by
  intro m ρ _
  have h := Cert.InputsIdeal.Gen.frame (F := Bits) m ρ
  unfold Cert.InputsIdeal.defs Cert.InputsIdeal.main at h
  unfold Cert.Inputs.defs Cert.Inputs.main
  rw [inputs_functions, inputs_pipelines]
  exact h

/-- The same over the reals. -/
theorem frame_inputsIdeal : Cert.quiescent_InputsIdeal := fun m ρ _ => Cert.InputsIdeal.Gen.frame (F := Ideal) m ρ

theorem frame_inputsPlainIdeal : Cert.quiescent_InputsPlainIdeal := fun m ρ _ => Cert.InputsPlainIdeal.Whole.frame m ρ

open Cert.InputsIdeal.Rows Cert.InputsPlainIdeal.Whole in
/-- Over the reals the call ends with the reference's gradients of the input and of the gain. -/
theorem algebraic_inputs : Cert.algebraic_InputsIdeal_InputsPlainIdeal := fun m ρ m' ρ' _ hagree =>
  have agree : Agree m' m 0 :=
    have ⟨h0, h1, h2, h3, h4, h5, h6, h7, h8⟩ := hagree 0
    ⟨h0, h1, h2, h3, h4, h5, h6, h7, h8⟩
  ⟨fun _ => Cert.InputsPlainIdeal.Value.res_out0 m' 0, fun _ => Cert.InputsPlainIdeal.Whole.gradGain m', (θ_run Cert.InputsIdeal.defs _ _).mono (fun _ h c => by
      obtain rfl : c = 0 := Subsingleton.elim _ _
      exact ⟨(h 0).1.trans ((Cert.InputsIdeal.Rows.gradX_eq m 0).trans (Cert.InputsPlainIdeal.Whole.gradX_eq agree 0)),
        (h 0).2.1.trans ((Cert.InputsIdeal.Rows.gradGain_eq m 0).trans (Cert.InputsPlainIdeal.Whole.gradGain_eq agree)), (h 0).2.2⟩)
      (Cert.InputsIdeal.Value.run_blocks m ρ),
    (θ_run Cert.InputsPlainIdeal.defs _ _).mono (fun _ h c => by
      obtain rfl : c = 0 := Subsingleton.elim _ _
      exact h 0) (Cert.InputsPlainIdeal.Whole.run_main m' ρ')⟩

/-! ## The head -/

theorem head_pipelines : Cert.Head.pcfgs (F := Bits) = Cert.HeadIdeal.pcfgs := by rfl

set_option maxHeartbeats 4000000 in
theorem head_functions : Cert.Head.defs₀ (F := Bits) = Cert.HeadIdeal.defs₀ := by
  refine congrArg Defs.onTc (funext fun l => funext fun a => ?_)
  match l, a with
  | 0, (t, s) => rfl
  | 1, (t, s) => rfl
  | 2, (t, s) => rfl

set_option maxHeartbeats 4000000 in
/-- Every run ends, its arguments unchanged and every semaphore at zero. -/
theorem frame_head : Cert.quiescent_Head := by
  intro m ρ _
  have h := Cert.HeadIdeal.Gen.frame (F := Bits) m ρ
  unfold Cert.HeadIdeal.defs Cert.HeadIdeal.main at h
  unfold Cert.Head.defs Cert.Head.main
  rw [head_functions, head_pipelines]
  exact h

/-- The same over the reals. -/
theorem frame_headIdeal : Cert.quiescent_HeadIdeal := fun m ρ _ => Cert.HeadIdeal.Gen.frame (F := Ideal) m ρ

theorem frame_headPlainIdeal : Cert.quiescent_HeadPlainIdeal := fun m ρ _ => Cert.HeadPlainIdeal.Whole.frame m ρ

open Cert.HeadPlainIdeal.Whole in
/-- Over the reals the calls end with the reference's loss and gradients. -/
theorem algebraic_head : Cert.algebraic_HeadIdeal_HeadPlainIdeal := fun m ρ m' ρ' _ hagree =>
  have agree : Agree m' (Cert.HeadIdeal.Gen.V0 m ρ) 0 :=
    have ⟨h0, h1, h2, h3, h4, h5⟩ := hagree 0
    ⟨h0, h1, h2, h3, h4, h5⟩
  ⟨fun _ => loss m', fun _ => Cert.HeadPlainIdeal.Value.res_out1 m' 0, fun _ => Cert.HeadPlainIdeal.Value.res_out2 m' 0, fun _ => Cert.HeadPlainIdeal.Value.res_out3 m' 0,
    fun _ => gradWeight m',
    (θ_run Cert.HeadIdeal.defs _ _).mono (fun _ h c => by
      obtain rfl : c = 0 := Subsingleton.elim _ _
      obtain ⟨⟨h0, h1, h2, h3, h4⟩, kept⟩ := h 0
      refine ⟨h0.trans (loss_eq agree), h1.trans (gradX_eq agree 0), h2.trans (gradGain_eq agree 0), h3.trans ?_, h4.trans ?_,
        kept _ (by decide), kept _ (by decide), kept _ (by decide), kept _ (by decide), kept _ (by decide), kept _ (by decide)⟩
      all_goals
        funext y
        obtain ⟨i, j, rfl⟩ : ∃ i j, y = ix2 i j := ⟨y 0, y 1, by pointwise []⟩
      · exact gradGate_eq agree i j
      · exact gradWeight_eq agree i j) (Cert.HeadIdeal.Rows.run_main m ρ),
    (θ_run Cert.HeadPlainIdeal.defs _ _).mono (fun _ h c => by
      obtain rfl : c = 0 := Subsingleton.elim _ _
      obtain ⟨⟨h0, h1, h2, h3, h4⟩, kept⟩ := h 0
      exact ⟨h0, h1, h2, h3, h4, kept⟩) (run_main m' ρ')⟩

/-! ## The gated layer -/

set_option maxHeartbeats 4000000 in
set_option synthInstance.maxHeartbeats 1000000 in
theorem ffn_pipelines : Cert.Ffn.pcfgs (F := Bits) = Cert.FfnIdeal.pcfgs (F := Bits) := by rfl

set_option maxHeartbeats 4000000 in
theorem ffn_functions : Cert.Ffn.defs₀ (F := Bits) = Cert.FfnIdeal.defs₀ := by
  refine congrArg Defs.onTc (funext fun l => funext fun a => ?_)
  match l, a with
  | 0, (t, s) => rfl
  | 1, (t, s) => rfl
  | 2, (t, s) => rfl
  | 3, (t, s) => rfl

set_option maxHeartbeats 4000000 in
/-- Every run ends, its arguments unchanged and every semaphore at zero. -/
theorem frame_ffn : Cert.quiescent_Ffn := by
  intro m ρ _
  have h := Cert.FfnIdeal.Gen.frame (F := Bits) m ρ
  unfold Cert.FfnIdeal.defs Cert.FfnIdeal.main at h
  unfold Cert.Ffn.defs Cert.Ffn.main
  rw [ffn_functions, ffn_pipelines]
  exact h

/-- The same over the reals, of any arguments. -/
theorem frame_ffnIdeal : Cert.quiescent_FfnIdeal := fun m ρ _ => Cert.FfnIdeal.Gen.frame (F := Ideal) m ρ

theorem frame_ffnPlainIdeal : Cert.quiescent_FfnPlainIdeal := fun m ρ _ => Cert.FfnPlainIdeal.Whole.frame m ρ

open Cert.FfnPlainIdeal.Whole in
/-- Over the reals the calls end with the reference's output and gradients, where the precondition holds. -/
theorem algebraic_ffn : Cert.algebraic_FfnIdeal_FfnPlainIdeal_pre_finite_ffn := fun m ρ m' ρ' hpre hagree =>
  have agree : Agree m' (Cert.FfnIdeal.Gen.V1 m ρ) 0 :=
    have ⟨h0, h1, h2, h3, h4, h5⟩ := hagree 0
    ⟨h0.trans (Cert.FfnIdeal.Rows.left_input m ρ 0).symm, h1.trans (Cert.FfnIdeal.Rows.left_outGrad m ρ 0).symm, h2.trans (Cert.FfnIdeal.Rows.left_gain m ρ 0).symm,
      h3.trans (Cert.FfnIdeal.Rows.left_gateWeight m ρ 0).symm, h4.trans (Cert.FfnIdeal.Rows.left_upWeight m ρ 0).symm,
      h5.trans (Cert.FfnIdeal.Rows.left_downWeight m ρ 0).symm, Cert.FfnIdeal.Rows.left_gateIn m ρ 0, Cert.FfnIdeal.Rows.left_upIn m ρ 0⟩
  have real : Real m' :=
    have ⟨_, h1, h2, _, h4, h5⟩ := hagree 0
    have ⟨p1, p2, p4, p5⟩ := hpre 0
    ⟨fun y => (congrArg Cert.Norm.Finite (congrFun h1 y)).mpr (Cert.Norm.finite_of_cmp Cert.Norm.above (congrFun p1 y)),
      fun y => (congrArg Cert.Norm.Finite (congrFun h2 y)).mpr (Cert.Norm.finite_of_cmp Cert.Norm.above (congrFun p2 y)),
      fun y => (congrArg Cert.Norm.Finite (congrFun h4 y)).mpr (Cert.Norm.finite_of_cmp Cert.Norm.above_narrow (congrFun p4 y)),
      fun y => (congrArg Cert.Norm.Finite (congrFun h5 y)).mpr (Cert.Norm.finite_of_cmp Cert.Norm.above_narrow (congrFun p5 y))⟩
  ⟨fun _ => output m', fun _ => Cert.FfnPlainIdeal.Value.res_out1 m' 0, fun _ => Cert.FfnPlainIdeal.Value.res_out2 m' 0, fun _ => Cert.FfnPlainIdeal.Value.res_out3 m' 0,
    fun _ => gradDown m',
    (θ_run Cert.FfnIdeal.defs _ _).mono (fun _ h c => by
      obtain rfl : c = 0 := Subsingleton.elim _ _
      obtain ⟨⟨h0, h1, h2, h3, h4⟩, kept⟩ := h 0
      refine ⟨h0.trans (output_eq agree), h1.trans (gradX_eq agree real 0), h2.trans (gradGain_eq agree real 0), h3.trans ?_, h4.trans ?_,
        kept _ (by decide), kept _ (by decide), kept _ (by decide), kept _ (by decide), kept _ (by decide), kept _ (by decide)⟩
      all_goals
        funext y
        obtain ⟨i, j, rfl⟩ : ∃ i j, y = ix2 i j := ⟨y 0, y 1, by pointwise []⟩
      · exact gradWeights_eq agree real i j
      · exact gradDown_eq agree i j) (Cert.FfnIdeal.Rows.run_main m ρ),
    (θ_run Cert.FfnPlainIdeal.defs _ _).mono (fun _ h c => by
      obtain rfl : c = 0 := Subsingleton.elim _ _
      obtain ⟨⟨h0, h1, h2, h3, h4⟩, kept⟩ := h 0
      exact ⟨h0, h1, h2, h3, h4, kept⟩) (run_main m' ρ')⟩

theorem claim : Cert.Claim := ⟨Cert.Kernel.Gen.facts, Cert.KernelIdeal.Gen.facts, Cert.ReferenceIdeal.Gen.facts, Cert.Reference.Gen.facts,
  Cert.Cores.Gen.facts, Cert.CoresIdeal.Gen.facts, Cert.CoresPlainIdeal.Gen.facts,
  Cert.Chips.Gen.facts, Cert.ChipsIdeal.Gen.facts, Cert.ChipsPlainIdeal.Gen.facts,
  Cert.Gains.Gen.facts, Cert.GainsIdeal.Gen.facts, Cert.GainsPlainIdeal.Gen.facts,
  Cert.Inputs.Gen.facts, Cert.InputsIdeal.Gen.facts, Cert.InputsPlainIdeal.Gen.facts,
  Cert.Head.Gen.facts, Cert.HeadIdeal.Gen.facts, Cert.HeadPlainIdeal.Gen.facts,
  Cert.Ffn.Gen.facts, Cert.FfnIdeal.Gen.facts, Cert.FfnPlainIdeal.Gen.facts, Cert.Pre_finite_ffn.Gen.facts,
  frame_kernel, frame_kernelIdeal, frame_referenceIdeal, frame_reference, frame_cores, frame_coresIdeal, frame_coresPlainIdeal,
  frame_chips, frame_chipsIdeal, frame_chipsPlainIdeal,
  frame_gains, frame_gainsIdeal, frame_gainsPlainIdeal,
  frame_inputs, frame_inputsIdeal, frame_inputsPlainIdeal,
  frame_head, frame_headIdeal, frame_headPlainIdeal,
  frame_ffn, frame_ffnIdeal, fun m ρ _ => frame_ffnIdeal m ρ ⟨⟩, frame_ffnPlainIdeal, fun m ρ _ => frame_ffnPlainIdeal m ρ ⟨⟩,
  trivial, algebraic, bitexact, trivial, algebraic_cores, trivial, algebraic_chips, trivial, algebraic_gains, trivial, algebraic_inputs, trivial, algebraic_head, trivial, algebraic_ffn⟩

end Cert.Proof

end
